-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![2048, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 4096]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![2048, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4x128x128 : Shape := ⟨3, ![4, 128, 128]⟩
abbrev S4x4x128x128 : Shape := ⟨4, ![4, 4, 128, 128]⟩
abbrev S1x4x128x128 : Shape := ⟨4, ![1, 4, 128, 128]⟩
abbrev S4x1x128x128 : Shape := ⟨4, ![4, 1, 128, 128]⟩
abbrev S4x128x256 : Shape := ⟨3, ![4, 128, 256]⟩
abbrev S4x256x128 : Shape := ⟨3, ![4, 256, 128]⟩
abbrev S6x4 : Shape := ⟨2, ![6, 4]⟩
abbrev S4 : Shape := ⟨1, ![4]⟩
abbrev S2x4 : Shape := ⟨2, ![2, 4]⟩
abbrev S_ : Shape := ⟨0, ![]⟩
abbrev S1x128x128 : Shape := ⟨3, ![1, 128, 128]⟩
abbrev S1 : Shape := ⟨1, ![1]⟩
abbrev S1x128x256 : Shape := ⟨3, ![1, 128, 256]⟩
abbrev S1x1 : Shape := ⟨2, ![1, 1]⟩
abbrev S1x256x128 : Shape := ⟨3, ![1, 256, 128]⟩
abbrev S512x128 : Shape := ⟨2, ![512, 128]⟩
abbrev S512x256 : Shape := ⟨2, ![512, 256]⟩
abbrev S1x1x128x128 : Shape := ⟨4, ![1, 1, 128, 128]⟩

abbrev nBuf : Space → Nat
  | .hbm => 8
  | .vmem => 19
  | .smem => 0
  | _ => 0

abbrev bufTy : (tb : Table) → Fin (tcTables nBuf tb) → BufTy
  | .hbm, ⟨0, _⟩ => ⟨S128x128, .bf16⟩
  | .hbm, ⟨1, _⟩ => ⟨S128x256, .bf16⟩
  | .hbm, ⟨2, _⟩ => ⟨S128x256, .bf16⟩
  | .hbm, ⟨3, _⟩ => ⟨S128x256, .bf16⟩
  | .hbm, ⟨4, _⟩ => ⟨S256x128, .bf16⟩
  | .hbm, ⟨5, _⟩ => ⟨S256x128, .bf16⟩
  | .hbm, ⟨6, _⟩ => ⟨S256x128, .bf16⟩
  | .hbm, ⟨7, _⟩ => ⟨S128x128, .f32⟩
  | .local _ .vmem, ⟨0, _⟩ => ⟨S128x128, .bf16⟩
  | .local _ .vmem, ⟨1, _⟩ => ⟨S128x256, .bf16⟩
  | .local _ .vmem, ⟨2, _⟩ => ⟨S256x128, .bf16⟩
  | .local _ .vmem, ⟨3, _⟩ => ⟨S128x256, .bf16⟩
  | .local _ .vmem, ⟨4, _⟩ => ⟨S256x128, .bf16⟩
  | .local _ .vmem, ⟨5, _⟩ => ⟨S128x256, .bf16⟩
  | .local _ .vmem, ⟨6, _⟩ => ⟨S256x128, .bf16⟩
  | .local _ .vmem, ⟨7, _⟩ => ⟨S128x128, .f32⟩
  | .local _ .vmem, ⟨8, _⟩ => ⟨S4x128x128, .bf16⟩
  | .local _ .vmem, ⟨9, _⟩ => ⟨S4x4x128x128, .bf16⟩
  | .local _ .vmem, ⟨10, _⟩ => ⟨S4x4x128x128, .bf16⟩
  | .local _ .vmem, ⟨11, _⟩ => ⟨S1x4x128x128, .bf16⟩
  | .local _ .vmem, ⟨12, _⟩ => ⟨S4x1x128x128, .bf16⟩
  | .local _ .vmem, ⟨13, _⟩ => ⟨S4x128x256, .bf16⟩
  | .local _ .vmem, ⟨14, _⟩ => ⟨S4x256x128, .bf16⟩
  | .local _ .vmem, ⟨15, _⟩ => ⟨S4x128x256, .bf16⟩
  | .local _ .vmem, ⟨16, _⟩ => ⟨S4x256x128, .bf16⟩
  | .local _ .vmem, ⟨17, _⟩ => ⟨S4x128x256, .bf16⟩
  | .local _ .vmem, ⟨18, _⟩ => ⟨S4x256x128, .bf16⟩
  | _, _ => ⟨S128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 2 → Bool
  | ⟨0, _⟩ => false
  | ⟨1, _⟩ => true
  | _ => false

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  (ofTc nBuf bufTy 2 88 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v32 : BitVec 32 := Scalar.addi v29 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_28 : BitVec 32 := 1#32
  let v57 : BitVec 32 := Scalar.muli v43 c1_i32_28
  let v58 : BitVec 32 := Scalar.addi c0_i32_29 v57
  v58.toNat
def k0_dev2 (d0 : Dev nD) : Nat :=
  let c0_i32_32 : BitVec 32 := 0#32
  let c4_i32_26 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_19 : BitVec 32 := 1#32
  let v44 : BitVec 32 := Scalar.addi v19 c1_i32_19
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.muli c4_i32_26 v54
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v56 : BitVec 32 := Scalar.addi v55 v29
  let c1_i32_31 : BitVec 32 := 1#32
  let v59 : BitVec 32 := Scalar.muli v56 c1_i32_31
  let v60 : BitVec 32 := Scalar.addi c0_i32_32 v59
  v60.toNat
def k0_dev3 (d0 : Dev nD) : Nat :=
  let c0_i32_50 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.muli c4_i32_33 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v62 : BitVec 32 := Scalar.addi v29 c2_i32
  let c4_i32_34 : BitVec 32 := 4#32
  let c0_i32_35 : BitVec 32 := 0#32
  let v63 : BitVec 1 := Scalar.cmpi .eq c4_i32_34 c0_i32_35
  let c1_i32_36 : BitVec 32 := 1#32
  let v64 : BitVec 32 := Scalar.select v63 c1_i32_36 c4_i32_34
  let v65 : BitVec 32 := Scalar.remsi v62 v64
  let c0_i32_38 : BitVec 32 := 0#32
  let v67 : BitVec 1 := Scalar.cmpi .slt v65 c0_i32_38
  let c0_i32_39 : BitVec 32 := 0#32
  let v68 : BitVec 1 := Scalar.cmpi .slt v64 c0_i32_39
  let v69 : BitVec 1 := Scalar.xori v67 v68
  let c0_i32_37 : BitVec 32 := 0#32
  let v66 : BitVec 1 := Scalar.cmpi .ne v65 c0_i32_37
  let v70 : BitVec 1 := Scalar.andi v69 v66
  let v71 : BitVec 32 := Scalar.addi v65 v64
  let v72 : BitVec 32 := Scalar.select v70 v71 v65
  let v73 : BitVec 32 := Scalar.addi v61 v72
  let c1_i32_49 : BitVec 32 := 1#32
  let v87 : BitVec 32 := Scalar.muli v73 c1_i32_49
  let v88 : BitVec 32 := Scalar.addi c0_i32_50 v87
  v88.toNat
def k0_dev4 (d0 : Dev nD) : Nat :=
  let c0_i32_53 : BitVec 32 := 0#32
  let c4_i32_47 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_40 : BitVec 32 := 2#32
  let v74 : BitVec 32 := Scalar.addi v19 c2_i32_40
  let c4_i32_41 : BitVec 32 := 4#32
  let c0_i32_42 : BitVec 32 := 0#32
  let v75 : BitVec 1 := Scalar.cmpi .eq c4_i32_41 c0_i32_42
  let c1_i32_43 : BitVec 32 := 1#32
  let v76 : BitVec 32 := Scalar.select v75 c1_i32_43 c4_i32_41
  let v77 : BitVec 32 := Scalar.remsi v74 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let v85 : BitVec 32 := Scalar.muli c4_i32_47 v84
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v86 : BitVec 32 := Scalar.addi v85 v29
  let c1_i32_52 : BitVec 32 := 1#32
  let v89 : BitVec 32 := Scalar.muli v86 c1_i32_52
  let v90 : BitVec 32 := Scalar.addi c0_i32_53 v89
  v90.toNat
def k0_dev5 (d0 : Dev nD) : Nat :=
  let c0_i32_71 : BitVec 32 := 0#32
  let c4_i32_54 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v91 : BitVec 32 := Scalar.muli c4_i32_54 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v92 : BitVec 32 := Scalar.addi v29 c3_i32
  let c4_i32_55 : BitVec 32 := 4#32
  let c0_i32_56 : BitVec 32 := 0#32
  let v93 : BitVec 1 := Scalar.cmpi .eq c4_i32_55 c0_i32_56
  let c1_i32_57 : BitVec 32 := 1#32
  let v94 : BitVec 32 := Scalar.select v93 c1_i32_57 c4_i32_55
  let v95 : BitVec 32 := Scalar.remsi v92 v94
  let c0_i32_59 : BitVec 32 := 0#32
  let v97 : BitVec 1 := Scalar.cmpi .slt v95 c0_i32_59
  let c0_i32_60 : BitVec 32 := 0#32
  let v98 : BitVec 1 := Scalar.cmpi .slt v94 c0_i32_60
  let v99 : BitVec 1 := Scalar.xori v97 v98
  let c0_i32_58 : BitVec 32 := 0#32
  let v96 : BitVec 1 := Scalar.cmpi .ne v95 c0_i32_58
  let v100 : BitVec 1 := Scalar.andi v99 v96
  let v101 : BitVec 32 := Scalar.addi v95 v94
  let v102 : BitVec 32 := Scalar.select v100 v101 v95
  let v103 : BitVec 32 := Scalar.addi v91 v102
  let c1_i32_70 : BitVec 32 := 1#32
  let v117 : BitVec 32 := Scalar.muli v103 c1_i32_70
  let v118 : BitVec 32 := Scalar.addi c0_i32_71 v117
  v118.toNat
def k0_dev6 (d0 : Dev nD) : Nat :=
  let c0_i32_74 : BitVec 32 := 0#32
  let c4_i32_68 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_61 : BitVec 32 := 3#32
  let v104 : BitVec 32 := Scalar.addi v19 c3_i32_61
  let c4_i32_62 : BitVec 32 := 4#32
  let c0_i32_63 : BitVec 32 := 0#32
  let v105 : BitVec 1 := Scalar.cmpi .eq c4_i32_62 c0_i32_63
  let c1_i32_64 : BitVec 32 := 1#32
  let v106 : BitVec 32 := Scalar.select v105 c1_i32_64 c4_i32_62
  let v107 : BitVec 32 := Scalar.remsi v104 v106
  let c0_i32_66 : BitVec 32 := 0#32
  let v109 : BitVec 1 := Scalar.cmpi .slt v107 c0_i32_66
  let c0_i32_67 : BitVec 32 := 0#32
  let v110 : BitVec 1 := Scalar.cmpi .slt v106 c0_i32_67
  let v111 : BitVec 1 := Scalar.xori v109 v110
  let c0_i32_65 : BitVec 32 := 0#32
  let v108 : BitVec 1 := Scalar.cmpi .ne v107 c0_i32_65
  let v112 : BitVec 1 := Scalar.andi v111 v108
  let v113 : BitVec 32 := Scalar.addi v107 v106
  let v114 : BitVec 32 := Scalar.select v112 v113 v107
  let v115 : BitVec 32 := Scalar.muli c4_i32_68 v114
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v116 : BitVec 32 := Scalar.addi v115 v29
  let c1_i32_73 : BitVec 32 := 1#32
  let v119 : BitVec 32 := Scalar.muli v116 c1_i32_73
  let v120 : BitVec 32 := Scalar.addi c0_i32_74 v119
  v120.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v124 : Index := Scalar.indexCast v29
  let c0_76 : Index := 0#32
  let c0_77 : Index := 0#32
  ![v124.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![v29.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_89 : BitVec 32 := 0#32
  let c0_i32_90 : BitVec 32 := 0#32
  ![v29.toNat, 0, 0]
def k0_dev7 (d0 : Dev nD) : Nat :=
  let c0_i32_88 : BitVec 32 := 0#32
  let c4_i32_78 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v128 : BitVec 32 := Scalar.muli c4_i32_78 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_79 : BitVec 32 := 1#32
  let v129 : BitVec 32 := Scalar.addi v29 c1_i32_79
  let c4_i32_80 : BitVec 32 := 4#32
  let c0_i32_81 : BitVec 32 := 0#32
  let v130 : BitVec 1 := Scalar.cmpi .eq c4_i32_80 c0_i32_81
  let c1_i32_82 : BitVec 32 := 1#32
  let v131 : BitVec 32 := Scalar.select v130 c1_i32_82 c4_i32_80
  let v132 : BitVec 32 := Scalar.remsi v129 v131
  let c0_i32_84 : BitVec 32 := 0#32
  let v134 : BitVec 1 := Scalar.cmpi .slt v132 c0_i32_84
  let c0_i32_85 : BitVec 32 := 0#32
  let v135 : BitVec 1 := Scalar.cmpi .slt v131 c0_i32_85
  let v136 : BitVec 1 := Scalar.xori v134 v135
  let c0_i32_83 : BitVec 32 := 0#32
  let v133 : BitVec 1 := Scalar.cmpi .ne v132 c0_i32_83
  let v137 : BitVec 1 := Scalar.andi v136 v133
  let v138 : BitVec 32 := Scalar.addi v132 v131
  let v139 : BitVec 32 := Scalar.select v137 v138 v132
  let v140 : BitVec 32 := Scalar.addi v128 v139
  let c1_i32_87 : BitVec 32 := 1#32
  let v141 : BitVec 32 := Scalar.muli v140 c1_i32_87
  let v142 : BitVec 32 := Scalar.addi c0_i32_88 v141
  v142.toNat
def k0_dev8 (d0 : Dev nD) : Nat :=
  let c0_i32_103 : BitVec 32 := 0#32
  let c4_i32_93 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v149 : BitVec 32 := Scalar.muli c4_i32_93 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_94 : BitVec 32 := 2#32
  let v150 : BitVec 32 := Scalar.addi v29 c2_i32_94
  let c4_i32_95 : BitVec 32 := 4#32
  let c0_i32_96 : BitVec 32 := 0#32
  let v151 : BitVec 1 := Scalar.cmpi .eq c4_i32_95 c0_i32_96
  let c1_i32_97 : BitVec 32 := 1#32
  let v152 : BitVec 32 := Scalar.select v151 c1_i32_97 c4_i32_95
  let v153 : BitVec 32 := Scalar.remsi v150 v152
  let c0_i32_99 : BitVec 32 := 0#32
  let v155 : BitVec 1 := Scalar.cmpi .slt v153 c0_i32_99
  let c0_i32_100 : BitVec 32 := 0#32
  let v156 : BitVec 1 := Scalar.cmpi .slt v152 c0_i32_100
  let v157 : BitVec 1 := Scalar.xori v155 v156
  let c0_i32_98 : BitVec 32 := 0#32
  let v154 : BitVec 1 := Scalar.cmpi .ne v153 c0_i32_98
  let v158 : BitVec 1 := Scalar.andi v157 v154
  let v159 : BitVec 32 := Scalar.addi v153 v152
  let v160 : BitVec 32 := Scalar.select v158 v159 v153
  let v161 : BitVec 32 := Scalar.addi v149 v160
  let c1_i32_102 : BitVec 32 := 1#32
  let v162 : BitVec 32 := Scalar.muli v161 c1_i32_102
  let v163 : BitVec 32 := Scalar.addi c0_i32_103 v162
  v163.toNat
def k0_dev9 (d0 : Dev nD) : Nat :=
  let c0_i32_118 : BitVec 32 := 0#32
  let c4_i32_108 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v170 : BitVec 32 := Scalar.muli c4_i32_108 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_109 : BitVec 32 := 3#32
  let v171 : BitVec 32 := Scalar.addi v29 c3_i32_109
  let c4_i32_110 : BitVec 32 := 4#32
  let c0_i32_111 : BitVec 32 := 0#32
  let v172 : BitVec 1 := Scalar.cmpi .eq c4_i32_110 c0_i32_111
  let c1_i32_112 : BitVec 32 := 1#32
  let v173 : BitVec 32 := Scalar.select v172 c1_i32_112 c4_i32_110
  let v174 : BitVec 32 := Scalar.remsi v171 v173
  let c0_i32_114 : BitVec 32 := 0#32
  let v176 : BitVec 1 := Scalar.cmpi .slt v174 c0_i32_114
  let c0_i32_115 : BitVec 32 := 0#32
  let v177 : BitVec 1 := Scalar.cmpi .slt v173 c0_i32_115
  let v178 : BitVec 1 := Scalar.xori v176 v177
  let c0_i32_113 : BitVec 32 := 0#32
  let v175 : BitVec 1 := Scalar.cmpi .ne v174 c0_i32_113
  let v179 : BitVec 1 := Scalar.andi v178 v175
  let v180 : BitVec 32 := Scalar.addi v174 v173
  let v181 : BitVec 32 := Scalar.select v179 v180 v174
  let v182 : BitVec 32 := Scalar.addi v170 v181
  let c1_i32_117 : BitVec 32 := 1#32
  let v183 : BitVec 32 := Scalar.muli v182 c1_i32_117
  let v184 : BitVec 32 := Scalar.addi c0_i32_118 v183
  v184.toNat
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v194 : Index := Scalar.indexCast v19
  let c0_125 : Index := 0#32
  let c0_126 : Index := 0#32
  ![v194.toNat, 0, 0]
def k0_off5 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![0, v19.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_140 : BitVec 32 := 0#32
  let c0_i32_141 : BitVec 32 := 0#32
  ![v19.toNat, 0, 0]
def k0_dev10 (d0 : Dev nD) : Nat :=
  let c0_i32_139 : BitVec 32 := 0#32
  let c4_i32_134 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_127 : BitVec 32 := 1#32
  let v198 : BitVec 32 := Scalar.addi v19 c1_i32_127
  let c4_i32_128 : BitVec 32 := 4#32
  let c0_i32_129 : BitVec 32 := 0#32
  let v199 : BitVec 1 := Scalar.cmpi .eq c4_i32_128 c0_i32_129
  let c1_i32_130 : BitVec 32 := 1#32
  let v200 : BitVec 32 := Scalar.select v199 c1_i32_130 c4_i32_128
  let v201 : BitVec 32 := Scalar.remsi v198 v200
  let c0_i32_132 : BitVec 32 := 0#32
  let v203 : BitVec 1 := Scalar.cmpi .slt v201 c0_i32_132
  let c0_i32_133 : BitVec 32 := 0#32
  let v204 : BitVec 1 := Scalar.cmpi .slt v200 c0_i32_133
  let v205 : BitVec 1 := Scalar.xori v203 v204
  let c0_i32_131 : BitVec 32 := 0#32
  let v202 : BitVec 1 := Scalar.cmpi .ne v201 c0_i32_131
  let v206 : BitVec 1 := Scalar.andi v205 v202
  let v207 : BitVec 32 := Scalar.addi v201 v200
  let v208 : BitVec 32 := Scalar.select v206 v207 v201
  let v209 : BitVec 32 := Scalar.muli c4_i32_134 v208
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v210 : BitVec 32 := Scalar.addi v209 v29
  let c1_i32_138 : BitVec 32 := 1#32
  let v211 : BitVec 32 := Scalar.muli v210 c1_i32_138
  let v212 : BitVec 32 := Scalar.addi c0_i32_139 v211
  v212.toNat
def k0_dev11 (d0 : Dev nD) : Nat :=
  let c0_i32_156 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_144 : BitVec 32 := 2#32
  let v219 : BitVec 32 := Scalar.addi v19 c2_i32_144
  let c4_i32_145 : BitVec 32 := 4#32
  let c0_i32_146 : BitVec 32 := 0#32
  let v220 : BitVec 1 := Scalar.cmpi .eq c4_i32_145 c0_i32_146
  let c1_i32_147 : BitVec 32 := 1#32
  let v221 : BitVec 32 := Scalar.select v220 c1_i32_147 c4_i32_145
  let v222 : BitVec 32 := Scalar.remsi v219 v221
  let c0_i32_149 : BitVec 32 := 0#32
  let v224 : BitVec 1 := Scalar.cmpi .slt v222 c0_i32_149
  let c0_i32_150 : BitVec 32 := 0#32
  let v225 : BitVec 1 := Scalar.cmpi .slt v221 c0_i32_150
  let v226 : BitVec 1 := Scalar.xori v224 v225
  let c0_i32_148 : BitVec 32 := 0#32
  let v223 : BitVec 1 := Scalar.cmpi .ne v222 c0_i32_148
  let v227 : BitVec 1 := Scalar.andi v226 v223
  let v228 : BitVec 32 := Scalar.addi v222 v221
  let v229 : BitVec 32 := Scalar.select v227 v228 v222
  let v230 : BitVec 32 := Scalar.muli c4_i32_151 v229
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v231 : BitVec 32 := Scalar.addi v230 v29
  let c1_i32_155 : BitVec 32 := 1#32
  let v232 : BitVec 32 := Scalar.muli v231 c1_i32_155
  let v233 : BitVec 32 := Scalar.addi c0_i32_156 v232
  v233.toNat
def k0_dev12 (d0 : Dev nD) : Nat :=
  let c0_i32_173 : BitVec 32 := 0#32
  let c4_i32_168 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_161 : BitVec 32 := 3#32
  let v240 : BitVec 32 := Scalar.addi v19 c3_i32_161
  let c4_i32_162 : BitVec 32 := 4#32
  let c0_i32_163 : BitVec 32 := 0#32
  let v241 : BitVec 1 := Scalar.cmpi .eq c4_i32_162 c0_i32_163
  let c1_i32_164 : BitVec 32 := 1#32
  let v242 : BitVec 32 := Scalar.select v241 c1_i32_164 c4_i32_162
  let v243 : BitVec 32 := Scalar.remsi v240 v242
  let c0_i32_166 : BitVec 32 := 0#32
  let v245 : BitVec 1 := Scalar.cmpi .slt v243 c0_i32_166
  let c0_i32_167 : BitVec 32 := 0#32
  let v246 : BitVec 1 := Scalar.cmpi .slt v242 c0_i32_167
  let v247 : BitVec 1 := Scalar.xori v245 v246
  let c0_i32_165 : BitVec 32 := 0#32
  let v244 : BitVec 1 := Scalar.cmpi .ne v243 c0_i32_165
  let v248 : BitVec 1 := Scalar.andi v247 v244
  let v249 : BitVec 32 := Scalar.addi v243 v242
  let v250 : BitVec 32 := Scalar.select v248 v249 v243
  let v251 : BitVec 32 := Scalar.muli c4_i32_168 v250
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v252 : BitVec 32 := Scalar.addi v251 v29
  let c1_i32_172 : BitVec 32 := 1#32
  let v253 : BitVec 32 := Scalar.muli v252 c1_i32_172
  let v254 : BitVec 32 := Scalar.addi c0_i32_173 v253
  v254.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : Index := Scalar.indexCast v19
  let c0_180 : Index := 0#32
  let c0_181 : Index := 0#32
  ![v264.toNat, 0, 0]
def k0_off8 (d0 : Dev nD) : Fin 2 → Nat :=
  let c1_i32_190 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_195 : BitVec 32 := 0#32
  let c0_i32_196 : BitVec 32 := 0#32
  ![v19.toNat, 0, 0]
def k0_dev13 (d0 : Dev nD) : Nat :=
  let c0_i32_194 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_182 : BitVec 32 := 1#32
  let v268 : BitVec 32 := Scalar.addi v19 c1_i32_182
  let c4_i32_183 : BitVec 32 := 4#32
  let c0_i32_184 : BitVec 32 := 0#32
  let v269 : BitVec 1 := Scalar.cmpi .eq c4_i32_183 c0_i32_184
  let c1_i32_185 : BitVec 32 := 1#32
  let v270 : BitVec 32 := Scalar.select v269 c1_i32_185 c4_i32_183
  let v271 : BitVec 32 := Scalar.remsi v268 v270
  let c0_i32_187 : BitVec 32 := 0#32
  let v273 : BitVec 1 := Scalar.cmpi .slt v271 c0_i32_187
  let c0_i32_188 : BitVec 32 := 0#32
  let v274 : BitVec 1 := Scalar.cmpi .slt v270 c0_i32_188
  let v275 : BitVec 1 := Scalar.xori v273 v274
  let c0_i32_186 : BitVec 32 := 0#32
  let v272 : BitVec 1 := Scalar.cmpi .ne v271 c0_i32_186
  let v276 : BitVec 1 := Scalar.andi v275 v272
  let v277 : BitVec 32 := Scalar.addi v271 v270
  let v278 : BitVec 32 := Scalar.select v276 v277 v271
  let v279 : BitVec 32 := Scalar.muli c4_i32_189 v278
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v280 : BitVec 32 := Scalar.addi v279 v29
  let c1_i32_193 : BitVec 32 := 1#32
  let v281 : BitVec 32 := Scalar.muli v280 c1_i32_193
  let v282 : BitVec 32 := Scalar.addi c0_i32_194 v281
  v282.toNat
def k0_dev14 (d0 : Dev nD) : Nat :=
  let c0_i32_211 : BitVec 32 := 0#32
  let c4_i32_206 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_199 : BitVec 32 := 2#32
  let v289 : BitVec 32 := Scalar.addi v19 c2_i32_199
  let c4_i32_200 : BitVec 32 := 4#32
  let c0_i32_201 : BitVec 32 := 0#32
  let v290 : BitVec 1 := Scalar.cmpi .eq c4_i32_200 c0_i32_201
  let c1_i32_202 : BitVec 32 := 1#32
  let v291 : BitVec 32 := Scalar.select v290 c1_i32_202 c4_i32_200
  let v292 : BitVec 32 := Scalar.remsi v289 v291
  let c0_i32_204 : BitVec 32 := 0#32
  let v294 : BitVec 1 := Scalar.cmpi .slt v292 c0_i32_204
  let c0_i32_205 : BitVec 32 := 0#32
  let v295 : BitVec 1 := Scalar.cmpi .slt v291 c0_i32_205
  let v296 : BitVec 1 := Scalar.xori v294 v295
  let c0_i32_203 : BitVec 32 := 0#32
  let v293 : BitVec 1 := Scalar.cmpi .ne v292 c0_i32_203
  let v297 : BitVec 1 := Scalar.andi v296 v293
  let v298 : BitVec 32 := Scalar.addi v292 v291
  let v299 : BitVec 32 := Scalar.select v297 v298 v292
  let v300 : BitVec 32 := Scalar.muli c4_i32_206 v299
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v301 : BitVec 32 := Scalar.addi v300 v29
  let c1_i32_210 : BitVec 32 := 1#32
  let v302 : BitVec 32 := Scalar.muli v301 c1_i32_210
  let v303 : BitVec 32 := Scalar.addi c0_i32_211 v302
  v303.toNat
def k0_dev15 (d0 : Dev nD) : Nat :=
  let c0_i32_228 : BitVec 32 := 0#32
  let c4_i32_223 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_216 : BitVec 32 := 3#32
  let v310 : BitVec 32 := Scalar.addi v19 c3_i32_216
  let c4_i32_217 : BitVec 32 := 4#32
  let c0_i32_218 : BitVec 32 := 0#32
  let v311 : BitVec 1 := Scalar.cmpi .eq c4_i32_217 c0_i32_218
  let c1_i32_219 : BitVec 32 := 1#32
  let v312 : BitVec 32 := Scalar.select v311 c1_i32_219 c4_i32_217
  let v313 : BitVec 32 := Scalar.remsi v310 v312
  let c0_i32_221 : BitVec 32 := 0#32
  let v315 : BitVec 1 := Scalar.cmpi .slt v313 c0_i32_221
  let c0_i32_222 : BitVec 32 := 0#32
  let v316 : BitVec 1 := Scalar.cmpi .slt v312 c0_i32_222
  let v317 : BitVec 1 := Scalar.xori v315 v316
  let c0_i32_220 : BitVec 32 := 0#32
  let v314 : BitVec 1 := Scalar.cmpi .ne v313 c0_i32_220
  let v318 : BitVec 1 := Scalar.andi v317 v314
  let v319 : BitVec 32 := Scalar.addi v313 v312
  let v320 : BitVec 32 := Scalar.select v318 v319 v313
  let v321 : BitVec 32 := Scalar.muli c4_i32_223 v320
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v322 : BitVec 32 := Scalar.addi v321 v29
  let c1_i32_227 : BitVec 32 := 1#32
  let v323 : BitVec 32 := Scalar.muli v322 c1_i32_227
  let v324 : BitVec 32 := Scalar.addi c0_i32_228 v323
  v324.toNat
def k0_off10 (d0 : Dev nD) : Fin 2 → Nat :=
  let c2_i32_245 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![2, v19.toNat]
def k0_dev16 (d0 : Dev nD) : Nat :=
  let c0_i32_249 : BitVec 32 := 0#32
  let c4_i32_244 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_237 : BitVec 32 := 1#32
  let v338 : BitVec 32 := Scalar.addi v19 c1_i32_237
  let c4_i32_238 : BitVec 32 := 4#32
  let c0_i32_239 : BitVec 32 := 0#32
  let v339 : BitVec 1 := Scalar.cmpi .eq c4_i32_238 c0_i32_239
  let c1_i32_240 : BitVec 32 := 1#32
  let v340 : BitVec 32 := Scalar.select v339 c1_i32_240 c4_i32_238
  let v341 : BitVec 32 := Scalar.remsi v338 v340
  let c0_i32_242 : BitVec 32 := 0#32
  let v343 : BitVec 1 := Scalar.cmpi .slt v341 c0_i32_242
  let c0_i32_243 : BitVec 32 := 0#32
  let v344 : BitVec 1 := Scalar.cmpi .slt v340 c0_i32_243
  let v345 : BitVec 1 := Scalar.xori v343 v344
  let c0_i32_241 : BitVec 32 := 0#32
  let v342 : BitVec 1 := Scalar.cmpi .ne v341 c0_i32_241
  let v346 : BitVec 1 := Scalar.andi v345 v342
  let v347 : BitVec 32 := Scalar.addi v341 v340
  let v348 : BitVec 32 := Scalar.select v346 v347 v341
  let v349 : BitVec 32 := Scalar.muli c4_i32_244 v348
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v350 : BitVec 32 := Scalar.addi v349 v29
  let c1_i32_248 : BitVec 32 := 1#32
  let v351 : BitVec 32 := Scalar.muli v350 c1_i32_248
  let v352 : BitVec 32 := Scalar.addi c0_i32_249 v351
  v352.toNat
def k0_dev17 (d0 : Dev nD) : Nat :=
  let c0_i32_266 : BitVec 32 := 0#32
  let c4_i32_261 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_254 : BitVec 32 := 2#32
  let v359 : BitVec 32 := Scalar.addi v19 c2_i32_254
  let c4_i32_255 : BitVec 32 := 4#32
  let c0_i32_256 : BitVec 32 := 0#32
  let v360 : BitVec 1 := Scalar.cmpi .eq c4_i32_255 c0_i32_256
  let c1_i32_257 : BitVec 32 := 1#32
  let v361 : BitVec 32 := Scalar.select v360 c1_i32_257 c4_i32_255
  let v362 : BitVec 32 := Scalar.remsi v359 v361
  let c0_i32_259 : BitVec 32 := 0#32
  let v364 : BitVec 1 := Scalar.cmpi .slt v362 c0_i32_259
  let c0_i32_260 : BitVec 32 := 0#32
  let v365 : BitVec 1 := Scalar.cmpi .slt v361 c0_i32_260
  let v366 : BitVec 1 := Scalar.xori v364 v365
  let c0_i32_258 : BitVec 32 := 0#32
  let v363 : BitVec 1 := Scalar.cmpi .ne v362 c0_i32_258
  let v367 : BitVec 1 := Scalar.andi v366 v363
  let v368 : BitVec 32 := Scalar.addi v362 v361
  let v369 : BitVec 32 := Scalar.select v367 v368 v362
  let v370 : BitVec 32 := Scalar.muli c4_i32_261 v369
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v371 : BitVec 32 := Scalar.addi v370 v29
  let c1_i32_265 : BitVec 32 := 1#32
  let v372 : BitVec 32 := Scalar.muli v371 c1_i32_265
  let v373 : BitVec 32 := Scalar.addi c0_i32_266 v372
  v373.toNat
def k0_dev18 (d0 : Dev nD) : Nat :=
  let c0_i32_283 : BitVec 32 := 0#32
  let c4_i32_278 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_271 : BitVec 32 := 3#32
  let v380 : BitVec 32 := Scalar.addi v19 c3_i32_271
  let c4_i32_272 : BitVec 32 := 4#32
  let c0_i32_273 : BitVec 32 := 0#32
  let v381 : BitVec 1 := Scalar.cmpi .eq c4_i32_272 c0_i32_273
  let c1_i32_274 : BitVec 32 := 1#32
  let v382 : BitVec 32 := Scalar.select v381 c1_i32_274 c4_i32_272
  let v383 : BitVec 32 := Scalar.remsi v380 v382
  let c0_i32_276 : BitVec 32 := 0#32
  let v385 : BitVec 1 := Scalar.cmpi .slt v383 c0_i32_276
  let c0_i32_277 : BitVec 32 := 0#32
  let v386 : BitVec 1 := Scalar.cmpi .slt v382 c0_i32_277
  let v387 : BitVec 1 := Scalar.xori v385 v386
  let c0_i32_275 : BitVec 32 := 0#32
  let v384 : BitVec 1 := Scalar.cmpi .ne v383 c0_i32_275
  let v388 : BitVec 1 := Scalar.andi v387 v384
  let v389 : BitVec 32 := Scalar.addi v383 v382
  let v390 : BitVec 32 := Scalar.select v388 v389 v383
  let v391 : BitVec 32 := Scalar.muli c4_i32_278 v390
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v392 : BitVec 32 := Scalar.addi v391 v29
  let c1_i32_282 : BitVec 32 := 1#32
  let v393 : BitVec 32 := Scalar.muli v392 c1_i32_282
  let v394 : BitVec 32 := Scalar.addi c0_i32_283 v393
  v394.toNat
def k0_off11 (d0 : Dev nD) : Fin 2 → Nat :=
  let c3_i32_300 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![3, v19.toNat]
def k0_dev19 (d0 : Dev nD) : Nat :=
  let c0_i32_304 : BitVec 32 := 0#32
  let c4_i32_299 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_292 : BitVec 32 := 1#32
  let v408 : BitVec 32 := Scalar.addi v19 c1_i32_292
  let c4_i32_293 : BitVec 32 := 4#32
  let c0_i32_294 : BitVec 32 := 0#32
  let v409 : BitVec 1 := Scalar.cmpi .eq c4_i32_293 c0_i32_294
  let c1_i32_295 : BitVec 32 := 1#32
  let v410 : BitVec 32 := Scalar.select v409 c1_i32_295 c4_i32_293
  let v411 : BitVec 32 := Scalar.remsi v408 v410
  let c0_i32_297 : BitVec 32 := 0#32
  let v413 : BitVec 1 := Scalar.cmpi .slt v411 c0_i32_297
  let c0_i32_298 : BitVec 32 := 0#32
  let v414 : BitVec 1 := Scalar.cmpi .slt v410 c0_i32_298
  let v415 : BitVec 1 := Scalar.xori v413 v414
  let c0_i32_296 : BitVec 32 := 0#32
  let v412 : BitVec 1 := Scalar.cmpi .ne v411 c0_i32_296
  let v416 : BitVec 1 := Scalar.andi v415 v412
  let v417 : BitVec 32 := Scalar.addi v411 v410
  let v418 : BitVec 32 := Scalar.select v416 v417 v411
  let v419 : BitVec 32 := Scalar.muli c4_i32_299 v418
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v420 : BitVec 32 := Scalar.addi v419 v29
  let c1_i32_303 : BitVec 32 := 1#32
  let v421 : BitVec 32 := Scalar.muli v420 c1_i32_303
  let v422 : BitVec 32 := Scalar.addi c0_i32_304 v421
  v422.toNat
def k0_dev20 (d0 : Dev nD) : Nat :=
  let c0_i32_321 : BitVec 32 := 0#32
  let c4_i32_316 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_309 : BitVec 32 := 2#32
  let v429 : BitVec 32 := Scalar.addi v19 c2_i32_309
  let c4_i32_310 : BitVec 32 := 4#32
  let c0_i32_311 : BitVec 32 := 0#32
  let v430 : BitVec 1 := Scalar.cmpi .eq c4_i32_310 c0_i32_311
  let c1_i32_312 : BitVec 32 := 1#32
  let v431 : BitVec 32 := Scalar.select v430 c1_i32_312 c4_i32_310
  let v432 : BitVec 32 := Scalar.remsi v429 v431
  let c0_i32_314 : BitVec 32 := 0#32
  let v434 : BitVec 1 := Scalar.cmpi .slt v432 c0_i32_314
  let c0_i32_315 : BitVec 32 := 0#32
  let v435 : BitVec 1 := Scalar.cmpi .slt v431 c0_i32_315
  let v436 : BitVec 1 := Scalar.xori v434 v435
  let c0_i32_313 : BitVec 32 := 0#32
  let v433 : BitVec 1 := Scalar.cmpi .ne v432 c0_i32_313
  let v437 : BitVec 1 := Scalar.andi v436 v433
  let v438 : BitVec 32 := Scalar.addi v432 v431
  let v439 : BitVec 32 := Scalar.select v437 v438 v432
  let v440 : BitVec 32 := Scalar.muli c4_i32_316 v439
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v441 : BitVec 32 := Scalar.addi v440 v29
  let c1_i32_320 : BitVec 32 := 1#32
  let v442 : BitVec 32 := Scalar.muli v441 c1_i32_320
  let v443 : BitVec 32 := Scalar.addi c0_i32_321 v442
  v443.toNat
def k0_dev21 (d0 : Dev nD) : Nat :=
  let c0_i32_338 : BitVec 32 := 0#32
  let c4_i32_333 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_326 : BitVec 32 := 3#32
  let v450 : BitVec 32 := Scalar.addi v19 c3_i32_326
  let c4_i32_327 : BitVec 32 := 4#32
  let c0_i32_328 : BitVec 32 := 0#32
  let v451 : BitVec 1 := Scalar.cmpi .eq c4_i32_327 c0_i32_328
  let c1_i32_329 : BitVec 32 := 1#32
  let v452 : BitVec 32 := Scalar.select v451 c1_i32_329 c4_i32_327
  let v453 : BitVec 32 := Scalar.remsi v450 v452
  let c0_i32_331 : BitVec 32 := 0#32
  let v455 : BitVec 1 := Scalar.cmpi .slt v453 c0_i32_331
  let c0_i32_332 : BitVec 32 := 0#32
  let v456 : BitVec 1 := Scalar.cmpi .slt v452 c0_i32_332
  let v457 : BitVec 1 := Scalar.xori v455 v456
  let c0_i32_330 : BitVec 32 := 0#32
  let v454 : BitVec 1 := Scalar.cmpi .ne v453 c0_i32_330
  let v458 : BitVec 1 := Scalar.andi v457 v454
  let v459 : BitVec 32 := Scalar.addi v453 v452
  let v460 : BitVec 32 := Scalar.select v458 v459 v453
  let v461 : BitVec 32 := Scalar.muli c4_i32_333 v460
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v462 : BitVec 32 := Scalar.addi v461 v29
  let c1_i32_337 : BitVec 32 := 1#32
  let v463 : BitVec 32 := Scalar.muli v462 c1_i32_337
  let v464 : BitVec 32 := Scalar.addi c0_i32_338 v463
  v464.toNat
def k0_off12 (d0 : Dev nD) : Fin 2 → Nat :=
  let c4_i32_355 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![4, v19.toNat]
def k0_dev22 (d0 : Dev nD) : Nat :=
  let c0_i32_359 : BitVec 32 := 0#32
  let c4_i32_354 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_347 : BitVec 32 := 1#32
  let v478 : BitVec 32 := Scalar.addi v19 c1_i32_347
  let c4_i32_348 : BitVec 32 := 4#32
  let c0_i32_349 : BitVec 32 := 0#32
  let v479 : BitVec 1 := Scalar.cmpi .eq c4_i32_348 c0_i32_349
  let c1_i32_350 : BitVec 32 := 1#32
  let v480 : BitVec 32 := Scalar.select v479 c1_i32_350 c4_i32_348
  let v481 : BitVec 32 := Scalar.remsi v478 v480
  let c0_i32_352 : BitVec 32 := 0#32
  let v483 : BitVec 1 := Scalar.cmpi .slt v481 c0_i32_352
  let c0_i32_353 : BitVec 32 := 0#32
  let v484 : BitVec 1 := Scalar.cmpi .slt v480 c0_i32_353
  let v485 : BitVec 1 := Scalar.xori v483 v484
  let c0_i32_351 : BitVec 32 := 0#32
  let v482 : BitVec 1 := Scalar.cmpi .ne v481 c0_i32_351
  let v486 : BitVec 1 := Scalar.andi v485 v482
  let v487 : BitVec 32 := Scalar.addi v481 v480
  let v488 : BitVec 32 := Scalar.select v486 v487 v481
  let v489 : BitVec 32 := Scalar.muli c4_i32_354 v488
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v490 : BitVec 32 := Scalar.addi v489 v29
  let c1_i32_358 : BitVec 32 := 1#32
  let v491 : BitVec 32 := Scalar.muli v490 c1_i32_358
  let v492 : BitVec 32 := Scalar.addi c0_i32_359 v491
  v492.toNat
def k0_dev23 (d0 : Dev nD) : Nat :=
  let c0_i32_376 : BitVec 32 := 0#32
  let c4_i32_371 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_364 : BitVec 32 := 2#32
  let v499 : BitVec 32 := Scalar.addi v19 c2_i32_364
  let c4_i32_365 : BitVec 32 := 4#32
  let c0_i32_366 : BitVec 32 := 0#32
  let v500 : BitVec 1 := Scalar.cmpi .eq c4_i32_365 c0_i32_366
  let c1_i32_367 : BitVec 32 := 1#32
  let v501 : BitVec 32 := Scalar.select v500 c1_i32_367 c4_i32_365
  let v502 : BitVec 32 := Scalar.remsi v499 v501
  let c0_i32_369 : BitVec 32 := 0#32
  let v504 : BitVec 1 := Scalar.cmpi .slt v502 c0_i32_369
  let c0_i32_370 : BitVec 32 := 0#32
  let v505 : BitVec 1 := Scalar.cmpi .slt v501 c0_i32_370
  let v506 : BitVec 1 := Scalar.xori v504 v505
  let c0_i32_368 : BitVec 32 := 0#32
  let v503 : BitVec 1 := Scalar.cmpi .ne v502 c0_i32_368
  let v507 : BitVec 1 := Scalar.andi v506 v503
  let v508 : BitVec 32 := Scalar.addi v502 v501
  let v509 : BitVec 32 := Scalar.select v507 v508 v502
  let v510 : BitVec 32 := Scalar.muli c4_i32_371 v509
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v511 : BitVec 32 := Scalar.addi v510 v29
  let c1_i32_375 : BitVec 32 := 1#32
  let v512 : BitVec 32 := Scalar.muli v511 c1_i32_375
  let v513 : BitVec 32 := Scalar.addi c0_i32_376 v512
  v513.toNat
def k0_dev24 (d0 : Dev nD) : Nat :=
  let c0_i32_393 : BitVec 32 := 0#32
  let c4_i32_388 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_381 : BitVec 32 := 3#32
  let v520 : BitVec 32 := Scalar.addi v19 c3_i32_381
  let c4_i32_382 : BitVec 32 := 4#32
  let c0_i32_383 : BitVec 32 := 0#32
  let v521 : BitVec 1 := Scalar.cmpi .eq c4_i32_382 c0_i32_383
  let c1_i32_384 : BitVec 32 := 1#32
  let v522 : BitVec 32 := Scalar.select v521 c1_i32_384 c4_i32_382
  let v523 : BitVec 32 := Scalar.remsi v520 v522
  let c0_i32_386 : BitVec 32 := 0#32
  let v525 : BitVec 1 := Scalar.cmpi .slt v523 c0_i32_386
  let c0_i32_387 : BitVec 32 := 0#32
  let v526 : BitVec 1 := Scalar.cmpi .slt v522 c0_i32_387
  let v527 : BitVec 1 := Scalar.xori v525 v526
  let c0_i32_385 : BitVec 32 := 0#32
  let v524 : BitVec 1 := Scalar.cmpi .ne v523 c0_i32_385
  let v528 : BitVec 1 := Scalar.andi v527 v524
  let v529 : BitVec 32 := Scalar.addi v523 v522
  let v530 : BitVec 32 := Scalar.select v528 v529 v523
  let v531 : BitVec 32 := Scalar.muli c4_i32_388 v530
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v532 : BitVec 32 := Scalar.addi v531 v29
  let c1_i32_392 : BitVec 32 := 1#32
  let v533 : BitVec 32 := Scalar.muli v532 c1_i32_392
  let v534 : BitVec 32 := Scalar.addi c0_i32_393 v533
  v534.toNat
def k0_off13 (d0 : Dev nD) : Fin 2 → Nat :=
  let c5_i32 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![5, v19.toNat]
def k0_dev25 (d0 : Dev nD) : Nat :=
  let c0_i32_413 : BitVec 32 := 0#32
  let c4_i32_409 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_402 : BitVec 32 := 1#32
  let v548 : BitVec 32 := Scalar.addi v19 c1_i32_402
  let c4_i32_403 : BitVec 32 := 4#32
  let c0_i32_404 : BitVec 32 := 0#32
  let v549 : BitVec 1 := Scalar.cmpi .eq c4_i32_403 c0_i32_404
  let c1_i32_405 : BitVec 32 := 1#32
  let v550 : BitVec 32 := Scalar.select v549 c1_i32_405 c4_i32_403
  let v551 : BitVec 32 := Scalar.remsi v548 v550
  let c0_i32_407 : BitVec 32 := 0#32
  let v553 : BitVec 1 := Scalar.cmpi .slt v551 c0_i32_407
  let c0_i32_408 : BitVec 32 := 0#32
  let v554 : BitVec 1 := Scalar.cmpi .slt v550 c0_i32_408
  let v555 : BitVec 1 := Scalar.xori v553 v554
  let c0_i32_406 : BitVec 32 := 0#32
  let v552 : BitVec 1 := Scalar.cmpi .ne v551 c0_i32_406
  let v556 : BitVec 1 := Scalar.andi v555 v552
  let v557 : BitVec 32 := Scalar.addi v551 v550
  let v558 : BitVec 32 := Scalar.select v556 v557 v551
  let v559 : BitVec 32 := Scalar.muli c4_i32_409 v558
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v560 : BitVec 32 := Scalar.addi v559 v29
  let c1_i32_412 : BitVec 32 := 1#32
  let v561 : BitVec 32 := Scalar.muli v560 c1_i32_412
  let v562 : BitVec 32 := Scalar.addi c0_i32_413 v561
  v562.toNat
def k0_dev26 (d0 : Dev nD) : Nat :=
  let c0_i32_430 : BitVec 32 := 0#32
  let c4_i32_425 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_418 : BitVec 32 := 2#32
  let v569 : BitVec 32 := Scalar.addi v19 c2_i32_418
  let c4_i32_419 : BitVec 32 := 4#32
  let c0_i32_420 : BitVec 32 := 0#32
  let v570 : BitVec 1 := Scalar.cmpi .eq c4_i32_419 c0_i32_420
  let c1_i32_421 : BitVec 32 := 1#32
  let v571 : BitVec 32 := Scalar.select v570 c1_i32_421 c4_i32_419
  let v572 : BitVec 32 := Scalar.remsi v569 v571
  let c0_i32_423 : BitVec 32 := 0#32
  let v574 : BitVec 1 := Scalar.cmpi .slt v572 c0_i32_423
  let c0_i32_424 : BitVec 32 := 0#32
  let v575 : BitVec 1 := Scalar.cmpi .slt v571 c0_i32_424
  let v576 : BitVec 1 := Scalar.xori v574 v575
  let c0_i32_422 : BitVec 32 := 0#32
  let v573 : BitVec 1 := Scalar.cmpi .ne v572 c0_i32_422
  let v577 : BitVec 1 := Scalar.andi v576 v573
  let v578 : BitVec 32 := Scalar.addi v572 v571
  let v579 : BitVec 32 := Scalar.select v577 v578 v572
  let v580 : BitVec 32 := Scalar.muli c4_i32_425 v579
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v581 : BitVec 32 := Scalar.addi v580 v29
  let c1_i32_429 : BitVec 32 := 1#32
  let v582 : BitVec 32 := Scalar.muli v581 c1_i32_429
  let v583 : BitVec 32 := Scalar.addi c0_i32_430 v582
  v583.toNat
def k0_dev27 (d0 : Dev nD) : Nat :=
  let c0_i32_447 : BitVec 32 := 0#32
  let c4_i32_442 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_435 : BitVec 32 := 3#32
  let v590 : BitVec 32 := Scalar.addi v19 c3_i32_435
  let c4_i32_436 : BitVec 32 := 4#32
  let c0_i32_437 : BitVec 32 := 0#32
  let v591 : BitVec 1 := Scalar.cmpi .eq c4_i32_436 c0_i32_437
  let c1_i32_438 : BitVec 32 := 1#32
  let v592 : BitVec 32 := Scalar.select v591 c1_i32_438 c4_i32_436
  let v593 : BitVec 32 := Scalar.remsi v590 v592
  let c0_i32_440 : BitVec 32 := 0#32
  let v595 : BitVec 1 := Scalar.cmpi .slt v593 c0_i32_440
  let c0_i32_441 : BitVec 32 := 0#32
  let v596 : BitVec 1 := Scalar.cmpi .slt v592 c0_i32_441
  let v597 : BitVec 1 := Scalar.xori v595 v596
  let c0_i32_439 : BitVec 32 := 0#32
  let v594 : BitVec 1 := Scalar.cmpi .ne v593 c0_i32_439
  let v598 : BitVec 1 := Scalar.andi v597 v594
  let v599 : BitVec 32 := Scalar.addi v593 v592
  let v600 : BitVec 32 := Scalar.select v598 v599 v593
  let v601 : BitVec 32 := Scalar.muli c4_i32_442 v600
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v602 : BitVec 32 := Scalar.addi v601 v29
  let c1_i32_446 : BitVec 32 := 1#32
  let v603 : BitVec 32 := Scalar.muli v602 c1_i32_446
  let v604 : BitVec 32 := Scalar.addi c0_i32_447 v603
  v604.toNat
def k0_off14 (d0 : Dev nD) (c1_i32_452 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v611 : BitVec 32 := Scalar.addi v29 c1_i32_452
  let c4_i32_453 : BitVec 32 := 4#32
  let c0_i32_454 : BitVec 32 := 0#32
  let v612 : BitVec 1 := Scalar.cmpi .eq c4_i32_453 c0_i32_454
  let c1_i32_455 : BitVec 32 := 1#32
  let v613 : BitVec 32 := Scalar.select v612 c1_i32_455 c4_i32_453
  let v614 : BitVec 32 := Scalar.remsi v611 v613
  let c0_i32_457 : BitVec 32 := 0#32
  let v616 : BitVec 1 := Scalar.cmpi .slt v614 c0_i32_457
  let c0_i32_458 : BitVec 32 := 0#32
  let v617 : BitVec 1 := Scalar.cmpi .slt v613 c0_i32_458
  let v618 : BitVec 1 := Scalar.xori v616 v617
  let c0_i32_456 : BitVec 32 := 0#32
  let v615 : BitVec 1 := Scalar.cmpi .ne v614 c0_i32_456
  let v619 : BitVec 1 := Scalar.andi v618 v615
  let v620 : BitVec 32 := Scalar.addi v614 v613
  let v621 : BitVec 32 := Scalar.select v619 v620 v614
  ![v621.toNat]
def k0_off15 (d0 : Dev nD) (c1_i32_452 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v611 : BitVec 32 := Scalar.addi v29 c1_i32_452
  let c4_i32_453 : BitVec 32 := 4#32
  let c0_i32_454 : BitVec 32 := 0#32
  let v612 : BitVec 1 := Scalar.cmpi .eq c4_i32_453 c0_i32_454
  let c1_i32_455 : BitVec 32 := 1#32
  let v613 : BitVec 32 := Scalar.select v612 c1_i32_455 c4_i32_453
  let v614 : BitVec 32 := Scalar.remsi v611 v613
  let c0_i32_457 : BitVec 32 := 0#32
  let v616 : BitVec 1 := Scalar.cmpi .slt v614 c0_i32_457
  let c0_i32_458 : BitVec 32 := 0#32
  let v617 : BitVec 1 := Scalar.cmpi .slt v613 c0_i32_458
  let v618 : BitVec 1 := Scalar.xori v616 v617
  let c0_i32_456 : BitVec 32 := 0#32
  let v615 : BitVec 1 := Scalar.cmpi .ne v614 c0_i32_456
  let v619 : BitVec 1 := Scalar.andi v618 v615
  let v620 : BitVec 32 := Scalar.addi v614 v613
  let v621 : BitVec 32 := Scalar.select v619 v620 v614
  let c0_i32_462 : BitVec 32 := 0#32
  let c0_i32_463 : BitVec 32 := 0#32
  ![v621.toNat, 0, 0]
def k0_off16 (d0 : Dev nD) (c0_i32_497 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v664 : BitVec 32 := Scalar.addi v19 c0_i32_497
  let c4_i32_498 : BitVec 32 := 4#32
  let c0_i32_499 : BitVec 32 := 0#32
  let v665 : BitVec 1 := Scalar.cmpi .eq c4_i32_498 c0_i32_499
  let c1_i32_500 : BitVec 32 := 1#32
  let v666 : BitVec 32 := Scalar.select v665 c1_i32_500 c4_i32_498
  let v667 : BitVec 32 := Scalar.remsi v664 v666
  let c0_i32_502 : BitVec 32 := 0#32
  let v669 : BitVec 1 := Scalar.cmpi .slt v667 c0_i32_502
  let c0_i32_503 : BitVec 32 := 0#32
  let v670 : BitVec 1 := Scalar.cmpi .slt v666 c0_i32_503
  let v671 : BitVec 1 := Scalar.xori v669 v670
  let c0_i32_501 : BitVec 32 := 0#32
  let v668 : BitVec 1 := Scalar.cmpi .ne v667 c0_i32_501
  let v672 : BitVec 1 := Scalar.andi v671 v668
  let v673 : BitVec 32 := Scalar.addi v667 v666
  let v674 : BitVec 32 := Scalar.select v672 v673 v667
  let v675 : Index := Scalar.indexCast v674
  let c0_504 : Index := 0#32
  let c0_505 : Index := 0#32
  ![v675.toNat, 0, 0]
def k0_off17 (d0 : Dev nD) (c0_i32_497 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v664 : BitVec 32 := Scalar.addi v19 c0_i32_497
  let c4_i32_498 : BitVec 32 := 4#32
  let c0_i32_499 : BitVec 32 := 0#32
  let v665 : BitVec 1 := Scalar.cmpi .eq c4_i32_498 c0_i32_499
  let c1_i32_500 : BitVec 32 := 1#32
  let v666 : BitVec 32 := Scalar.select v665 c1_i32_500 c4_i32_498
  let v667 : BitVec 32 := Scalar.remsi v664 v666
  let c0_i32_502 : BitVec 32 := 0#32
  let v669 : BitVec 1 := Scalar.cmpi .slt v667 c0_i32_502
  let c0_i32_503 : BitVec 32 := 0#32
  let v670 : BitVec 1 := Scalar.cmpi .slt v666 c0_i32_503
  let v671 : BitVec 1 := Scalar.xori v669 v670
  let c0_i32_501 : BitVec 32 := 0#32
  let v668 : BitVec 1 := Scalar.cmpi .ne v667 c0_i32_501
  let v672 : BitVec 1 := Scalar.andi v671 v668
  let v673 : BitVec 32 := Scalar.addi v667 v666
  let v674 : BitVec 32 := Scalar.select v672 v673 v667
  let v678 : Index := Scalar.indexCast v674
  let c0_506 : Index := 0#32
  let c0_507 : Index := 0#32
  ![v678.toNat, 0, 0]
def k0_off18 (d0 : Dev nD) (c1_i32_510 : BitVec 32) : Fin 2 → Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v686 : BitVec 32 := Scalar.addi v19 c1_i32_510
  let c4_i32_511 : BitVec 32 := 4#32
  let c0_i32_512 : BitVec 32 := 0#32
  let v687 : BitVec 1 := Scalar.cmpi .eq c4_i32_511 c0_i32_512
  let c1_i32_513 : BitVec 32 := 1#32
  let v688 : BitVec 32 := Scalar.select v687 c1_i32_513 c4_i32_511
  let v689 : BitVec 32 := Scalar.remsi v686 v688
  let c0_i32_515 : BitVec 32 := 0#32
  let v691 : BitVec 1 := Scalar.cmpi .slt v689 c0_i32_515
  let c0_i32_516 : BitVec 32 := 0#32
  let v692 : BitVec 1 := Scalar.cmpi .slt v688 c0_i32_516
  let v693 : BitVec 1 := Scalar.xori v691 v692
  let c0_i32_514 : BitVec 32 := 0#32
  let v690 : BitVec 1 := Scalar.cmpi .ne v689 c0_i32_514
  let v694 : BitVec 1 := Scalar.andi v693 v690
  let v695 : BitVec 32 := Scalar.addi v689 v688
  let v696 : BitVec 32 := Scalar.select v694 v695 v689
  ![0, v696.toNat]
def k0_off19 (d0 : Dev nD) (c1_i32_510 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v686 : BitVec 32 := Scalar.addi v19 c1_i32_510
  let c4_i32_511 : BitVec 32 := 4#32
  let c0_i32_512 : BitVec 32 := 0#32
  let v687 : BitVec 1 := Scalar.cmpi .eq c4_i32_511 c0_i32_512
  let c1_i32_513 : BitVec 32 := 1#32
  let v688 : BitVec 32 := Scalar.select v687 c1_i32_513 c4_i32_511
  let v689 : BitVec 32 := Scalar.remsi v686 v688
  let c0_i32_515 : BitVec 32 := 0#32
  let v691 : BitVec 1 := Scalar.cmpi .slt v689 c0_i32_515
  let c0_i32_516 : BitVec 32 := 0#32
  let v692 : BitVec 1 := Scalar.cmpi .slt v688 c0_i32_516
  let v693 : BitVec 1 := Scalar.xori v691 v692
  let c0_i32_514 : BitVec 32 := 0#32
  let v690 : BitVec 1 := Scalar.cmpi .ne v689 c0_i32_514
  let v694 : BitVec 1 := Scalar.andi v693 v690
  let v695 : BitVec 32 := Scalar.addi v689 v688
  let v696 : BitVec 32 := Scalar.select v694 v695 v689
  let c0_i32_522 : BitVec 32 := 0#32
  let c0_i32_523 : BitVec 32 := 0#32
  ![v696.toNat, 0, 0]
def k0_off20 (d0 : Dev nD) (c1_i32_510 : BitVec 32) : Fin 2 → Nat :=
  let c1_i32_526 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v686 : BitVec 32 := Scalar.addi v19 c1_i32_510
  let c4_i32_511 : BitVec 32 := 4#32
  let c0_i32_512 : BitVec 32 := 0#32
  let v687 : BitVec 1 := Scalar.cmpi .eq c4_i32_511 c0_i32_512
  let c1_i32_513 : BitVec 32 := 1#32
  let v688 : BitVec 32 := Scalar.select v687 c1_i32_513 c4_i32_511
  let v689 : BitVec 32 := Scalar.remsi v686 v688
  let c0_i32_515 : BitVec 32 := 0#32
  let v691 : BitVec 1 := Scalar.cmpi .slt v689 c0_i32_515
  let c0_i32_516 : BitVec 32 := 0#32
  let v692 : BitVec 1 := Scalar.cmpi .slt v688 c0_i32_516
  let v693 : BitVec 1 := Scalar.xori v691 v692
  let c0_i32_514 : BitVec 32 := 0#32
  let v690 : BitVec 1 := Scalar.cmpi .ne v689 c0_i32_514
  let v694 : BitVec 1 := Scalar.andi v693 v690
  let v695 : BitVec 32 := Scalar.addi v689 v688
  let v696 : BitVec 32 := Scalar.select v694 v695 v689
  ![1, v696.toNat]
def k0_off21 (d0 : Dev nD) (c1_i32_510 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v686 : BitVec 32 := Scalar.addi v19 c1_i32_510
  let c4_i32_511 : BitVec 32 := 4#32
  let c0_i32_512 : BitVec 32 := 0#32
  let v687 : BitVec 1 := Scalar.cmpi .eq c4_i32_511 c0_i32_512
  let c1_i32_513 : BitVec 32 := 1#32
  let v688 : BitVec 32 := Scalar.select v687 c1_i32_513 c4_i32_511
  let v689 : BitVec 32 := Scalar.remsi v686 v688
  let c0_i32_515 : BitVec 32 := 0#32
  let v691 : BitVec 1 := Scalar.cmpi .slt v689 c0_i32_515
  let c0_i32_516 : BitVec 32 := 0#32
  let v692 : BitVec 1 := Scalar.cmpi .slt v688 c0_i32_516
  let v693 : BitVec 1 := Scalar.xori v691 v692
  let c0_i32_514 : BitVec 32 := 0#32
  let v690 : BitVec 1 := Scalar.cmpi .ne v689 c0_i32_514
  let v694 : BitVec 1 := Scalar.andi v693 v690
  let v695 : BitVec 32 := Scalar.addi v689 v688
  let v696 : BitVec 32 := Scalar.select v694 v695 v689
  let c0_i32_531 : BitVec 32 := 0#32
  let c0_i32_532 : BitVec 32 := 0#32
  ![v696.toNat, 0, 0]
def k0_off22 (d0 : Dev nD) : Fin 2 → Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![0, v29.toNat]
def k0_off23 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_623 : BitVec 32 := 0#32
  let c0_i32_624 : BitVec 32 := 0#32
  let c0_i32_625 : BitVec 32 := 0#32
  ![v29.toNat, 0, 0, 0]
def k0_dev28 (d0 : Dev nD) : Nat :=
  let c0_i32_622 : BitVec 32 := 0#32
  let c4_i32_610 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v796 : BitVec 32 := Scalar.muli c4_i32_610 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_611 : BitVec 32 := 1#32
  let v797 : BitVec 32 := Scalar.addi v29 c1_i32_611
  let c4_i32_612 : BitVec 32 := 4#32
  let c0_i32_613 : BitVec 32 := 0#32
  let v798 : BitVec 1 := Scalar.cmpi .eq c4_i32_612 c0_i32_613
  let c1_i32_614 : BitVec 32 := 1#32
  let v799 : BitVec 32 := Scalar.select v798 c1_i32_614 c4_i32_612
  let v800 : BitVec 32 := Scalar.remsi v797 v799
  let c0_i32_616 : BitVec 32 := 0#32
  let v802 : BitVec 1 := Scalar.cmpi .slt v800 c0_i32_616
  let c0_i32_617 : BitVec 32 := 0#32
  let v803 : BitVec 1 := Scalar.cmpi .slt v799 c0_i32_617
  let v804 : BitVec 1 := Scalar.xori v802 v803
  let c0_i32_615 : BitVec 32 := 0#32
  let v801 : BitVec 1 := Scalar.cmpi .ne v800 c0_i32_615
  let v805 : BitVec 1 := Scalar.andi v804 v801
  let v806 : BitVec 32 := Scalar.addi v800 v799
  let v807 : BitVec 32 := Scalar.select v805 v806 v800
  let v808 : BitVec 32 := Scalar.addi v796 v807
  let c1_i32_621 : BitVec 32 := 1#32
  let v809 : BitVec 32 := Scalar.muli v808 c1_i32_621
  let v810 : BitVec 32 := Scalar.addi c0_i32_622 v809
  v810.toNat
def k0_dev29 (d0 : Dev nD) : Nat :=
  let c0_i32_642 : BitVec 32 := 0#32
  let c4_i32_630 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v817 : BitVec 32 := Scalar.muli c4_i32_630 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_631 : BitVec 32 := 2#32
  let v818 : BitVec 32 := Scalar.addi v29 c2_i32_631
  let c4_i32_632 : BitVec 32 := 4#32
  let c0_i32_633 : BitVec 32 := 0#32
  let v819 : BitVec 1 := Scalar.cmpi .eq c4_i32_632 c0_i32_633
  let c1_i32_634 : BitVec 32 := 1#32
  let v820 : BitVec 32 := Scalar.select v819 c1_i32_634 c4_i32_632
  let v821 : BitVec 32 := Scalar.remsi v818 v820
  let c0_i32_636 : BitVec 32 := 0#32
  let v823 : BitVec 1 := Scalar.cmpi .slt v821 c0_i32_636
  let c0_i32_637 : BitVec 32 := 0#32
  let v824 : BitVec 1 := Scalar.cmpi .slt v820 c0_i32_637
  let v825 : BitVec 1 := Scalar.xori v823 v824
  let c0_i32_635 : BitVec 32 := 0#32
  let v822 : BitVec 1 := Scalar.cmpi .ne v821 c0_i32_635
  let v826 : BitVec 1 := Scalar.andi v825 v822
  let v827 : BitVec 32 := Scalar.addi v821 v820
  let v828 : BitVec 32 := Scalar.select v826 v827 v821
  let v829 : BitVec 32 := Scalar.addi v817 v828
  let c1_i32_641 : BitVec 32 := 1#32
  let v830 : BitVec 32 := Scalar.muli v829 c1_i32_641
  let v831 : BitVec 32 := Scalar.addi c0_i32_642 v830
  v831.toNat
def k0_dev30 (d0 : Dev nD) : Nat :=
  let c0_i32_662 : BitVec 32 := 0#32
  let c4_i32_650 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v838 : BitVec 32 := Scalar.muli c4_i32_650 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_651 : BitVec 32 := 3#32
  let v839 : BitVec 32 := Scalar.addi v29 c3_i32_651
  let c4_i32_652 : BitVec 32 := 4#32
  let c0_i32_653 : BitVec 32 := 0#32
  let v840 : BitVec 1 := Scalar.cmpi .eq c4_i32_652 c0_i32_653
  let c1_i32_654 : BitVec 32 := 1#32
  let v841 : BitVec 32 := Scalar.select v840 c1_i32_654 c4_i32_652
  let v842 : BitVec 32 := Scalar.remsi v839 v841
  let c0_i32_656 : BitVec 32 := 0#32
  let v844 : BitVec 1 := Scalar.cmpi .slt v842 c0_i32_656
  let c0_i32_657 : BitVec 32 := 0#32
  let v845 : BitVec 1 := Scalar.cmpi .slt v841 c0_i32_657
  let v846 : BitVec 1 := Scalar.xori v844 v845
  let c0_i32_655 : BitVec 32 := 0#32
  let v843 : BitVec 1 := Scalar.cmpi .ne v842 c0_i32_655
  let v847 : BitVec 1 := Scalar.andi v846 v843
  let v848 : BitVec 32 := Scalar.addi v842 v841
  let v849 : BitVec 32 := Scalar.select v847 v848 v842
  let v850 : BitVec 32 := Scalar.addi v838 v849
  let c1_i32_661 : BitVec 32 := 1#32
  let v851 : BitVec 32 := Scalar.muli v850 c1_i32_661
  let v852 : BitVec 32 := Scalar.addi c0_i32_662 v851
  v852.toNat
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v860 : Index := Scalar.indexCast v29
  let c0_674 : Index := 0#32
  let c0_675 : Index := 0#32
  let c0_676 : Index := 0#32
  ![v860.toNat, 0, 0, 0]
def k0_off25 (d0 : Dev nD) (c1_i32_677 : BitVec 32) : Fin 2 → Nat :=
  let c0_i32_684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v864 : BitVec 32 := Scalar.addi v29 c1_i32_677
  let c4_i32_678 : BitVec 32 := 4#32
  let c0_i32_679 : BitVec 32 := 0#32
  let v865 : BitVec 1 := Scalar.cmpi .eq c4_i32_678 c0_i32_679
  let c1_i32_680 : BitVec 32 := 1#32
  let v866 : BitVec 32 := Scalar.select v865 c1_i32_680 c4_i32_678
  let v867 : BitVec 32 := Scalar.remsi v864 v866
  let c0_i32_682 : BitVec 32 := 0#32
  let v869 : BitVec 1 := Scalar.cmpi .slt v867 c0_i32_682
  let c0_i32_683 : BitVec 32 := 0#32
  let v870 : BitVec 1 := Scalar.cmpi .slt v866 c0_i32_683
  let v871 : BitVec 1 := Scalar.xori v869 v870
  let c0_i32_681 : BitVec 32 := 0#32
  let v868 : BitVec 1 := Scalar.cmpi .ne v867 c0_i32_681
  let v872 : BitVec 1 := Scalar.andi v871 v868
  let v873 : BitVec 32 := Scalar.addi v867 v866
  let v874 : BitVec 32 := Scalar.select v872 v873 v867
  ![0, v874.toNat]
def k0_off26 (d0 : Dev nD) (c1_i32_677 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v864 : BitVec 32 := Scalar.addi v29 c1_i32_677
  let c4_i32_678 : BitVec 32 := 4#32
  let c0_i32_679 : BitVec 32 := 0#32
  let v865 : BitVec 1 := Scalar.cmpi .eq c4_i32_678 c0_i32_679
  let c1_i32_680 : BitVec 32 := 1#32
  let v866 : BitVec 32 := Scalar.select v865 c1_i32_680 c4_i32_678
  let v867 : BitVec 32 := Scalar.remsi v864 v866
  let c0_i32_682 : BitVec 32 := 0#32
  let v869 : BitVec 1 := Scalar.cmpi .slt v867 c0_i32_682
  let c0_i32_683 : BitVec 32 := 0#32
  let v870 : BitVec 1 := Scalar.cmpi .slt v866 c0_i32_683
  let v871 : BitVec 1 := Scalar.xori v869 v870
  let c0_i32_681 : BitVec 32 := 0#32
  let v868 : BitVec 1 := Scalar.cmpi .ne v867 c0_i32_681
  let v872 : BitVec 1 := Scalar.andi v871 v868
  let v873 : BitVec 32 := Scalar.addi v867 v866
  let v874 : BitVec 32 := Scalar.select v872 v873 v867
  let c0_i32_689 : BitVec 32 := 0#32
  let c0_i32_690 : BitVec 32 := 0#32
  let c0_i32_691 : BitVec 32 := 0#32
  ![v874.toNat, 0, 0, 0]
def k0_off27 (d0 : Dev nD) (c1_i32_774 : BitVec 32) : Fin 2 → Nat :=
  let c2_i32_781 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v958 : BitVec 32 := Scalar.addi v19 c1_i32_774
  let c4_i32_775 : BitVec 32 := 4#32
  let c0_i32_776 : BitVec 32 := 0#32
  let v959 : BitVec 1 := Scalar.cmpi .eq c4_i32_775 c0_i32_776
  let c1_i32_777 : BitVec 32 := 1#32
  let v960 : BitVec 32 := Scalar.select v959 c1_i32_777 c4_i32_775
  let v961 : BitVec 32 := Scalar.remsi v958 v960
  let c0_i32_779 : BitVec 32 := 0#32
  let v963 : BitVec 1 := Scalar.cmpi .slt v961 c0_i32_779
  let c0_i32_780 : BitVec 32 := 0#32
  let v964 : BitVec 1 := Scalar.cmpi .slt v960 c0_i32_780
  let v965 : BitVec 1 := Scalar.xori v963 v964
  let c0_i32_778 : BitVec 32 := 0#32
  let v962 : BitVec 1 := Scalar.cmpi .ne v961 c0_i32_778
  let v966 : BitVec 1 := Scalar.andi v965 v962
  let v967 : BitVec 32 := Scalar.addi v961 v960
  let v968 : BitVec 32 := Scalar.select v966 v967 v961
  ![2, v968.toNat]
def k0_off28 (d0 : Dev nD) (c1_i32_774 : BitVec 32) : Fin 2 → Nat :=
  let c3_i32_790 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v958 : BitVec 32 := Scalar.addi v19 c1_i32_774
  let c4_i32_775 : BitVec 32 := 4#32
  let c0_i32_776 : BitVec 32 := 0#32
  let v959 : BitVec 1 := Scalar.cmpi .eq c4_i32_775 c0_i32_776
  let c1_i32_777 : BitVec 32 := 1#32
  let v960 : BitVec 32 := Scalar.select v959 c1_i32_777 c4_i32_775
  let v961 : BitVec 32 := Scalar.remsi v958 v960
  let c0_i32_779 : BitVec 32 := 0#32
  let v963 : BitVec 1 := Scalar.cmpi .slt v961 c0_i32_779
  let c0_i32_780 : BitVec 32 := 0#32
  let v964 : BitVec 1 := Scalar.cmpi .slt v960 c0_i32_780
  let v965 : BitVec 1 := Scalar.xori v963 v964
  let c0_i32_778 : BitVec 32 := 0#32
  let v962 : BitVec 1 := Scalar.cmpi .ne v961 c0_i32_778
  let v966 : BitVec 1 := Scalar.andi v965 v962
  let v967 : BitVec 32 := Scalar.addi v961 v960
  let v968 : BitVec 32 := Scalar.select v966 v967 v961
  ![3, v968.toNat]
def k0_off29 (d0 : Dev nD) : Fin 2 → Nat :=
  let c1_i32_915 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  ![1, v29.toNat]
def k0_dev31 (d0 : Dev nD) : Nat :=
  let c0_i32_919 : BitVec 32 := 0#32
  let c4_i32_907 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1080 : BitVec 32 := Scalar.muli c4_i32_907 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_908 : BitVec 32 := 1#32
  let v1081 : BitVec 32 := Scalar.addi v29 c1_i32_908
  let c4_i32_909 : BitVec 32 := 4#32
  let c0_i32_910 : BitVec 32 := 0#32
  let v1082 : BitVec 1 := Scalar.cmpi .eq c4_i32_909 c0_i32_910
  let c1_i32_911 : BitVec 32 := 1#32
  let v1083 : BitVec 32 := Scalar.select v1082 c1_i32_911 c4_i32_909
  let v1084 : BitVec 32 := Scalar.remsi v1081 v1083
  let c0_i32_913 : BitVec 32 := 0#32
  let v1086 : BitVec 1 := Scalar.cmpi .slt v1084 c0_i32_913
  let c0_i32_914 : BitVec 32 := 0#32
  let v1087 : BitVec 1 := Scalar.cmpi .slt v1083 c0_i32_914
  let v1088 : BitVec 1 := Scalar.xori v1086 v1087
  let c0_i32_912 : BitVec 32 := 0#32
  let v1085 : BitVec 1 := Scalar.cmpi .ne v1084 c0_i32_912
  let v1089 : BitVec 1 := Scalar.andi v1088 v1085
  let v1090 : BitVec 32 := Scalar.addi v1084 v1083
  let v1091 : BitVec 32 := Scalar.select v1089 v1090 v1084
  let v1092 : BitVec 32 := Scalar.addi v1080 v1091
  let c1_i32_918 : BitVec 32 := 1#32
  let v1093 : BitVec 32 := Scalar.muli v1092 c1_i32_918
  let v1094 : BitVec 32 := Scalar.addi c0_i32_919 v1093
  v1094.toNat
def k0_dev32 (d0 : Dev nD) : Nat :=
  let c0_i32_939 : BitVec 32 := 0#32
  let c4_i32_927 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1101 : BitVec 32 := Scalar.muli c4_i32_927 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_928 : BitVec 32 := 2#32
  let v1102 : BitVec 32 := Scalar.addi v29 c2_i32_928
  let c4_i32_929 : BitVec 32 := 4#32
  let c0_i32_930 : BitVec 32 := 0#32
  let v1103 : BitVec 1 := Scalar.cmpi .eq c4_i32_929 c0_i32_930
  let c1_i32_931 : BitVec 32 := 1#32
  let v1104 : BitVec 32 := Scalar.select v1103 c1_i32_931 c4_i32_929
  let v1105 : BitVec 32 := Scalar.remsi v1102 v1104
  let c0_i32_933 : BitVec 32 := 0#32
  let v1107 : BitVec 1 := Scalar.cmpi .slt v1105 c0_i32_933
  let c0_i32_934 : BitVec 32 := 0#32
  let v1108 : BitVec 1 := Scalar.cmpi .slt v1104 c0_i32_934
  let v1109 : BitVec 1 := Scalar.xori v1107 v1108
  let c0_i32_932 : BitVec 32 := 0#32
  let v1106 : BitVec 1 := Scalar.cmpi .ne v1105 c0_i32_932
  let v1110 : BitVec 1 := Scalar.andi v1109 v1106
  let v1111 : BitVec 32 := Scalar.addi v1105 v1104
  let v1112 : BitVec 32 := Scalar.select v1110 v1111 v1105
  let v1113 : BitVec 32 := Scalar.addi v1101 v1112
  let c1_i32_938 : BitVec 32 := 1#32
  let v1114 : BitVec 32 := Scalar.muli v1113 c1_i32_938
  let v1115 : BitVec 32 := Scalar.addi c0_i32_939 v1114
  v1115.toNat
def k0_dev33 (d0 : Dev nD) : Nat :=
  let c0_i32_959 : BitVec 32 := 0#32
  let c4_i32_947 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1122 : BitVec 32 := Scalar.muli c4_i32_947 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_948 : BitVec 32 := 3#32
  let v1123 : BitVec 32 := Scalar.addi v29 c3_i32_948
  let c4_i32_949 : BitVec 32 := 4#32
  let c0_i32_950 : BitVec 32 := 0#32
  let v1124 : BitVec 1 := Scalar.cmpi .eq c4_i32_949 c0_i32_950
  let c1_i32_951 : BitVec 32 := 1#32
  let v1125 : BitVec 32 := Scalar.select v1124 c1_i32_951 c4_i32_949
  let v1126 : BitVec 32 := Scalar.remsi v1123 v1125
  let c0_i32_953 : BitVec 32 := 0#32
  let v1128 : BitVec 1 := Scalar.cmpi .slt v1126 c0_i32_953
  let c0_i32_954 : BitVec 32 := 0#32
  let v1129 : BitVec 1 := Scalar.cmpi .slt v1125 c0_i32_954
  let v1130 : BitVec 1 := Scalar.xori v1128 v1129
  let c0_i32_952 : BitVec 32 := 0#32
  let v1127 : BitVec 1 := Scalar.cmpi .ne v1126 c0_i32_952
  let v1131 : BitVec 1 := Scalar.andi v1130 v1127
  let v1132 : BitVec 32 := Scalar.addi v1126 v1125
  let v1133 : BitVec 32 := Scalar.select v1131 v1132 v1126
  let v1134 : BitVec 32 := Scalar.addi v1122 v1133
  let c1_i32_958 : BitVec 32 := 1#32
  let v1135 : BitVec 32 := Scalar.muli v1134 c1_i32_958
  let v1136 : BitVec 32 := Scalar.addi c0_i32_959 v1135
  v1136.toNat
def k0_off30 (d0 : Dev nD) (c1_i32_974 : BitVec 32) : Fin 2 → Nat :=
  let c1_i32_981 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1148 : BitVec 32 := Scalar.addi v29 c1_i32_974
  let c4_i32_975 : BitVec 32 := 4#32
  let c0_i32_976 : BitVec 32 := 0#32
  let v1149 : BitVec 1 := Scalar.cmpi .eq c4_i32_975 c0_i32_976
  let c1_i32_977 : BitVec 32 := 1#32
  let v1150 : BitVec 32 := Scalar.select v1149 c1_i32_977 c4_i32_975
  let v1151 : BitVec 32 := Scalar.remsi v1148 v1150
  let c0_i32_979 : BitVec 32 := 0#32
  let v1153 : BitVec 1 := Scalar.cmpi .slt v1151 c0_i32_979
  let c0_i32_980 : BitVec 32 := 0#32
  let v1154 : BitVec 1 := Scalar.cmpi .slt v1150 c0_i32_980
  let v1155 : BitVec 1 := Scalar.xori v1153 v1154
  let c0_i32_978 : BitVec 32 := 0#32
  let v1152 : BitVec 1 := Scalar.cmpi .ne v1151 c0_i32_978
  let v1156 : BitVec 1 := Scalar.andi v1155 v1152
  let v1157 : BitVec 32 := Scalar.addi v1151 v1150
  let v1158 : BitVec 32 := Scalar.select v1156 v1157 v1151
  ![1, v1158.toNat]
def k0_off31 (d0 : Dev nD) (c1_i32_1053 : BitVec 32) : Fin 2 → Nat :=
  let c4_i32_1060 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1230 : BitVec 32 := Scalar.addi v19 c1_i32_1053
  let c4_i32_1054 : BitVec 32 := 4#32
  let c0_i32_1055 : BitVec 32 := 0#32
  let v1231 : BitVec 1 := Scalar.cmpi .eq c4_i32_1054 c0_i32_1055
  let c1_i32_1056 : BitVec 32 := 1#32
  let v1232 : BitVec 32 := Scalar.select v1231 c1_i32_1056 c4_i32_1054
  let v1233 : BitVec 32 := Scalar.remsi v1230 v1232
  let c0_i32_1058 : BitVec 32 := 0#32
  let v1235 : BitVec 1 := Scalar.cmpi .slt v1233 c0_i32_1058
  let c0_i32_1059 : BitVec 32 := 0#32
  let v1236 : BitVec 1 := Scalar.cmpi .slt v1232 c0_i32_1059
  let v1237 : BitVec 1 := Scalar.xori v1235 v1236
  let c0_i32_1057 : BitVec 32 := 0#32
  let v1234 : BitVec 1 := Scalar.cmpi .ne v1233 c0_i32_1057
  let v1238 : BitVec 1 := Scalar.andi v1237 v1234
  let v1239 : BitVec 32 := Scalar.addi v1233 v1232
  let v1240 : BitVec 32 := Scalar.select v1238 v1239 v1233
  ![4, v1240.toNat]
def k0_off32 (d0 : Dev nD) (c1_i32_1053 : BitVec 32) : Fin 2 → Nat :=
  let c5_i32_1069 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1230 : BitVec 32 := Scalar.addi v19 c1_i32_1053
  let c4_i32_1054 : BitVec 32 := 4#32
  let c0_i32_1055 : BitVec 32 := 0#32
  let v1231 : BitVec 1 := Scalar.cmpi .eq c4_i32_1054 c0_i32_1055
  let c1_i32_1056 : BitVec 32 := 1#32
  let v1232 : BitVec 32 := Scalar.select v1231 c1_i32_1056 c4_i32_1054
  let v1233 : BitVec 32 := Scalar.remsi v1230 v1232
  let c0_i32_1058 : BitVec 32 := 0#32
  let v1235 : BitVec 1 := Scalar.cmpi .slt v1233 c0_i32_1058
  let c0_i32_1059 : BitVec 32 := 0#32
  let v1236 : BitVec 1 := Scalar.cmpi .slt v1232 c0_i32_1059
  let v1237 : BitVec 1 := Scalar.xori v1235 v1236
  let c0_i32_1057 : BitVec 32 := 0#32
  let v1234 : BitVec 1 := Scalar.cmpi .ne v1233 c0_i32_1057
  let v1238 : BitVec 1 := Scalar.andi v1237 v1234
  let v1239 : BitVec 32 := Scalar.addi v1233 v1232
  let v1240 : BitVec 32 := Scalar.select v1238 v1239 v1233
  ![5, v1240.toNat]
def k0_off33 (d0 : Dev nD) : Fin 4 → Nat :=
  let c0_1186 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1352 : Index := Scalar.indexCast v29
  let c0_1187 : Index := 0#32
  let c0_1188 : Index := 0#32
  ![0, v1352.toNat, 0, 0]
def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1354 : Index := Scalar.indexCast v29
  let c0_1189 : Index := 0#32
  let c0_1190 : Index := 0#32
  let c0_1191 : Index := 0#32
  ![v1354.toNat, 0, 0, 0]
def k0_off35 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_1210 : BitVec 32 := 0#32
  let c0_i32_1211 : BitVec 32 := 0#32
  let c0_i32_1212 : BitVec 32 := 0#32
  ![v29.toNat, 0, 0, 0]
def k0_off36 (d0 : Dev nD) (c1_i32_1192 : BitVec 32) : Fin 4 → Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1358 : BitVec 32 := Scalar.addi v29 c1_i32_1192
  let c4_i32_1193 : BitVec 32 := 4#32
  let c0_i32_1194 : BitVec 32 := 0#32
  let v1359 : BitVec 1 := Scalar.cmpi .eq c4_i32_1193 c0_i32_1194
  let c1_i32_1195 : BitVec 32 := 1#32
  let v1360 : BitVec 32 := Scalar.select v1359 c1_i32_1195 c4_i32_1193
  let v1361 : BitVec 32 := Scalar.remsi v1358 v1360
  let c0_i32_1197 : BitVec 32 := 0#32
  let v1363 : BitVec 1 := Scalar.cmpi .slt v1361 c0_i32_1197
  let c0_i32_1198 : BitVec 32 := 0#32
  let v1364 : BitVec 1 := Scalar.cmpi .slt v1360 c0_i32_1198
  let v1365 : BitVec 1 := Scalar.xori v1363 v1364
  let c0_i32_1196 : BitVec 32 := 0#32
  let v1362 : BitVec 1 := Scalar.cmpi .ne v1361 c0_i32_1196
  let v1366 : BitVec 1 := Scalar.andi v1365 v1362
  let v1367 : BitVec 32 := Scalar.addi v1361 v1360
  let v1368 : BitVec 32 := Scalar.select v1366 v1367 v1361
  let c0_i32_1214 : BitVec 32 := 0#32
  let c0_i32_1215 : BitVec 32 := 0#32
  ![0, v1368.toNat, 0, 0]
def k0_dev34 (d0 : Dev nD) : Nat :=
  let c0_i32_1209 : BitVec 32 := 0#32
  let c4_i32_1199 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1369 : BitVec 32 := Scalar.muli c4_i32_1199 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1200 : BitVec 32 := 1#32
  let v1370 : BitVec 32 := Scalar.addi v29 c1_i32_1200
  let c4_i32_1201 : BitVec 32 := 4#32
  let c0_i32_1202 : BitVec 32 := 0#32
  let v1371 : BitVec 1 := Scalar.cmpi .eq c4_i32_1201 c0_i32_1202
  let c1_i32_1203 : BitVec 32 := 1#32
  let v1372 : BitVec 32 := Scalar.select v1371 c1_i32_1203 c4_i32_1201
  let v1373 : BitVec 32 := Scalar.remsi v1370 v1372
  let c0_i32_1205 : BitVec 32 := 0#32
  let v1375 : BitVec 1 := Scalar.cmpi .slt v1373 c0_i32_1205
  let c0_i32_1206 : BitVec 32 := 0#32
  let v1376 : BitVec 1 := Scalar.cmpi .slt v1372 c0_i32_1206
  let v1377 : BitVec 1 := Scalar.xori v1375 v1376
  let c0_i32_1204 : BitVec 32 := 0#32
  let v1374 : BitVec 1 := Scalar.cmpi .ne v1373 c0_i32_1204
  let v1378 : BitVec 1 := Scalar.andi v1377 v1374
  let v1379 : BitVec 32 := Scalar.addi v1373 v1372
  let v1380 : BitVec 32 := Scalar.select v1378 v1379 v1373
  let v1381 : BitVec 32 := Scalar.addi v1369 v1380
  let c1_i32_1208 : BitVec 32 := 1#32
  let v1382 : BitVec 32 := Scalar.muli v1381 c1_i32_1208
  let v1383 : BitVec 32 := Scalar.addi c0_i32_1209 v1382
  v1383.toNat
def k0_dev35 (d0 : Dev nD) : Nat :=
  let c0_i32_1233 : BitVec 32 := 0#32
  let c4_i32_1223 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1401 : BitVec 32 := Scalar.muli c4_i32_1223 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1224 : BitVec 32 := 2#32
  let v1402 : BitVec 32 := Scalar.addi v29 c2_i32_1224
  let c4_i32_1225 : BitVec 32 := 4#32
  let c0_i32_1226 : BitVec 32 := 0#32
  let v1403 : BitVec 1 := Scalar.cmpi .eq c4_i32_1225 c0_i32_1226
  let c1_i32_1227 : BitVec 32 := 1#32
  let v1404 : BitVec 32 := Scalar.select v1403 c1_i32_1227 c4_i32_1225
  let v1405 : BitVec 32 := Scalar.remsi v1402 v1404
  let c0_i32_1229 : BitVec 32 := 0#32
  let v1407 : BitVec 1 := Scalar.cmpi .slt v1405 c0_i32_1229
  let c0_i32_1230 : BitVec 32 := 0#32
  let v1408 : BitVec 1 := Scalar.cmpi .slt v1404 c0_i32_1230
  let v1409 : BitVec 1 := Scalar.xori v1407 v1408
  let c0_i32_1228 : BitVec 32 := 0#32
  let v1406 : BitVec 1 := Scalar.cmpi .ne v1405 c0_i32_1228
  let v1410 : BitVec 1 := Scalar.andi v1409 v1406
  let v1411 : BitVec 32 := Scalar.addi v1405 v1404
  let v1412 : BitVec 32 := Scalar.select v1410 v1411 v1405
  let v1413 : BitVec 32 := Scalar.addi v1401 v1412
  let c1_i32_1232 : BitVec 32 := 1#32
  let v1414 : BitVec 32 := Scalar.muli v1413 c1_i32_1232
  let v1415 : BitVec 32 := Scalar.addi c0_i32_1233 v1414
  v1415.toNat
def k0_dev36 (d0 : Dev nD) : Nat :=
  let c0_i32_1257 : BitVec 32 := 0#32
  let c4_i32_1247 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1433 : BitVec 32 := Scalar.muli c4_i32_1247 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1248 : BitVec 32 := 3#32
  let v1434 : BitVec 32 := Scalar.addi v29 c3_i32_1248
  let c4_i32_1249 : BitVec 32 := 4#32
  let c0_i32_1250 : BitVec 32 := 0#32
  let v1435 : BitVec 1 := Scalar.cmpi .eq c4_i32_1249 c0_i32_1250
  let c1_i32_1251 : BitVec 32 := 1#32
  let v1436 : BitVec 32 := Scalar.select v1435 c1_i32_1251 c4_i32_1249
  let v1437 : BitVec 32 := Scalar.remsi v1434 v1436
  let c0_i32_1253 : BitVec 32 := 0#32
  let v1439 : BitVec 1 := Scalar.cmpi .slt v1437 c0_i32_1253
  let c0_i32_1254 : BitVec 32 := 0#32
  let v1440 : BitVec 1 := Scalar.cmpi .slt v1436 c0_i32_1254
  let v1441 : BitVec 1 := Scalar.xori v1439 v1440
  let c0_i32_1252 : BitVec 32 := 0#32
  let v1438 : BitVec 1 := Scalar.cmpi .ne v1437 c0_i32_1252
  let v1442 : BitVec 1 := Scalar.andi v1441 v1438
  let v1443 : BitVec 32 := Scalar.addi v1437 v1436
  let v1444 : BitVec 32 := Scalar.select v1442 v1443 v1437
  let v1445 : BitVec 32 := Scalar.addi v1433 v1444
  let c1_i32_1256 : BitVec 32 := 1#32
  let v1446 : BitVec 32 := Scalar.muli v1445 c1_i32_1256
  let v1447 : BitVec 32 := Scalar.addi c0_i32_1257 v1446
  v1447.toNat
def k0_off37 (d0 : Dev nD) (c1_i32_1264 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1454 : BitVec 32 := Scalar.addi v29 c1_i32_1264
  let c4_i32_1265 : BitVec 32 := 4#32
  let c0_i32_1266 : BitVec 32 := 0#32
  let v1455 : BitVec 1 := Scalar.cmpi .eq c4_i32_1265 c0_i32_1266
  let c1_i32_1267 : BitVec 32 := 1#32
  let v1456 : BitVec 32 := Scalar.select v1455 c1_i32_1267 c4_i32_1265
  let v1457 : BitVec 32 := Scalar.remsi v1454 v1456
  let c0_i32_1269 : BitVec 32 := 0#32
  let v1459 : BitVec 1 := Scalar.cmpi .slt v1457 c0_i32_1269
  let c0_i32_1270 : BitVec 32 := 0#32
  let v1460 : BitVec 1 := Scalar.cmpi .slt v1456 c0_i32_1270
  let v1461 : BitVec 1 := Scalar.xori v1459 v1460
  let c0_i32_1268 : BitVec 32 := 0#32
  let v1458 : BitVec 1 := Scalar.cmpi .ne v1457 c0_i32_1268
  let v1462 : BitVec 1 := Scalar.andi v1461 v1458
  let v1463 : BitVec 32 := Scalar.addi v1457 v1456
  let v1464 : BitVec 32 := Scalar.select v1462 v1463 v1457
  let c0_i32_1274 : BitVec 32 := 0#32
  let c0_i32_1275 : BitVec 32 := 0#32
  let c0_i32_1276 : BitVec 32 := 0#32
  ![v1464.toNat, 0, 0, 0]
def k0_dev37 (d0 : Dev nD) : Nat :=
  let c0_i32_1497_r0 : BitVec 32 := 0#32
  let c4_i32_1494_r0 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1487_r0 : BitVec 32 := 1#32
  let v1594_r0 : BitVec 32 := Scalar.addi v19 c1_i32_1487_r0
  let c4_i32_1488_r0 : BitVec 32 := 4#32
  let c0_i32_1489_r0 : BitVec 32 := 0#32
  let v1595_r0 : BitVec 1 := Scalar.cmpi .eq c4_i32_1488_r0 c0_i32_1489_r0
  let c1_i32_1490_r0 : BitVec 32 := 1#32
  let v1596_r0 : BitVec 32 := Scalar.select v1595_r0 c1_i32_1490_r0 c4_i32_1488_r0
  let v1597_r0 : BitVec 32 := Scalar.remsi v1594_r0 v1596_r0
  let c0_i32_1492_r0 : BitVec 32 := 0#32
  let v1599_r0 : BitVec 1 := Scalar.cmpi .slt v1597_r0 c0_i32_1492_r0
  let c0_i32_1493_r0 : BitVec 32 := 0#32
  let v1600_r0 : BitVec 1 := Scalar.cmpi .slt v1596_r0 c0_i32_1493_r0
  let v1601_r0 : BitVec 1 := Scalar.xori v1599_r0 v1600_r0
  let c0_i32_1491_r0 : BitVec 32 := 0#32
  let v1598_r0 : BitVec 1 := Scalar.cmpi .ne v1597_r0 c0_i32_1491_r0
  let v1602_r0 : BitVec 1 := Scalar.andi v1601_r0 v1598_r0
  let v1603_r0 : BitVec 32 := Scalar.addi v1597_r0 v1596_r0
  let v1604_r0 : BitVec 32 := Scalar.select v1602_r0 v1603_r0 v1597_r0
  let v1605_r0 : BitVec 32 := Scalar.muli c4_i32_1494_r0 v1604_r0
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1606_r0 : BitVec 32 := Scalar.addi v1605_r0 v29
  let c1_i32_1496_r0 : BitVec 32 := 1#32
  let v1607_r0 : BitVec 32 := Scalar.muli v1606_r0 c1_i32_1496_r0
  let v1608_r0 : BitVec 32 := Scalar.addi c0_i32_1497_r0 v1607_r0
  v1608_r0.toNat
def k0_dev38 (d0 : Dev nD) : Nat :=
  let c0_i32_1508_r0 : BitVec 32 := 0#32
  let c4_i32_1505_r0 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1498_r0 : BitVec 32 := 2#32
  let v1609_r0 : BitVec 32 := Scalar.addi v19 c2_i32_1498_r0
  let c4_i32_1499_r0 : BitVec 32 := 4#32
  let c0_i32_1500_r0 : BitVec 32 := 0#32
  let v1610_r0 : BitVec 1 := Scalar.cmpi .eq c4_i32_1499_r0 c0_i32_1500_r0
  let c1_i32_1501_r0 : BitVec 32 := 1#32
  let v1611_r0 : BitVec 32 := Scalar.select v1610_r0 c1_i32_1501_r0 c4_i32_1499_r0
  let v1612_r0 : BitVec 32 := Scalar.remsi v1609_r0 v1611_r0
  let c0_i32_1503_r0 : BitVec 32 := 0#32
  let v1614_r0 : BitVec 1 := Scalar.cmpi .slt v1612_r0 c0_i32_1503_r0
  let c0_i32_1504_r0 : BitVec 32 := 0#32
  let v1615_r0 : BitVec 1 := Scalar.cmpi .slt v1611_r0 c0_i32_1504_r0
  let v1616_r0 : BitVec 1 := Scalar.xori v1614_r0 v1615_r0
  let c0_i32_1502_r0 : BitVec 32 := 0#32
  let v1613_r0 : BitVec 1 := Scalar.cmpi .ne v1612_r0 c0_i32_1502_r0
  let v1617_r0 : BitVec 1 := Scalar.andi v1616_r0 v1613_r0
  let v1618_r0 : BitVec 32 := Scalar.addi v1612_r0 v1611_r0
  let v1619_r0 : BitVec 32 := Scalar.select v1617_r0 v1618_r0 v1612_r0
  let v1620_r0 : BitVec 32 := Scalar.muli c4_i32_1505_r0 v1619_r0
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1621_r0 : BitVec 32 := Scalar.addi v1620_r0 v29
  let c1_i32_1507_r0 : BitVec 32 := 1#32
  let v1622_r0 : BitVec 32 := Scalar.muli v1621_r0 c1_i32_1507_r0
  let v1623_r0 : BitVec 32 := Scalar.addi c0_i32_1508_r0 v1622_r0
  v1623_r0.toNat
def k0_dev39 (d0 : Dev nD) : Nat :=
  let c0_i32_1519_r0 : BitVec 32 := 0#32
  let c4_i32_1516_r0 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1509_r0 : BitVec 32 := 3#32
  let v1624_r0 : BitVec 32 := Scalar.addi v19 c3_i32_1509_r0
  let c4_i32_1510_r0 : BitVec 32 := 4#32
  let c0_i32_1511_r0 : BitVec 32 := 0#32
  let v1625_r0 : BitVec 1 := Scalar.cmpi .eq c4_i32_1510_r0 c0_i32_1511_r0
  let c1_i32_1512_r0 : BitVec 32 := 1#32
  let v1626_r0 : BitVec 32 := Scalar.select v1625_r0 c1_i32_1512_r0 c4_i32_1510_r0
  let v1627_r0 : BitVec 32 := Scalar.remsi v1624_r0 v1626_r0
  let c0_i32_1514_r0 : BitVec 32 := 0#32
  let v1629_r0 : BitVec 1 := Scalar.cmpi .slt v1627_r0 c0_i32_1514_r0
  let c0_i32_1515_r0 : BitVec 32 := 0#32
  let v1630_r0 : BitVec 1 := Scalar.cmpi .slt v1626_r0 c0_i32_1515_r0
  let v1631_r0 : BitVec 1 := Scalar.xori v1629_r0 v1630_r0
  let c0_i32_1513_r0 : BitVec 32 := 0#32
  let v1628_r0 : BitVec 1 := Scalar.cmpi .ne v1627_r0 c0_i32_1513_r0
  let v1632_r0 : BitVec 1 := Scalar.andi v1631_r0 v1628_r0
  let v1633_r0 : BitVec 32 := Scalar.addi v1627_r0 v1626_r0
  let v1634_r0 : BitVec 32 := Scalar.select v1632_r0 v1633_r0 v1627_r0
  let v1635_r0 : BitVec 32 := Scalar.muli c4_i32_1516_r0 v1634_r0
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1636_r0 : BitVec 32 := Scalar.addi v1635_r0 v29
  let c1_i32_1518_r0 : BitVec 32 := 1#32
  let v1637_r0 : BitVec 32 := Scalar.muli v1636_r0 c1_i32_1518_r0
  let v1638_r0 : BitVec 32 := Scalar.addi c0_i32_1519_r0 v1637_r0
  v1638_r0.toNat
abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x128 : Shape := ⟨2, ![2048, 128]⟩
abbrev S128x4096 : Shape := ⟨2, ![128, 4096]⟩
abbrev S4096x128 : Shape := ⟨2, ![4096, 128]⟩
abbrev S2048x4096 : Shape := ⟨2, ![2048, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x4096, .bf16⟩
  | .hbm, ⟨2, _⟩ => ⟨S128x4096, .bf16⟩
  | .hbm, ⟨3, _⟩ => ⟨S128x4096, .bf16⟩
  | .hbm, ⟨4, _⟩ => ⟨S4096x128, .bf16⟩
  | .hbm, ⟨5, _⟩ => ⟨S4096x128, .bf16⟩
  | .hbm, ⟨6, _⟩ => ⟨S4096x128, .bf16⟩
  | .hbm, ⟨7, _⟩ => ⟨S2048x4096, .f32⟩
  | .hbm, ⟨8, _⟩ => ⟨S2048x4096, .bf16⟩
  | .hbm, ⟨9, _⟩ => ⟨S_, .bf16⟩
  | .hbm, ⟨10, _⟩ => ⟨S2048x4096, .bf16⟩
  | .hbm, ⟨11, _⟩ => ⟨S2048x4096, .bf16⟩
  | .hbm, ⟨12, _⟩ => ⟨S2048x128, .f32⟩
  | .hbm, ⟨13, _⟩ => ⟨S2048x128, .bf16⟩
  | .hbm, ⟨14, _⟩ => ⟨S2048x4096, .f32⟩
  | .hbm, ⟨15, _⟩ => ⟨S2048x4096, .bf16⟩
  | .hbm, ⟨16, _⟩ => ⟨S_, .bf16⟩
  | .hbm, ⟨17, _⟩ => ⟨S2048x4096, .bf16⟩
  | .hbm, ⟨18, _⟩ => ⟨S2048x4096, .bf16⟩
  | .hbm, ⟨19, _⟩ => ⟨S2048x128, .f32⟩
  | .hbm, ⟨20, _⟩ => ⟨S2048x128, .bf16⟩
  | .hbm, ⟨21, _⟩ => ⟨S2048x4096, .f32⟩
  | .hbm, ⟨22, _⟩ => ⟨S2048x4096, .bf16⟩
  | .hbm, ⟨23, _⟩ => ⟨S_, .bf16⟩
  | .hbm, ⟨24, _⟩ => ⟨S2048x4096, .bf16⟩
  | .hbm, ⟨25, _⟩ => ⟨S2048x4096, .bf16⟩
  | .hbm, ⟨26, _⟩ => ⟨S2048x128, .f32⟩
  | .hbm, ⟨27, _⟩ => ⟨S2048x128, .bf16⟩
  | .hbm, ⟨28, _⟩ => ⟨S2048x128, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Net.lean ====
/-
The mesh, the buffers and the semaphores of the kernel.

Sixteen devices form a 4×4 torus: device `c` lies in row `c / 4` and column `c % 4`. Activations travel inside a
row, weights inside a column. Every scratch buffer that receives copies has four slots along one axis; a device's own
slot is named by its column (activations, partial sums) or by its row (weights).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic Idealize.ShloMosaic.TcCoe

/-! ## The torus -/

set_option backward.proofsInPublic true in
/-- The row of a device. -/
def row (c : Dev nD) : Fin 4 := ⟨c.val / 4, by have := c.isLt; simp only [nD] at this; omega⟩
set_option backward.proofsInPublic true in
/-- The column of a device. -/
def col (c : Dev nD) : Fin 4 := ⟨c.val % 4, Nat.mod_lt _ (by decide)⟩
set_option backward.proofsInPublic true in
/-- The device at a row and a column. -/
def at_ (p q : Fin 4) : Dev nD := ⟨4 * p.val + q.val, by have := p.isLt; have := q.isLt; simp only [nD]; omega⟩

/-- The peer `o + 1` steps further: along the row (`true`) or along the column (`false`). -/
def peer (pl : Bool) (c : Dev nD) (o : Fin 3) : Dev nD :=
  if pl then at_ (row c) (col c + o.succ) else at_ (row c + o.succ) (col c)
/-- The name of a device's own slot: its column for what travels along rows, its row for what travels along columns. -/
def ix (pl : Bool) (c : Dev nD) : Fin 4 := if pl then col c else row c

theorem row_at (p q : Fin 4) : row (at_ p q) = p := by revert p q; decide
theorem col_at (p q : Fin 4) : col (at_ p q) = q := by revert p q; decide
theorem at_row_col (c : Dev nD) : at_ (row c) (col c) = c := by revert c; decide
theorem peer_peer (pl : Bool) (c : Dev nD) (o : Fin 3) : peer pl (peer pl c o) o.rev = c := by revert pl c o; decide
theorem ix_peer (pl : Bool) (c : Dev nD) (o : Fin 3) : ix pl (peer pl c o) + o.rev.succ = ix pl c := by revert pl c o; decide
theorem ix_peer' (pl : Bool) (c : Dev nD) (o : Fin 3) : ix pl (peer pl c o) = ix pl c + o.succ := by revert pl c o; decide
theorem row_peer (c : Dev nD) (o : Fin 3) : row (peer true c o) = row c := by revert c o; decide
theorem col_peer (c : Dev nD) (o : Fin 3) : col (peer false c o) = col c := by revert c o; decide
theorem col_peer' (c : Dev nD) (o : Fin 3) : col (peer true c o) = col c + o.succ := by revert c o; decide
theorem row_peer' (c : Dev nD) (o : Fin 3) : row (peer false c o) = row c + o.succ := by revert c o; decide

/-- The devices the program addresses, in program order. -/
theorem dev_bar (c : Dev nD) :
    (⟨k0_dev1 c, k0_dev1_lt c⟩ : Dev nD) = peer true c 0 ∧ (⟨k0_dev2 c, k0_dev2_lt c⟩ : Dev nD) = peer false c 0
    ∧ (⟨k0_dev3 c, k0_dev3_lt c⟩ : Dev nD) = peer true c 1 ∧ (⟨k0_dev4 c, k0_dev4_lt c⟩ : Dev nD) = peer false c 1
    ∧ (⟨k0_dev5 c, k0_dev5_lt c⟩ : Dev nD) = peer true c 2 ∧ (⟨k0_dev6 c, k0_dev6_lt c⟩ : Dev nD) = peer false c 2 := by
  revert c; decide
theorem dev_ag (c : Dev nD) :
    (⟨k0_dev7 c, k0_dev7_lt c⟩ : Dev nD) = peer true c 0
    ∧ (⟨k0_dev8 c, k0_dev8_lt c⟩ : Dev nD) = peer true c 1
    ∧ (⟨k0_dev9 c, k0_dev9_lt c⟩ : Dev nD) = peer true c 2 := by revert c; decide
theorem dev_w0 (c : Dev nD) :
    (⟨k0_dev10 c, k0_dev10_lt c⟩ : Dev nD) = peer false c 0
    ∧ (⟨k0_dev11 c, k0_dev11_lt c⟩ : Dev nD) = peer false c 1
    ∧ (⟨k0_dev12 c, k0_dev12_lt c⟩ : Dev nD) = peer false c 2 := by revert c; decide
theorem dev_w1 (c : Dev nD) :
    (⟨k0_dev13 c, k0_dev13_lt c⟩ : Dev nD) = peer false c 0
    ∧ (⟨k0_dev14 c, k0_dev14_lt c⟩ : Dev nD) = peer false c 1
    ∧ (⟨k0_dev15 c, k0_dev15_lt c⟩ : Dev nD) = peer false c 2 := by revert c; decide
theorem dev_w2 (c : Dev nD) :
    (⟨k0_dev16 c, k0_dev16_lt c⟩ : Dev nD) = peer false c 0
    ∧ (⟨k0_dev17 c, k0_dev17_lt c⟩ : Dev nD) = peer false c 1
    ∧ (⟨k0_dev18 c, k0_dev18_lt c⟩ : Dev nD) = peer false c 2 := by revert c; decide
theorem dev_w3 (c : Dev nD) :
    (⟨k0_dev19 c, k0_dev19_lt c⟩ : Dev nD) = peer false c 0
    ∧ (⟨k0_dev20 c, k0_dev20_lt c⟩ : Dev nD) = peer false c 1
    ∧ (⟨k0_dev21 c, k0_dev21_lt c⟩ : Dev nD) = peer false c 2 := by revert c; decide
theorem dev_w4 (c : Dev nD) :
    (⟨k0_dev22 c, k0_dev22_lt c⟩ : Dev nD) = peer false c 0
    ∧ (⟨k0_dev23 c, k0_dev23_lt c⟩ : Dev nD) = peer false c 1
    ∧ (⟨k0_dev24 c, k0_dev24_lt c⟩ : Dev nD) = peer false c 2 := by revert c; decide
theorem dev_w5 (c : Dev nD) :
    (⟨k0_dev25 c, k0_dev25_lt c⟩ : Dev nD) = peer false c 0
    ∧ (⟨k0_dev26 c, k0_dev26_lt c⟩ : Dev nD) = peer false c 1
    ∧ (⟨k0_dev27 c, k0_dev27_lt c⟩ : Dev nD) = peer false c 2 := by revert c; decide
theorem dev_pr0 (c : Dev nD) :
    (⟨k0_dev28 c, k0_dev28_lt c⟩ : Dev nD) = peer true c 0
    ∧ (⟨k0_dev29 c, k0_dev29_lt c⟩ : Dev nD) = peer true c 1
    ∧ (⟨k0_dev30 c, k0_dev30_lt c⟩ : Dev nD) = peer true c 2 := by revert c; decide
theorem dev_pr1 (c : Dev nD) :
    (⟨k0_dev31 c, k0_dev31_lt c⟩ : Dev nD) = peer true c 0
    ∧ (⟨k0_dev32 c, k0_dev32_lt c⟩ : Dev nD) = peer true c 1
    ∧ (⟨k0_dev33 c, k0_dev33_lt c⟩ : Dev nD) = peer true c 2 := by revert c; decide
theorem dev_rs (c : Dev nD) :
    (⟨k0_dev34 c, k0_dev34_lt c⟩ : Dev nD) = peer true c 0
    ∧ (⟨k0_dev35 c, k0_dev35_lt c⟩ : Dev nD) = peer true c 1
    ∧ (⟨k0_dev36 c, k0_dev36_lt c⟩ : Dev nD) = peer true c 2 := by revert c; decide
theorem dev_end (c : Dev nD) :
    (⟨k0_dev37 c, k0_dev37_lt c⟩ : Dev nD) = peer false c 0
    ∧ (⟨k0_dev38 c, k0_dev38_lt c⟩ : Dev nD) = peer false c 1
    ∧ (⟨k0_dev39 c, k0_dev39_lt c⟩ : Dev nD) = peer false c 2 := by revert c; decide

end Cert.Mlp

end
-- ==== Proof.Slots.lean ====
/-
The slots of the scratch buffers and the semaphore indices the program computes.

Each receiving buffer is cut along its leading axis into four slots; the send buffer of a partial sum along its second
axis. Each offset and each semaphore index the program computes from its device number is one of these.
-/
module

public import proofs.«01_k».proof.Proof.Net

@[expose] public section

noncomputable section

namespace Cert.Mlp

open Cert.KernelIdeal Cert.KernelIdeal.Gen
open Idealize.ShloMosaic Idealize.ShloMosaic.TcCoe

/-! ## The buffers -/

abbrev aX : Memref sig .tc .vmem S128x128 .bf16 := Memref.whole cc0_stg0_0
abbrev aWi0 : Memref sig .tc .vmem S128x256 .bf16 := Memref.whole cc0_stg1_0
abbrev aWo0 : Memref sig .tc .vmem S256x128 .bf16 := Memref.whole cc0_stg2_0
abbrev aWi1 : Memref sig .tc .vmem S128x256 .bf16 := Memref.whole cc0_stg3_0
abbrev aWo1 : Memref sig .tc .vmem S256x128 .bf16 := Memref.whole cc0_stg4_0
abbrev aWi2 : Memref sig .tc .vmem S128x256 .bf16 := Memref.whole cc0_stg5_0
abbrev aWo2 : Memref sig .tc .vmem S256x128 .bf16 := Memref.whole cc0_stg6_0
abbrev aOut : Memref sig .tc .vmem S128x128 .f32 := Memref.whole cc0_stg7_0
abbrev bX : Memref sig .tc .vmem S4x128x128 .bf16 := Memref.whole cc0_scratch0
abbrev bP0 : Memref sig .tc .vmem S4x4x128x128 .bf16 := Memref.whole cc0_scratch1
abbrev bP1 : Memref sig .tc .vmem S4x4x128x128 .bf16 := Memref.whole cc0_scratch2
abbrev bS : Memref sig .tc .vmem S1x4x128x128 .bf16 := Memref.whole cc0_scratch3
abbrev bR : Memref sig .tc .vmem S4x1x128x128 .bf16 := Memref.whole cc0_scratch4
abbrev bWi0 : Memref sig .tc .vmem S4x128x256 .bf16 := Memref.whole cc0_scratch5
abbrev bWo0 : Memref sig .tc .vmem S4x256x128 .bf16 := Memref.whole cc0_scratch6
abbrev bWi1 : Memref sig .tc .vmem S4x128x256 .bf16 := Memref.whole cc0_scratch7
abbrev bWo1 : Memref sig .tc .vmem S4x256x128 .bf16 := Memref.whole cc0_scratch8
abbrev bWi2 : Memref sig .tc .vmem S4x128x256 .bf16 := Memref.whole cc0_scratch9
abbrev bWo2 : Memref sig .tc .vmem S4x256x128 .bf16 := Memref.whole cc0_scratch10

/-! ## The slots -/

theorem rX_inb (s : Fin 4) : ∀ a, (![s.val, 0, 0] : Fin _ → ℕ) a + S1x128x128.size a ≤ S4x128x128.size a := by revert s; decide
abbrev rX (s : Fin 4) : Rect S4x128x128 := Rect.unit (s := S4x128x128) ![s.val, 0, 0] S1x128x128.size (rX_inb s)
theorem rWi_inb (s : Fin 4) : ∀ a, (![s.val, 0, 0] : Fin _ → ℕ) a + S1x128x256.size a ≤ S4x128x256.size a := by revert s; decide
abbrev rWi (s : Fin 4) : Rect S4x128x256 := Rect.unit (s := S4x128x256) ![s.val, 0, 0] S1x128x256.size (rWi_inb s)
theorem rWo_inb (s : Fin 4) : ∀ a, (![s.val, 0, 0] : Fin _ → ℕ) a + S1x256x128.size a ≤ S4x256x128.size a := by revert s; decide
abbrev rWo (s : Fin 4) : Rect S4x256x128 := Rect.unit (s := S4x256x128) ![s.val, 0, 0] S1x256x128.size (rWo_inb s)
theorem rP_inb (s : Fin 4) : ∀ a, (![s.val, 0, 0, 0] : Fin _ → ℕ) a + S1x4x128x128.size a ≤ S4x4x128x128.size a := by revert s; decide
abbrev rP (s : Fin 4) : Rect S4x4x128x128 := Rect.unit (s := S4x4x128x128) ![s.val, 0, 0, 0] S1x4x128x128.size (rP_inb s)
theorem rR_inb (s : Fin 4) : ∀ a, (![s.val, 0, 0, 0] : Fin _ → ℕ) a + S1x1x128x128.size a ≤ S4x1x128x128.size a := by revert s; decide
abbrev rR (s : Fin 4) : Rect S4x1x128x128 := Rect.unit (s := S4x1x128x128) ![s.val, 0, 0, 0] S1x1x128x128.size (rR_inb s)
theorem rS_inb (s : Fin 4) : ∀ a, (![0, s.val, 0, 0] : Fin _ → ℕ) a + S1x1x128x128.size a ≤ S1x4x128x128.size a := by revert s; decide
abbrev rS (s : Fin 4) : Rect S1x4x128x128 := Rect.unit (s := S1x4x128x128) ![0, s.val, 0, 0] S1x1x128x128.size (rS_inb s)

/-! ## The offsets the program computes -/

theorem slot1 (c : Dev nD) : Rect.unit (s := S4x128x128) (k0_off1 c) S1x128x128.size (k0_off1_inb c) = rX (col c) :=
  Rect.unit_congr (by revert c; decide) _ _
theorem slot3 (c : Dev nD) : Rect.unit (s := S4x128x128) (k0_off3 c) S1x128x128.size (k0_off3_inb c) = rX (col c) :=
  Rect.unit_congr (by revert c; decide) _ _
theorem slot15_1 (c : Dev nD) : Rect.unit (s := S4x128x128) (k0_off15 c 1#32) S1x128x128.size (k0_off15_inb c 0) = rX (col c + (Fin.succ 0 : Fin 4)) :=
  Rect.unit_congr (by revert c; decide) _ _
theorem slot15_2 (c : Dev nD) : Rect.unit (s := S4x128x128) (k0_off15 c 2#32) S1x128x128.size (k0_off15_inb c 1) = rX (col c + (Fin.succ 1 : Fin 4)) :=
  Rect.unit_congr (by revert c; decide) _ _
theorem slot15_3 (c : Dev nD) : Rect.unit (s := S4x128x128) (k0_off15 c 3#32) S1x128x128.size (k0_off15_inb c 2) = rX (col c + (Fin.succ 2 : Fin 4)) :=
  Rect.unit_congr (by revert c; decide) _ _
theorem slot4 (c : Dev nD) : Rect.unit (s := S4x128x256) (k0_off4 c) S1x128x256.size (k0_off4_inb c) = rWi (row c) :=
  Rect.unit_congr (by revert c; decide) _ _
theorem slot6 (c : Dev nD) : Rect.unit (s := S4x128x256) (k0_off6 c) S1x128x256.size (k0_off6_inb c) = rWi (row c) :=
  Rect.unit_congr (by revert c; decide) _ _
theorem slot16_0 (c : Dev nD) : Rect.unit (s := S4x128x256) (k0_off16 c 0#32) S1x128x256.size (k0_off16_inb c 0) = rWi (row c) :=
  Rect.unit_congr (by revert c; decide) _ _
theorem slot16_1 (c : Dev nD) : Rect.unit (s := S4x128x256) (k0_off16 c 1#32) S1x128x256.size (k0_off16_inb c 1) = rWi (row c + (Fin.succ 0 : Fin 4)) :=
  Rect.unit_congr (by revert c; decide) _ _
theorem slot16_2 (c : Dev nD) : Rect.unit (s := S4x128x256) (k0_off16 c 2#32) S1x128x256.size (k0_off16_inb c 2) = rWi (row c + (Fin.succ 1 : Fin 4)) :=
  Rect.unit_congr (by revert c; decide) _ _
theorem slot16_3 (c : Dev nD) : Rect.unit (s := S4x128x256) (k0_off16 c 3#32) S1x128x256.size (k0_off16_inb c 3) = rWi (row c + (Fin.succ 2 : Fin 4)) :=
  Rect.unit_congr (by revert c; decide) _ _
theorem slot19_1 (c : Dev nD) : Rect.unit (s := S4x128x256) (k0_off19 c 1#32) S1x128x256.size (k0_off19_inb c 0) = rWi (row c + (Fin.succ 0 : Fin 4)) :=
  Rect.unit_congr (by revert c; decide) _ _
theorem slot19_2 (c : Dev nD) : Rect.unit (s := S4x128x256) (k0_off19 c 2#32) S1x128x256.size (k0_off19_inb c 1) = rWi (row c + (Fin.succ 1 : Fin 4)) :=
  Rect.unit_congr (by revert c; decide) _ _
theorem slot19_3 (c : Dev nD) : Rect.unit (s := S4x128x256) (k0_off19 c 3#32) S1x128x256.size (k0_off19_inb c 2) = rWi (row c + (Fin.succ 2 : Fin 4)) :=
  Rect.unit_congr (by revert c; decide) _ _
theorem slot7 (c : Dev nD) : Rect.unit (s := S4x256x128) (k0_off7 c) S1x256x128.size (k0_off7_inb c) = rWo (row c) :=
  Rect.unit_congr (by revert c; decide) _ _
theorem slot9 (c : Dev nD) : Rect.unit (s := S4x256x128) (k0_off9 c) S1x256x128.size (k0_off9_inb c) = rWo (row c) :=
  Rect.unit_congr (by revert c; decide) _ _
theorem slot17_0 (c : Dev nD) : Rect.unit (s := S4x256x128) (k0_off17 c 0#32) S1x256x128.size (k0_off17_inb c 0) = rWo (row c) :=
  Rect.unit_congr (by revert c; decide) _ _
theorem slot17_1 (c : Dev nD) : Rect.unit (s := S4x256x128) (k0_off17 c 1#32) S1x256x128.size (k0_off17_inb c 1) = rWo (row c + (Fin.succ 0 : Fin 4)) :=
  Rect.unit_congr (by revert c; decide) _ _
theorem slot17_2 (c : Dev nD) : Rect.unit (s := S4x256x128) (k0_off17 c 2#32) S1x256x128.size (k0_off17_inb c 2) = rWo (row c + (Fin.succ 1 : Fin 4)) :=
  Rect.unit_congr (by revert c; decide) _ _
theorem slot17_3 (c : Dev nD) : Rect.unit (s := S4x256x128) (k0_off17 c 3#32) S1x256x128.size (k0_off17_inb c 3) = rWo (row c + (Fin.succ 2 : Fin 4)) :=
  Rect.unit_congr (by revert c; decide) _ _
theorem slot21_1 (c : Dev nD) : Rect.unit (s := S4x256x128) (k0_off21 c 1#32) S1x256x128.size (k0_off21_inb c 0) = rWo (row c + (Fin.succ 0 : Fin 4)) :=
  Rect.unit_congr (by revert c; decide) _ _
theorem slot21_2 (c : Dev nD) : Rect.unit (s := S4x256x128) (k0_off21 c 2#32) S1x256x128.size (k0_off21_inb c 1) = rWo (row c + (Fin.succ 1 : Fin 4)) :=
  Rect.unit_congr (by revert c; decide) _ _
theorem slot21_3 (c : Dev nD) : Rect.unit (s := S4x256x128) (k0_off21 c 3#32) S1x256x128.size (k0_off21_inb c 2) = rWo (row c + (Fin.succ 2 : Fin 4)) :=
  Rect.unit_congr (by revert c; decide) _ _
theorem slot23 (c : Dev nD) : Rect.unit (s := S4x4x128x128) (k0_off23 c) S1x4x128x128.size (k0_off23_inb c) = rP (col c) :=
  Rect.unit_congr (by revert c; decide) _ _
theorem slot24 (c : Dev nD) : Rect.unit (s := S4x4x128x128) (k0_off24 c) S1x4x128x128.size (k0_off24_inb c) = rP (col c) :=
  Rect.unit_congr (by revert c; decide) _ _
theorem slot26_1 (c : Dev nD) : Rect.unit (s := S4x4x128x128) (k0_off26 c 1#32) S1x4x128x128.size (k0_off26_inb c 0) = rP (col c + (Fin.succ 0 : Fin 4)) :=
  Rect.unit_congr (by revert c; decide) _ _
theorem slot26_2 (c : Dev nD) : Rect.unit (s := S4x4x128x128) (k0_off26 c 2#32) S1x4x128x128.size (k0_off26_inb c 1) = rP (col c + (Fin.succ 1 : Fin 4)) :=
  Rect.unit_congr (by revert c; decide) _ _
theorem slot26_3 (c : Dev nD) : Rect.unit (s := S4x4x128x128) (k0_off26 c 3#32) S1x4x128x128.size (k0_off26_inb c 2) = rP (col c + (Fin.succ 2 : Fin 4)) :=
  Rect.unit_congr (by revert c; decide) _ _
theorem slot33 (c : Dev nD) : Rect.unit (s := S1x4x128x128) (k0_off33 c) S1x1x128x128.size (k0_off33_inb c) = rS (col c) :=
  Rect.unit_congr (by revert c; decide) _ _
theorem slot36_1 (c : Dev nD) : Rect.unit (s := S1x4x128x128) (k0_off36 c 1#32) S1x1x128x128.size (k0_off36_inb c 0) = rS (col c + (Fin.succ 0 : Fin 4)) :=
  Rect.unit_congr (by revert c; decide) _ _
theorem slot36_2 (c : Dev nD) : Rect.unit (s := S1x4x128x128) (k0_off36 c 2#32) S1x1x128x128.size (k0_off36_inb c 1) = rS (col c + (Fin.succ 1 : Fin 4)) :=
  Rect.unit_congr (by revert c; decide) _ _
theorem slot36_3 (c : Dev nD) : Rect.unit (s := S1x4x128x128) (k0_off36 c 3#32) S1x1x128x128.size (k0_off36_inb c 2) = rS (col c + (Fin.succ 2 : Fin 4)) :=
  Rect.unit_congr (by revert c; decide) _ _
theorem slot34 (c : Dev nD) : Rect.unit (s := S4x1x128x128) (k0_off34 c) S1x1x128x128.size (k0_off34_inb c) = rR (col c) :=
  Rect.unit_congr (by revert c; decide) _ _
theorem slot35 (c : Dev nD) : Rect.unit (s := S4x1x128x128) (k0_off35 c) S1x1x128x128.size (k0_off35_inb c) = rR (col c) :=
  Rect.unit_congr (by revert c; decide) _ _
theorem slot37_1 (c : Dev nD) : Rect.unit (s := S4x1x128x128) (k0_off37 c 1#32) S1x1x128x128.size (k0_off37_inb c 0) = rR (col c + (Fin.succ 0 : Fin 4)) :=
  Rect.unit_congr (by revert c; decide) _ _
theorem slot37_2 (c : Dev nD) : Rect.unit (s := S4x1x128x128) (k0_off37 c 2#32) S1x1x128x128.size (k0_off37_inb c 1) = rR (col c + (Fin.succ 1 : Fin 4)) :=
  Rect.unit_congr (by revert c; decide) _ _
theorem slot37_3 (c : Dev nD) : Rect.unit (s := S4x1x128x128) (k0_off37 c 3#32) S1x1x128x128.size (k0_off37_inb c 2) = rR (col c + (Fin.succ 2 : Fin 4)) :=
  Rect.unit_congr (by revert c; decide) _ _

/-! ## The semaphores the program computes -/

set_option backward.proofsInPublic true in
/-- A copy's semaphore: entry `x` of the four from `b`. -/
def sem4 (b : Fin 85) (x : Fin 4) : DmaSem sig := ⟨b.val + x.val, by have := b.isLt; have := x.isLt; show _ < 88; omega⟩
theorem sem2_15 (c : Dev nD) : ((cc0_scratch15.slice (Rect.unit (s := S4) (k0_off2 c) S1.size (k0_off2_inb c))).squeeze S_ squeezes_S1_S_).sem = sem4 68 (col c) := by
  revert c; decide
theorem sem2_18 (c : Dev nD) : ((cc0_scratch18.slice (Rect.unit (s := S4) (k0_off2 c) S1.size (k0_off2_inb c))).squeeze S_ squeezes_S1_S_).sem = sem4 84 (col c) := by
  revert c; decide
theorem sem14_15_1 (c : Dev nD) : ((cc0_scratch15.slice (Rect.unit (s := S4) (k0_off14 c 1#32) S1.size (k0_off14_inb c 0))).squeeze S_ squeezes_S1_S_).sem = sem4 68 (col c + (Fin.succ 0 : Fin 4)) := by
  revert c; decide
theorem sem14_15_2 (c : Dev nD) : ((cc0_scratch15.slice (Rect.unit (s := S4) (k0_off14 c 2#32) S1.size (k0_off14_inb c 1))).squeeze S_ squeezes_S1_S_).sem = sem4 68 (col c + (Fin.succ 1 : Fin 4)) := by
  revert c; decide
theorem sem14_15_3 (c : Dev nD) : ((cc0_scratch15.slice (Rect.unit (s := S4) (k0_off14 c 3#32) S1.size (k0_off14_inb c 2))).squeeze S_ squeezes_S1_S_).sem = sem4 68 (col c + (Fin.succ 2 : Fin 4)) := by
  revert c; decide
theorem sem14_18_1 (c : Dev nD) : ((cc0_scratch18.slice (Rect.unit (s := S4) (k0_off14 c 1#32) S1.size (k0_off14_inb c 0))).squeeze S_ squeezes_S1_S_).sem = sem4 84 (col c + (Fin.succ 0 : Fin 4)) := by
  revert c; decide
theorem sem14_18_2 (c : Dev nD) : ((cc0_scratch18.slice (Rect.unit (s := S4) (k0_off14 c 2#32) S1.size (k0_off14_inb c 1))).squeeze S_ squeezes_S1_S_).sem = sem4 84 (col c + (Fin.succ 1 : Fin 4)) := by
  revert c; decide
theorem sem14_18_3 (c : Dev nD) : ((cc0_scratch18.slice (Rect.unit (s := S4) (k0_off14 c 3#32) S1.size (k0_off14_inb c 2))).squeeze S_ squeezes_S1_S_).sem = sem4 84 (col c + (Fin.succ 2 : Fin 4)) := by
  revert c; decide
theorem sem22_16 (c : Dev nD) : ((cc0_scratch16.slice (Rect.unit (s := S2x4) (k0_off22 c) S1x1.size (k0_off22_inb c))).squeeze S_ squeezes_S1x1_S_).sem = sem4 72 (col c) := by
  revert c; decide
theorem sem29_16 (c : Dev nD) : ((cc0_scratch16.slice (Rect.unit (s := S2x4) (k0_off29 c) S1x1.size (k0_off29_inb c))).squeeze S_ squeezes_S1x1_S_).sem = sem4 76 (col c) := by
  revert c; decide
theorem sem25_16_1 (c : Dev nD) : ((cc0_scratch16.slice (Rect.unit (s := S2x4) (k0_off25 c 1#32) S1x1.size (k0_off25_inb c 0))).squeeze S_ squeezes_S1x1_S_).sem = sem4 72 (col c + (Fin.succ 0 : Fin 4)) := by
  revert c; decide
theorem sem25_16_2 (c : Dev nD) : ((cc0_scratch16.slice (Rect.unit (s := S2x4) (k0_off25 c 2#32) S1x1.size (k0_off25_inb c 1))).squeeze S_ squeezes_S1x1_S_).sem = sem4 72 (col c + (Fin.succ 1 : Fin 4)) := by
  revert c; decide
theorem sem25_16_3 (c : Dev nD) : ((cc0_scratch16.slice (Rect.unit (s := S2x4) (k0_off25 c 3#32) S1x1.size (k0_off25_inb c 2))).squeeze S_ squeezes_S1x1_S_).sem = sem4 72 (col c + (Fin.succ 2 : Fin 4)) := by
  revert c; decide
theorem sem30_16_1 (c : Dev nD) : ((cc0_scratch16.slice (Rect.unit (s := S2x4) (k0_off30 c 1#32) S1x1.size (k0_off30_inb c 0))).squeeze S_ squeezes_S1x1_S_).sem = sem4 76 (col c + (Fin.succ 0 : Fin 4)) := by
  revert c; decide
theorem sem30_16_2 (c : Dev nD) : ((cc0_scratch16.slice (Rect.unit (s := S2x4) (k0_off30 c 2#32) S1x1.size (k0_off30_inb c 1))).squeeze S_ squeezes_S1x1_S_).sem = sem4 76 (col c + (Fin.succ 1 : Fin 4)) := by
  revert c; decide
theorem sem30_16_3 (c : Dev nD) : ((cc0_scratch16.slice (Rect.unit (s := S2x4) (k0_off30 c 3#32) S1x1.size (k0_off30_inb c 2))).squeeze S_ squeezes_S1x1_S_).sem = sem4 76 (col c + (Fin.succ 2 : Fin 4)) := by
  revert c; decide
theorem sem5_12 (c : Dev nD) : ((cc0_scratch12.slice (Rect.unit (s := S6x4) (k0_off5 c) S1x1.size (k0_off5_inb c))).squeeze S_ squeezes_S1x1_S_).sem = sem4 32 (row c) := by
  revert c; decide
theorem sem8_12 (c : Dev nD) : ((cc0_scratch12.slice (Rect.unit (s := S6x4) (k0_off8 c) S1x1.size (k0_off8_inb c))).squeeze S_ squeezes_S1x1_S_).sem = sem4 36 (row c) := by
  revert c; decide
theorem sem10_12 (c : Dev nD) : ((cc0_scratch12.slice (Rect.unit (s := S6x4) (k0_off10 c) S1x1.size (k0_off10_inb c))).squeeze S_ squeezes_S1x1_S_).sem = sem4 40 (row c) := by
  revert c; decide
theorem sem11_12 (c : Dev nD) : ((cc0_scratch12.slice (Rect.unit (s := S6x4) (k0_off11 c) S1x1.size (k0_off11_inb c))).squeeze S_ squeezes_S1x1_S_).sem = sem4 44 (row c) := by
  revert c; decide
theorem sem12_12 (c : Dev nD) : ((cc0_scratch12.slice (Rect.unit (s := S6x4) (k0_off12 c) S1x1.size (k0_off12_inb c))).squeeze S_ squeezes_S1x1_S_).sem = sem4 48 (row c) := by
  revert c; decide
theorem sem13_12 (c : Dev nD) : ((cc0_scratch12.slice (Rect.unit (s := S6x4) (k0_off13 c) S1x1.size (k0_off13_inb c))).squeeze S_ squeezes_S1x1_S_).sem = sem4 52 (row c) := by
  revert c; decide
theorem sem18_12_1 (c : Dev nD) : ((cc0_scratch12.slice (Rect.unit (s := S6x4) (k0_off18 c 1#32) S1x1.size (k0_off18_inb c 0))).squeeze S_ squeezes_S1x1_S_).sem = sem4 32 (row c + (Fin.succ 0 : Fin 4)) := by
  revert c; decide
theorem sem18_12_2 (c : Dev nD) : ((cc0_scratch12.slice (Rect.unit (s := S6x4) (k0_off18 c 2#32) S1x1.size (k0_off18_inb c 1))).squeeze S_ squeezes_S1x1_S_).sem = sem4 32 (row c + (Fin.succ 1 : Fin 4)) := by
  revert c; decide
theorem sem18_12_3 (c : Dev nD) : ((cc0_scratch12.slice (Rect.unit (s := S6x4) (k0_off18 c 3#32) S1x1.size (k0_off18_inb c 2))).squeeze S_ squeezes_S1x1_S_).sem = sem4 32 (row c + (Fin.succ 2 : Fin 4)) := by
  revert c; decide
theorem sem20_12_1 (c : Dev nD) : ((cc0_scratch12.slice (Rect.unit (s := S6x4) (k0_off20 c 1#32) S1x1.size (k0_off20_inb c 0))).squeeze S_ squeezes_S1x1_S_).sem = sem4 36 (row c + (Fin.succ 0 : Fin 4)) := by
  revert c; decide
theorem sem20_12_2 (c : Dev nD) : ((cc0_scratch12.slice (Rect.unit (s := S6x4) (k0_off20 c 2#32) S1x1.size (k0_off20_inb c 1))).squeeze S_ squeezes_S1x1_S_).sem = sem4 36 (row c + (Fin.succ 1 : Fin 4)) := by
  revert c; decide
theorem sem20_12_3 (c : Dev nD) : ((cc0_scratch12.slice (Rect.unit (s := S6x4) (k0_off20 c 3#32) S1x1.size (k0_off20_inb c 2))).squeeze S_ squeezes_S1x1_S_).sem = sem4 36 (row c + (Fin.succ 2 : Fin 4)) := by
  revert c; decide
theorem sem27_12_1 (c : Dev nD) : ((cc0_scratch12.slice (Rect.unit (s := S6x4) (k0_off27 c 1#32) S1x1.size (k0_off27_inb c 0))).squeeze S_ squeezes_S1x1_S_).sem = sem4 40 (row c + (Fin.succ 0 : Fin 4)) := by
  revert c; decide
theorem sem27_12_2 (c : Dev nD) : ((cc0_scratch12.slice (Rect.unit (s := S6x4) (k0_off27 c 2#32) S1x1.size (k0_off27_inb c 1))).squeeze S_ squeezes_S1x1_S_).sem = sem4 40 (row c + (Fin.succ 1 : Fin 4)) := by
  revert c; decide
theorem sem27_12_3 (c : Dev nD) : ((cc0_scratch12.slice (Rect.unit (s := S6x4) (k0_off27 c 3#32) S1x1.size (k0_off27_inb c 2))).squeeze S_ squeezes_S1x1_S_).sem = sem4 40 (row c + (Fin.succ 2 : Fin 4)) := by
  revert c; decide
theorem sem28_12_1 (c : Dev nD) : ((cc0_scratch12.slice (Rect.unit (s := S6x4) (k0_off28 c 1#32) S1x1.size (k0_off28_inb c 0))).squeeze S_ squeezes_S1x1_S_).sem = sem4 44 (row c + (Fin.succ 0 : Fin 4)) := by
  revert c; decide
theorem sem28_12_2 (c : Dev nD) : ((cc0_scratch12.slice (Rect.unit (s := S6x4) (k0_off28 c 2#32) S1x1.size (k0_off28_inb c 1))).squeeze S_ squeezes_S1x1_S_).sem = sem4 44 (row c + (Fin.succ 1 : Fin 4)) := by
  revert c; decide
theorem sem28_12_3 (c : Dev nD) : ((cc0_scratch12.slice (Rect.unit (s := S6x4) (k0_off28 c 3#32) S1x1.size (k0_off28_inb c 2))).squeeze S_ squeezes_S1x1_S_).sem = sem4 44 (row c + (Fin.succ 2 : Fin 4)) := by
  revert c; decide
theorem sem31_12_1 (c : Dev nD) : ((cc0_scratch12.slice (Rect.unit (s := S6x4) (k0_off31 c 1#32) S1x1.size (k0_off31_inb c 0))).squeeze S_ squeezes_S1x1_S_).sem = sem4 48 (row c + (Fin.succ 0 : Fin 4)) := by
  revert c; decide
theorem sem31_12_2 (c : Dev nD) : ((cc0_scratch12.slice (Rect.unit (s := S6x4) (k0_off31 c 2#32) S1x1.size (k0_off31_inb c 1))).squeeze S_ squeezes_S1x1_S_).sem = sem4 48 (row c + (Fin.succ 1 : Fin 4)) := by
  revert c; decide
theorem sem31_12_3 (c : Dev nD) : ((cc0_scratch12.slice (Rect.unit (s := S6x4) (k0_off31 c 3#32) S1x1.size (k0_off31_inb c 2))).squeeze S_ squeezes_S1x1_S_).sem = sem4 48 (row c + (Fin.succ 2 : Fin 4)) := by
  revert c; decide
theorem sem32_12_1 (c : Dev nD) : ((cc0_scratch12.slice (Rect.unit (s := S6x4) (k0_off32 c 1#32) S1x1.size (k0_off32_inb c 0))).squeeze S_ squeezes_S1x1_S_).sem = sem4 52 (row c + (Fin.succ 0 : Fin 4)) := by
  revert c; decide
theorem sem32_12_2 (c : Dev nD) : ((cc0_scratch12.slice (Rect.unit (s := S6x4) (k0_off32 c 2#32) S1x1.size (k0_off32_inb c 1))).squeeze S_ squeezes_S1x1_S_).sem = sem4 52 (row c + (Fin.succ 1 : Fin 4)) := by
  revert c; decide
theorem sem32_12_3 (c : Dev nD) : ((cc0_scratch12.slice (Rect.unit (s := S6x4) (k0_off32 c 3#32) S1x1.size (k0_off32_inb c 2))).squeeze S_ squeezes_S1x1_S_).sem = sem4 52 (row c + (Fin.succ 2 : Fin 4)) := by
  revert c; decide
theorem semc11_0_1 : ((cc0_scratch11.slice (Rect.unit (s := S6x4) ![0, 1] S1x1.size inb_S6x4_S1x1_0_1)).squeeze S_ squeezes_S1x1_S_).sem = sem4 8 (Fin.succ 0 : Fin 4) := by decide
theorem semc11_0_2 : ((cc0_scratch11.slice (Rect.unit (s := S6x4) ![0, 2] S1x1.size inb_S6x4_S1x1_0_2)).squeeze S_ squeezes_S1x1_S_).sem = sem4 8 (Fin.succ 1 : Fin 4) := by decide
theorem semc11_0_3 : ((cc0_scratch11.slice (Rect.unit (s := S6x4) ![0, 3] S1x1.size inb_S6x4_S1x1_0_3)).squeeze S_ squeezes_S1x1_S_).sem = sem4 8 (Fin.succ 2 : Fin 4) := by decide
theorem semc11_1_1 : ((cc0_scratch11.slice (Rect.unit (s := S6x4) ![1, 1] S1x1.size inb_S6x4_S1x1_1_1)).squeeze S_ squeezes_S1x1_S_).sem = sem4 12 (Fin.succ 0 : Fin 4) := by decide
theorem semc11_1_2 : ((cc0_scratch11.slice (Rect.unit (s := S6x4) ![1, 2] S1x1.size inb_S6x4_S1x1_1_2)).squeeze S_ squeezes_S1x1_S_).sem = sem4 12 (Fin.succ 1 : Fin 4) := by decide
theorem semc11_1_3 : ((cc0_scratch11.slice (Rect.unit (s := S6x4) ![1, 3] S1x1.size inb_S6x4_S1x1_1_3)).squeeze S_ squeezes_S1x1_S_).sem = sem4 12 (Fin.succ 2 : Fin 4) := by decide
theorem semc11_2_1 : ((cc0_scratch11.slice (Rect.unit (s := S6x4) ![2, 1] S1x1.size inb_S6x4_S1x1_2_1)).squeeze S_ squeezes_S1x1_S_).sem = sem4 16 (Fin.succ 0 : Fin 4) := by decide
theorem semc11_2_2 : ((cc0_scratch11.slice (Rect.unit (s := S6x4) ![2, 2] S1x1.size inb_S6x4_S1x1_2_2)).squeeze S_ squeezes_S1x1_S_).sem = sem4 16 (Fin.succ 1 : Fin 4) := by decide
theorem semc11_2_3 : ((cc0_scratch11.slice (Rect.unit (s := S6x4) ![2, 3] S1x1.size inb_S6x4_S1x1_2_3)).squeeze S_ squeezes_S1x1_S_).sem = sem4 16 (Fin.succ 2 : Fin 4) := by decide
theorem semc11_3_1 : ((cc0_scratch11.slice (Rect.unit (s := S6x4) ![3, 1] S1x1.size inb_S6x4_S1x1_3_1)).squeeze S_ squeezes_S1x1_S_).sem = sem4 20 (Fin.succ 0 : Fin 4) := by decide
theorem semc11_3_2 : ((cc0_scratch11.slice (Rect.unit (s := S6x4) ![3, 2] S1x1.size inb_S6x4_S1x1_3_2)).squeeze S_ squeezes_S1x1_S_).sem = sem4 20 (Fin.succ 1 : Fin 4) := by decide
theorem semc11_3_3 : ((cc0_scratch11.slice (Rect.unit (s := S6x4) ![3, 3] S1x1.size inb_S6x4_S1x1_3_3)).squeeze S_ squeezes_S1x1_S_).sem = sem4 20 (Fin.succ 2 : Fin 4) := by decide
theorem semc11_4_1 : ((cc0_scratch11.slice (Rect.unit (s := S6x4) ![4, 1] S1x1.size inb_S6x4_S1x1_4_1)).squeeze S_ squeezes_S1x1_S_).sem = sem4 24 (Fin.succ 0 : Fin 4) := by decide
theorem semc11_4_2 : ((cc0_scratch11.slice (Rect.unit (s := S6x4) ![4, 2] S1x1.size inb_S6x4_S1x1_4_2)).squeeze S_ squeezes_S1x1_S_).sem = sem4 24 (Fin.succ 1 : Fin 4) := by decide
theorem semc11_4_3 : ((cc0_scratch11.slice (Rect.unit (s := S6x4) ![4, 3] S1x1.size inb_S6x4_S1x1_4_3)).squeeze S_ squeezes_S1x1_S_).sem = sem4 24 (Fin.succ 2 : Fin 4) := by decide
theorem semc11_5_1 : ((cc0_scratch11.slice (Rect.unit (s := S6x4) ![5, 1] S1x1.size inb_S6x4_S1x1_5_1)).squeeze S_ squeezes_S1x1_S_).sem = sem4 28 (Fin.succ 0 : Fin 4) := by decide
theorem semc11_5_2 : ((cc0_scratch11.slice (Rect.unit (s := S6x4) ![5, 2] S1x1.size inb_S6x4_S1x1_5_2)).squeeze S_ squeezes_S1x1_S_).sem = sem4 28 (Fin.succ 1 : Fin 4) := by decide
theorem semc11_5_3 : ((cc0_scratch11.slice (Rect.unit (s := S6x4) ![5, 3] S1x1.size inb_S6x4_S1x1_5_3)).squeeze S_ squeezes_S1x1_S_).sem = sem4 28 (Fin.succ 2 : Fin 4) := by decide
theorem semc14_0_1 : ((cc0_scratch14.slice (Rect.unit (s := S2x4) ![0, 1] S1x1.size inb_S2x4_S1x1_0_1)).squeeze S_ squeezes_S1x1_S_).sem = sem4 60 (Fin.succ 0 : Fin 4) := by decide
theorem semc14_0_2 : ((cc0_scratch14.slice (Rect.unit (s := S2x4) ![0, 2] S1x1.size inb_S2x4_S1x1_0_2)).squeeze S_ squeezes_S1x1_S_).sem = sem4 60 (Fin.succ 1 : Fin 4) := by decide
theorem semc14_0_3 : ((cc0_scratch14.slice (Rect.unit (s := S2x4) ![0, 3] S1x1.size inb_S2x4_S1x1_0_3)).squeeze S_ squeezes_S1x1_S_).sem = sem4 60 (Fin.succ 2 : Fin 4) := by decide
theorem semc14_1_1 : ((cc0_scratch14.slice (Rect.unit (s := S2x4) ![1, 1] S1x1.size inb_S2x4_S1x1_1_1)).squeeze S_ squeezes_S1x1_S_).sem = sem4 64 (Fin.succ 0 : Fin 4) := by decide
theorem semc14_1_2 : ((cc0_scratch14.slice (Rect.unit (s := S2x4) ![1, 2] S1x1.size inb_S2x4_S1x1_1_2)).squeeze S_ squeezes_S1x1_S_).sem = sem4 64 (Fin.succ 1 : Fin 4) := by decide
theorem semc14_1_3 : ((cc0_scratch14.slice (Rect.unit (s := S2x4) ![1, 3] S1x1.size inb_S2x4_S1x1_1_3)).squeeze S_ squeezes_S1x1_S_).sem = sem4 64 (Fin.succ 2 : Fin 4) := by decide
theorem semc13_1 : ((cc0_scratch13.slice (Rect.unit (s := S4) ![1] S1.size inb_S4_S1_1)).squeeze S_ squeezes_S1_S_).sem = sem4 56 (Fin.succ 0 : Fin 4) := by decide
theorem semc17_1 : ((cc0_scratch17.slice (Rect.unit (s := S4) ![1] S1.size inb_S4_S1_1)).squeeze S_ squeezes_S1_S_).sem = sem4 80 (Fin.succ 0 : Fin 4) := by decide
theorem semc13_2 : ((cc0_scratch13.slice (Rect.unit (s := S4) ![2] S1.size inb_S4_S1_2)).squeeze S_ squeezes_S1_S_).sem = sem4 56 (Fin.succ 1 : Fin 4) := by decide
theorem semc17_2 : ((cc0_scratch17.slice (Rect.unit (s := S4) ![2] S1.size inb_S4_S1_2)).squeeze S_ squeezes_S1_S_).sem = sem4 80 (Fin.succ 1 : Fin 4) := by decide
theorem semc13_3 : ((cc0_scratch13.slice (Rect.unit (s := S4) ![3] S1.size inb_S4_S1_3)).squeeze S_ squeezes_S1_S_).sem = sem4 56 (Fin.succ 2 : Fin 4) := by decide
theorem semc17_3 : ((cc0_scratch17.slice (Rect.unit (s := S4) ![3] S1.size inb_S4_S1_3)).squeeze S_ squeezes_S1_S_).sem = sem4 80 (Fin.succ 2 : Fin 4) := by decide

end Cert.Mlp

end
-- ==== Proof.Owned.lean ====
/-
Loads and stores on a memref owned at given contents.

`owns c m q X` is ownership of the elements of `m` on device `c`, at share `q`, where reading `m` gives `X`. Here: what a
load and a store do to it, how it splits into shares, and how a buffer of four slots is taken apart and put together.
-/
module

public import proofs.«01_k».proof.Proof.Slots
public import Idealize.ShloMosaic.Lib.Memref
public import Idealize.ShloMosaic.Lib.ShareLeaves
public import Idealize.ShloMosaic.Lib.Rounds

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev 𝒱₀ : Variants := Variants.none

variable {U : Type} [URA U]
local notation "𝕄" => MT nD τ sig Unit (Elt F) ℕ U ℕ

variable {c : Dev nD} {sh : Shape} {e : EltTy}

/-- A rectangle at offset zero of the full size places every index at itself. -/
theorem emb_zero {off : Fin sh.rank → ℕ} (h0 : off = fun _ => 0) (inb : ∀ a, off a + sh.size a ≤ sh.size a) (j : sh.Idx) :
    (Rect.unit off sh.size inb).emb j = j := by
  subst h0; funext a; apply Fin.ext; show 0 + 1 * (j a).val = (j a).val; omega

/-- Loading all of a memref gives its contents. -/
theorem load_all {m : Memref sig .tc .vmem sh e} {off : Fin sh.rank → ℕ} (h0 : off = fun _ => 0) {inb : ∀ a, off a + sh.size a ≤ sh.size a}
    {hl : m.view.LoadsAt (Rect.unit off sh.size inb).toLoadRect} {α : Type} {Q : α → sProp 𝕄} {k : (sh.Idx → Elt F e) → Prog (TpuEff nD τ sig (Elt F) Λ₀ .tc) α}
    {q : PosShare TreeShare} {X : sh.Idx → Elt F e} :
    (owns (c : Thread nD τ) m q X : sProp 𝕄)
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit off sh.size inb).toLoadRect hl) k) Q) := by
  unfold owns
  iintro ⟨%f, %hf, H⟩ Hk
  iapply (wp_load (defs := defs₀ (F := F)) 𝒱₀ (c : Thread nD τ) none Set.univ (m := m) (hl := hl) (k := k) (f := f) (Q := Q) (View.setOn_subset_set _ _)) $$ H
  iintro H
  have hx : m.view.readAt (Elt F) (Rect.unit off sh.size inb).toLoadRect f = X := by
    subst hf; funext j; exact congrArg (m.view.read (Elt F) f) (emb_zero h0 inb j)
  rw [hx]
  iapply Hk
  iexists f
  isplitr; · ipureintro; exact hf
  iexact H

/-- Loading one rectangle of a memref owned whole gives the contents there. -/
theorem load_part {m : Memref sig .tc .vmem sh e} {r r' : Rect sh} (hr : r = r')
    {hl : m.view.LoadsAt r.toLoadRect} {α : Type} {Q : α → sProp 𝕄} {k : (r.shape.Idx → Elt F e) → Prog (TpuEff nD τ sig (Elt F) Λ₀ .tc) α}
    {q : PosShare TreeShare} {X : sh.Idx → Elt F e} :
    (owns (c : Thread nD τ) m q X : sProp 𝕄)
      ⊢ iprop((owns (c : Thread nD τ) m q X -∗ wp frame (wpE (defs₀ (F := F)) 𝒱₀ (c : Thread nD τ) none) Set.univ (k fun j => X (r'.emb (hr ▸ j))) Q)
        -∗ wp frame (wpE (defs₀ (F := F)) 𝒱₀ (c : Thread nD τ) none) Set.univ (.op (.load m r.toLoadRect hl) k) Q) := by
  subst hr
  unfold owns
  iintro ⟨%f, %hf, H⟩ Hk
  iapply (wp_load (defs := defs₀ (F := F)) 𝒱₀ (c : Thread nD τ) none Set.univ (m := m) (hl := hl) (k := k) (f := f) (Q := Q) (View.setOn_subset_set _ _)) $$ H
  iintro H
  have hx : m.view.readAt (Elt F) r.toLoadRect f = fun j => X (r.emb j) := by
    subst hf; rfl
  rw [hx]
  iapply Hk
  iexists f
  isplitr; · ipureintro; exact hf
  iexact H

/-- Loading a slot gives the slot's contents. -/
theorem load_slot {m : Memref sig .tc .vmem sh e} {off off' size : Fin sh.rank → ℕ} {inb : ∀ a, off a + size a ≤ sh.size a} {inb' : ∀ a, off' a + size a ≤ sh.size a}
    (hr : Rect.unit off size inb = Rect.unit off' size inb')
    {hl : m.view.LoadsAt (Rect.unit off size inb).toLoadRect} {hs : ∀ a, (Rect.unit off' size inb').stride a = 1}
    {α : Type} {Q : α → sProp 𝕄} {k : ((⟨sh.rank, size⟩ : Shape).Idx → Elt F e) → Prog (TpuEff nD τ sig (Elt F) Λ₀ .tc) α}
    {q : PosShare TreeShare} {Y : (⟨sh.rank, size⟩ : Shape).Idx → Elt F e} :
    (owns (c : Thread nD τ) (m.slice (Rect.unit off' size inb') hs) q Y : sProp 𝕄)
      ⊢ iprop((owns (c : Thread nD τ) (m.slice (Rect.unit off' size inb') hs) q Y -∗ wp frame (wpE (defs₀ (F := F)) 𝒱₀ (c : Thread nD τ) none) Set.univ (k Y) Q)
        -∗ wp frame (wpE (defs₀ (F := F)) 𝒱₀ (c : Thread nD τ) none) Set.univ (.op (.load m (Rect.unit off size inb).toLoadRect hl) k) Q) := by
  have ho : off = off' := funext fun a => congrArg (fun r : Rect sh => r.off a) hr
  subst ho
  unfold owns
  iintro ⟨%f, %hf, H⟩ Hk
  iapply (wp_load 𝒱₀ (c : Thread nD τ) none Set.univ (m := m) (View.set_slice m.view (Rect.unit off size inb)).ge) $$ H
  iintro H
  have hx : m.view.readAt (Elt F) (Rect.unit off size inb).toLoadRect f = Y := hf
  rw [hx]
  iapply Hk
  iexists f
  isplitr; · ipureintro; exact hf
  iexact H

/-- Storing into a slot replaces the slot's contents. -/
theorem store_slot {m : Memref sig .tc .vmem sh e} {off off' size : Fin sh.rank → ℕ} {inb : ∀ a, off a + size a ≤ sh.size a} {inb' : ∀ a, off' a + size a ≤ sh.size a}
    (hr : Rect.unit off size inb = Rect.unit off' size inb')
    {hs : ∀ a, (Rect.unit off' size inb').stride a = 1} {w : (⟨sh.rank, size⟩ : Shape).Idx → Elt F e}
    {hx : (m.access (Rect.unit off size inb)).Stores Finset.univ} {hm : Finset.univ = Finset.univ ∨ ∀ a, (Rect.unit off size inb).stride a = 1}
    {α : Type} {Q : α → sProp 𝕄} {k : PUnit → Prog (TpuEff nD τ sig (Elt F) Λ₀ .tc) α} {Y : (⟨sh.rank, size⟩ : Shape).Idx → Elt F e} :
    (owns (c : Thread nD τ) (m.slice (Rect.unit off' size inb') hs) fullShare Y : sProp 𝕄)
      ⊢ iprop((owns (c : Thread nD τ) (m.slice (Rect.unit off' size inb') hs) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  have ho : off = off' := funext fun a => congrArg (fun r : Rect sh => r.off a) hr
  subst ho
  unfold owns
  iintro ⟨%f, %hf, H⟩ Hk
  have h : ((m.slice (Rect.unit off size inb) hs).view.loc (c : Thread nD τ) ↦[(m.slice (Rect.unit off size inb) hs).view.set]{fullShare} f : sProp 𝕄)
      ⊢ iprop((((m.slice (Rect.unit off size inb) hs).view.loc (c : Thread nD τ) ↦[(m.slice (Rect.unit off size inb) hs).view.set]{fullShare}
            (m.slice (Rect.unit off size inb) hs).view.write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) :=
    wp_store (defs := defs₀ (F := F)) 𝒱₀ (c : Thread nD τ) none Set.univ (m := m) (r := Rect.unit off size inb) (Mk := Finset.univ) (f := f) subset_rfl
  iapply h $$ H
  iintro H
  iapply Hk
  iexists _
  isplitr [H]; rotate_left; · iexact H
  ipureintro
  exact View.read_write_univ _ _

/-- Storing over all of a memref replaces its contents. -/
theorem store_all {m : Memref sig .tc .vmem sh e} {off : Fin sh.rank → ℕ} (h0 : off = fun _ => 0) {inb : ∀ a, off a + sh.size a ≤ sh.size a}
    {w : sh.Idx → Elt F e}
    {hx : (m.access (Rect.unit off sh.size inb)).Stores Finset.univ} {hm : Finset.univ = Finset.univ ∨ ∀ a, (Rect.unit off sh.size inb).stride a = 1}
    {α : Type} {Q : α → sProp 𝕄} {k : PUnit → Prog (TpuEff nD τ sig (Elt F) Λ₀ .tc) α} {Y : sh.Idx → Elt F e} :
    (owns (c : Thread nD τ) m fullShare Y : sProp 𝕄)
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off sh.size inb) w Finset.univ hx hm) k) Q) := by
  unfold owns
  iintro ⟨%f, %hf, H⟩ Hk
  iapply (wp_store (defs := defs₀ (F := F)) 𝒱₀ (c : Thread nD τ) none Set.univ (m := m) (r := Rect.unit off sh.size inb) (w := w) (hx := hx) (hm := hm) (k := k) (Q := Q) (Mk := Finset.univ) (f := f) (View.set_slice_subset _ _)) $$ H
  iintro H
  iapply Hk
  iexists _
  isplitr [H]; rotate_left; · iexact H
  ipureintro
  funext j
  have h1 : (m.access (Rect.unit off sh.size inb) : View sig .tc .vmem _ _).read (Elt F) ((m.access (Rect.unit off sh.size inb)).write (Elt F) f w Finset.univ) j = w j :=
    congrFun (View.read_write_univ _ _) j
  rw [← h1]
  exact (congrArg (m.view.read (Elt F) ((m.access (Rect.unit off sh.size inb)).write (Elt F) f w Finset.univ)) (emb_zero h0 inb j)).symm

omit [FloatOps F] in
/-- A share of an owned memref parts into two. -/
theorem owns_share {m : Memref sig .tc .vmem sh e} {q : PosShare TreeShare} (X : sh.Idx → Elt F e) :
    (owns (c : Thread nD τ) m q X : sProp 𝕄) ⊣⊢ iprop(owns (c : Thread nD τ) m q.left X ∗ owns (c : Thread nD τ) m q.right X) := by
  unfold owns
  constructor
  · iintro ⟨%f, %hf, H⟩
    ihave H := (pointsTo_share (PosShare.mem_left_op_right q)).1 $$ H
    icases H with ⟨H1, H2⟩
    isplitl [H1]
    · iexists f; isplitr; · ipureintro; exact hf
      iexact H1
    · iexists f; isplitr; · ipureintro; exact hf
      iexact H2
  · iintro ⟨⟨%f, %hf, H1⟩, ⟨%g, %hg, H2⟩⟩
    have e : ((m.view.loc (c : Thread nD τ)) ↦[m.view.set]{q.right} g : sProp 𝕄) = ((m.view.loc (c : Thread nD τ)) ↦[m.view.set]{q.right} f) :=
      pointsTo_congr fun i hi => by
        rw [View.set, Finset.mem_map] at hi
        obtain ⟨x, -, rfl⟩ := hi
        have := congrFun (hg.trans hf.symm) x
        simp only [View.read] at this
        exact (cast_inj _).mp this
    iexists f
    isplitr; · ipureintro; exact hf
    iapply (pointsTo_share (PosShare.mem_left_op_right q)).2
    isplitl [H1]; · iexact H1
    rw [← e]; iexact H2

end Cert.Mlp

end
-- ==== Proof.Contents.lean ====
/-
What every buffer holds, as functions of the devices' arguments.

A device's row names the weight slots, its column the activation and partial-sum slots. The functions below follow one
block of activations through the three layers; they do not mention the program's steps.
-/
module

public import proofs.«01_k».proof.Proof.Owned

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The devices' arguments: the block of `x` and the blocks of the six weights. -/
structure Inputs (F : FTy → Type) where
  x : Dev nD → Vec F S128x128 .bf16
  wi0 : Dev nD → Vec F S128x256 .bf16
  wi1 : Dev nD → Vec F S128x256 .bf16
  wi2 : Dev nD → Vec F S128x256 .bf16
  wo0 : Dev nD → Vec F S256x128 .bf16
  wo1 : Dev nD → Vec F S256x128 .bf16
  wo2 : Dev nD → Vec F S256x128 .bf16

/-! ## Four slots as one buffer -/

/-- An index of a stack, inside its slot. -/
def low3 {A B : ℕ} (i : (⟨3, ![4, A, B]⟩ : Shape).Idx) : (⟨3, ![1, A, B]⟩ : Shape).Idx := fun a => match a with
  | ⟨0, _⟩ => (0 : Fin 1)
  | ⟨1, _⟩ => i 1
  | ⟨2, _⟩ => i 2
def low4 {A B C : ℕ} (i : (⟨4, ![4, A, B, C]⟩ : Shape).Idx) : (⟨4, ![1, A, B, C]⟩ : Shape).Idx := fun a => match a with
  | ⟨0, _⟩ => (0 : Fin 1)
  | ⟨1, _⟩ => i 1
  | ⟨2, _⟩ => i 2
  | ⟨3, _⟩ => i 3

/-- Four slots stacked along the leading axis. -/
def stack3 {α : Type} {A B : ℕ} (Y : Fin 4 → (⟨3, ![1, A, B]⟩ : Shape).Idx → α) : (⟨3, ![4, A, B]⟩ : Shape).Idx → α := fun i => Y (i 0) (low3 i)
def stack4 {α : Type} {A B C : ℕ} (Y : Fin 4 → (⟨4, ![1, A, B, C]⟩ : Shape).Idx → α) : (⟨4, ![4, A, B, C]⟩ : Shape).Idx → α := fun i => Y (i 0) (low4 i)

theorem stack3_emb {α : Type} {A B : ℕ} (Y : Fin 4 → (⟨3, ![1, A, B]⟩ : Shape).Idx → α) (s : Fin 4)
    (h : ∀ a, (![s.val, 0, 0] : Fin 3 → ℕ) a + (⟨3, ![1, A, B]⟩ : Shape).size a ≤ (⟨3, ![4, A, B]⟩ : Shape).size a) (j : (⟨3, ![1, A, B]⟩ : Shape).Idx) :
    stack3 Y ((Rect.unit (s := ⟨3, ![4, A, B]⟩) ![s.val, 0, 0] (⟨3, ![1, A, B]⟩ : Shape).size h).emb j) = Y s j := by
  unfold stack3
  have h0 : (j 0).val = 0 := by have := (j 0).isLt; change (j 0).val < 1 at this; omega
  congr 1
  · apply Fin.ext; show s.val + 1 * (j 0).val = s.val; omega
  · funext a
    match a with
    | ⟨0, _⟩ => exact Fin.ext h0.symm
    | ⟨1, _⟩ => apply Fin.ext; show 0 + 1 * (j 1).val = (j 1).val; omega
    | ⟨2, _⟩ => apply Fin.ext; show 0 + 1 * (j 2).val = (j 2).val; omega

theorem stack4_emb {α : Type} {A B C : ℕ} (Y : Fin 4 → (⟨4, ![1, A, B, C]⟩ : Shape).Idx → α) (s : Fin 4)
    (h : ∀ a, (![s.val, 0, 0, 0] : Fin 4 → ℕ) a + (⟨4, ![1, A, B, C]⟩ : Shape).size a ≤ (⟨4, ![4, A, B, C]⟩ : Shape).size a) (j : (⟨4, ![1, A, B, C]⟩ : Shape).Idx) :
    stack4 Y ((Rect.unit (s := ⟨4, ![4, A, B, C]⟩) ![s.val, 0, 0, 0] (⟨4, ![1, A, B, C]⟩ : Shape).size h).emb j) = Y s j := by
  unfold stack4
  have h0 : (j 0).val = 0 := by have := (j 0).isLt; change (j 0).val < 1 at this; omega
  congr 1
  · apply Fin.ext; show s.val + 1 * (j 0).val = s.val; omega
  · funext a
    match a with
    | ⟨0, _⟩ => exact Fin.ext h0.symm
    | ⟨1, _⟩ => apply Fin.ext; show 0 + 1 * (j 1).val = (j 1).val; omega
    | ⟨2, _⟩ => apply Fin.ext; show 0 + 1 * (j 2).val = (j 2).val; omega
    | ⟨3, _⟩ => apply Fin.ext; show 0 + 1 * (j 3).val = (j 3).val; omega

/-! ## The contents -/

variable (In : Inputs F)

/-- Activation slot `s` on row `p`: the block of `x` of column `s`. -/
def xs (p s : Fin 4) : Vec F S1x128x128 .bf16 := k0_pay1 (In.x (at_ p s))
/-- Weight slot `s` on column `q`, by layer. -/
def wI (l : Fin 3) (s q : Fin 4) : Vec F S1x128x256 .bf16 := match l with
  | 0 => k0_pay2 (In.wi0 (at_ s q)) | 1 => k0_pay5 (k0_pay4 (In.wi1 (at_ s q))) | 2 => k0_pay7 (In.wi2 (at_ s q))
def wO (l : Fin 3) (s q : Fin 4) : Vec F S1x256x128 .bf16 := match l with
  | 0 => k0_pay3 (In.wo0 (at_ s q)) | 1 => k0_pay6 (In.wo1 (at_ s q)) | 2 => k0_pay8 (In.wo2 (at_ s q))

/-- The partial products of a layer after the slots `p`, `p+1`, …: the first, -/
def acc0 (l : Fin 3) (p q : Fin 4) (xf : FVec F S512x128 .bf16) : FVec F S512x128 .f32 := k0_pay31 xf (wI In l p q) (wO In l p q)
/-- and with the next slot added each time. -/
def acc1 (l : Fin 3) (p q : Fin 4) (xf : FVec F S512x128 .bf16) : FVec F S512x128 .f32 :=
  k0_pay32 xf (acc0 In l p q xf) (wI In l (p + (Fin.succ 0 : Fin 4)) q) (wO In l (p + (Fin.succ 0 : Fin 4)) q)
def acc2 (l : Fin 3) (p q : Fin 4) (xf : FVec F S512x128 .bf16) : FVec F S512x128 .f32 :=
  k0_pay32 xf (acc1 In l p q xf) (wI In l (p + (Fin.succ 1 : Fin 4)) q) (wO In l (p + (Fin.succ 1 : Fin 4)) q)
def acc3 (l : Fin 3) (p q : Fin 4) (xf : FVec F S512x128 .bf16) : FVec F S512x128 .f32 :=
  k0_pay32 xf (acc2 In l p q xf) (wI In l (p + (Fin.succ 2 : Fin 4)) q) (wO In l (p + (Fin.succ 2 : Fin 4)) q)

/-- The activation block of row `p` before layer `l`, and the partial sum column `q` sends for it. -/
def xb0 (p : Fin 4) : Vec F S4x128x128 .bf16 := stack3 (xs In p)
def psOf (l : Fin 3) (p q : Fin 4) (xb : Vec F S4x128x128 .bf16) : Vec F S1x4x128x128 .bf16 := k0_pay27 (acc3 In l p q (k0_pay30 xb))
def ps0 (p q : Fin 4) : Vec F S1x4x128x128 .bf16 := psOf In 0 p q (xb0 In p)
def xb1 (p : Fin 4) : Vec F S4x128x128 .bf16 := k0_pay29 (stack4 (ps0 In p))
def ps1 (p q : Fin 4) : Vec F S1x4x128x128 .bf16 := psOf In 1 p q (xb1 In p)
def xb2 (p : Fin 4) : Vec F S4x128x128 .bf16 := k0_pay29 (stack4 (ps1 In p))
def ps2 (p q : Fin 4) : Vec F S1x4x128x128 .bf16 := psOf In 2 p q (xb2 In p)
/-- The part of column `s`'s last partial sum that goes to column `q`. -/
def rs (p q s : Fin 4) : Vec F S1x1x128x128 .bf16 := fun j => ps2 In p s ((rS q).emb j)
/-- The result on row `p`, column `q`. -/
def out (p q : Fin 4) : Vec F S128x128 .f32 := k0_pay37 (stack4 (rs In p q))

/-! ## Taking a buffer of four slots apart -/

variable {U : Type} [URA U]
local notation "𝕄" => MT nD τ sig Unit (Elt F) ℕ U ℕ

/-- A conjunction over the four slots, listed from slot `i`. -/
theorem four_from {M : Type} [URA M] (i : Fin 4) (Φ : Fin 4 → sProp M) :
    bigSep Finset.univ Φ = iprop(Φ i ∗ Φ (i + (Fin.succ 0 : Fin 4)) ∗ Φ (i + (Fin.succ 1 : Fin 4)) ∗ Φ (i + (Fin.succ 2 : Fin 4))) :=
  bigSep_univ_eq_bigSepL [i, i + (Fin.succ 0 : Fin 4), i + (Fin.succ 1 : Fin 4), i + (Fin.succ 2 : Fin 4)] (by revert i; decide) (by revert i; decide) Φ

set_option backward.proofsInPublic true in
theorem elt_nonempty (e : EltTy) : Nonempty (Elt F e) := by
  cases e <;> first | infer_instance | exact ⟨(Scalar.ofBits (F := F) _ 0)⟩

theorem rX_disj (s t : Fin 4) (hst : s ≠ t) : Disjoint (rX s).set (rX t).set := by
  rw [Finset.disjoint_left]; intro i hi hj
  have h1 := (Rect.mem_set_unit.mp hi) 0; have h2 := (Rect.mem_set_unit.mp hj) 0
  change s.val ≤ _ ∧ _ < s.val + 1 at h1; change t.val ≤ _ ∧ _ < t.val + 1 at h2
  exact hst (Fin.ext (by omega))
theorem rX_cov : (Finset.univ : Finset (Fin 4)).biUnion (fun s => (rX s).set) = Finset.univ := by
  refine Finset.eq_univ_of_forall fun i => Finset.mem_biUnion.mpr ⟨i 0, Finset.mem_univ _, Rect.mem_set_unit.mpr fun a => ?_⟩
  have h := (i a).isLt
  revert a; intro a h
  match a with
  | ⟨0, _⟩ => exact ⟨le_rfl, Nat.lt_succ_self _⟩
  | ⟨1, _⟩ => exact ⟨Nat.zero_le _, h.trans_eq (Nat.zero_add _).symm⟩
  | ⟨2, _⟩ => exact ⟨Nat.zero_le _, h.trans_eq (Nat.zero_add _).symm⟩

/-- A buffer owned whole is its four slots, listed from slot `i`. -/
theorem rX_apart (c : Dev nD) (i : Fin 4) {m : Memref sig .tc .vmem S4x128x128 .bf16} {q : PosShare TreeShare} {X : Vec F S4x128x128 .bf16} {Y : Fin 4 → Vec F S1x128x128 .bf16}
    (hX : ∀ s j, X ((rX s).emb j) = Y s j) :
    (owns (c : Thread nD τ) m q X : sProp 𝕄)
      ⊣⊢ iprop(owns (c : Thread nD τ) (m.slice (rX i) (fun _ => rfl)) q (Y i)
        ∗ owns (c : Thread nD τ) (m.slice (rX (i + (Fin.succ 0 : Fin 4))) (fun _ => rfl)) q (Y (i + (Fin.succ 0 : Fin 4)))
        ∗ owns (c : Thread nD τ) (m.slice (rX (i + (Fin.succ 1 : Fin 4))) (fun _ => rfl)) q (Y (i + (Fin.succ 1 : Fin 4)))
        ∗ owns (c : Thread nD τ) (m.slice (rX (i + (Fin.succ 2 : Fin 4))) (fun _ => rfl)) q (Y (i + (Fin.succ 2 : Fin 4)))) := by
  have hn := elt_nonempty (F := F)
  have e : (bigSep Finset.univ fun s => (owns (c : Thread nD τ) (m.slice (rX s) (fun _ => rfl)) q (fun j => X ((rX s).emb j)) : sProp 𝕄))
      = bigSep Finset.univ fun s => owns (c : Thread nD τ) (m.slice (rX s) (fun _ => rfl)) q (Y s) :=
    bigSep_congr fun s _ => by rw [funext (hX s)]
  have h1 := owns_rects (Ix := Unit) (Name := ℕ) (U := U) (Lvl := ℕ) (c : Thread nD τ) m q rX (fun _ _ => rfl) rX_disj rX_cov X
  have h2 := owns_of_rects (Ix := Unit) (Name := ℕ) (U := U) (Lvl := ℕ) (c : Thread nD τ) m q rX (fun _ _ => rfl) rX_disj rX_cov X
  rw [e, four_from i] at h1 h2
  exact ⟨h1, h2⟩

theorem rWi_disj (s t : Fin 4) (hst : s ≠ t) : Disjoint (rWi s).set (rWi t).set := by
  rw [Finset.disjoint_left]; intro i hi hj
  have h1 := (Rect.mem_set_unit.mp hi) 0; have h2 := (Rect.mem_set_unit.mp hj) 0
  change s.val ≤ _ ∧ _ < s.val + 1 at h1; change t.val ≤ _ ∧ _ < t.val + 1 at h2
  exact hst (Fin.ext (by omega))
theorem rWi_cov : (Finset.univ : Finset (Fin 4)).biUnion (fun s => (rWi s).set) = Finset.univ := by
  refine Finset.eq_univ_of_forall fun i => Finset.mem_biUnion.mpr ⟨i 0, Finset.mem_univ _, Rect.mem_set_unit.mpr fun a => ?_⟩
  have h := (i a).isLt
  revert a; intro a h
  match a with
  | ⟨0, _⟩ => exact ⟨le_rfl, Nat.lt_succ_self _⟩
  | ⟨1, _⟩ => exact ⟨Nat.zero_le _, h.trans_eq (Nat.zero_add _).symm⟩
  | ⟨2, _⟩ => exact ⟨Nat.zero_le _, h.trans_eq (Nat.zero_add _).symm⟩

/-- A buffer owned whole is its four slots, listed from slot `i`. -/
theorem rWi_apart (c : Dev nD) (i : Fin 4) {m : Memref sig .tc .vmem S4x128x256 .bf16} {q : PosShare TreeShare} {X : Vec F S4x128x256 .bf16} {Y : Fin 4 → Vec F S1x128x256 .bf16}
    (hX : ∀ s j, X ((rWi s).emb j) = Y s j) :
    (owns (c : Thread nD τ) m q X : sProp 𝕄)
      ⊣⊢ iprop(owns (c : Thread nD τ) (m.slice (rWi i) (fun _ => rfl)) q (Y i)
        ∗ owns (c : Thread nD τ) (m.slice (rWi (i + (Fin.succ 0 : Fin 4))) (fun _ => rfl)) q (Y (i + (Fin.succ 0 : Fin 4)))
        ∗ owns (c : Thread nD τ) (m.slice (rWi (i + (Fin.succ 1 : Fin 4))) (fun _ => rfl)) q (Y (i + (Fin.succ 1 : Fin 4)))
        ∗ owns (c : Thread nD τ) (m.slice (rWi (i + (Fin.succ 2 : Fin 4))) (fun _ => rfl)) q (Y (i + (Fin.succ 2 : Fin 4)))) := by
  have hn := elt_nonempty (F := F)
  have e : (bigSep Finset.univ fun s => (owns (c : Thread nD τ) (m.slice (rWi s) (fun _ => rfl)) q (fun j => X ((rWi s).emb j)) : sProp 𝕄))
      = bigSep Finset.univ fun s => owns (c : Thread nD τ) (m.slice (rWi s) (fun _ => rfl)) q (Y s) :=
    bigSep_congr fun s _ => by rw [funext (hX s)]
  have h1 := owns_rects (Ix := Unit) (Name := ℕ) (U := U) (Lvl := ℕ) (c : Thread nD τ) m q rWi (fun _ _ => rfl) rWi_disj rWi_cov X
  have h2 := owns_of_rects (Ix := Unit) (Name := ℕ) (U := U) (Lvl := ℕ) (c : Thread nD τ) m q rWi (fun _ _ => rfl) rWi_disj rWi_cov X
  rw [e, four_from i] at h1 h2
  exact ⟨h1, h2⟩

theorem rWo_disj (s t : Fin 4) (hst : s ≠ t) : Disjoint (rWo s).set (rWo t).set := by
  rw [Finset.disjoint_left]; intro i hi hj
  have h1 := (Rect.mem_set_unit.mp hi) 0; have h2 := (Rect.mem_set_unit.mp hj) 0
  change s.val ≤ _ ∧ _ < s.val + 1 at h1; change t.val ≤ _ ∧ _ < t.val + 1 at h2
  exact hst (Fin.ext (by omega))
theorem rWo_cov : (Finset.univ : Finset (Fin 4)).biUnion (fun s => (rWo s).set) = Finset.univ := by
  refine Finset.eq_univ_of_forall fun i => Finset.mem_biUnion.mpr ⟨i 0, Finset.mem_univ _, Rect.mem_set_unit.mpr fun a => ?_⟩
  have h := (i a).isLt
  revert a; intro a h
  match a with
  | ⟨0, _⟩ => exact ⟨le_rfl, Nat.lt_succ_self _⟩
  | ⟨1, _⟩ => exact ⟨Nat.zero_le _, h.trans_eq (Nat.zero_add _).symm⟩
  | ⟨2, _⟩ => exact ⟨Nat.zero_le _, h.trans_eq (Nat.zero_add _).symm⟩

/-- A buffer owned whole is its four slots, listed from slot `i`. -/
theorem rWo_apart (c : Dev nD) (i : Fin 4) {m : Memref sig .tc .vmem S4x256x128 .bf16} {q : PosShare TreeShare} {X : Vec F S4x256x128 .bf16} {Y : Fin 4 → Vec F S1x256x128 .bf16}
    (hX : ∀ s j, X ((rWo s).emb j) = Y s j) :
    (owns (c : Thread nD τ) m q X : sProp 𝕄)
      ⊣⊢ iprop(owns (c : Thread nD τ) (m.slice (rWo i) (fun _ => rfl)) q (Y i)
        ∗ owns (c : Thread nD τ) (m.slice (rWo (i + (Fin.succ 0 : Fin 4))) (fun _ => rfl)) q (Y (i + (Fin.succ 0 : Fin 4)))
        ∗ owns (c : Thread nD τ) (m.slice (rWo (i + (Fin.succ 1 : Fin 4))) (fun _ => rfl)) q (Y (i + (Fin.succ 1 : Fin 4)))
        ∗ owns (c : Thread nD τ) (m.slice (rWo (i + (Fin.succ 2 : Fin 4))) (fun _ => rfl)) q (Y (i + (Fin.succ 2 : Fin 4)))) := by
  have hn := elt_nonempty (F := F)
  have e : (bigSep Finset.univ fun s => (owns (c : Thread nD τ) (m.slice (rWo s) (fun _ => rfl)) q (fun j => X ((rWo s).emb j)) : sProp 𝕄))
      = bigSep Finset.univ fun s => owns (c : Thread nD τ) (m.slice (rWo s) (fun _ => rfl)) q (Y s) :=
    bigSep_congr fun s _ => by rw [funext (hX s)]
  have h1 := owns_rects (Ix := Unit) (Name := ℕ) (U := U) (Lvl := ℕ) (c : Thread nD τ) m q rWo (fun _ _ => rfl) rWo_disj rWo_cov X
  have h2 := owns_of_rects (Ix := Unit) (Name := ℕ) (U := U) (Lvl := ℕ) (c : Thread nD τ) m q rWo (fun _ _ => rfl) rWo_disj rWo_cov X
  rw [e, four_from i] at h1 h2
  exact ⟨h1, h2⟩

theorem rP_disj (s t : Fin 4) (hst : s ≠ t) : Disjoint (rP s).set (rP t).set := by
  rw [Finset.disjoint_left]; intro i hi hj
  have h1 := (Rect.mem_set_unit.mp hi) 0; have h2 := (Rect.mem_set_unit.mp hj) 0
  change s.val ≤ _ ∧ _ < s.val + 1 at h1; change t.val ≤ _ ∧ _ < t.val + 1 at h2
  exact hst (Fin.ext (by omega))
theorem rP_cov : (Finset.univ : Finset (Fin 4)).biUnion (fun s => (rP s).set) = Finset.univ := by
  refine Finset.eq_univ_of_forall fun i => Finset.mem_biUnion.mpr ⟨i 0, Finset.mem_univ _, Rect.mem_set_unit.mpr fun a => ?_⟩
  have h := (i a).isLt
  revert a; intro a h
  match a with
  | ⟨0, _⟩ => exact ⟨le_rfl, Nat.lt_succ_self _⟩
  | ⟨1, _⟩ => exact ⟨Nat.zero_le _, h.trans_eq (Nat.zero_add _).symm⟩
  | ⟨2, _⟩ => exact ⟨Nat.zero_le _, h.trans_eq (Nat.zero_add _).symm⟩
  | ⟨3, _⟩ => exact ⟨Nat.zero_le _, h.trans_eq (Nat.zero_add _).symm⟩

/-- A buffer owned whole is its four slots, listed from slot `i`. -/
theorem rP_apart (c : Dev nD) (i : Fin 4) {m : Memref sig .tc .vmem S4x4x128x128 .bf16} {q : PosShare TreeShare} {X : Vec F S4x4x128x128 .bf16} {Y : Fin 4 → Vec F S1x4x128x128 .bf16}
    (hX : ∀ s j, X ((rP s).emb j) = Y s j) :
    (owns (c : Thread nD τ) m q X : sProp 𝕄)
      ⊣⊢ iprop(owns (c : Thread nD τ) (m.slice (rP i) (fun _ => rfl)) q (Y i)
        ∗ owns (c : Thread nD τ) (m.slice (rP (i + (Fin.succ 0 : Fin 4))) (fun _ => rfl)) q (Y (i + (Fin.succ 0 : Fin 4)))
        ∗ owns (c : Thread nD τ) (m.slice (rP (i + (Fin.succ 1 : Fin 4))) (fun _ => rfl)) q (Y (i + (Fin.succ 1 : Fin 4)))
        ∗ owns (c : Thread nD τ) (m.slice (rP (i + (Fin.succ 2 : Fin 4))) (fun _ => rfl)) q (Y (i + (Fin.succ 2 : Fin 4)))) := by
  have hn := elt_nonempty (F := F)
  have e : (bigSep Finset.univ fun s => (owns (c : Thread nD τ) (m.slice (rP s) (fun _ => rfl)) q (fun j => X ((rP s).emb j)) : sProp 𝕄))
      = bigSep Finset.univ fun s => owns (c : Thread nD τ) (m.slice (rP s) (fun _ => rfl)) q (Y s) :=
    bigSep_congr fun s _ => by rw [funext (hX s)]
  have h1 := owns_rects (Ix := Unit) (Name := ℕ) (U := U) (Lvl := ℕ) (c : Thread nD τ) m q rP (fun _ _ => rfl) rP_disj rP_cov X
  have h2 := owns_of_rects (Ix := Unit) (Name := ℕ) (U := U) (Lvl := ℕ) (c : Thread nD τ) m q rP (fun _ _ => rfl) rP_disj rP_cov X
  rw [e, four_from i] at h1 h2
  exact ⟨h1, h2⟩

theorem rR_disj (s t : Fin 4) (hst : s ≠ t) : Disjoint (rR s).set (rR t).set := by
  rw [Finset.disjoint_left]; intro i hi hj
  have h1 := (Rect.mem_set_unit.mp hi) 0; have h2 := (Rect.mem_set_unit.mp hj) 0
  change s.val ≤ _ ∧ _ < s.val + 1 at h1; change t.val ≤ _ ∧ _ < t.val + 1 at h2
  exact hst (Fin.ext (by omega))
theorem rR_cov : (Finset.univ : Finset (Fin 4)).biUnion (fun s => (rR s).set) = Finset.univ := by
  refine Finset.eq_univ_of_forall fun i => Finset.mem_biUnion.mpr ⟨i 0, Finset.mem_univ _, Rect.mem_set_unit.mpr fun a => ?_⟩
  have h := (i a).isLt
  revert a; intro a h
  match a with
  | ⟨0, _⟩ => exact ⟨le_rfl, Nat.lt_succ_self _⟩
  | ⟨1, _⟩ => exact ⟨Nat.zero_le _, h.trans_eq (Nat.zero_add _).symm⟩
  | ⟨2, _⟩ => exact ⟨Nat.zero_le _, h.trans_eq (Nat.zero_add _).symm⟩
  | ⟨3, _⟩ => exact ⟨Nat.zero_le _, h.trans_eq (Nat.zero_add _).symm⟩

/-- A buffer owned whole is its four slots, listed from slot `i`. -/
theorem rR_apart (c : Dev nD) (i : Fin 4) {m : Memref sig .tc .vmem S4x1x128x128 .bf16} {q : PosShare TreeShare} {X : Vec F S4x1x128x128 .bf16} {Y : Fin 4 → Vec F S1x1x128x128 .bf16}
    (hX : ∀ s j, X ((rR s).emb j) = Y s j) :
    (owns (c : Thread nD τ) m q X : sProp 𝕄)
      ⊣⊢ iprop(owns (c : Thread nD τ) (m.slice (rR i) (fun _ => rfl)) q (Y i)
        ∗ owns (c : Thread nD τ) (m.slice (rR (i + (Fin.succ 0 : Fin 4))) (fun _ => rfl)) q (Y (i + (Fin.succ 0 : Fin 4)))
        ∗ owns (c : Thread nD τ) (m.slice (rR (i + (Fin.succ 1 : Fin 4))) (fun _ => rfl)) q (Y (i + (Fin.succ 1 : Fin 4)))
        ∗ owns (c : Thread nD τ) (m.slice (rR (i + (Fin.succ 2 : Fin 4))) (fun _ => rfl)) q (Y (i + (Fin.succ 2 : Fin 4)))) := by
  have hn := elt_nonempty (F := F)
  have e : (bigSep Finset.univ fun s => (owns (c : Thread nD τ) (m.slice (rR s) (fun _ => rfl)) q (fun j => X ((rR s).emb j)) : sProp 𝕄))
      = bigSep Finset.univ fun s => owns (c : Thread nD τ) (m.slice (rR s) (fun _ => rfl)) q (Y s) :=
    bigSep_congr fun s _ => by rw [funext (hX s)]
  have h1 := owns_rects (Ix := Unit) (Name := ℕ) (U := U) (Lvl := ℕ) (c : Thread nD τ) m q rR (fun _ _ => rfl) rR_disj rR_cov X
  have h2 := owns_of_rects (Ix := Unit) (Name := ℕ) (U := U) (Lvl := ℕ) (c : Thread nD τ) m q rR (fun _ _ => rfl) rR_disj rR_cov X
  rw [e, four_from i] at h1 h2
  exact ⟨h1, h2⟩

theorem rS_disj (s t : Fin 4) (hst : s ≠ t) : Disjoint (rS s).set (rS t).set := by
  rw [Finset.disjoint_left]; intro i hi hj
  have h1 := (Rect.mem_set_unit.mp hi) 1; have h2 := (Rect.mem_set_unit.mp hj) 1
  change s.val ≤ _ ∧ _ < s.val + 1 at h1; change t.val ≤ _ ∧ _ < t.val + 1 at h2
  exact hst (Fin.ext (by omega))
theorem rS_cov : (Finset.univ : Finset (Fin 4)).biUnion (fun s => (rS s).set) = Finset.univ := by
  refine Finset.eq_univ_of_forall fun i => Finset.mem_biUnion.mpr ⟨i 1, Finset.mem_univ _, Rect.mem_set_unit.mpr fun a => ?_⟩
  have h := (i a).isLt
  revert a; intro a h
  match a with
  | ⟨0, _⟩ => exact ⟨Nat.zero_le _, h.trans_eq (Nat.zero_add _).symm⟩
  | ⟨1, _⟩ => exact ⟨le_rfl, Nat.lt_succ_self _⟩
  | ⟨2, _⟩ => exact ⟨Nat.zero_le _, h.trans_eq (Nat.zero_add _).symm⟩
  | ⟨3, _⟩ => exact ⟨Nat.zero_le _, h.trans_eq (Nat.zero_add _).symm⟩

/-- A buffer owned whole is its four slots, listed from slot `i`. -/
theorem rS_apart (c : Dev nD) (i : Fin 4) {m : Memref sig .tc .vmem S1x4x128x128 .bf16} {q : PosShare TreeShare} {X : Vec F S1x4x128x128 .bf16} {Y : Fin 4 → Vec F S1x1x128x128 .bf16}
    (hX : ∀ s j, X ((rS s).emb j) = Y s j) :
    (owns (c : Thread nD τ) m q X : sProp 𝕄)
      ⊣⊢ iprop(owns (c : Thread nD τ) (m.slice (rS i) (fun _ => rfl)) q (Y i)
        ∗ owns (c : Thread nD τ) (m.slice (rS (i + (Fin.succ 0 : Fin 4))) (fun _ => rfl)) q (Y (i + (Fin.succ 0 : Fin 4)))
        ∗ owns (c : Thread nD τ) (m.slice (rS (i + (Fin.succ 1 : Fin 4))) (fun _ => rfl)) q (Y (i + (Fin.succ 1 : Fin 4)))
        ∗ owns (c : Thread nD τ) (m.slice (rS (i + (Fin.succ 2 : Fin 4))) (fun _ => rfl)) q (Y (i + (Fin.succ 2 : Fin 4)))) := by
  have hn := elt_nonempty (F := F)
  have e : (bigSep Finset.univ fun s => (owns (c : Thread nD τ) (m.slice (rS s) (fun _ => rfl)) q (fun j => X ((rS s).emb j)) : sProp 𝕄))
      = bigSep Finset.univ fun s => owns (c : Thread nD τ) (m.slice (rS s) (fun _ => rfl)) q (Y s) :=
    bigSep_congr fun s _ => by rw [funext (hX s)]
  have h1 := owns_rects (Ix := Unit) (Name := ℕ) (U := U) (Lvl := ℕ) (c : Thread nD τ) m q rS (fun _ _ => rfl) rS_disj rS_cov X
  have h2 := owns_of_rects (Ix := Unit) (Name := ℕ) (U := U) (Lvl := ℕ) (c : Thread nD τ) m q rS (fun _ _ => rfl) rS_disj rS_cov X
  rw [e, four_from i] at h1 h2
  exact ⟨h1, h2⟩

end Cert.Mlp

end
-- ==== Proof.Sched.lean ====
/-
The kernel's communication: who sends what to whom, in which order, and what each semaphore stands for.

Ten jobs move data: the gather of the activations inside a row, the gathers of the six weights inside a column, two
exchanges of partial sums inside a row, and the last exchange, of one block each. In each job a device sends to its three
peers and receives from them. Two barriers, one of both directions before the jobs and one inside the column after them,
are met on regular semaphores. A device's own run through the jobs is the list `script`.
-/
module

public import proofs.«01_k».proof.Proof.Contents

@[expose] public section

set_option maxRecDepth 4000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Duty : Type := Bool × Fin 3
abbrev UB : Type := URounds (GSem nD τ sig) Duty
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## The jobs -/

inductive Jb | ag | wi0 | wo0 | wi1 | wo1 | wi2 | wo2 | pr0 | pr1 | rs
  deriving DecidableEq

instance : Fintype Jb := ⟨{.ag, .wi0, .wo0, .wi1, .wo1, .wi2, .wo2, .pr0, .pr1, .rs}, fun j => by cases j <;> decide⟩

/-- Whether a job goes along the row (`true`) or the column. -/
def dir : Jb → Bool
  | .ag | .pr0 | .pr1 | .rs => true
  | _ => false
/-- The shape of a job's messages. -/
@[reducible] def shp : Jb → Shape
  | .ag => S1x128x128
  | .wi0 => S1x128x256
  | .wo0 => S1x256x128
  | .wi1 => S1x128x256
  | .wo1 => S1x256x128
  | .wi2 => S1x128x256
  | .wo2 => S1x256x128
  | .pr0 => S1x4x128x128
  | .pr1 => S1x4x128x128
  | .rs => S1x1x128x128
/-- Where slot `x` of a job's messages lands. -/
@[reducible] def slotM (j : Jb) (x : Fin 4) : Memref sig .tc .vmem (shp j) .bf16 := match j with
  | .ag => bX.slice (rX x) (fun _ => rfl)
  | .wi0 => bWi0.slice (rWi x) (fun _ => rfl)
  | .wo0 => bWo0.slice (rWo x) (fun _ => rfl)
  | .wi1 => bWi1.slice (rWi x) (fun _ => rfl)
  | .wo1 => bWo1.slice (rWo x) (fun _ => rfl)
  | .wi2 => bWi2.slice (rWi x) (fun _ => rfl)
  | .wo2 => bWo2.slice (rWo x) (fun _ => rfl)
  | .pr0 => bP0.slice (rP x) (fun _ => rfl)
  | .pr1 => bP1.slice (rP x) (fun _ => rfl)
  | .rs => bR.slice (rR x) (fun _ => rfl)
set_option backward.proofsInPublic true in
/-- The first of a job's four send semaphores, -/
def sbase : Jb → Fin 85
  | .ag => 56
  | .wi0 => 8
  | .wo0 => 12
  | .wi1 => 16
  | .wo1 => 20
  | .wi2 => 24
  | .wo2 => 28
  | .pr0 => 60
  | .pr1 => 64
  | .rs => 80
set_option backward.proofsInPublic true in
/-- and of its four receive semaphores. -/
def rbase : Jb → Fin 85
  | .ag => 68
  | .wi0 => 32
  | .wo0 => 36
  | .wi1 => 40
  | .wo1 => 44
  | .wi2 => 48
  | .wo2 => 52
  | .pr0 => 72
  | .pr1 => 76
  | .rs => 84
/-- The units one message is worth. -/
def NJ (j : Jb) : ℕ := (slotM j 0).view.dmaCredit
theorem NJ_pos (j : Jb) : 0 < NJ j := View.dmaCredit_pos _ (by cases j <;> decide)

/-- The shares a copy's source is lent at; the left half stays. -/
def lent : Fin 3 → PosShare TreeShare
  | 0 => fullShare.right.left | 1 => fullShare.right.right.left | 2 => fullShare.right.right.right

/-! ## The cells -/

/-- A device's semaphores by what they are for: the two barriers, the end of sending on offset `o`, the arrival of slot `x`. -/
inductive Cl | bar | bar2 | S (j : Jb) (o : Fin 3) | R (j : Jb) (x : Fin 4)
  deriving DecidableEq

/-- The cells by kind. -/
def clE : Bool ⊕ Jb × Fin 3 ⊕ Jb × Fin 4 ≃ Cl where
  toFun
    | .inl true => .bar
    | .inl false => .bar2
    | .inr (.inl p) => .S p.1 p.2
    | .inr (.inr p) => .R p.1 p.2
  invFun
    | .bar => .inl true
    | .bar2 => .inl false
    | .S j o => .inr (.inl (j, o))
    | .R j x => .inr (.inr (j, x))
  left_inv a := by rcases a with (_ | _) | _ | _ <;> rfl
  right_inv k := by cases k <;> rfl
instance : Fintype Cl := Fintype.ofEquiv _ clE

/-- The kernel's own barrier semaphore, shared by all its calls, and the one it allocates for the last barrier. -/
abbrev barS : Sem sig := (SemArray.scalar (sig.barrier 0 rfl) : Sems sig S_).sem
abbrev bar2S : Sem sig := cc0_scoped0.sem

def semOf : Cl → SemLoc sig
  | .bar => .reg barS
  | .bar2 => .reg bar2S
  | .S j o => .dma (sem4 (sbase j) o.succ)
  | .R j x => .dma (sem4 (rbase j) x)

theorem semOf_inj : ∀ a b : Cl, semOf a = semOf b → a = b := by decide +kernel

abbrev kcell (c : Dev nD) (k : Cl) : GSem nD τ sig := ((c : Thread nD τ), semOf k)

open Classical in
/-- What a semaphore is for, if it is one of these. -/
def back (s : SemLoc sig) : Option Cl := if h : ∃ k, semOf k = s then some h.choose else none
theorem back_semOf (k : Cl) : back (semOf k) = some k := by
  unfold back
  have h : ∃ k', semOf k' = semOf k := ⟨k, rfl⟩
  rw [dif_pos h]; exact congrArg some (semOf_inj _ _ h.choose_spec)

/-! ## What is handed over -/

variable (In : Inputs F)

/-- What slot `x` of device `t` holds after the job. -/
def gotC (t : Dev nD) (j : Jb) (x : Fin 4) : (shp j).Idx → Elt F .bf16 := match j with
  | .ag => xs In (row t) x
  | .wi0 => wI In 0 x (col t)
  | .wo0 => wO In 0 x (col t)
  | .wi1 => wI In 1 x (col t)
  | .wo1 => wO In 1 x (col t)
  | .wi2 => wI In 2 x (col t)
  | .wo2 => wO In 2 x (col t)
  | .pr0 => ps0 In (row t) x
  | .pr1 => ps1 In (row t) x
  | .rs => rs In (row t) (col t) x
/-- The slot, filled. -/
def gotP (t : Dev nD) (j : Jb) (x : Fin 4) : sProp 𝕄 := owns (t : Thread nD τ) (slotM j x) fullShare (gotC In t j x)
/-- The slot, at any contents. -/
def anyS (t : Dev nD) (j : Jb) (x : Fin 4) : sProp 𝕄 := iprop(∃ Y, owns (t : Thread nD τ) (slotM j x) fullShare Y)
/-- The source of device `c`'s copy on offset `o`. -/
def srcP (c : Dev nD) (j : Jb) (o : Fin 3) : sProp 𝕄 := match j with
  | .ag => owns (c : Thread nD τ) (bX.slice (rX (col c)) (fun _ => rfl)) (lent o) (xs In (row c) (col c))
  | .wi0 => owns (c : Thread nD τ) (bWi0.slice (rWi (row c)) (fun _ => rfl)) (lent o) (wI In 0 (row c) (col c))
  | .wo0 => owns (c : Thread nD τ) (bWo0.slice (rWo (row c)) (fun _ => rfl)) (lent o) (wO In 0 (row c) (col c))
  | .wi1 => owns (c : Thread nD τ) (bWi1.slice (rWi (row c)) (fun _ => rfl)) (lent o) (wI In 1 (row c) (col c))
  | .wo1 => owns (c : Thread nD τ) (bWo1.slice (rWo (row c)) (fun _ => rfl)) (lent o) (wO In 1 (row c) (col c))
  | .wi2 => owns (c : Thread nD τ) (bWi2.slice (rWi (row c)) (fun _ => rfl)) (lent o) (wI In 2 (row c) (col c))
  | .wo2 => owns (c : Thread nD τ) (bWo2.slice (rWo (row c)) (fun _ => rfl)) (lent o) (wO In 2 (row c) (col c))
  | .pr0 => owns (c : Thread nD τ) bS (lent o) (ps0 In (row c) (col c))
  | .pr1 => owns (c : Thread nD τ) bS (lent o) (ps1 In (row c) (col c))
  | .rs => owns (c : Thread nD τ) (bS.slice (rS (col c + o.succ)) (fun _ => rfl)) fullShare (rs In (row c) (col c + o.succ) (col c))
/-- The slot at its peer on offset `o` that device `c` may write. -/
def land (c : Dev nD) (j : Jb) (o : Fin 3) : sProp 𝕄 := anyS (F := F) (peer (dir j) c o) j (ix (dir j) c)
/-- All the slots a peer hands over at the first barrier. -/
def lands (c : Dev nD) (pl : Bool) (o : Fin 3) : sProp 𝕄 := match pl with
  | true => iprop(land (F := F) c .ag o ∗ land (F := F) c .pr0 o ∗ land (F := F) c .pr1 o ∗ land (F := F) c .rs o)
  | false => iprop(land (F := F) c .wi0 o ∗ land (F := F) c .wo0 o ∗ land (F := F) c .wi1 o ∗ land (F := F) c .wo1 o ∗ land (F := F) c .wi2 o ∗ land (F := F) c .wo2 o)

omit [FloatOps F] in
instance owns_storable {m : Space} {sh : Shape} {e : EltTy} (c : Thread nD τ) (v : Memref sig c.2.kind m sh e) (q : PosShare TreeShare) (X : sh.Idx → Elt F e) :
    BI.Storable (upEmb : UEmb _ 𝕄) (owns c v q X) := by unfold owns; infer_instance
omit [FloatOps F] in
instance anyS_storable (t : Dev nD) (j : Jb) (x : Fin 4) : BI.Storable (upEmb : UEmb _ 𝕄) (anyS (F := F) t j x) := by unfold anyS; infer_instance
instance gotP_storable (t : Dev nD) (j : Jb) (x : Fin 4) : BI.Storable (upEmb : UEmb _ 𝕄) (gotP In t j x) := by unfold gotP; infer_instance
instance srcP_storable (c : Dev nD) (j : Jb) (o : Fin 3) : BI.Storable (upEmb : UEmb _ 𝕄) (srcP In c j o) := by
  cases j <;> exact owns_storable _ _ _ _
omit [FloatOps F] in
instance lands_storable (c : Dev nD) (pl : Bool) (o : Fin 3) : BI.Storable (upEmb : UEmb _ 𝕄) (lands (F := F) c pl o) := by
  cases pl <;> (dsimp only [lands, land]; infer_instance)

/-! ## The schedule -/

/-- Who owes each cell of device `c`: every peer its own duty at the barriers, the engine at a copy's two ends. The
    arrival cell of the own slot is never used. -/
def dutiesOf (c : Dev nD) : Cl → Finset Duty
  | .bar => Finset.univ
  | .bar2 => {(false, 0), (false, 1), (false, 2)}
  | .S _ _ => {(false, 0)}
  | .R j x => if x = ix (dir j) c then ∅ else {(false, 0)}
def unitsOf : Cl → ℕ
  | .bar | .bar2 => 1
  | .S j _ | .R j _ => NJ j
def payOf (c : Dev nD) : Cl → Duty → sProp 𝕄
  | .bar, d => lands (F := F) c d.1 d.2
  | .bar2, _ => iprop(emp)
  | .S j o, _ => srcP In c j o
  | .R j x, _ => gotP In c j x

/-- One round: every cell is used once. -/
def sched : Rounds.Schedule (GSem nD τ sig) Duty 𝕄 where
  duties g r := if r = 0 ∧ g.1.2 = .tc then (match back g.2 with | some k => dutiesOf g.1.1 k | none => ∅) else ∅
  unitless _ := False
  amount g _ _ := match back g.2 with | some k => unitsOf k | none => 1
  payload g _ d := match back g.2 with | some k => payOf In g.1.1 k d | none => iprop(emp)
  amount_pos g _ _ _ := by
    split
    · next k _ => cases k <;> first | exact Nat.one_pos | exact NJ_pos _
    · exact Nat.one_pos

instance sched_storable (g : GSem nD τ sig) (r : ℕ) (d : Duty) : BI.Storable (upEmb : UEmb _ 𝕄) ((sched In).payload g r d) := by
  show BI.Storable upEmb (match back g.2 with | some k => payOf In g.1.1 k d | none => iprop(emp))
  split
  · next k _ => cases k <;> (dsimp only [payOf]; infer_instance)
  · infer_instance

theorem duties_cell (c : Dev nD) (k : Cl) : (sched In).duties (kcell c k) 0 = dutiesOf c k := by
  dsimp only [sched]; rw [if_pos ⟨rfl, rfl⟩, back_semOf]
theorem duties_later (g : GSem nD τ sig) : ∀ r, 1 ≤ r → (sched In).duties g r = ∅ :=
  fun r hr => by dsimp only [sched]; rw [if_neg fun h => by omega]
theorem amount_cell (c : Dev nD) (k : Cl) (r : ℕ) (d : Duty) : (sched In).amount (kcell c k) r d = unitsOf k := by
  dsimp only [sched]; rw [back_semOf]
theorem payload_cell (c : Dev nD) (k : Cl) (r : ℕ) (d : Duty) : (sched In).payload (kcell c k) r d = payOf In c k d := by
  dsimp only [sched]; rw [back_semOf]
theorem expect_cell (c : Dev nD) (k : Cl) : (sched In).expect (kcell c k) 0 = (dutiesOf c k).card * unitsOf k := by
  unfold Schedule.expect Schedule.amountOf
  rw [duties_cell, Finset.sum_congr rfl fun d _ => amount_cell In c k 0 d, Finset.sum_const, smul_eq_mul]
theorem ix_succ_ne (i : Fin 4) (o : Fin 3) : i + o.succ ≠ i := by revert i o; decide
theorem duties_R (c : Dev nD) (j : Jb) (o : Fin 3) : dutiesOf c (.R j (ix (dir j) c + o.succ)) = {(false, 0)} :=
  if_neg (ix_succ_ne _ _)
theorem duties_own (c : Dev nD) (j : Jb) : dutiesOf c (.R j (ix (dir j) c)) = ∅ := if_pos rfl

/-! ## The script -/

/-- A device's steps: signal a peer, meet the first barrier, send, await an arrival, await the end of a sending, signal
    a peer for the last barrier, meet it. -/
inductive Ev | sg (pl : Bool) (o : Fin 3) | wb | snd (j : Jb) (o : Fin 3) | wR (j : Jb) (o : Fin 3) | wS (j : Jb) (o : Fin 3) | sg2 (o : Fin 3) | wb2
  deriving DecidableEq

/-- The steps by kind. -/
def evE : (Bool × Fin 3 ⊕ Fin 3) ⊕ Jb × Fin 3 ⊕ Bool ⊕ Jb × Fin 3 ⊕ Jb × Fin 3 ≃ Ev where
  toFun
    | .inl (.inl p) => .sg p.1 p.2
    | .inl (.inr o) => .sg2 o
    | .inr (.inl p) => .snd p.1 p.2
    | .inr (.inr (.inl true)) => .wb
    | .inr (.inr (.inl false)) => .wb2
    | .inr (.inr (.inr (.inl p))) => .wR p.1 p.2
    | .inr (.inr (.inr (.inr p))) => .wS p.1 p.2
  invFun
    | .sg pl o => .inl (.inl (pl, o))
    | .sg2 o => .inl (.inr o)
    | .snd j o => .inr (.inl (j, o))
    | .wb => .inr (.inr (.inl true))
    | .wb2 => .inr (.inr (.inl false))
    | .wR j o => .inr (.inr (.inr (.inl (j, o))))
    | .wS j o => .inr (.inr (.inr (.inr (j, o))))
  left_inv a := by rcases a with (_ | _) | _ | (_ | _) | _ | _ <;> rfl
  right_inv e := by cases e <;> rfl
instance : Fintype Ev := Fintype.ofEquiv _ evE

def script : List Ev :=
  [.sg true 0, .sg false 0, .sg true 1, .sg false 1, .sg true 2, .sg false 2, .wb, .snd .ag 0, .snd .ag 1,
   .snd .ag 2, .snd .wi0 0, .snd .wi0 1, .snd .wi0 2, .snd .wo0 0, .snd .wo0 1, .snd .wo0 2, .snd .wi1 0, .snd .wi1 1,
   .snd .wi1 2, .snd .wo1 0, .snd .wo1 1, .snd .wo1 2, .snd .wi2 0, .snd .wi2 1, .snd .wi2 2, .snd .wo2 0, .snd .wo2 1,
   .snd .wo2 2, .wR .ag 0, .wR .ag 1, .wR .ag 2, .wR .wi0 0, .wR .wo0 0, .wR .wi0 1, .wR .wo0 1, .wR .wi0 2,
   .wR .wo0 2, .snd .pr0 0, .snd .pr0 1, .snd .pr0 2, .wR .pr0 0, .wR .pr0 1, .wR .pr0 2, .wS .ag 0, .wS .ag 1,
   .wS .ag 2, .wR .wi1 0, .wR .wo1 0, .wR .wi1 1, .wR .wo1 1, .wR .wi1 2, .wR .wo1 2, .wS .pr0 0, .wS .pr0 1,
   .wS .pr0 2, .snd .pr1 0, .snd .pr1 1, .snd .pr1 2, .wR .pr1 0, .wR .pr1 1, .wR .pr1 2, .wR .wi2 0, .wR .wo2 0,
   .wR .wi2 1, .wR .wo2 1, .wR .wi2 2, .wR .wo2 2, .wS .pr1 0, .wS .pr1 1, .wS .pr1 2, .snd .rs 0, .snd .rs 1,
   .snd .rs 2, .wR .rs 0, .wR .rs 1, .wR .rs 2, .wS .wi0 0, .wS .wi0 1, .wS .wi0 2, .wS .wo0 0, .wS .wo0 1,
   .wS .wo0 2, .wS .wi1 0, .wS .wi1 1, .wS .wi1 2, .wS .wo1 0, .wS .wo1 1, .wS .wo1 2, .wS .wi2 0, .wS .wi2 1,
   .wS .wi2 2, .wS .wo2 0, .wS .wo2 1, .wS .wo2 2, .wS .rs 0, .wS .rs 1, .wS .rs 2, .sg2 0, .sg2 1,
   .sg2 2, .wb2]

theorem script_nodup : script.Nodup := by decide +kernel
theorem script_all : script.toFinset = Finset.univ := by decide +kernel

/-- The cell a step pays, -/
def dueK (c : Dev nD) : Ev → Option (Dev nD × Cl)
  | .sg pl o => some (peer pl c o, .bar)
  | .snd j o => some (peer (dir j) c o, .R j (ix (dir j) c))
  | .sg2 o => some (peer false c o, .bar2)
  | _ => none
/-- and the cell it waits on, with the units it takes. -/
def wantK (c : Dev nD) : Ev → Option (Cl × ℕ)
  | .wb => some (.bar, 6)
  | .wR j o => some (.R j (ix (dir j) c + o.succ), NJ j)
  | .wb2 => some (.bar2, 3)
  | _ => none
def due (c : Dev nD) (e : Ev) : CellTallies nD τ sig Unit := match dueK c e with
  | some ck => tallyAt (kcell ck.1 ck.2) () (unitsOf ck.2)
  | none => 0
def want (c : Dev nD) (e : Ev) : CellTallies nD τ sig Unit := match wantK c e with
  | some kn => tallyAt (kcell c kn.1) () kn.2
  | none => 0
def dues (c : Dev nD) (l : List Ev) : CellTallies nD τ sig Unit := (l.map (due c)).sum
def wants (c : Dev nD) (l : List Ev) : CellTallies nD τ sig Unit := (l.map (want c)).sum

theorem dues_cons (c : Dev nD) (e : Ev) (l : List Ev) : dues c (e :: l) = dues c l + due c e := by
  unfold dues; rw [List.map_cons, List.sum_cons, add_comm]
theorem wants_cons (c : Dev nD) (e : Ev) (l : List Ev) : wants c (e :: l) = want c e + wants c l := by
  unfold wants; rw [List.map_cons, List.sum_cons]

/-! ## The levels -/

def lvOf : Cl → ℕ
  | .bar => 1
  | .bar2 => 6
  | .S _ _ => 0
  | .R j _ => match j with
  | .pr0 => 3
  | .pr1 => 4
  | .rs => 5
  | _ => 2
def L (g : GSem nD τ sig) : Finset Unit := if g.1.2 = .tc then {()} else ∅
def lv (g : GSem nD τ sig) (_ : Unit) : ℕ := match back g.2 with | some k => lvOf k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) : lv (kcell c k) () = lvOf k := by dsimp only [lv]; rw [back_semOf]

/-- The level of the cell a step pays. -/
def dueL : Ev → Option ℕ
  | .sg _ _ => some 1
  | .snd j _ => some (lvOf (.R j 0))
  | .sg2 _ => some 6
  | _ => none
theorem dueK_lv (c : Dev nD) (e : Ev) (ck : Dev nD × Cl) (h : dueK c e = some ck) : dueL e = some (lvOf ck.2) := by
  cases e <;> simp only [dueK, Option.some.injEq, reduceCtorEq] at h <;> subst h <;> rfl

/-- Every step of the list pays above level `b`. -/
def above (b : ℕ) (l : List Ev) : Bool := l.all fun e => match dueL e with | some v => decide (b < v) | none => true

theorem dues_pos {c : Dev nD} {l : List Ev} {g : GSem nD τ sig} {u : Unit} (h : 0 < dues c l g u) :
    ∃ e ∈ l, ∃ ck, dueK c e = some ck ∧ g = kcell ck.1 ck.2 := by
  induction l with
  | nil => exact absurd h (Nat.lt_irrefl 0)
  | cons e l ih =>
    rw [dues_cons, Pi.add_apply, Finsupp.add_apply] at h
    by_cases h1 : 0 < dues c l g u
    · obtain ⟨e', he, r⟩ := ih h1; exact ⟨e', List.mem_cons_of_mem _ he, r⟩
    · have h2 : 0 < due c e g u := by omega
      unfold due at h2
      cases hk : dueK c e with
      | none => rw [hk] at h2; exact absurd h2 (Nat.lt_irrefl 0)
      | some ck => rw [hk] at h2; exact ⟨e, List.mem_cons_self, ck, hk, (Pipeline.tallyAt_pos h2).1⟩

omit [FloatOps F] in
/-- A device may wait on a cell while everything it still owes lies above it. -/
theorem mayWait_of (c : Dev nD) (sm : SemLoc sig) (b : ℕ) (hb : lv ((c : Thread nD τ), sm) () ≤ b) (l : List Ev) (h : above b l = true) :
    (levAts L lv : sProp 𝕄) ⊢ MayWait (c : Thread nD τ) sm () (dues c l) :=
  MayOwe.of_cut (L := L) (lev := lv) b (fun p hp => by rw [Finset.mem_singleton.mp hp, L_tc]; exact Finset.mem_singleton_self _)
    (fun g u hg => by obtain ⟨e, -, ck, -, rfl⟩ := dues_pos hg; rw [L_tc]; exact Finset.mem_singleton_self _)
    (fun p hp => by rw [Finset.mem_singleton.mp hp]; exact hb)
    (fun g u hg => by
      obtain ⟨e, he, ck, hk, rfl⟩ := dues_pos hg
      have h1 := List.all_eq_true.mp h e he
      rw [dueK_lv c e ck hk] at h1
      show b < lv _ ()
      rw [lv_cell]; exact of_decide_eq_true h1)

/-! ## What a device holds between two steps -/

/-- What a step still needs. -/
def todo (c : Dev nD) : Ev → sProp 𝕄
  | .sg pl o => dutyTok ER (kcell (peer pl c o) .bar) 0 (pl, o.rev)
  | .wb => atPos ER (kcell c .bar) 0 ∅ 0
  | .snd j o => iprop(dutyTok ER (kcell c (.S j o)) 0 (false, 0) ∗ dutyTok ER (kcell (peer (dir j) c o) (.R j (ix (dir j) c))) 0 (false, 0))
  | .wR j o => atPos ER (kcell c (.R j (ix (dir j) c + o.succ))) 0 ∅ 0
  | .wS j o => atPos ER (kcell c (.S j o)) 0 ∅ 0
  | .sg2 o => dutyTok ER (kcell (peer false c o) .bar2) 0 (false, o.rev)
  | .wb2 => atPos ER (kcell c .bar2) 0 ∅ 0
/-- What a step leaves: the cells waited on, spent. -/
def done (c : Dev nD) : Ev → sProp 𝕄
  | .wb => semVal (kcell c .bar) 0
  | .wR j o => semVal (kcell c (.R j (ix (dir j) c + o.succ))) 0
  | .wS j o => semVal (kcell c (.S j o)) 0
  | .wb2 => semVal (kcell c .bar2) 0
  | _ => iprop(emp)
/-- The slot at a peer that a step's copy writes. -/
def room (c : Dev nD) : Ev → sProp 𝕄
  | .snd j o => land (F := F) c j o
  | _ => iprop(emp)
/-- From the first barrier on, the slots that the copies left to send write. -/
def rooms (c : Dev nD) (n : ℕ) : sProp 𝕄 := match n with
  | 0 | 1 | 2 | 3 | 4 | 5 | 6 => iprop(emp)
  | n + 7 => bigSepL (script.drop (n + 7)) (room (F := F) c)
/-- The arrival cells of the device's own slots. -/
def spare (c : Dev nD) : sProp 𝕄 := bigSep Finset.univ fun j : Jb => atPos ER (kcell c (.R j (ix (dir j) c))) 0 ∅ 0

/-- The invariants of all cells, that all are at round 0, and the levels. -/
def ctx (K : Dev nD × Cl → ℕ) : sProp 𝕄 :=
  iprop((bigSep Finset.univ fun ck : Dev nD × Cl => cellInv ER (sched In) (K ck) (kcell ck.1 ck.2))
    ∗ (bigSep Finset.univ fun ck : Dev nD × Cl => reached ER (kcell ck.1 ck.2) 0) ∗ levAts L lv)
instance ctx_persistent (K : Dev nD × Cl → ℕ) : BI.Persistent (ctx In K) := by unfold ctx; infer_instance

/-- Device `c` with the first `n` steps of the script behind it. -/
def Comm (c : Dev nD) (n : ℕ) : sProp 𝕄 :=
  iprop(∃ K, ctx In K ∗ (∃ W, owes (c : Thread nD τ) (dues c (script.drop n)) W) ∗ cred (wants c (script.drop n))
    ∗ bigSepL (script.drop n) (todo c) ∗ bigSepL (script.take n).reverse (done c) ∗ spare c ∗ rooms (F := F) c n)
/-- A copy on its way: what waiting for its end takes. -/
def tick (c : Dev nD) (j : Jb) (o : Fin 3) : sProp 𝕄 := cred (tallyAt (kcell c (.S j o)) () (NJ j))

theorem inv_at (K : Dev nD × Cl → ℕ) (c : Dev nD) (k : Cl) : ctx In K ⊢ (cellInv ER (sched In) (K (c, k)) (kcell c k) : sProp 𝕄) := by
  have h : (bigSep Finset.univ fun ck : Dev nD × Cl => (cellInv ER (sched In) (K ck) (kcell ck.1 ck.2) : sProp 𝕄)) ⊢ cellInv ER (sched In) (K (c, k)) (kcell c k) :=
    bigSep_elim (Finset.mem_univ (c, k))
  unfold ctx; iintro ⟨H, -, -⟩; iapply h $$ H
theorem reached_at (K : Dev nD × Cl → ℕ) (c : Dev nD) (k : Cl) : ctx In K ⊢ (reached ER (kcell c k) 0 : sProp 𝕄) := by
  have h : (bigSep Finset.univ fun ck : Dev nD × Cl => (reached ER (kcell ck.1 ck.2) 0 : sProp 𝕄)) ⊢ reached ER (kcell c k) 0 :=
    bigSep_elim (Finset.mem_univ (c, k))
  unfold ctx; iintro ⟨-, H, -⟩; iapply h $$ H
theorem lev_at (K : Dev nD × Cl → ℕ) : ctx In K ⊢ (levAts L lv : sProp 𝕄) := by
  unfold ctx; iintro ⟨-, -, H⟩; iexact H

end Cert.Mlp

end
-- ==== Proof.Steps.lean ====
/-
The steps of the script: what each signal, wait and send does to what a device holds.
-/
module

public import proofs.«01_k».proof.Proof.Sched
public import Idealize.ShloMosaic.Lib.Pipeline.BigSepL
public import Idealize.SL.ProofMode.BigOp

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (In : Inputs F) (c : Dev nD)

/-- Step `n` of the script is `e`. -/
def At (n : ℕ) (e : Ev) : Prop := script.drop n = e :: script.drop (n + 1)

theorem At.take {n : ℕ} {e : Ev} (h : At n e) : (script.take (n + 1)).reverse = e :: (script.take n).reverse := by
  have h1 : script.take (n + 1) = script.take n ++ [e] := by
    rw [List.take_succ, ← List.head?_drop, h]; rfl
  rw [h1, List.reverse_append]; rfl

/-- What the steps after step `n` need and the steps before it left. -/
def Rest (n : ℕ) : sProp 𝕄 :=
  iprop(cred (wants c (script.drop (n + 1))) ∗ bigSepL (script.drop (n + 1)) (todo c) ∗ bigSepL (script.take n).reverse (done c) ∗ spare c)

theorem Comm_open {n : ℕ} {e : Ev} (h : At n e) :
    (Comm In c n : sProp 𝕄) ⊢ iprop(∃ K W, ctx In K ∗ owes (c : Thread nD τ) (dues c (script.drop (n + 1)) + due c e) W
      ∗ cred (want c e) ∗ todo c e ∗ Rest (F := F) c n ∗ rooms (F := F) c n) := by
  unfold Comm Rest
  rw [h, dues_cons, wants_cons, bigSepL_cons']
  iintro ⟨%K, #HC, ⟨%W, HO⟩, Hw, ⟨Ht, Hts⟩, Hd, Hs, Hr⟩
  ihave Hw := (cred_add (want c e) (wants c (script.drop (n + 1)))).1 $$ Hw
  icases Hw with ⟨Hw, Hws⟩
  iexists K, W
  isplitr; · iexact HC
  isplitl [HO]; · iexact HO
  isplitl [Hw]; · iexact Hw
  isplitl [Ht]; · iexact Ht
  isplitr [Hr]; rotate_left; · iexact Hr
  isplitl [Hws]; · iexact Hws
  isplitl [Hts]; · iexact Hts
  isplitl [Hd] <;> iassumption

theorem Comm_close {n : ℕ} {e : Ev} (h : At n e) (K : Dev nD × Cl → ℕ) (W : Waits sig Unit) :
    iprop(ctx In K ∗ owes (c : Thread nD τ) (dues c (script.drop (n + 1))) W ∗ done c e ∗ Rest (F := F) c n ∗ rooms (F := F) c (n + 1))
      ⊢ (Comm In c (n + 1) : sProp 𝕄) := by
  unfold Comm Rest
  rw [h.take, bigSepL_cons']
  iintro ⟨#HC, HO, He, ⟨Hws, Hts, Hd, Hs⟩, Hr⟩
  iexists K
  isplitr; · iexact HC
  isplitl [HO]; · iexists W; iexact HO
  isplitl [Hws]; · iexact Hws
  isplitl [Hts]; · iexact Hts
  isplitl [He Hd]; · isplitl [He] <;> iassumption
  isplitl [Hs] <;> iassumption

/-- A step other than a send needs no room. -/
theorem rooms_skip {n : ℕ} {e : Ev} (h : At (n + 7) e) (he : room (F := F) c e = iprop(emp)) :
    (rooms (F := F) c (n + 7) : sProp 𝕄) ⊢ rooms (F := F) c (n + 7 + 1) := by
  show bigSepL (script.drop (n + 7)) (room c) ⊢ bigSepL (script.drop (n + 7 + 1)) (room c)
  rw [h, bigSepL_cons', he]
  iintro ⟨-, H⟩; iexact H
theorem rooms_snd {n : ℕ} {j : Jb} {o : Fin 3} (h : At (n + 7) (.snd j o)) :
    (rooms (F := F) c (n + 7) : sProp 𝕄) ⊢ iprop(land (F := F) c j o ∗ rooms (F := F) c (n + 7 + 1)) := by
  show bigSepL (script.drop (n + 7)) (room c) ⊢ iprop(land c j o ∗ bigSepL (script.drop (n + 7 + 1)) (room c))
  rw [h, bigSepL_cons']; exact Entails.rfl

/-! ## Signals -/

/-- The slots a device hands to its peer on offset `o`. -/
def give (c : Dev nD) (pl : Bool) (o : Fin 3) : sProp 𝕄 := match pl with
  | true => iprop(anyS (F := F) c .ag (col c + o.succ) ∗ anyS (F := F) c .pr0 (col c + o.succ) ∗ anyS (F := F) c .pr1 (col c + o.succ) ∗ anyS (F := F) c .rs (col c + o.succ))
  | false => iprop(anyS (F := F) c .wi0 (row c + o.succ) ∗ anyS (F := F) c .wo0 (row c + o.succ) ∗ anyS (F := F) c .wi1 (row c + o.succ) ∗ anyS (F := F) c .wo1 (row c + o.succ)
      ∗ anyS (F := F) c .wi2 (row c + o.succ) ∗ anyS (F := F) c .wo2 (row c + o.succ))
omit [FloatOps F] in
theorem land_back (j : Jb) (o : Fin 3) : (land (F := F) (peer (dir j) c o) j o.rev : sProp 𝕄) = anyS c j (ix (dir j) c + o.succ) := by
  unfold land; rw [peer_peer, ix_peer']
omit [FloatOps F] in
theorem give_lands (pl : Bool) (o : Fin 3) : (give (F := F) c pl o : sProp 𝕄) = lands (peer pl c o) pl o.rev := by
  cases pl
  · show _ = iprop(land (peer (dir .wi0) c o) .wi0 o.rev ∗ land (peer (dir .wo0) c o) .wo0 o.rev ∗ land (peer (dir .wi1) c o) .wi1 o.rev
      ∗ land (peer (dir .wo1) c o) .wo1 o.rev ∗ land (peer (dir .wi2) c o) .wi2 o.rev ∗ land (peer (dir .wo2) c o) .wo2 o.rev)
    simp only [land_back]; rfl
  · show _ = iprop(land (peer (dir .ag) c o) .ag o.rev ∗ land (peer (dir .pr0) c o) .pr0 o.rev ∗ land (peer (dir .pr1) c o) .pr1 o.rev
      ∗ land (peer (dir .rs) c o) .rs o.rev)
    simp only [land_back]; rfl

variable {α : Type} {Q : α → sProp (MT nD τ sig Unit (Elt F) ℕ UU ℕ)} {k : PUnit → Prog (TpuEff nD τ sig (Elt F) Λ₀ .tc) α}

/-- A signal of the first barrier hands a peer its slots. -/
theorem wp_sg {n : ℕ} {pl : Bool} {o : Fin 3} (h : At n (.sg pl o)) (hn : n < 6) {d : Dev nD} (hd : d = peer pl c o) {w : ℕ} (hw : w = 1) :
    iprop(Comm In c n ∗ give (F := F) c pl o)
      ⊢ iprop((Comm In c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) barS w) k) Q) := by
  subst hd hw
  iintro ⟨HC, Hg⟩ Hk
  ihave HC := (Comm_open In c h) $$ HC
  icases HC with ⟨%K, %W, #HC, HO, -, Ht, HR, Hr⟩
  ihave Ht := (Entails.of_eq (show (todo c (.sg pl o) : sProp 𝕄) = dutyTok ER ((peer pl c o : Thread nD τ), SemLoc.reg barS) 0 (pl, o.rev) from rfl)) $$ Ht
  ihave Hi := (inv_at In K (peer pl c o) .bar) $$ HC
  ihave Hre := (reached_at In K (peer pl c o) .bar) $$ HC
  iapply (Rounds.wp_signal 𝒱₀ ER (sched In) (c : Thread nD τ) none (dst := (peer pl c o : Thread nD τ)) (κ := K (peer pl c o, .bar)) (sem := barS) (r := 0)
      (d := (pl, o.rev)) (by rw [show ((peer pl c o : Thread nD τ), SemLoc.reg barS) = kcell (peer pl c o) .bar from rfl, duties_cell]; exact Finset.mem_univ _)
      (amount_cell In (peer pl c o) .bar 0 _) () (dues c (script.drop (n + 1))) rfl) $$ [HO Ht Hg Hi Hre]
  · isplitl [Hi]; · iexact Hi
    isplitl [HO]; · iexact HO
    isplitl [Ht]; · iexact Ht
    isplitl [Hg]
    · rw [show ((peer pl c o : Thread nD τ), SemLoc.reg barS) = kcell (peer pl c o) .bar from rfl, payload_cell]
      unfold payOf; iapply (Entails.of_eq (give_lands (F := F) c pl o)) $$ Hg
    iexact Hre
  iintro HO
  iapply Hk
  iapply (Comm_close In c h K W)
  isplitr; · iexact HC
  isplitl [HO]; · iexact HO
  isplitr; · unfold done; iempintro
  isplitl [HR]; · iexact HR
  have hr : (rooms (F := F) c (n + 1) : sProp 𝕄) = iprop(emp) := by
    match n, hn with
    | 0, _ => rfl
    | 1, _ => rfl
    | 2, _ => rfl
    | 3, _ => rfl
    | 4, _ => rfl
    | 5, _ => rfl
  rw [hr]; iempintro

/-- A signal of the last barrier hands over nothing. -/
theorem wp_sg2 {n : ℕ} {o : Fin 3} (h : At (n + 7) (.sg2 o)) (ho : (false, o.rev) ∈ ({(false, 0), (false, 1), (false, 2)} : Finset Duty)) {d : Dev nD} (hd : d = peer false c o) {w : ℕ} (hw : w = 1) :
    (Comm In c (n + 7) : sProp 𝕄)
      ⊢ iprop((Comm In c (n + 7 + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) bar2S w) k) Q) := by
  subst hd hw
  iintro HC Hk
  ihave HC := (Comm_open In c h) $$ HC
  icases HC with ⟨%K, %W, #HC, HO, -, Ht, HR, Hr⟩
  ihave Ht := (Entails.of_eq (show (todo c (.sg2 o) : sProp 𝕄) = dutyTok ER ((peer false c o : Thread nD τ), SemLoc.reg bar2S) 0 (false, o.rev) from rfl)) $$ Ht
  ihave Hi := (inv_at In K (peer false c o) .bar2) $$ HC
  ihave Hre := (reached_at In K (peer false c o) .bar2) $$ HC
  iapply (Rounds.wp_signal 𝒱₀ ER (sched In) (c : Thread nD τ) none (dst := (peer false c o : Thread nD τ)) (κ := K (peer false c o, .bar2)) (sem := bar2S) (r := 0)
      (d := (false, o.rev)) (by rw [show ((peer false c o : Thread nD τ), SemLoc.reg bar2S) = kcell (peer false c o) .bar2 from rfl, duties_cell]; exact ho)
      (amount_cell In (peer false c o) .bar2 0 _) () (dues c (script.drop (n + 7 + 1))) rfl) $$ [HO Ht Hi Hre]
  · isplitl [Hi]; · iexact Hi
    isplitl [HO]; · iexact HO
    isplitl [Ht]; · iexact Ht
    isplitr
    · rw [show ((peer false c o : Thread nD τ), SemLoc.reg bar2S) = kcell (peer false c o) .bar2 from rfl, payload_cell]
      unfold payOf; iempintro
    iexact Hre
  iintro HO
  iapply Hk
  iapply (Comm_close In c h K W)
  isplitr; · iexact HC
  isplitl [HO]; · iexact HO
  isplitr; · unfold done; iempintro
  isplitl [HR]; · iexact HR
  iapply (rooms_skip c h rfl) $$ Hr

/-! ## Waits -/

/-- A wait for all of one cell's round: the cell is closed, its payloads come back. -/
theorem wp_await {n : ℕ} {e : Ev} (h : At n e) {w : TpuEff nD τ sig (Elt F) Λ₀ .tc PUnit} {kl : Cl} {m : ℕ}
    (hw : ∀ K' : PUnit → sProp 𝕄, wpE (defs₀ (F := F)) 𝒱₀ (c : Thread nD τ) none Set.univ w K' = waitSpec (c : Thread nD τ) Set.univ (semOf kl) m K')
    (hdue : due c e = 0) (htodo : (todo c e : sProp 𝕄) = atPos ER (kcell c kl) 0 ∅ 0) (hdone : (done c e : sProp 𝕄) = semVal (kcell c kl) 0)
    (hm : m = (dutiesOf c kl).card * unitsOf kl) (hb : above (lvOf kl) (script.drop (n + 1)) = true) (Cr : sProp 𝕄) (hcr : iprop(Cr ∗ cred (want c e)) ⊢ cred (tallyAt (kcell c kl) () m)) :
    iprop(Comm In c n ∗ Cr)
      ⊢ iprop(((∃ K W, ctx In K ∗ owes (c : Thread nD τ) (dues c (script.drop (n + 1))) W ∗ done c e ∗ Rest (F := F) c n ∗ rooms (F := F) c n
            ∗ bigSep (dutiesOf c kl) (payOf In c kl))
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  iintro ⟨HC, Hcr⟩ Hk
  ihave HC := (Comm_open In c h) $$ HC
  icases HC with ⟨%K, %W, #HC, HO, Hw, Ht, HR, Hr⟩
  rw [hdue, add_zero]
  ihave Ht := (Entails.of_eq htodo) $$ Ht
  ihave Hcr := hcr $$ [Hcr Hw]
  · isplitl [Hcr] <;> iassumption
  ihave #Hi := (inv_at In K c kl) $$ HC
  ihave Hl := (lev_at In K) $$ HC
  iapply (Rounds.wp_wait_rest_token 𝒱₀ ER (sched In) (c : Thread nD τ) none (κ := K (c, kl)) (sm := semOf kl) hw (Set.mem_univ _) ()
      (O := dues c (script.drop (n + 1))) (W := W) (R := 0) (m := 0) (T := ∅)
      (by rw [Nat.zero_add, hm]; exact (expect_cell In c kl).symm)) $$ [Hcr HO Ht Hl]
  · isplitr; · iexact Hi
    isplitl [Hcr]; · iexact Hcr
    isplitl [HO]; · iexact HO
    isplitl [Hl]; · iapply (mayWait_of (F := F) c (semOf kl) (lvOf kl) (le_of_eq (lv_cell c kl)) _ hb); iexact Hl
    iexact Ht
  iintro ⟨HO, Hat, -, Hpay⟩
  imod (Rounds.cell_close ER (sched In) (Set.mem_univ (K (c, kl))) (fun h => h) (R := 0 + 1) (duties_later In (kcell c kl))) $$ [Hat] with Hz
  · isplitr; · iexact Hi
    iexact Hat
  have hp : bigSep ((sched In).duties ((c : Thread nD τ), semOf kl) 0 \ ∅) (fun d => (sched In).payload ((c : Thread nD τ), semOf kl) 0 d) = bigSep (dutiesOf c kl) (payOf In c kl) := by
    rw [Finset.sdiff_empty, show ((c : Thread nD τ), semOf kl) = kcell c kl from rfl, duties_cell]
    exact congrArg (bigSep (dutiesOf c kl)) (funext fun d => payload_cell In c kl 0 d)
  ihave Hpay := (Entails.of_eq hp) $$ Hpay
  iapply Hk
  iexists K, (insert (semOf kl, ()) W)
  isplitr; · iexact HC
  isplitl [HO]; · iexact HO
  isplitl [Hz]; · rw [hdone]; iexact Hz
  isplitl [HR]; · iexact HR
  isplitl [Hr] <;> iassumption

/-- The arrival on offset `o`: the slot, filled. -/
theorem wp_wR {n : ℕ} {j : Jb} {o : Fin 3} (h : At (n + 7) (.wR j o)) (hb : above (lvOf (.R j 0)) (script.drop (n + 7 + 1)) = true)
    {sem : DmaSem sig} (hsem : sem = sem4 (rbase j) (ix (dir j) c + o.succ)) {sp sp' : Space} {s s' : Shape} {e e' : EltTy}
    {src : Memref sig .tc sp' s' e'} {dst : Memref sig .tc sp s e} {hsrc : src.view.WordExact} {hdst : dst.view.WordExact} (hN : dst.view.dmaCredit = NJ j) :
    (Comm In c (n + 7) : sProp 𝕄)
      ⊢ iprop((Comm In c (n + 7 + 1) ∗ gotP In c j (ix (dir j) c + o.succ) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hsem
  iintro HC Hk
  iapply (wp_await In c h (kl := .R j (ix (dir j) c + o.succ)) (wpE_waitDma2_eq 𝒱₀ (c : Thread nD τ) none Set.univ) rfl rfl rfl
    (by rw [duties_R, Finset.card_singleton, one_mul]; exact hN) hb iprop(emp) (by rw [hN]; iintro ⟨-, H⟩; iexact H)) $$ [HC]
  · isplitl [HC]; · iexact HC
    iempintro
  iintro ⟨%K, %W, #HC, HO, Hd, HR, Hr, Hp⟩
  iapply Hk
  isplitr [Hp]
  · iapply (Comm_close In c h K W)
    isplitr; · iexact HC
    isplitl [HO]; · iexact HO
    isplitl [Hd]; · iexact Hd
    isplitl [HR]; · iexact HR
    iapply (rooms_skip c h rfl) $$ Hr
  have hp : bigSep (dutiesOf c (.R j (ix (dir j) c + o.succ))) (payOf In c (.R j (ix (dir j) c + o.succ))) = (gotP In c j (ix (dir j) c + o.succ) : sProp 𝕄) := by
    rw [duties_R, bigSep_singleton]; rfl
  iapply (Entails.of_eq hp) $$ Hp

/-- The end of a sending: its source comes back. -/
theorem wp_wS {n : ℕ} {j : Jb} {o : Fin 3} (h : At (n + 7) (.wS j o)) (hb : above 0 (script.drop (n + 7 + 1)) = true)
    {sem : DmaSem sig} (hsem : sem = sem4 (sbase j) o.succ) {sp sp' : Space} {s s' : Shape} {e e' : EltTy}
    {src : Memref sig .tc sp' s' e'} {dst : Memref sig .tc sp s e} {hsrc : src.view.WordExact} {hdst : dst.view.WordExact} (hN : dst.view.dmaCredit = NJ j) :
    iprop(Comm In c (n + 7) ∗ tick (F := F) c j o)
      ⊢ iprop((Comm In c (n + 7 + 1) ∗ srcP In c j o -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hsem
  iintro ⟨HC, Ht⟩ Hk
  iapply (wp_await In c h (kl := .S j o) (wpE_waitDma2_eq 𝒱₀ (c : Thread nD τ) none Set.univ) rfl rfl rfl
    (by rw [show dutiesOf c (.S j o) = {(false, 0)} from rfl, Finset.card_singleton, one_mul]; exact hN) hb (tick c j o) (by rw [hN]; unfold tick; iintro ⟨H, -⟩; iexact H)) $$ [HC Ht]
  · isplitl [HC] <;> iassumption
  iintro ⟨%K, %W, #HC, HO, Hd, HR, Hr, Hp⟩
  iapply Hk
  isplitr [Hp]
  · iapply (Comm_close In c h K W)
    isplitr; · iexact HC
    isplitl [HO]; · iexact HO
    isplitl [Hd]; · iexact Hd
    isplitl [HR]; · iexact HR
    iapply (rooms_skip c h rfl) $$ Hr
  have hp : bigSep (dutiesOf c (.S j o)) (payOf In c (.S j o)) = (srcP In c j o : sProp 𝕄) := by
    rw [show dutiesOf c (.S j o) = {(false, 0)} from rfl, bigSep_singleton]; rfl
  iapply (Entails.of_eq hp) $$ Hp

omit [FloatOps F] in
theorem lands_rooms : (bigSep Finset.univ fun d : Duty => (lands (F := F) c d.1 d.2 : sProp 𝕄)) ⊢ rooms c 7 := by
  have e1 : ∀ Φ : sProp 𝕄, iprop(emp ∗ Φ) = Φ := fun Φ => BI.equiv_iff.mp emp_sep
  have e2 : ∀ Φ : sProp 𝕄, iprop(Φ ∗ emp) = Φ := fun Φ => BI.equiv_iff.mp sep_emp
  have e0 : ∀ Φ : Duty → sProp 𝕄, bigSepL [] Φ = iprop(emp) := fun _ => rfl
  have e0' : ∀ Φ : Ev → sProp 𝕄, bigSepL [] Φ = iprop(emp) := fun _ => rfl
  rw [bigSep_univ_eq_bigSepL [(true, 0), (true, 1), (true, 2), (false, 0), (false, 1), (false, 2)] (by decide) (by decide)]
  show _ ⊢ bigSepL (script.drop 7) (room c)
  simp only [script, List.drop_succ_cons, List.drop_zero, bigSepL_cons', room, e1, e2, lands, e0, e0']
  iintro ⟨⟨Hag_0, Hpr0_0, Hpr1_0, Hrs_0⟩, ⟨Hag_1, Hpr0_1, Hpr1_1, Hrs_1⟩, ⟨Hag_2, Hpr0_2, Hpr1_2, Hrs_2⟩, ⟨Hwi0_0, Hwo0_0, Hwi1_0, Hwo1_0, Hwi2_0, Hwo2_0⟩, ⟨Hwi0_1, Hwo0_1, Hwi1_1, Hwo1_1, Hwi2_1, Hwo2_1⟩, ⟨Hwi0_2, Hwo0_2, Hwi1_2, Hwo1_2, Hwi2_2, Hwo2_2⟩⟩
  isplitl [Hag_0]; · iexact Hag_0
  isplitl [Hag_1]; · iexact Hag_1
  isplitl [Hag_2]; · iexact Hag_2
  isplitl [Hwi0_0]; · iexact Hwi0_0
  isplitl [Hwi0_1]; · iexact Hwi0_1
  isplitl [Hwi0_2]; · iexact Hwi0_2
  isplitl [Hwo0_0]; · iexact Hwo0_0
  isplitl [Hwo0_1]; · iexact Hwo0_1
  isplitl [Hwo0_2]; · iexact Hwo0_2
  isplitl [Hwi1_0]; · iexact Hwi1_0
  isplitl [Hwi1_1]; · iexact Hwi1_1
  isplitl [Hwi1_2]; · iexact Hwi1_2
  isplitl [Hwo1_0]; · iexact Hwo1_0
  isplitl [Hwo1_1]; · iexact Hwo1_1
  isplitl [Hwo1_2]; · iexact Hwo1_2
  isplitl [Hwi2_0]; · iexact Hwi2_0
  isplitl [Hwi2_1]; · iexact Hwi2_1
  isplitl [Hwi2_2]; · iexact Hwi2_2
  isplitl [Hwo2_0]; · iexact Hwo2_0
  isplitl [Hwo2_1]; · iexact Hwo2_1
  isplitl [Hwo2_2]; · iexact Hwo2_2
  isplitl [Hpr0_0]; · iexact Hpr0_0
  isplitl [Hpr0_1]; · iexact Hpr0_1
  isplitl [Hpr0_2]; · iexact Hpr0_2
  isplitl [Hpr1_0]; · iexact Hpr1_0
  isplitl [Hpr1_1]; · iexact Hpr1_1
  isplitl [Hpr1_2]; · iexact Hpr1_2
  isplitl [Hrs_0]; · iexact Hrs_0
  isplitl [Hrs_1]; · iexact Hrs_1
  iexact Hrs_2

/-- The first barrier: all the slots the device will write. -/
theorem wp_wb (h : At 6 .wb) (hb : above 1 (script.drop 7) = true) {w : ℕ} (hw : w = 6) :
    (Comm In c 6 : sProp 𝕄)
      ⊢ iprop((Comm In c 7 -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS w) k) Q) := by
  subst hw
  iintro HC Hk
  iapply (wp_await In c h (kl := .bar) (wpE_semWait_eq 𝒱₀ (c : Thread nD τ) none Set.univ) rfl rfl rfl
    (by rw [show dutiesOf c .bar = Finset.univ from rfl]; decide) hb iprop(emp) (by iintro ⟨-, H⟩; iexact H)) $$ [HC]
  · isplitl [HC]; · iexact HC
    iempintro
  iintro ⟨%K, %W, #HC, HO, Hd, HR, -, Hp⟩
  iapply Hk
  iapply (Comm_close In c h K W)
  isplitr; · iexact HC
  isplitl [HO]; · iexact HO
  isplitl [Hd]; · iexact Hd
  isplitl [HR]; · iexact HR
  iapply (lands_rooms (F := F) c)
  iexact Hp

/-- The last barrier. -/
theorem wp_wb2 {n : ℕ} (h : At (n + 7) .wb2) (hb : above 6 (script.drop (n + 7 + 1)) = true) {w : ℕ} (hw : w = 3) :
    (Comm In c (n + 7) : sProp 𝕄)
      ⊢ iprop((Comm In c (n + 7 + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semWait bar2S w) k) Q) := by
  subst hw
  iintro HC Hk
  iapply (wp_await In c h (kl := .bar2) (wpE_semWait_eq 𝒱₀ (c : Thread nD τ) none Set.univ) rfl rfl rfl
    (by rw [show dutiesOf c .bar2 = {(false, 0), (false, 1), (false, 2)} from rfl]; decide) hb iprop(emp) (by iintro ⟨-, H⟩; iexact H)) $$ [HC]
  · isplitl [HC]; · iexact HC
    iempintro
  iintro ⟨%K, %W, #HC, HO, Hd, HR, Hr, -⟩
  iapply Hk
  iapply (Comm_close In c h K W)
  isplitr; · iexact HC
  isplitl [HO]; · iexact HO
  isplitl [Hd]; · iexact Hd
  isplitl [HR]; · iexact HR
  iapply (rooms_skip c h rfl) $$ Hr

/-! ## Sends -/

/-- A send on offset `o`: the source is lent, and the peer's slot will hold what the source holds. -/
theorem wp_snd {n : ℕ} {j : Jb} {o : Fin 3} (h : At (n + 7) (.snd j o)) {q : PosShare TreeShare} {X : (shp j).Idx → Elt F .bf16}
    {sm dm : Memref sig .tc .vmem (shp j) .bf16} (hsm : (owns (c : Thread nD τ) sm q X : sProp 𝕄) ⊢ srcP In c j o)
    (hdm : dm = slotM j (ix (dir j) c)) (hX : gotC In (peer (dir j) c o) j (ix (dir j) c) = X)
    {d : Dev nD} (hd : d = peer (dir j) c o) {s₁ s₂ : DmaSem sig} (hs₁ : s₁ = sem4 (sbase j) o.succ) (hs₂ : s₂ = sem4 (rbase j) (ix (dir j) c))
    {hsc : dm.view.ref.isScScratch = false} {hsrc : sm.view.WordExact} {hdst : dm.view.WordExact}
    {hsem : DmaTarget.Typed .vmem (.dma s₂) (.remote (Dev.tc d : Thread nD τ) dm (.dma s₁) hsc)} :
    iprop(Comm In c (n + 7) ∗ owns (c : Thread nD τ) sm q X)
      ⊢ iprop((Comm In c (n + 7 + 1) ∗ tick (F := F) c j o -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma sm (.remote (Dev.tc d : Thread nD τ) dm (.dma s₁) hsc) (.dma s₂) hsrc hdst hsem) k) Q) := by
  subst hdm hd hs₁ hs₂ hX
  iintro ⟨HC, Hs⟩ Hk
  ihave HC := (Comm_open In c h) $$ HC
  icases HC with ⟨%K, %W, #HC, HO, -, Ht, HR, Hr⟩
  ihave Hr := (rooms_snd c h) $$ Hr
  icases Hr with ⟨Hl, Hr⟩
  unfold land anyS
  icases Hl with ⟨%Y, Hl⟩
  unfold owns
  icases Hl with ⟨%fd, -, Hl⟩
  icases Hs with ⟨%fs, %hfs, Hs⟩
  ihave Ht := (Entails.of_eq (show (todo c (.snd j o) : sProp 𝕄) = iprop(dutyTok ER ((c : Thread nD τ), SemLoc.dma (sem4 (sbase j) o.succ)) 0 (false, 0)
    ∗ dutyTok ER ((peer (dir j) c o : Thread nD τ), SemLoc.dma (sem4 (rbase j) (ix (dir j) c))) 0 (false, 0)) from rfl)) $$ Ht
  icases Ht with ⟨Ht₁, Ht₂⟩
  ihave Hi₁ := (inv_at In K c (.S j o)) $$ HC
  ihave Hi₂ := (inv_at In K (peer (dir j) c o) (.R j (ix (dir j) c))) $$ HC
  ihave Hr₁ := (reached_at In K c (.S j o)) $$ HC
  ihave Hr₂ := (reached_at In K (peer (dir j) c o) (.R j (ix (dir j) c))) $$ HC
  have hne : ix (dir j) c ≠ ix (dir j) (peer (dir j) c o) := by rw [ix_peer']; exact (ix_succ_ne _ _).symm
  iapply (Rounds.wp_send_pointsTo 𝒱₀ ER (sched In) (c : Thread nD τ) none (κ₁ := K (c, .S j o)) (κ₂ := K (peer (dir j) c o, .R j (ix (dir j) c)))
    (sS := SemLoc.dma (sem4 (sbase j) o.succ)) (sem := SemLoc.dma (sem4 (rbase j) (ix (dir j) c))) (r₁ := 0) (r₂ := 0) (d₁ := (false, 0)) (d₂ := (false, 0)) (q := q) (fs := fs) (fd := fd)
    (by show _ ∈ (sched In).duties (kcell c (.S j o)) 0; rw [duties_cell]; exact Finset.mem_singleton_self _)
    (by show _ ∈ (sched In).duties (kcell (peer (dir j) c o) (.R j (ix (dir j) c))) 0; rw [duties_cell]
        rw [show dutiesOf (peer (dir j) c o) (.R j (ix (dir j) c)) = {(false, 0)} from if_neg hne]; exact Finset.mem_singleton_self _)
    () () (NJ j) (by cases j <;> rfl) (amount_cell In c (.S j o) 0 _) (amount_cell In (peer (dir j) c o) (.R j (ix (dir j) c)) 0 _)
    (dues c (script.drop (n + 7 + 1))) rfl (W := W)
    (by show _ ⊢ (sched In).payload (kcell c (.S j o)) 0 _; rw [payload_cell]
        refine BIBase.Entails.trans ?_ hsm
        unfold owns
        iintro H
        iexists fs; isplitr; · ipureintro; exact hfs
        iexact H)
    (by show _ ⊢ (sched In).payload (kcell (peer (dir j) c o) (.R j (ix (dir j) c))) 0 _; rw [payload_cell]
        show _ ⊢ gotP In (peer (dir j) c o) j (ix (dir j) c)
        unfold gotP owns
        iintro H
        iexists _; isplitr [H]; rotate_left; · iexact H
        ipureintro; rw [View.read_write_univ]; exact hfs)) $$ [Hs Hl HO Ht₁ Ht₂ Hi₁ Hi₂ Hr₁ Hr₂]
  · isplitl [Hi₁]; · iexact Hi₁
    isplitl [Hi₂]; · iexact Hi₂
    isplitl [Hs]; · iexact Hs
    isplitl [Hl]; · iexact Hl
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitr [Hc]; rotate_left; · unfold tick; iexact Hc
  iapply (Comm_close In c h K W)
  isplitr; · iexact HC
  isplitl [HO]; · iexact HO
  isplitr; · unfold done; iempintro
  isplitl [HR] <;> iassumption

/-! ## The end -/

theorem over_cells (Φ : Cl → sProp 𝕄) : bigSep Finset.univ Φ
    = iprop((Φ .bar ∗ Φ .bar2) ∗ (bigSep Finset.univ fun p : Jb × Fin 3 => Φ (.S p.1 p.2)) ∗ bigSep Finset.univ fun p : Jb × Fin 4 => Φ (.R p.1 p.2)) := by
  rw [bigSep_univ_equiv clE, bigSep_univ_sum, bigSep_univ_sum, bigSep_univ_eq_bigSepL [true, false] (by decide) (by decide)]; rfl

theorem over_steps (Φ : Ev → sProp 𝕄) : bigSep Finset.univ Φ
    = iprop(((bigSep Finset.univ fun p : Bool × Fin 3 => Φ (.sg p.1 p.2)) ∗ bigSep Finset.univ fun o : Fin 3 => Φ (.sg2 o))
      ∗ (bigSep Finset.univ fun p : Jb × Fin 3 => Φ (.snd p.1 p.2)) ∗ (Φ .wb ∗ Φ .wb2)
      ∗ (bigSep Finset.univ fun p : Jb × Fin 3 => Φ (.wR p.1 p.2)) ∗ bigSep Finset.univ fun p : Jb × Fin 3 => Φ (.wS p.1 p.2)) := by
  rw [bigSep_univ_equiv evE, bigSep_univ_sum, bigSep_univ_sum, bigSep_univ_sum, bigSep_univ_sum, bigSep_univ_sum, bigSep_univ_eq_bigSepL [true, false] (by decide) (by decide)]; rfl

/-- The arrival cells: the own slot's and the three others. -/
theorem over_slots (Φ : Jb → Fin 4 → sProp 𝕄) : (bigSep Finset.univ fun p : Jb × Fin 4 => Φ p.1 p.2)
    = iprop((bigSep Finset.univ fun j : Jb => Φ j (ix (dir j) c)) ∗ bigSep Finset.univ fun p : Jb × Fin 3 => Φ p.1 (ix (dir p.1) c + p.2.succ)) := by
  rw [bigSep_univ_prod, bigSep_univ_prod, ← bigSep_sep']
  exact congrArg (bigSep Finset.univ) (funext fun j => by
    rw [four_from (ix (dir j) c), bigSep_univ_eq_bigSepL [(0 : Fin 3), 1, 2] (by decide) (by decide)]; rfl)

theorem over_script (Φ : Ev → sProp 𝕄) : bigSepL script Φ = bigSep Finset.univ Φ :=
  (bigSep_univ_eq_bigSepL script script_all.symm script_nodup Φ).symm

theorem close_spare (K : Dev nD × Cl → ℕ) : iprop(ctx In K ∗ spare (F := F) c)
    ⊢ (iprop(|={Set.univ}=> bigSep Finset.univ fun j : Jb => semVal (kcell c (.R j (ix (dir j) c))) 0) : sProp 𝕄) := by
  unfold spare
  refine BIBase.Entails.trans (bigSep_with_persistent (R := ctx In K) (Ψ := fun j : Jb => iprop(|={Set.univ}=> semVal (kcell c (.R j (ix (dir j) c))) 0)) fun j _ => ?_) (bigSep_fupd _ _)
  iintro ⟨#HC, Hat⟩
  ihave #Hi := (inv_at In K c (.R j (ix (dir j) c))) $$ HC
  iapply (Rounds.cell_close ER (sched In) (Set.mem_univ (K (c, .R j (ix (dir j) c)))) (fun h => h) (R := 0)
    (fun r _ => by
      rcases Nat.eq_zero_or_pos r with rfl | hr
      · rw [duties_cell, duties_own]
      · exact duties_later In _ r hr))
  isplitr; · iexact Hi
  iexact Hat

/-- With the script behind it a device owes nothing, and every cell it waited on is spent. -/
theorem Comm_end : (Comm In c 101 : sProp 𝕄)
    ⊢ iprop(|={Set.univ}=> ((∃ W, owes (c : Thread nD τ) 0 W) ∗ bigSep Finset.univ fun k : Cl => semVal (kcell c k) 0)) := by
  have e0 : ∀ Φ : sProp 𝕄, iprop(emp ∗ Φ) = Φ := fun Φ => BI.equiv_iff.mp emp_sep
  have hd : bigSepL (script.take 101).reverse (done (F := F) c) = bigSep Finset.univ (done c) :=
    (bigSep_univ_eq_bigSepL (script.take 101).reverse (by decide +kernel) (by decide +kernel) _).symm
  unfold Comm
  rw [hd, over_steps, show dues c (script.drop 101) = 0 from rfl]
  simp only [done]
  iintro ⟨%K, #HC, HO, -, -, ⟨-, -, ⟨Hb, Hb2⟩, HR, HS⟩, Hsp, -⟩
  imod (close_spare In c K) $$ [Hsp] with Hsp
  · isplitr; · iexact HC
    iexact Hsp
  imodintro
  isplitl [HO]; · iexact HO
  rw [over_cells, over_slots c (fun j x => (semVal (kcell c (.R j x)) 0 : sProp 𝕄))]
  isplitl [Hb Hb2]; · isplitl [Hb] <;> iassumption
  isplitl [HS]; · iexact HS
  isplitl [Hsp] <;> iassumption

end Cert.Mlp

end
-- ==== Proof.Jobs.lean ====
/-
The steps of the ten jobs, spelled for each job: a copy from a slot of one buffer to the same slot at a peer, the wait for
an arrival and the wait for the end of a sending; and the numbered places of the script.
-/
module

public import proofs.«01_k».proof.Proof.Steps

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-! ## The places of the script -/

theorem at0 : At 0 (.sg true 0) := rfl
theorem at1 : At 1 (.sg false 0) := rfl
theorem at2 : At 2 (.sg true 1) := rfl
theorem at3 : At 3 (.sg false 1) := rfl
theorem at4 : At 4 (.sg true 2) := rfl
theorem at5 : At 5 (.sg false 2) := rfl
theorem at6 : At 6 (.wb) := rfl
theorem at7 : At 7 (.snd .ag 0) := rfl
theorem at8 : At 8 (.snd .ag 1) := rfl
theorem at9 : At 9 (.snd .ag 2) := rfl
theorem at10 : At 10 (.snd .wi0 0) := rfl
theorem at11 : At 11 (.snd .wi0 1) := rfl
theorem at12 : At 12 (.snd .wi0 2) := rfl
theorem at13 : At 13 (.snd .wo0 0) := rfl
theorem at14 : At 14 (.snd .wo0 1) := rfl
theorem at15 : At 15 (.snd .wo0 2) := rfl
theorem at16 : At 16 (.snd .wi1 0) := rfl
theorem at17 : At 17 (.snd .wi1 1) := rfl
theorem at18 : At 18 (.snd .wi1 2) := rfl
theorem at19 : At 19 (.snd .wo1 0) := rfl
theorem at20 : At 20 (.snd .wo1 1) := rfl
theorem at21 : At 21 (.snd .wo1 2) := rfl
theorem at22 : At 22 (.snd .wi2 0) := rfl
theorem at23 : At 23 (.snd .wi2 1) := rfl
theorem at24 : At 24 (.snd .wi2 2) := rfl
theorem at25 : At 25 (.snd .wo2 0) := rfl
theorem at26 : At 26 (.snd .wo2 1) := rfl
theorem at27 : At 27 (.snd .wo2 2) := rfl
theorem at28 : At 28 (.wR .ag 0) := rfl
theorem at29 : At 29 (.wR .ag 1) := rfl
theorem at30 : At 30 (.wR .ag 2) := rfl
theorem at31 : At 31 (.wR .wi0 0) := rfl
theorem at32 : At 32 (.wR .wo0 0) := rfl
theorem at33 : At 33 (.wR .wi0 1) := rfl
theorem at34 : At 34 (.wR .wo0 1) := rfl
theorem at35 : At 35 (.wR .wi0 2) := rfl
theorem at36 : At 36 (.wR .wo0 2) := rfl
theorem at37 : At 37 (.snd .pr0 0) := rfl
theorem at38 : At 38 (.snd .pr0 1) := rfl
theorem at39 : At 39 (.snd .pr0 2) := rfl
theorem at40 : At 40 (.wR .pr0 0) := rfl
theorem at41 : At 41 (.wR .pr0 1) := rfl
theorem at42 : At 42 (.wR .pr0 2) := rfl
theorem at43 : At 43 (.wS .ag 0) := rfl
theorem at44 : At 44 (.wS .ag 1) := rfl
theorem at45 : At 45 (.wS .ag 2) := rfl
theorem at46 : At 46 (.wR .wi1 0) := rfl
theorem at47 : At 47 (.wR .wo1 0) := rfl
theorem at48 : At 48 (.wR .wi1 1) := rfl
theorem at49 : At 49 (.wR .wo1 1) := rfl
theorem at50 : At 50 (.wR .wi1 2) := rfl
theorem at51 : At 51 (.wR .wo1 2) := rfl
theorem at52 : At 52 (.wS .pr0 0) := rfl
theorem at53 : At 53 (.wS .pr0 1) := rfl
theorem at54 : At 54 (.wS .pr0 2) := rfl
theorem at55 : At 55 (.snd .pr1 0) := rfl
theorem at56 : At 56 (.snd .pr1 1) := rfl
theorem at57 : At 57 (.snd .pr1 2) := rfl
theorem at58 : At 58 (.wR .pr1 0) := rfl
theorem at59 : At 59 (.wR .pr1 1) := rfl
theorem at60 : At 60 (.wR .pr1 2) := rfl
theorem at61 : At 61 (.wR .wi2 0) := rfl
theorem at62 : At 62 (.wR .wo2 0) := rfl
theorem at63 : At 63 (.wR .wi2 1) := rfl
theorem at64 : At 64 (.wR .wo2 1) := rfl
theorem at65 : At 65 (.wR .wi2 2) := rfl
theorem at66 : At 66 (.wR .wo2 2) := rfl
theorem at67 : At 67 (.wS .pr1 0) := rfl
theorem at68 : At 68 (.wS .pr1 1) := rfl
theorem at69 : At 69 (.wS .pr1 2) := rfl
theorem at70 : At 70 (.snd .rs 0) := rfl
theorem at71 : At 71 (.snd .rs 1) := rfl
theorem at72 : At 72 (.snd .rs 2) := rfl
theorem at73 : At 73 (.wR .rs 0) := rfl
theorem at74 : At 74 (.wR .rs 1) := rfl
theorem at75 : At 75 (.wR .rs 2) := rfl
theorem at76 : At 76 (.wS .wi0 0) := rfl
theorem at77 : At 77 (.wS .wi0 1) := rfl
theorem at78 : At 78 (.wS .wi0 2) := rfl
theorem at79 : At 79 (.wS .wo0 0) := rfl
theorem at80 : At 80 (.wS .wo0 1) := rfl
theorem at81 : At 81 (.wS .wo0 2) := rfl
theorem at82 : At 82 (.wS .wi1 0) := rfl
theorem at83 : At 83 (.wS .wi1 1) := rfl
theorem at84 : At 84 (.wS .wi1 2) := rfl
theorem at85 : At 85 (.wS .wo1 0) := rfl
theorem at86 : At 86 (.wS .wo1 1) := rfl
theorem at87 : At 87 (.wS .wo1 2) := rfl
theorem at88 : At 88 (.wS .wi2 0) := rfl
theorem at89 : At 89 (.wS .wi2 1) := rfl
theorem at90 : At 90 (.wS .wi2 2) := rfl
theorem at91 : At 91 (.wS .wo2 0) := rfl
theorem at92 : At 92 (.wS .wo2 1) := rfl
theorem at93 : At 93 (.wS .wo2 2) := rfl
theorem at94 : At 94 (.wS .rs 0) := rfl
theorem at95 : At 95 (.wS .rs 1) := rfl
theorem at96 : At 96 (.wS .rs 2) := rfl
theorem at97 : At 97 (.sg2 0) := rfl
theorem at98 : At 98 (.sg2 1) := rfl
theorem at99 : At 99 (.sg2 2) := rfl
theorem at100 : At 100 (.wb2) := rfl

variable {α : Type} {Q : α → sProp (MT nD τ sig Unit (Elt F) ℕ UU ℕ)} {k : PUnit → Prog (TpuEff nD τ sig (Elt F) Λ₀ .tc) α}

/-- The whole of a memref taken as a slice of itself. -/
theorem owns_full {U : Type} [URA U] {sh : Shape} {e : EltTy} {m : Memref sig .tc .vmem sh e} {off : Fin sh.rank → ℕ} (h0 : off = fun _ => 0)
    {inb : ∀ a, off a + sh.size a ≤ sh.size a} {hs : ∀ a, (Rect.unit off sh.size inb).stride a = 1} {q : PosShare TreeShare} {X : sh.Idx → Elt F e} :
    (owns (c : Thread nD τ) (m.slice (Rect.unit off sh.size inb) hs) q X : sProp (MT nD τ sig Unit (Elt F) ℕ U ℕ))
      ⊣⊢ owns (c : Thread nD τ) m q X := by
  have hn := elt_nonempty (F := F)
  have hd : ∀ s t : Fin 1, s ≠ t → Disjoint ((fun _ : Fin 1 => Rect.unit off sh.size inb) s).set ((fun _ : Fin 1 => Rect.unit off sh.size inb) t).set :=
    fun s t h => absurd (Subsingleton.elim s t) h
  have hc : (Finset.univ : Finset (Fin 1)).biUnion (fun s => ((fun _ : Fin 1 => Rect.unit off sh.size inb) s).set) = Finset.univ := by
    refine Finset.eq_univ_of_forall fun i => Finset.mem_biUnion.mpr ⟨0, Finset.mem_univ _, ?_⟩
    rw [Rect.mem_set_unit]; intro a; subst h0
    exact ⟨Nat.zero_le _, (i a).isLt.trans_eq (Nat.zero_add _).symm⟩
  have h1 := owns_rects (Ix := Unit) (Name := ℕ) (U := U) (Lvl := ℕ) (c : Thread nD τ) m q (fun _ : Fin 1 => Rect.unit off sh.size inb) (fun _ => hs) hd hc X
  have h2 := owns_of_rects (Ix := Unit) (Name := ℕ) (U := U) (Lvl := ℕ) (c : Thread nD τ) m q (fun _ : Fin 1 => Rect.unit off sh.size inb) (fun _ => hs) hd hc X
  rw [bigSep_univ_of_subsingleton (0 : Fin 1)] at h1 h2
  have e : (fun j => X ((Rect.unit off sh.size inb).emb j)) = X := funext fun j => congrArg X (emb_zero h0 inb j)
  rw [e] at h1 h2
  exact ⟨h2, h1⟩

/-- A memref owned whole is its left half and the three shares that are lent. -/
theorem owns_lend {sh : Shape} {e : EltTy} {m : Memref sig .tc .vmem sh e} {X : sh.Idx → Elt F e} :
    (owns (c : Thread nD τ) m fullShare X : sProp 𝕄) ⊣⊢ iprop(owns (c : Thread nD τ) m fullShare.left X
      ∗ owns (c : Thread nD τ) m (lent 0) X ∗ owns (c : Thread nD τ) m (lent 1) X ∗ owns (c : Thread nD τ) m (lent 2) X) := by
  constructor
  · iintro H
    ihave H := (owns_share X).1 $$ H
    icases H with ⟨H0, H⟩
    ihave H := (owns_share X).1 $$ H
    icases H with ⟨H1, H⟩
    ihave H := (owns_share X).1 $$ H
    icases H with ⟨H2, H3⟩
    isplitl [H0]; · iexact H0
    isplitl [H1]; · iexact H1
    isplitl [H2]; · iexact H2
    iexact H3
  · iintro ⟨H0, H1, H2, H3⟩
    ihave H := (owns_share (q := fullShare.right.right) X).2 $$ [H2 H3]
    · isplitl [H2]
      · iexact H2
      · iexact H3
    ihave H := (owns_share (q := fullShare.right) X).2 $$ [H1 H]
    · isplitl [H1]
      · iexact H1
      · iexact H
    iapply (owns_share X).2
    isplitl [H0]
    · iexact H0
    · iexact H

/-! ## The job `ag` -/

/-- A copy: the lent source and the peer's slot go to the engine; the receipt is redeemed when the sending ends. -/
theorem snd_ag {n : ℕ} {o : Fin 3} (h : At (n + 7) (.snd .ag o)) {off : Fin S4x128x128.rank → ℕ} {off2 : Fin S4x128x128.rank → ℕ}
    {inb : ∀ a, off a + S1x128x128.size a ≤ S4x128x128.size a} {inb2 : ∀ a, off2 a + S1x128x128.size a ≤ S4x128x128.size a}
    (hr : Rect.unit (s := S4x128x128) off S1x128x128.size inb = rX (col c)) (hr2 : Rect.unit (s := S4x128x128) off2 S1x128x128.size inb2 = rX (col c))
    {hs : ∀ a, (Rect.unit (s := S4x128x128) off S1x128x128.size inb).stride a = 1} {hs2 : ∀ a, (Rect.unit (s := S4x128x128) off2 S1x128x128.size inb2).stride a = 1}
    {d : Dev nD} (hd : d = peer true c o) {s₁ s₂ : DmaSem sig} (hs₁ : s₁ = sem4 56 o.succ) (hs₂ : s₂ = sem4 68 (col c))
    {hsc : (bX.slice (Rect.unit (s := S4x128x128) off2 S1x128x128.size inb2) hs2).view.ref.isScScratch = false}
    {hsrc : (bX.slice (Rect.unit (s := S4x128x128) off S1x128x128.size inb) hs).view.WordExact} {hdst : (bX.slice (Rect.unit (s := S4x128x128) off2 S1x128x128.size inb2) hs2).view.WordExact}
    {hsem : DmaTarget.Typed .vmem (.dma s₂) (.remote (Dev.tc d : Thread nD τ) (bX.slice (Rect.unit (s := S4x128x128) off2 S1x128x128.size inb2) hs2) (.dma s₁) hsc)} :
    (Comm In c (n + 7) : sProp 𝕄)
      ⊢ iprop(owns (c : Thread nD τ) (bX.slice (rX (col c)) (fun _ => rfl)) (lent o) (xs In (row c) (col c))
        -∗ (Comm In c (n + 7 + 1) -∗ tick (F := F) c .ag o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bX.slice (Rect.unit (s := S4x128x128) off S1x128x128.size inb) hs) (.remote (Dev.tc d : Thread nD τ) (bX.slice (Rect.unit (s := S4x128x128) off2 S1x128x128.size inb2) hs2) (.dma s₁) hsc) (.dma s₂) hsrc hdst hsem) k) Q) := by
  have ho2 : off2 = _ := funext fun a => congrArg (fun r : Rect S4x128x128 => r.off a) hr2
  subst ho2
  have ho : off = _ := funext fun a => congrArg (fun r : Rect S4x128x128 => r.off a) hr
  subst ho
  iintro HC Hs Hk
  iapply (wp_snd In c h .rfl rfl (by show xs In (row (peer true c o)) (col c) = _; rw [row_peer]) hd hs₁ hs₂) $$ [HC Hs]
  · isplitl [HC] <;> iassumption
  iintro ⟨HC, Ht⟩
  iapply Hk $$ HC Ht

/-- Awaiting an arrival brings the slot, filled. -/
theorem wR_ag {n : ℕ} {o : Fin 3} (h : At (n + 7) (.wR .ag o)) (hb : above (lvOf (.R .ag 0)) (script.drop (n + 7 + 1)) = true)
    {sem : DmaSem sig} (hsem : sem = sem4 68 (col c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .ag) :
    (Comm In c (n + 7) : sProp 𝕄)
      ⊢ iprop((Comm In c (n + 7 + 1) -∗ owns (c : Thread nD τ) (bX.slice (rX (col c + o.succ)) (fun _ => rfl)) fullShare (xs In (row c) (col c + o.succ)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .ag (ix (dir .ag) c + o.succ) : sProp 𝕄) = owns (c : Thread nD τ) (bX.slice (rX (col c + o.succ)) (fun _ => rfl)) fullShare (xs In (row c) (col c + o.succ)) from rfl)) $$ Hp
  iapply Hk $$ HC Hp

/-- Awaiting the end of a sending brings the lent source back. -/
theorem wS_ag {n : ℕ} {o : Fin 3} (h : At (n + 7) (.wS .ag o)) (hb : above 0 (script.drop (n + 7 + 1)) = true)
    {sem : DmaSem sig} (hsem : sem = sem4 56 o.succ) {sp sp' : Space} {s s' : Shape} {e e' : EltTy}
    {src : Memref sig .tc sp' s' e'} {dst : Memref sig .tc sp s e} {hsrc : src.view.WordExact} {hdst : dst.view.WordExact} (hN : dst.view.dmaCredit = NJ .ag) :
    (Comm In c (n + 7) : sProp 𝕄)
      ⊢ iprop(tick (F := F) c .ag o -∗ (Comm In c (n + 7 + 1) -∗ owns (c : Thread nD τ) (bX.slice (rX (col c)) (fun _ => rfl)) (lent o) (xs In (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .ag o : sProp 𝕄) = owns (c : Thread nD τ) (bX.slice (rX (col c)) (fun _ => rfl)) (lent o) (xs In (row c) (col c)) from rfl)) $$ Hp
  iapply Hk $$ HC Hp

/-! ## The job `wi0` -/

/-- A copy: the lent source and the peer's slot go to the engine; the receipt is redeemed when the sending ends. -/
theorem snd_wi0 {n : ℕ} {o : Fin 3} (h : At (n + 7) (.snd .wi0 o)) {off : Fin S4x128x256.rank → ℕ} {off2 : Fin S4x128x256.rank → ℕ}
    {inb : ∀ a, off a + S1x128x256.size a ≤ S4x128x256.size a} {inb2 : ∀ a, off2 a + S1x128x256.size a ≤ S4x128x256.size a}
    (hr : Rect.unit (s := S4x128x256) off S1x128x256.size inb = rWi (row c)) (hr2 : Rect.unit (s := S4x128x256) off2 S1x128x256.size inb2 = rWi (row c))
    {hs : ∀ a, (Rect.unit (s := S4x128x256) off S1x128x256.size inb).stride a = 1} {hs2 : ∀ a, (Rect.unit (s := S4x128x256) off2 S1x128x256.size inb2).stride a = 1}
    {d : Dev nD} (hd : d = peer false c o) {s₁ s₂ : DmaSem sig} (hs₁ : s₁ = sem4 8 o.succ) (hs₂ : s₂ = sem4 32 (row c))
    {hsc : (bWi0.slice (Rect.unit (s := S4x128x256) off2 S1x128x256.size inb2) hs2).view.ref.isScScratch = false}
    {hsrc : (bWi0.slice (Rect.unit (s := S4x128x256) off S1x128x256.size inb) hs).view.WordExact} {hdst : (bWi0.slice (Rect.unit (s := S4x128x256) off2 S1x128x256.size inb2) hs2).view.WordExact}
    {hsem : DmaTarget.Typed .vmem (.dma s₂) (.remote (Dev.tc d : Thread nD τ) (bWi0.slice (Rect.unit (s := S4x128x256) off2 S1x128x256.size inb2) hs2) (.dma s₁) hsc)} :
    (Comm In c (n + 7) : sProp 𝕄)
      ⊢ iprop(owns (c : Thread nD τ) (bWi0.slice (rWi (row c)) (fun _ => rfl)) (lent o) (wI In 0 (row c) (col c))
        -∗ (Comm In c (n + 7 + 1) -∗ tick (F := F) c .wi0 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWi0.slice (Rect.unit (s := S4x128x256) off S1x128x256.size inb) hs) (.remote (Dev.tc d : Thread nD τ) (bWi0.slice (Rect.unit (s := S4x128x256) off2 S1x128x256.size inb2) hs2) (.dma s₁) hsc) (.dma s₂) hsrc hdst hsem) k) Q) := by
  have ho2 : off2 = _ := funext fun a => congrArg (fun r : Rect S4x128x256 => r.off a) hr2
  subst ho2
  have ho : off = _ := funext fun a => congrArg (fun r : Rect S4x128x256 => r.off a) hr
  subst ho
  iintro HC Hs Hk
  iapply (wp_snd In c h .rfl rfl (by show wI In 0 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wi0 {n : ℕ} {o : Fin 3} (h : At (n + 7) (.wR .wi0 o)) (hb : above (lvOf (.R .wi0 0)) (script.drop (n + 7 + 1)) = true)
    {sem : DmaSem sig} (hsem : sem = sem4 32 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wi0) :
    (Comm In c (n + 7) : sProp 𝕄)
      ⊢ iprop((Comm In c (n + 7 + 1) -∗ owns (c : Thread nD τ) (bWi0.slice (rWi (row c + o.succ)) (fun _ => rfl)) fullShare (wI In 0 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wi0 (ix (dir .wi0) c + o.succ) : sProp 𝕄) = owns (c : Thread nD τ) (bWi0.slice (rWi (row c + o.succ)) (fun _ => rfl)) fullShare (wI In 0 (row c + o.succ) (col c)) from rfl)) $$ Hp
  iapply Hk $$ HC Hp

/-- Awaiting the end of a sending brings the lent source back. -/
theorem wS_wi0 {n : ℕ} {o : Fin 3} (h : At (n + 7) (.wS .wi0 o)) (hb : above 0 (script.drop (n + 7 + 1)) = true)
    {sem : DmaSem sig} (hsem : sem = sem4 8 o.succ) {sp sp' : Space} {s s' : Shape} {e e' : EltTy}
    {src : Memref sig .tc sp' s' e'} {dst : Memref sig .tc sp s e} {hsrc : src.view.WordExact} {hdst : dst.view.WordExact} (hN : dst.view.dmaCredit = NJ .wi0) :
    (Comm In c (n + 7) : sProp 𝕄)
      ⊢ iprop(tick (F := F) c .wi0 o -∗ (Comm In c (n + 7 + 1) -∗ owns (c : Thread nD τ) (bWi0.slice (rWi (row c)) (fun _ => rfl)) (lent o) (wI In 0 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wi0 o : sProp 𝕄) = owns (c : Thread nD τ) (bWi0.slice (rWi (row c)) (fun _ => rfl)) (lent o) (wI In 0 (row c) (col c)) from rfl)) $$ Hp
  iapply Hk $$ HC Hp

/-! ## The job `wo0` -/

/-- A copy: the lent source and the peer's slot go to the engine; the receipt is redeemed when the sending ends. -/
theorem snd_wo0 {n : ℕ} {o : Fin 3} (h : At (n + 7) (.snd .wo0 o)) {off : Fin S4x256x128.rank → ℕ} {off2 : Fin S4x256x128.rank → ℕ}
    {inb : ∀ a, off a + S1x256x128.size a ≤ S4x256x128.size a} {inb2 : ∀ a, off2 a + S1x256x128.size a ≤ S4x256x128.size a}
    (hr : Rect.unit (s := S4x256x128) off S1x256x128.size inb = rWo (row c)) (hr2 : Rect.unit (s := S4x256x128) off2 S1x256x128.size inb2 = rWo (row c))
    {hs : ∀ a, (Rect.unit (s := S4x256x128) off S1x256x128.size inb).stride a = 1} {hs2 : ∀ a, (Rect.unit (s := S4x256x128) off2 S1x256x128.size inb2).stride a = 1}
    {d : Dev nD} (hd : d = peer false c o) {s₁ s₂ : DmaSem sig} (hs₁ : s₁ = sem4 12 o.succ) (hs₂ : s₂ = sem4 36 (row c))
    {hsc : (bWo0.slice (Rect.unit (s := S4x256x128) off2 S1x256x128.size inb2) hs2).view.ref.isScScratch = false}
    {hsrc : (bWo0.slice (Rect.unit (s := S4x256x128) off S1x256x128.size inb) hs).view.WordExact} {hdst : (bWo0.slice (Rect.unit (s := S4x256x128) off2 S1x256x128.size inb2) hs2).view.WordExact}
    {hsem : DmaTarget.Typed .vmem (.dma s₂) (.remote (Dev.tc d : Thread nD τ) (bWo0.slice (Rect.unit (s := S4x256x128) off2 S1x256x128.size inb2) hs2) (.dma s₁) hsc)} :
    (Comm In c (n + 7) : sProp 𝕄)
      ⊢ iprop(owns (c : Thread nD τ) (bWo0.slice (rWo (row c)) (fun _ => rfl)) (lent o) (wO In 0 (row c) (col c))
        -∗ (Comm In c (n + 7 + 1) -∗ tick (F := F) c .wo0 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWo0.slice (Rect.unit (s := S4x256x128) off S1x256x128.size inb) hs) (.remote (Dev.tc d : Thread nD τ) (bWo0.slice (Rect.unit (s := S4x256x128) off2 S1x256x128.size inb2) hs2) (.dma s₁) hsc) (.dma s₂) hsrc hdst hsem) k) Q) := by
  have ho2 : off2 = _ := funext fun a => congrArg (fun r : Rect S4x256x128 => r.off a) hr2
  subst ho2
  have ho : off = _ := funext fun a => congrArg (fun r : Rect S4x256x128 => r.off a) hr
  subst ho
  iintro HC Hs Hk
  iapply (wp_snd In c h .rfl rfl (by show wO In 0 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wo0 {n : ℕ} {o : Fin 3} (h : At (n + 7) (.wR .wo0 o)) (hb : above (lvOf (.R .wo0 0)) (script.drop (n + 7 + 1)) = true)
    {sem : DmaSem sig} (hsem : sem = sem4 36 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wo0) :
    (Comm In c (n + 7) : sProp 𝕄)
      ⊢ iprop((Comm In c (n + 7 + 1) -∗ owns (c : Thread nD τ) (bWo0.slice (rWo (row c + o.succ)) (fun _ => rfl)) fullShare (wO In 0 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wo0 (ix (dir .wo0) c + o.succ) : sProp 𝕄) = owns (c : Thread nD τ) (bWo0.slice (rWo (row c + o.succ)) (fun _ => rfl)) fullShare (wO In 0 (row c + o.succ) (col c)) from rfl)) $$ Hp
  iapply Hk $$ HC Hp

/-- Awaiting the end of a sending brings the lent source back. -/
theorem wS_wo0 {n : ℕ} {o : Fin 3} (h : At (n + 7) (.wS .wo0 o)) (hb : above 0 (script.drop (n + 7 + 1)) = true)
    {sem : DmaSem sig} (hsem : sem = sem4 12 o.succ) {sp sp' : Space} {s s' : Shape} {e e' : EltTy}
    {src : Memref sig .tc sp' s' e'} {dst : Memref sig .tc sp s e} {hsrc : src.view.WordExact} {hdst : dst.view.WordExact} (hN : dst.view.dmaCredit = NJ .wo0) :
    (Comm In c (n + 7) : sProp 𝕄)
      ⊢ iprop(tick (F := F) c .wo0 o -∗ (Comm In c (n + 7 + 1) -∗ owns (c : Thread nD τ) (bWo0.slice (rWo (row c)) (fun _ => rfl)) (lent o) (wO In 0 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wo0 o : sProp 𝕄) = owns (c : Thread nD τ) (bWo0.slice (rWo (row c)) (fun _ => rfl)) (lent o) (wO In 0 (row c) (col c)) from rfl)) $$ Hp
  iapply Hk $$ HC Hp

/-! ## The job `wi1` -/

/-- A copy: the lent source and the peer's slot go to the engine; the receipt is redeemed when the sending ends. -/
theorem snd_wi1 {n : ℕ} {o : Fin 3} (h : At (n + 7) (.snd .wi1 o)) {off : Fin S4x128x256.rank → ℕ} {off2 : Fin S4x128x256.rank → ℕ}
    {inb : ∀ a, off a + S1x128x256.size a ≤ S4x128x256.size a} {inb2 : ∀ a, off2 a + S1x128x256.size a ≤ S4x128x256.size a}
    (hr : Rect.unit (s := S4x128x256) off S1x128x256.size inb = rWi (row c)) (hr2 : Rect.unit (s := S4x128x256) off2 S1x128x256.size inb2 = rWi (row c))
    {hs : ∀ a, (Rect.unit (s := S4x128x256) off S1x128x256.size inb).stride a = 1} {hs2 : ∀ a, (Rect.unit (s := S4x128x256) off2 S1x128x256.size inb2).stride a = 1}
    {d : Dev nD} (hd : d = peer false c o) {s₁ s₂ : DmaSem sig} (hs₁ : s₁ = sem4 16 o.succ) (hs₂ : s₂ = sem4 40 (row c))
    {hsc : (bWi1.slice (Rect.unit (s := S4x128x256) off2 S1x128x256.size inb2) hs2).view.ref.isScScratch = false}
    {hsrc : (bWi1.slice (Rect.unit (s := S4x128x256) off S1x128x256.size inb) hs).view.WordExact} {hdst : (bWi1.slice (Rect.unit (s := S4x128x256) off2 S1x128x256.size inb2) hs2).view.WordExact}
    {hsem : DmaTarget.Typed .vmem (.dma s₂) (.remote (Dev.tc d : Thread nD τ) (bWi1.slice (Rect.unit (s := S4x128x256) off2 S1x128x256.size inb2) hs2) (.dma s₁) hsc)} :
    (Comm In c (n + 7) : sProp 𝕄)
      ⊢ iprop(owns (c : Thread nD τ) (bWi1.slice (rWi (row c)) (fun _ => rfl)) (lent o) (wI In 1 (row c) (col c))
        -∗ (Comm In c (n + 7 + 1) -∗ tick (F := F) c .wi1 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWi1.slice (Rect.unit (s := S4x128x256) off S1x128x256.size inb) hs) (.remote (Dev.tc d : Thread nD τ) (bWi1.slice (Rect.unit (s := S4x128x256) off2 S1x128x256.size inb2) hs2) (.dma s₁) hsc) (.dma s₂) hsrc hdst hsem) k) Q) := by
  have ho2 : off2 = _ := funext fun a => congrArg (fun r : Rect S4x128x256 => r.off a) hr2
  subst ho2
  have ho : off = _ := funext fun a => congrArg (fun r : Rect S4x128x256 => r.off a) hr
  subst ho
  iintro HC Hs Hk
  iapply (wp_snd In c h .rfl rfl (by show wI In 1 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wi1 {n : ℕ} {o : Fin 3} (h : At (n + 7) (.wR .wi1 o)) (hb : above (lvOf (.R .wi1 0)) (script.drop (n + 7 + 1)) = true)
    {sem : DmaSem sig} (hsem : sem = sem4 40 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wi1) :
    (Comm In c (n + 7) : sProp 𝕄)
      ⊢ iprop((Comm In c (n + 7 + 1) -∗ owns (c : Thread nD τ) (bWi1.slice (rWi (row c + o.succ)) (fun _ => rfl)) fullShare (wI In 1 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wi1 (ix (dir .wi1) c + o.succ) : sProp 𝕄) = owns (c : Thread nD τ) (bWi1.slice (rWi (row c + o.succ)) (fun _ => rfl)) fullShare (wI In 1 (row c + o.succ) (col c)) from rfl)) $$ Hp
  iapply Hk $$ HC Hp

/-- Awaiting the end of a sending brings the lent source back. -/
theorem wS_wi1 {n : ℕ} {o : Fin 3} (h : At (n + 7) (.wS .wi1 o)) (hb : above 0 (script.drop (n + 7 + 1)) = true)
    {sem : DmaSem sig} (hsem : sem = sem4 16 o.succ) {sp sp' : Space} {s s' : Shape} {e e' : EltTy}
    {src : Memref sig .tc sp' s' e'} {dst : Memref sig .tc sp s e} {hsrc : src.view.WordExact} {hdst : dst.view.WordExact} (hN : dst.view.dmaCredit = NJ .wi1) :
    (Comm In c (n + 7) : sProp 𝕄)
      ⊢ iprop(tick (F := F) c .wi1 o -∗ (Comm In c (n + 7 + 1) -∗ owns (c : Thread nD τ) (bWi1.slice (rWi (row c)) (fun _ => rfl)) (lent o) (wI In 1 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wi1 o : sProp 𝕄) = owns (c : Thread nD τ) (bWi1.slice (rWi (row c)) (fun _ => rfl)) (lent o) (wI In 1 (row c) (col c)) from rfl)) $$ Hp
  iapply Hk $$ HC Hp

/-! ## The job `wo1` -/

/-- A copy: the lent source and the peer's slot go to the engine; the receipt is redeemed when the sending ends. -/
theorem snd_wo1 {n : ℕ} {o : Fin 3} (h : At (n + 7) (.snd .wo1 o)) {off : Fin S4x256x128.rank → ℕ} {off2 : Fin S4x256x128.rank → ℕ}
    {inb : ∀ a, off a + S1x256x128.size a ≤ S4x256x128.size a} {inb2 : ∀ a, off2 a + S1x256x128.size a ≤ S4x256x128.size a}
    (hr : Rect.unit (s := S4x256x128) off S1x256x128.size inb = rWo (row c)) (hr2 : Rect.unit (s := S4x256x128) off2 S1x256x128.size inb2 = rWo (row c))
    {hs : ∀ a, (Rect.unit (s := S4x256x128) off S1x256x128.size inb).stride a = 1} {hs2 : ∀ a, (Rect.unit (s := S4x256x128) off2 S1x256x128.size inb2).stride a = 1}
    {d : Dev nD} (hd : d = peer false c o) {s₁ s₂ : DmaSem sig} (hs₁ : s₁ = sem4 20 o.succ) (hs₂ : s₂ = sem4 44 (row c))
    {hsc : (bWo1.slice (Rect.unit (s := S4x256x128) off2 S1x256x128.size inb2) hs2).view.ref.isScScratch = false}
    {hsrc : (bWo1.slice (Rect.unit (s := S4x256x128) off S1x256x128.size inb) hs).view.WordExact} {hdst : (bWo1.slice (Rect.unit (s := S4x256x128) off2 S1x256x128.size inb2) hs2).view.WordExact}
    {hsem : DmaTarget.Typed .vmem (.dma s₂) (.remote (Dev.tc d : Thread nD τ) (bWo1.slice (Rect.unit (s := S4x256x128) off2 S1x256x128.size inb2) hs2) (.dma s₁) hsc)} :
    (Comm In c (n + 7) : sProp 𝕄)
      ⊢ iprop(owns (c : Thread nD τ) (bWo1.slice (rWo (row c)) (fun _ => rfl)) (lent o) (wO In 1 (row c) (col c))
        -∗ (Comm In c (n + 7 + 1) -∗ tick (F := F) c .wo1 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWo1.slice (Rect.unit (s := S4x256x128) off S1x256x128.size inb) hs) (.remote (Dev.tc d : Thread nD τ) (bWo1.slice (Rect.unit (s := S4x256x128) off2 S1x256x128.size inb2) hs2) (.dma s₁) hsc) (.dma s₂) hsrc hdst hsem) k) Q) := by
  have ho2 : off2 = _ := funext fun a => congrArg (fun r : Rect S4x256x128 => r.off a) hr2
  subst ho2
  have ho : off = _ := funext fun a => congrArg (fun r : Rect S4x256x128 => r.off a) hr
  subst ho
  iintro HC Hs Hk
  iapply (wp_snd In c h .rfl rfl (by show wO In 1 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wo1 {n : ℕ} {o : Fin 3} (h : At (n + 7) (.wR .wo1 o)) (hb : above (lvOf (.R .wo1 0)) (script.drop (n + 7 + 1)) = true)
    {sem : DmaSem sig} (hsem : sem = sem4 44 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wo1) :
    (Comm In c (n + 7) : sProp 𝕄)
      ⊢ iprop((Comm In c (n + 7 + 1) -∗ owns (c : Thread nD τ) (bWo1.slice (rWo (row c + o.succ)) (fun _ => rfl)) fullShare (wO In 1 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wo1 (ix (dir .wo1) c + o.succ) : sProp 𝕄) = owns (c : Thread nD τ) (bWo1.slice (rWo (row c + o.succ)) (fun _ => rfl)) fullShare (wO In 1 (row c + o.succ) (col c)) from rfl)) $$ Hp
  iapply Hk $$ HC Hp

/-- Awaiting the end of a sending brings the lent source back. -/
theorem wS_wo1 {n : ℕ} {o : Fin 3} (h : At (n + 7) (.wS .wo1 o)) (hb : above 0 (script.drop (n + 7 + 1)) = true)
    {sem : DmaSem sig} (hsem : sem = sem4 20 o.succ) {sp sp' : Space} {s s' : Shape} {e e' : EltTy}
    {src : Memref sig .tc sp' s' e'} {dst : Memref sig .tc sp s e} {hsrc : src.view.WordExact} {hdst : dst.view.WordExact} (hN : dst.view.dmaCredit = NJ .wo1) :
    (Comm In c (n + 7) : sProp 𝕄)
      ⊢ iprop(tick (F := F) c .wo1 o -∗ (Comm In c (n + 7 + 1) -∗ owns (c : Thread nD τ) (bWo1.slice (rWo (row c)) (fun _ => rfl)) (lent o) (wO In 1 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wo1 o : sProp 𝕄) = owns (c : Thread nD τ) (bWo1.slice (rWo (row c)) (fun _ => rfl)) (lent o) (wO In 1 (row c) (col c)) from rfl)) $$ Hp
  iapply Hk $$ HC Hp

/-! ## The job `wi2` -/

/-- A copy: the lent source and the peer's slot go to the engine; the receipt is redeemed when the sending ends. -/
theorem snd_wi2 {n : ℕ} {o : Fin 3} (h : At (n + 7) (.snd .wi2 o)) {off : Fin S4x128x256.rank → ℕ} {off2 : Fin S4x128x256.rank → ℕ}
    {inb : ∀ a, off a + S1x128x256.size a ≤ S4x128x256.size a} {inb2 : ∀ a, off2 a + S1x128x256.size a ≤ S4x128x256.size a}
    (hr : Rect.unit (s := S4x128x256) off S1x128x256.size inb = rWi (row c)) (hr2 : Rect.unit (s := S4x128x256) off2 S1x128x256.size inb2 = rWi (row c))
    {hs : ∀ a, (Rect.unit (s := S4x128x256) off S1x128x256.size inb).stride a = 1} {hs2 : ∀ a, (Rect.unit (s := S4x128x256) off2 S1x128x256.size inb2).stride a = 1}
    {d : Dev nD} (hd : d = peer false c o) {s₁ s₂ : DmaSem sig} (hs₁ : s₁ = sem4 24 o.succ) (hs₂ : s₂ = sem4 48 (row c))
    {hsc : (bWi2.slice (Rect.unit (s := S4x128x256) off2 S1x128x256.size inb2) hs2).view.ref.isScScratch = false}
    {hsrc : (bWi2.slice (Rect.unit (s := S4x128x256) off S1x128x256.size inb) hs).view.WordExact} {hdst : (bWi2.slice (Rect.unit (s := S4x128x256) off2 S1x128x256.size inb2) hs2).view.WordExact}
    {hsem : DmaTarget.Typed .vmem (.dma s₂) (.remote (Dev.tc d : Thread nD τ) (bWi2.slice (Rect.unit (s := S4x128x256) off2 S1x128x256.size inb2) hs2) (.dma s₁) hsc)} :
    (Comm In c (n + 7) : sProp 𝕄)
      ⊢ iprop(owns (c : Thread nD τ) (bWi2.slice (rWi (row c)) (fun _ => rfl)) (lent o) (wI In 2 (row c) (col c))
        -∗ (Comm In c (n + 7 + 1) -∗ tick (F := F) c .wi2 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWi2.slice (Rect.unit (s := S4x128x256) off S1x128x256.size inb) hs) (.remote (Dev.tc d : Thread nD τ) (bWi2.slice (Rect.unit (s := S4x128x256) off2 S1x128x256.size inb2) hs2) (.dma s₁) hsc) (.dma s₂) hsrc hdst hsem) k) Q) := by
  have ho2 : off2 = _ := funext fun a => congrArg (fun r : Rect S4x128x256 => r.off a) hr2
  subst ho2
  have ho : off = _ := funext fun a => congrArg (fun r : Rect S4x128x256 => r.off a) hr
  subst ho
  iintro HC Hs Hk
  iapply (wp_snd In c h .rfl rfl (by show wI In 2 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wi2 {n : ℕ} {o : Fin 3} (h : At (n + 7) (.wR .wi2 o)) (hb : above (lvOf (.R .wi2 0)) (script.drop (n + 7 + 1)) = true)
    {sem : DmaSem sig} (hsem : sem = sem4 48 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wi2) :
    (Comm In c (n + 7) : sProp 𝕄)
      ⊢ iprop((Comm In c (n + 7 + 1) -∗ owns (c : Thread nD τ) (bWi2.slice (rWi (row c + o.succ)) (fun _ => rfl)) fullShare (wI In 2 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wi2 (ix (dir .wi2) c + o.succ) : sProp 𝕄) = owns (c : Thread nD τ) (bWi2.slice (rWi (row c + o.succ)) (fun _ => rfl)) fullShare (wI In 2 (row c + o.succ) (col c)) from rfl)) $$ Hp
  iapply Hk $$ HC Hp

/-- Awaiting the end of a sending brings the lent source back. -/
theorem wS_wi2 {n : ℕ} {o : Fin 3} (h : At (n + 7) (.wS .wi2 o)) (hb : above 0 (script.drop (n + 7 + 1)) = true)
    {sem : DmaSem sig} (hsem : sem = sem4 24 o.succ) {sp sp' : Space} {s s' : Shape} {e e' : EltTy}
    {src : Memref sig .tc sp' s' e'} {dst : Memref sig .tc sp s e} {hsrc : src.view.WordExact} {hdst : dst.view.WordExact} (hN : dst.view.dmaCredit = NJ .wi2) :
    (Comm In c (n + 7) : sProp 𝕄)
      ⊢ iprop(tick (F := F) c .wi2 o -∗ (Comm In c (n + 7 + 1) -∗ owns (c : Thread nD τ) (bWi2.slice (rWi (row c)) (fun _ => rfl)) (lent o) (wI In 2 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wi2 o : sProp 𝕄) = owns (c : Thread nD τ) (bWi2.slice (rWi (row c)) (fun _ => rfl)) (lent o) (wI In 2 (row c) (col c)) from rfl)) $$ Hp
  iapply Hk $$ HC Hp

/-! ## The job `wo2` -/

/-- A copy: the lent source and the peer's slot go to the engine; the receipt is redeemed when the sending ends. -/
theorem snd_wo2 {n : ℕ} {o : Fin 3} (h : At (n + 7) (.snd .wo2 o)) {off : Fin S4x256x128.rank → ℕ} {off2 : Fin S4x256x128.rank → ℕ}
    {inb : ∀ a, off a + S1x256x128.size a ≤ S4x256x128.size a} {inb2 : ∀ a, off2 a + S1x256x128.size a ≤ S4x256x128.size a}
    (hr : Rect.unit (s := S4x256x128) off S1x256x128.size inb = rWo (row c)) (hr2 : Rect.unit (s := S4x256x128) off2 S1x256x128.size inb2 = rWo (row c))
    {hs : ∀ a, (Rect.unit (s := S4x256x128) off S1x256x128.size inb).stride a = 1} {hs2 : ∀ a, (Rect.unit (s := S4x256x128) off2 S1x256x128.size inb2).stride a = 1}
    {d : Dev nD} (hd : d = peer false c o) {s₁ s₂ : DmaSem sig} (hs₁ : s₁ = sem4 28 o.succ) (hs₂ : s₂ = sem4 52 (row c))
    {hsc : (bWo2.slice (Rect.unit (s := S4x256x128) off2 S1x256x128.size inb2) hs2).view.ref.isScScratch = false}
    {hsrc : (bWo2.slice (Rect.unit (s := S4x256x128) off S1x256x128.size inb) hs).view.WordExact} {hdst : (bWo2.slice (Rect.unit (s := S4x256x128) off2 S1x256x128.size inb2) hs2).view.WordExact}
    {hsem : DmaTarget.Typed .vmem (.dma s₂) (.remote (Dev.tc d : Thread nD τ) (bWo2.slice (Rect.unit (s := S4x256x128) off2 S1x256x128.size inb2) hs2) (.dma s₁) hsc)} :
    (Comm In c (n + 7) : sProp 𝕄)
      ⊢ iprop(owns (c : Thread nD τ) (bWo2.slice (rWo (row c)) (fun _ => rfl)) (lent o) (wO In 2 (row c) (col c))
        -∗ (Comm In c (n + 7 + 1) -∗ tick (F := F) c .wo2 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bWo2.slice (Rect.unit (s := S4x256x128) off S1x256x128.size inb) hs) (.remote (Dev.tc d : Thread nD τ) (bWo2.slice (Rect.unit (s := S4x256x128) off2 S1x256x128.size inb2) hs2) (.dma s₁) hsc) (.dma s₂) hsrc hdst hsem) k) Q) := by
  have ho2 : off2 = _ := funext fun a => congrArg (fun r : Rect S4x256x128 => r.off a) hr2
  subst ho2
  have ho : off = _ := funext fun a => congrArg (fun r : Rect S4x256x128 => r.off a) hr
  subst ho
  iintro HC Hs Hk
  iapply (wp_snd In c h .rfl rfl (by show wO In 2 (row c) (col (peer false c o)) = _; rw [col_peer]) hd hs₁ hs₂) $$ [HC Hs]
  · isplitl [HC] <;> iassumption
  iintro ⟨HC, Ht⟩
  iapply Hk $$ HC Ht

/-- Awaiting an arrival brings the slot, filled. -/
theorem wR_wo2 {n : ℕ} {o : Fin 3} (h : At (n + 7) (.wR .wo2 o)) (hb : above (lvOf (.R .wo2 0)) (script.drop (n + 7 + 1)) = true)
    {sem : DmaSem sig} (hsem : sem = sem4 52 (row c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .wo2) :
    (Comm In c (n + 7) : sProp 𝕄)
      ⊢ iprop((Comm In c (n + 7 + 1) -∗ owns (c : Thread nD τ) (bWo2.slice (rWo (row c + o.succ)) (fun _ => rfl)) fullShare (wO In 2 (row c + o.succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .wo2 (ix (dir .wo2) c + o.succ) : sProp 𝕄) = owns (c : Thread nD τ) (bWo2.slice (rWo (row c + o.succ)) (fun _ => rfl)) fullShare (wO In 2 (row c + o.succ) (col c)) from rfl)) $$ Hp
  iapply Hk $$ HC Hp

/-- Awaiting the end of a sending brings the lent source back. -/
theorem wS_wo2 {n : ℕ} {o : Fin 3} (h : At (n + 7) (.wS .wo2 o)) (hb : above 0 (script.drop (n + 7 + 1)) = true)
    {sem : DmaSem sig} (hsem : sem = sem4 28 o.succ) {sp sp' : Space} {s s' : Shape} {e e' : EltTy}
    {src : Memref sig .tc sp' s' e'} {dst : Memref sig .tc sp s e} {hsrc : src.view.WordExact} {hdst : dst.view.WordExact} (hN : dst.view.dmaCredit = NJ .wo2) :
    (Comm In c (n + 7) : sProp 𝕄)
      ⊢ iprop(tick (F := F) c .wo2 o -∗ (Comm In c (n + 7 + 1) -∗ owns (c : Thread nD τ) (bWo2.slice (rWo (row c)) (fun _ => rfl)) (lent o) (wO In 2 (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .wo2 o : sProp 𝕄) = owns (c : Thread nD τ) (bWo2.slice (rWo (row c)) (fun _ => rfl)) (lent o) (wO In 2 (row c) (col c)) from rfl)) $$ Hp
  iapply Hk $$ HC Hp

/-! ## The job `pr0` -/

/-- A copy: the lent source and the peer's slot go to the engine; the receipt is redeemed when the sending ends. -/
theorem snd_pr0 {n : ℕ} {o : Fin 3} (h : At (n + 7) (.snd .pr0 o)) {off : Fin S1x4x128x128.rank → ℕ} {off2 : Fin S4x4x128x128.rank → ℕ}
    {inb : ∀ a, off a + S1x4x128x128.size a ≤ S1x4x128x128.size a} {inb2 : ∀ a, off2 a + S1x4x128x128.size a ≤ S4x4x128x128.size a}
    (hr : off = fun _ => 0) (hr2 : Rect.unit (s := S4x4x128x128) off2 S1x4x128x128.size inb2 = rP (col c))
    {hs : ∀ a, (Rect.unit (s := S1x4x128x128) off S1x4x128x128.size inb).stride a = 1} {hs2 : ∀ a, (Rect.unit (s := S4x4x128x128) off2 S1x4x128x128.size inb2).stride a = 1}
    {d : Dev nD} (hd : d = peer true c o) {s₁ s₂ : DmaSem sig} (hs₁ : s₁ = sem4 60 o.succ) (hs₂ : s₂ = sem4 72 (col c))
    {hsc : (bP0.slice (Rect.unit (s := S4x4x128x128) off2 S1x4x128x128.size inb2) hs2).view.ref.isScScratch = false}
    {hsrc : (bS.slice (Rect.unit (s := S1x4x128x128) off S1x4x128x128.size inb) hs).view.WordExact} {hdst : (bP0.slice (Rect.unit (s := S4x4x128x128) off2 S1x4x128x128.size inb2) hs2).view.WordExact}
    {hsem : DmaTarget.Typed .vmem (.dma s₂) (.remote (Dev.tc d : Thread nD τ) (bP0.slice (Rect.unit (s := S4x4x128x128) off2 S1x4x128x128.size inb2) hs2) (.dma s₁) hsc)} :
    (Comm In c (n + 7) : sProp 𝕄)
      ⊢ iprop(owns (c : Thread nD τ) bS (lent o) (ps0 In (row c) (col c))
        -∗ (Comm In c (n + 7 + 1) -∗ tick (F := F) c .pr0 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bS.slice (Rect.unit (s := S1x4x128x128) off S1x4x128x128.size inb) hs) (.remote (Dev.tc d : Thread nD τ) (bP0.slice (Rect.unit (s := S4x4x128x128) off2 S1x4x128x128.size inb2) hs2) (.dma s₁) hsc) (.dma s₂) hsrc hdst hsem) k) Q) := by
  have ho2 : off2 = _ := funext fun a => congrArg (fun r : Rect S4x4x128x128 => r.off a) hr2
  subst ho2
  iintro HC Hs Hk
  ihave Hs := (owns_full c hr (inb := inb) (hs := hs)).2 $$ Hs
  iapply (wp_snd In c h (owns_full c hr).1 rfl (by show ps0 In (row (peer true c o)) (col c) = _; rw [row_peer]) hd hs₁ hs₂) $$ [HC Hs]
  · isplitl [HC] <;> iassumption
  iintro ⟨HC, Ht⟩
  iapply Hk $$ HC Ht

/-- Awaiting an arrival brings the slot, filled. -/
theorem wR_pr0 {n : ℕ} {o : Fin 3} (h : At (n + 7) (.wR .pr0 o)) (hb : above (lvOf (.R .pr0 0)) (script.drop (n + 7 + 1)) = true)
    {sem : DmaSem sig} (hsem : sem = sem4 72 (col c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .pr0) :
    (Comm In c (n + 7) : sProp 𝕄)
      ⊢ iprop((Comm In c (n + 7 + 1) -∗ owns (c : Thread nD τ) (bP0.slice (rP (col c + o.succ)) (fun _ => rfl)) fullShare (ps0 In (row c) (col c + o.succ)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .pr0 (ix (dir .pr0) c + o.succ) : sProp 𝕄) = owns (c : Thread nD τ) (bP0.slice (rP (col c + o.succ)) (fun _ => rfl)) fullShare (ps0 In (row c) (col c + o.succ)) from rfl)) $$ Hp
  iapply Hk $$ HC Hp

/-- Awaiting the end of a sending brings the lent source back. -/
theorem wS_pr0 {n : ℕ} {o : Fin 3} (h : At (n + 7) (.wS .pr0 o)) (hb : above 0 (script.drop (n + 7 + 1)) = true)
    {sem : DmaSem sig} (hsem : sem = sem4 60 o.succ) {sp sp' : Space} {s s' : Shape} {e e' : EltTy}
    {src : Memref sig .tc sp' s' e'} {dst : Memref sig .tc sp s e} {hsrc : src.view.WordExact} {hdst : dst.view.WordExact} (hN : dst.view.dmaCredit = NJ .pr0) :
    (Comm In c (n + 7) : sProp 𝕄)
      ⊢ iprop(tick (F := F) c .pr0 o -∗ (Comm In c (n + 7 + 1) -∗ owns (c : Thread nD τ) bS (lent o) (ps0 In (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .pr0 o : sProp 𝕄) = owns (c : Thread nD τ) bS (lent o) (ps0 In (row c) (col c)) from rfl)) $$ Hp
  iapply Hk $$ HC Hp

/-! ## The job `pr1` -/

/-- A copy: the lent source and the peer's slot go to the engine; the receipt is redeemed when the sending ends. -/
theorem snd_pr1 {n : ℕ} {o : Fin 3} (h : At (n + 7) (.snd .pr1 o)) {off : Fin S1x4x128x128.rank → ℕ} {off2 : Fin S4x4x128x128.rank → ℕ}
    {inb : ∀ a, off a + S1x4x128x128.size a ≤ S1x4x128x128.size a} {inb2 : ∀ a, off2 a + S1x4x128x128.size a ≤ S4x4x128x128.size a}
    (hr : off = fun _ => 0) (hr2 : Rect.unit (s := S4x4x128x128) off2 S1x4x128x128.size inb2 = rP (col c))
    {hs : ∀ a, (Rect.unit (s := S1x4x128x128) off S1x4x128x128.size inb).stride a = 1} {hs2 : ∀ a, (Rect.unit (s := S4x4x128x128) off2 S1x4x128x128.size inb2).stride a = 1}
    {d : Dev nD} (hd : d = peer true c o) {s₁ s₂ : DmaSem sig} (hs₁ : s₁ = sem4 64 o.succ) (hs₂ : s₂ = sem4 76 (col c))
    {hsc : (bP1.slice (Rect.unit (s := S4x4x128x128) off2 S1x4x128x128.size inb2) hs2).view.ref.isScScratch = false}
    {hsrc : (bS.slice (Rect.unit (s := S1x4x128x128) off S1x4x128x128.size inb) hs).view.WordExact} {hdst : (bP1.slice (Rect.unit (s := S4x4x128x128) off2 S1x4x128x128.size inb2) hs2).view.WordExact}
    {hsem : DmaTarget.Typed .vmem (.dma s₂) (.remote (Dev.tc d : Thread nD τ) (bP1.slice (Rect.unit (s := S4x4x128x128) off2 S1x4x128x128.size inb2) hs2) (.dma s₁) hsc)} :
    (Comm In c (n + 7) : sProp 𝕄)
      ⊢ iprop(owns (c : Thread nD τ) bS (lent o) (ps1 In (row c) (col c))
        -∗ (Comm In c (n + 7 + 1) -∗ tick (F := F) c .pr1 o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bS.slice (Rect.unit (s := S1x4x128x128) off S1x4x128x128.size inb) hs) (.remote (Dev.tc d : Thread nD τ) (bP1.slice (Rect.unit (s := S4x4x128x128) off2 S1x4x128x128.size inb2) hs2) (.dma s₁) hsc) (.dma s₂) hsrc hdst hsem) k) Q) := by
  have ho2 : off2 = _ := funext fun a => congrArg (fun r : Rect S4x4x128x128 => r.off a) hr2
  subst ho2
  iintro HC Hs Hk
  ihave Hs := (owns_full c hr (inb := inb) (hs := hs)).2 $$ Hs
  iapply (wp_snd In c h (owns_full c hr).1 rfl (by show ps1 In (row (peer true c o)) (col c) = _; rw [row_peer]) hd hs₁ hs₂) $$ [HC Hs]
  · isplitl [HC] <;> iassumption
  iintro ⟨HC, Ht⟩
  iapply Hk $$ HC Ht

/-- Awaiting an arrival brings the slot, filled. -/
theorem wR_pr1 {n : ℕ} {o : Fin 3} (h : At (n + 7) (.wR .pr1 o)) (hb : above (lvOf (.R .pr1 0)) (script.drop (n + 7 + 1)) = true)
    {sem : DmaSem sig} (hsem : sem = sem4 76 (col c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .pr1) :
    (Comm In c (n + 7) : sProp 𝕄)
      ⊢ iprop((Comm In c (n + 7 + 1) -∗ owns (c : Thread nD τ) (bP1.slice (rP (col c + o.succ)) (fun _ => rfl)) fullShare (ps1 In (row c) (col c + o.succ)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .pr1 (ix (dir .pr1) c + o.succ) : sProp 𝕄) = owns (c : Thread nD τ) (bP1.slice (rP (col c + o.succ)) (fun _ => rfl)) fullShare (ps1 In (row c) (col c + o.succ)) from rfl)) $$ Hp
  iapply Hk $$ HC Hp

/-- Awaiting the end of a sending brings the lent source back. -/
theorem wS_pr1 {n : ℕ} {o : Fin 3} (h : At (n + 7) (.wS .pr1 o)) (hb : above 0 (script.drop (n + 7 + 1)) = true)
    {sem : DmaSem sig} (hsem : sem = sem4 64 o.succ) {sp sp' : Space} {s s' : Shape} {e e' : EltTy}
    {src : Memref sig .tc sp' s' e'} {dst : Memref sig .tc sp s e} {hsrc : src.view.WordExact} {hdst : dst.view.WordExact} (hN : dst.view.dmaCredit = NJ .pr1) :
    (Comm In c (n + 7) : sProp 𝕄)
      ⊢ iprop(tick (F := F) c .pr1 o -∗ (Comm In c (n + 7 + 1) -∗ owns (c : Thread nD τ) bS (lent o) (ps1 In (row c) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .pr1 o : sProp 𝕄) = owns (c : Thread nD τ) bS (lent o) (ps1 In (row c) (col c)) from rfl)) $$ Hp
  iapply Hk $$ HC Hp

/-! ## The job `rs` -/

/-- A copy: the lent source and the peer's slot go to the engine; the receipt is redeemed when the sending ends. -/
theorem snd_rs {n : ℕ} {o : Fin 3} (h : At (n + 7) (.snd .rs o)) {off : Fin S1x4x128x128.rank → ℕ} {off2 : Fin S4x1x128x128.rank → ℕ}
    {inb : ∀ a, off a + S1x1x128x128.size a ≤ S1x4x128x128.size a} {inb2 : ∀ a, off2 a + S1x1x128x128.size a ≤ S4x1x128x128.size a}
    (hr : Rect.unit (s := S1x4x128x128) off S1x1x128x128.size inb = rS (col c + o.succ)) (hr2 : Rect.unit (s := S4x1x128x128) off2 S1x1x128x128.size inb2 = rR (col c))
    {hs : ∀ a, (Rect.unit (s := S1x4x128x128) off S1x1x128x128.size inb).stride a = 1} {hs2 : ∀ a, (Rect.unit (s := S4x1x128x128) off2 S1x1x128x128.size inb2).stride a = 1}
    {d : Dev nD} (hd : d = peer true c o) {s₁ s₂ : DmaSem sig} (hs₁ : s₁ = sem4 80 o.succ) (hs₂ : s₂ = sem4 84 (col c))
    {hsc : (bR.slice (Rect.unit (s := S4x1x128x128) off2 S1x1x128x128.size inb2) hs2).view.ref.isScScratch = false}
    {hsrc : (bS.slice (Rect.unit (s := S1x4x128x128) off S1x1x128x128.size inb) hs).view.WordExact} {hdst : (bR.slice (Rect.unit (s := S4x1x128x128) off2 S1x1x128x128.size inb2) hs2).view.WordExact}
    {hsem : DmaTarget.Typed .vmem (.dma s₂) (.remote (Dev.tc d : Thread nD τ) (bR.slice (Rect.unit (s := S4x1x128x128) off2 S1x1x128x128.size inb2) hs2) (.dma s₁) hsc)} :
    (Comm In c (n + 7) : sProp 𝕄)
      ⊢ iprop(owns (c : Thread nD τ) (bS.slice (rS (col c + (o : Fin 3).succ)) (fun _ => rfl)) fullShare (rs In (row c) (col c + (o : Fin 3).succ) (col c))
        -∗ (Comm In c (n + 7 + 1) -∗ tick (F := F) c .rs o -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (bS.slice (Rect.unit (s := S1x4x128x128) off S1x1x128x128.size inb) hs) (.remote (Dev.tc d : Thread nD τ) (bR.slice (Rect.unit (s := S4x1x128x128) off2 S1x1x128x128.size inb2) hs2) (.dma s₁) hsc) (.dma s₂) hsrc hdst hsem) k) Q) := by
  have ho2 : off2 = _ := funext fun a => congrArg (fun r : Rect S4x1x128x128 => r.off a) hr2
  subst ho2
  have ho : off = _ := funext fun a => congrArg (fun r : Rect S1x4x128x128 => r.off a) hr
  subst ho
  iintro HC Hs Hk
  iapply (wp_snd In c h .rfl rfl (by show rs In (row (peer true c o)) (col (peer true c o)) (col c) = _; rw [row_peer, col_peer']) hd hs₁ hs₂) $$ [HC Hs]
  · isplitl [HC] <;> iassumption
  iintro ⟨HC, Ht⟩
  iapply Hk $$ HC Ht

/-- Awaiting an arrival brings the slot, filled. -/
theorem wR_rs {n : ℕ} {o : Fin 3} (h : At (n + 7) (.wR .rs o)) (hb : above (lvOf (.R .rs 0)) (script.drop (n + 7 + 1)) = true)
    {sem : DmaSem sig} (hsem : sem = sem4 84 (col c + o.succ)) {sp sp' : Space} {s s' : Shape} {e e' : EltTy}
    {src : Memref sig .tc sp' s' e'} {dst : Memref sig .tc sp s e} {hsrc : src.view.WordExact} {hdst : dst.view.WordExact} (hN : dst.view.dmaCredit = NJ .rs) :
    (Comm In c (n + 7) : sProp 𝕄)
      ⊢ iprop((Comm In c (n + 7 + 1) -∗ owns (c : Thread nD τ) (bR.slice (rR (col c + o.succ)) (fun _ => rfl)) fullShare (rs In (row c) (col c) (col c + o.succ)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Hk
  iapply (wp_wR In c h hb hsem hN) $$ HC
  iintro ⟨HC, Hp⟩
  ihave Hp := (Entails.of_eq (show (gotP In c .rs (ix (dir .rs) c + o.succ) : sProp 𝕄) = owns (c : Thread nD τ) (bR.slice (rR (col c + o.succ)) (fun _ => rfl)) fullShare (rs In (row c) (col c) (col c + o.succ)) from rfl)) $$ Hp
  iapply Hk $$ HC Hp

/-- Awaiting the end of a sending brings the lent source back. -/
theorem wS_rs {n : ℕ} {o : Fin 3} (h : At (n + 7) (.wS .rs o)) (hb : above 0 (script.drop (n + 7 + 1)) = true)
    {sem : DmaSem sig} (hsem : sem = sem4 80 o.succ) {sp sp' : Space} {s s' : Shape} {e e' : EltTy}
    {src : Memref sig .tc sp' s' e'} {dst : Memref sig .tc sp s e} {hsrc : src.view.WordExact} {hdst : dst.view.WordExact} (hN : dst.view.dmaCredit = NJ .rs) :
    (Comm In c (n + 7) : sProp 𝕄)
      ⊢ iprop(tick (F := F) c .rs o -∗ (Comm In c (n + 7 + 1) -∗ owns (c : Thread nD τ) (bS.slice (rS (col c + (o : Fin 3).succ)) (fun _ => rfl)) fullShare (rs In (row c) (col c + (o : Fin 3).succ) (col c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  iintro HC Ht Hk
  iapply (wp_wS In c h hb hsem hN) $$ [HC Ht]
  · isplitl [HC] <;> iassumption
  iintro ⟨HC, Hp⟩
  ihave Hp := (Entails.of_eq (show (srcP In c .rs o : sProp 𝕄) = owns (c : Thread nD τ) (bS.slice (rS (col c + (o : Fin 3).succ)) (fun _ => rfl)) fullShare (rs In (row c) (col c + (o : Fin 3).succ) (col c)) from rfl)) $$ Hp
  iapply Hk $$ HC Hp

end Cert.Mlp

end
-- ==== Proof.PartsBase.lean ====
/-
What every part's run uses: loads and stores with the contents named, and offsets that are zero.
-/
module

public import proofs.«01_k».proof.Proof.Jobs
public import Idealize.ShloMosaic.Lib.Pipeline.Value

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

/-- What is taken over from a peer's plane is stored as it is. -/
theorem k0_pay17_id (X : Vec F S1x4x128x128 .bf16) : k0_pay17 X = X := by unfold k0_pay17; exact shapeCast_self _ _
theorem k0_pay28_id (X : Vec F S1x4x128x128 .bf16) : k0_pay28 X = X := by unfold k0_pay28; exact shapeCast_self _ _
theorem k0_pay36_id (X : Vec F S1x1x128x128 .bf16) : k0_pay36 X = X := by unfold k0_pay36; exact shapeCast_self _ _

variable {c} {sh : Shape} {e : EltTy}

/-- A store into a slot, with the value stored named otherwise. -/
theorem store_slot_eq {m : Memref sig .tc .vmem sh e} {off off' size : Fin sh.rank → ℕ} {inb : ∀ a, off a + size a ≤ sh.size a} {inb' : ∀ a, off' a + size a ≤ sh.size a}
    (hr : Rect.unit off size inb = Rect.unit off' size inb')
    {hs : ∀ a, (Rect.unit off' size inb').stride a = 1} {w w' : (⟨sh.rank, size⟩ : Shape).Idx → Elt F e} (hw : w = w')
    {hx : (m.access (Rect.unit off size inb)).Stores Finset.univ} {hm : Finset.univ = Finset.univ ∨ ∀ a, (Rect.unit off size inb).stride a = 1}
    {α : Type} {Q : α → sProp (MT nD τ sig Unit (Elt F) ℕ UU ℕ)} {k : PUnit → Prog (TpuEff nD τ sig (Elt F) Λ₀ .tc) α} {Y : (⟨sh.rank, size⟩ : Shape).Idx → Elt F e} :
    (owns (c : Thread nD τ) (m.slice (Rect.unit off' size inb') hs) fullShare Y : sProp 𝕄)
      ⊢ iprop((owns (c : Thread nD τ) (m.slice (Rect.unit off' size inb') hs) fullShare w' -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  subst hw; exact store_slot hr

/-- A store over all of a memref, with the value stored named otherwise. -/
theorem store_all_eq {m : Memref sig .tc .vmem sh e} {off : Fin sh.rank → ℕ} (h0 : off = fun _ => 0) {inb : ∀ a, off a + sh.size a ≤ sh.size a}
    {w w' : sh.Idx → Elt F e} (hw : w = w')
    {hx : (m.access (Rect.unit off sh.size inb)).Stores Finset.univ} {hm : Finset.univ = Finset.univ ∨ ∀ a, (Rect.unit off sh.size inb).stride a = 1}
    {α : Type} {Q : α → sProp (MT nD τ sig Unit (Elt F) ℕ UU ℕ)} {k : PUnit → Prog (TpuEff nD τ sig (Elt F) Λ₀ .tc) α} {Y : sh.Idx → Elt F e} :
    (owns (c : Thread nD τ) m fullShare Y : sProp 𝕄)
      ⊢ iprop((owns (c : Thread nD τ) m fullShare w' -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off sh.size inb) w Finset.univ hx hm) k) Q) := by
  subst hw; exact store_all h0

/-- Loading a rectangle of a memref owned whole gives the contents at the rectangle's elements. -/
theorem load_rect {m : Memref sig .tc .vmem sh e} {off off' size : Fin sh.rank → ℕ} {inb : ∀ a, off a + size a ≤ sh.size a} {inb' : ∀ a, off' a + size a ≤ sh.size a}
    (hr : Rect.unit off size inb = Rect.unit off' size inb')
    {hl : m.view.LoadsAt (Rect.unit off size inb).toLoadRect} {α : Type} {Q : α → sProp (MT nD τ sig Unit (Elt F) ℕ UU ℕ)} {k : ((⟨sh.rank, size⟩ : Shape).Idx → Elt F e) → Prog (TpuEff nD τ sig (Elt F) Λ₀ .tc) α}
    {q : PosShare TreeShare} {X : sh.Idx → Elt F e} {Y : (⟨sh.rank, size⟩ : Shape).Idx → Elt F e} (hY : (fun j => X ((Rect.unit off' size inb').emb j)) = Y) :
    (owns (c : Thread nD τ) m q X : sProp 𝕄)
      ⊢ iprop((owns (c : Thread nD τ) m q X -∗ wp frame (wpE (defs₀ (F := F)) 𝒱₀ (c : Thread nD τ) none) Set.univ (k Y) Q)
        -∗ wp frame (wpE (defs₀ (F := F)) 𝒱₀ (c : Thread nD τ) none) Set.univ (.op (.load m (Rect.unit off size inb).toLoadRect hl) k) Q) := by
  have ho : off = off' := funext fun a => congrArg (fun r : Rect sh => r.off a) hr
  subst ho; subst hY; exact load_part (r' := Rect.unit off size inb) rfl

end Cert.Mlp

end
-- ==== Proof.Parts1.lean ====
/-
Parts 1 to 9 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 1. -/
theorem run_p1 {Φ : (Σ' (d0 : Dev nD) (v2 : BitVec 32) (v19 : BitVec 32) (v29 : BitVec 32) (v30 : Sems sig S_) (v31 : BitVec 32) (v34 : BitVec 32) (v35 : BitVec 32) (v36 : BitVec 1), BitVec 32) → sProp (MT nD τ sig Unit (Elt F) ℕ UU ℕ)} :
    (iprop(∀ w1 : BitVec 32, ∀ w2 : BitVec 32, ∀ w3 : BitVec 32, ∀ w5 : BitVec 32, ∀ w6 : BitVec 32, ∀ w7 : BitVec 32, ∀ w8 : BitVec 1, ∀ w9 : BitVec 32, Φ ⟨c, w1, w2, w3, SemArray.scalar (sig.barrier 0 rfl), w5, w6, w7, w8, w9⟩) : sProp 𝕄)
      ⊢ wp frame (wpE (defs₀ (F := F)) 𝒱₀ (c : Thread nD τ) none) Set.univ (k0_part1 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 ) Φ := by
  rw [k0_part1_eq_skeleton]; unfold k0_part1_skel
  simp only [semSignalWord, semWaitWord, Prog.lift, Prog.bind_op, Prog.bind_ret, Prog.pure_eq_ret, wp_deviceId]
  iintro Hk
  rw [wp_ret]
  imodintro
  iapply Hk

/-- Part 2. -/
theorem run_p2 (v19 : BitVec 32) (v29 : BitVec 32) (v31 : BitVec 32) (v34 : BitVec 32) (v35 : BitVec 32) (v36 : BitVec 1) (c0_i32_17 : BitVec 32) {Φ : (Σ' (v61 : BitVec 32) (v65 : BitVec 32) (v70 : BitVec 1), BitVec 32) → sProp (MT nD τ sig Unit (Elt F) ℕ UU ℕ)} :
    (Comm In c 0 : sProp 𝕄)
      ⊢ iprop(give (F := F) c true 0
        -∗ give (F := F) c false 0
        -∗ (∀ w0 : BitVec 32, ∀ w1 : BitVec 32, ∀ w2 : BitVec 1, ∀ w3 : BitVec 32, Comm In c 2 -∗ Φ ⟨w0, w1, w2, w3⟩)
        -∗ wp frame (wpE (defs₀ (F := F)) 𝒱₀ (c : Thread nD τ) none) Set.univ (k0_part2 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 (SemArray.scalar (sig.barrier 0 rfl)) v31 v34 v35 v36 c0_i32_17) Φ) := by
  rw [k0_part2_eq_skeleton]; unfold k0_part2_skel
  simp only [semSignalWord, semWaitWord, Prog.lift, Prog.bind_op, Prog.bind_ret, Prog.pure_eq_ret, wp_deviceId]
  iintro HC Gt0 Gf0 Hk
  iapply (wp_sg In c (n := 0) (pl := true) (o := 0) at0 (by decide) (dev_bar c).1 (by decide)) $$ [HC Gt0]
  · isplitl [HC] <;> iassumption
  iintro HC
  iapply (wp_sg In c (n := 1) (pl := false) (o := 0) at1 (by decide) (dev_bar c).2.1 (by decide)) $$ [HC Gf0]
  · isplitl [HC] <;> iassumption
  iintro HC
  rw [wp_ret]
  imodintro
  iapply Hk $$ HC

/-- Part 3. -/
theorem run_p3 (v19 : BitVec 32) (v29 : BitVec 32) (v61 : BitVec 32) (v65 : BitVec 32) (v70 : BitVec 1) (v71 : BitVec 32) {Φ : (Σ' (v103 : BitVec 32) (v104 : BitVec 32) (c4_i32_62 : BitVec 32), BitVec 32) → sProp (MT nD τ sig Unit (Elt F) ℕ UU ℕ)} :
    (Comm In c 2 : sProp 𝕄)
      ⊢ iprop(give (F := F) c true 1
        -∗ give (F := F) c false 1
        -∗ (∀ w0 : BitVec 32, ∀ w1 : BitVec 32, ∀ w2 : BitVec 32, ∀ w3 : BitVec 32, Comm In c 4 -∗ Φ ⟨w0, w1, w2, w3⟩)
        -∗ wp frame (wpE (defs₀ (F := F)) 𝒱₀ (c : Thread nD τ) none) Set.univ (k0_part3 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 (SemArray.scalar (sig.barrier 0 rfl)) v61 v65 v70 v71) Φ) := by
  rw [k0_part3_eq_skeleton]; unfold k0_part3_skel
  simp only [semSignalWord, semWaitWord, Prog.lift, Prog.bind_op, Prog.bind_ret, Prog.pure_eq_ret, wp_deviceId]
  iintro HC Gt1 Gf1 Hk
  iapply (wp_sg In c (n := 2) (pl := true) (o := 1) at2 (by decide) (dev_bar c).2.2.1 (by decide)) $$ [HC Gt1]
  · isplitl [HC] <;> iassumption
  iintro HC
  iapply (wp_sg In c (n := 3) (pl := false) (o := 1) at3 (by decide) (dev_bar c).2.2.2.1 (by decide)) $$ [HC Gf1]
  · isplitl [HC] <;> iassumption
  iintro HC
  rw [wp_ret]
  imodintro
  iapply Hk $$ HC

/-- Part 4. -/
theorem run_p4 (v19 : BitVec 32) (v29 : BitVec 32) (v103 : BitVec 32) (v104 : BitVec 32) (c4_i32_62 : BitVec 32) (c0_i32_63 : BitVec 32) {Yag : Vec F S1x128x128 .bf16} {Φ : (Σ' (v128 : BitVec 32) (v131 : BitVec 32) (v132 : BitVec 32) (v133 : BitVec 1) (v134 : BitVec 1), BitVec 1) → sProp (MT nD τ sig Unit (Elt F) ℕ UU ℕ)} :
    (Comm In c 4 : sProp 𝕄)
      ⊢ iprop(give (F := F) c true 2
        -∗ give (F := F) c false 2
        -∗ owns (c : Thread nD τ) aX fullShare (In.x c)
        -∗ owns (c : Thread nD τ) (bX.slice (rX (col c)) (fun _ => rfl)) fullShare Yag
        -∗ (∀ w0 : BitVec 32, ∀ w1 : BitVec 32, ∀ w2 : BitVec 32, ∀ w3 : BitVec 1, ∀ w4 : BitVec 1, ∀ w5 : BitVec 1, Comm In c 7 -∗ owns (c : Thread nD τ) aX fullShare (In.x c) -∗ owns (c : Thread nD τ) (bX.slice (rX (col c)) (fun _ => rfl)) fullShare (xs In (row c) (col c)) -∗ Φ ⟨w0, w1, w2, w3, w4, w5⟩)
        -∗ wp frame (wpE (defs₀ (F := F)) 𝒱₀ (c : Thread nD τ) none) Set.univ (k0_part4 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 (SemArray.scalar (sig.barrier 0 rfl)) v103 v104 c4_i32_62 c0_i32_63) Φ) := by
  rw [k0_part4_eq_skeleton]; unfold k0_part4_skel
  simp only [semSignalWord, semWaitWord, Prog.lift, Prog.bind_op, Prog.bind_ret, Prog.pure_eq_ret, wp_deviceId]
  iintro HC Gt2 Gf2 Ax ag0 Hk
  iapply (wp_sg In c (n := 4) (pl := true) (o := 2) at4 (by decide) (dev_bar c).2.2.2.2.1 (by decide)) $$ [HC Gt2]
  · isplitl [HC] <;> iassumption
  iintro HC
  iapply (wp_sg In c (n := 5) (pl := false) (o := 2) at5 (by decide) (dev_bar c).2.2.2.2.2 (by decide)) $$ [HC Gf2]
  · isplitl [HC] <;> iassumption
  iintro HC
  iapply (wp_wb In c at6 (by decide +kernel) (by decide)) $$ HC
  iintro HC
  iapply (load_all (c := c) z2) $$ Ax
  iintro Ax
  iapply (load_slot (c := c) (slot1 c)) $$ ag0
  iintro ag0
  iapply (store_slot_eq (c := c) (slot1 c) (show (k0_pay1 (In.x c)) = (xs In (row c) (col c)) from by unfold xs; rw [at_row_col])) $$ ag0
  iintro ag0
  rw [wp_ret]
  imodintro
  iapply Hk $$ HC Ax ag0

/-- Part 5. -/
theorem run_p5 (v19 : BitVec 32) (v29 : BitVec 32) (v128 : BitVec 32) (v131 : BitVec 32) (v132 : BitVec 32) (v133 : BitVec 1) (v134 : BitVec 1) (v135 : BitVec 1) {Φ : (BitVec 32) → sProp (MT nD τ sig Unit (Elt F) ℕ UU ℕ)} :
    (Comm In c 7 : sProp 𝕄)
      ⊢ iprop(owns (c : Thread nD τ) (bX.slice (rX (col c)) (fun _ => rfl)) (lent 0) (xs In (row c) (col c))
        -∗ owns (c : Thread nD τ) (bX.slice (rX (col c)) (fun _ => rfl)) (lent 1) (xs In (row c) (col c))
        -∗ (∀ w0 : BitVec 32, Comm In c 9 -∗ tick (F := F) c .ag 0 -∗ tick (F := F) c .ag 1 -∗ Φ w0)
        -∗ wp frame (wpE (defs₀ (F := F)) 𝒱₀ (c : Thread nD τ) none) Set.univ (k0_part5 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v128 v131 v132 v133 v134 v135) Φ) := by
  rw [k0_part5_eq_skeleton]; unfold k0_part5_skel
  simp only [semSignalWord, semWaitWord, Prog.lift, Prog.bind_op, Prog.bind_ret, Prog.pure_eq_ret, wp_deviceId]
  iintro HC agl0 agl1 Hk
  iapply (snd_ag In c (n := 0) (o := 0) at7 (slot3 c) (slot3 c) (dev_ag c).1 semc13_1 (sem2_15 c)) $$ HC agl0
  iintro HC agt0
  iapply (snd_ag In c (n := 1) (o := 1) at8 (slot3 c) (slot3 c) (dev_ag c).2.1 semc13_2 (sem2_15 c)) $$ HC agl1
  iintro HC agt1
  rw [wp_ret]
  imodintro
  iapply Hk $$ HC agt0 agt1

/-- Part 6. -/
theorem run_p6 (v19 : BitVec 32) (v29 : BitVec 32) (v170 : BitVec 32) {Ywi0 : Vec F S1x128x256 .bf16} {Φ : (Σ' (v200 : BitVec 32) (v201 : BitVec 32) (v202 : BitVec 1) (v203 : BitVec 1), BitVec 32) → sProp (MT nD τ sig Unit (Elt F) ℕ UU ℕ)} :
    (Comm In c 9 : sProp 𝕄)
      ⊢ iprop(owns (c : Thread nD τ) (bX.slice (rX (col c)) (fun _ => rfl)) (lent 2) (xs In (row c) (col c))
        -∗ owns (c : Thread nD τ) aWi0 fullShare (In.wi0 c)
        -∗ owns (c : Thread nD τ) (bWi0.slice (rWi (row c)) (fun _ => rfl)) fullShare Ywi0
        -∗ (∀ w0 : BitVec 32, ∀ w1 : BitVec 32, ∀ w2 : BitVec 1, ∀ w3 : BitVec 1, ∀ w4 : BitVec 32, Comm In c 10 -∗ owns (c : Thread nD τ) aWi0 fullShare (In.wi0 c) -∗ owns (c : Thread nD τ) (bWi0.slice (rWi (row c)) (fun _ => rfl)) fullShare (wI In 0 (row c) (col c)) -∗ tick (F := F) c .ag 2 -∗ Φ ⟨w0, w1, w2, w3, w4⟩)
        -∗ wp frame (wpE (defs₀ (F := F)) 𝒱₀ (c : Thread nD τ) none) Set.univ (k0_part6 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v170) Φ) := by
  rw [k0_part6_eq_skeleton]; unfold k0_part6_skel
  simp only [semSignalWord, semWaitWord, Prog.lift, Prog.bind_op, Prog.bind_ret, Prog.pure_eq_ret, wp_deviceId]
  iintro HC agl2 Awi0 wi00 Hk
  iapply (snd_ag In c (n := 2) (o := 2) at9 (slot3 c) (slot3 c) (dev_ag c).2.2 semc13_3 (sem2_15 c)) $$ HC agl2
  iintro HC agt2
  iapply (load_all (c := c) z2) $$ Awi0
  iintro Awi0
  iapply (load_slot (c := c) (slot4 c)) $$ wi00
  iintro wi00
  iapply (store_slot_eq (c := c) (slot4 c) (show (k0_pay2 (In.wi0 c)) = (wI In 0 (row c) (col c)) from by show _ = k0_pay2 (In.wi0 (at_ (row c) (col c))); rw [at_row_col])) $$ wi00
  iintro wi00
  rw [wp_ret]
  imodintro
  iapply Hk $$ HC Awi0 wi00 agt2

/-- Part 7. -/
theorem run_p7 (v19 : BitVec 32) (v29 : BitVec 32) (v200 : BitVec 32) (v201 : BitVec 32) (v202 : BitVec 1) (v203 : BitVec 1) (c0_i32_133 : BitVec 32) {Φ : (PUnit) → sProp (MT nD τ sig Unit (Elt F) ℕ UU ℕ)} :
    (Comm In c 10 : sProp 𝕄)
      ⊢ iprop(owns (c : Thread nD τ) (bWi0.slice (rWi (row c)) (fun _ => rfl)) (lent 0) (wI In 0 (row c) (col c))
        -∗ (Comm In c 11 -∗ tick (F := F) c .wi0 0 -∗ Φ ⟨⟩)
        -∗ wp frame (wpE (defs₀ (F := F)) 𝒱₀ (c : Thread nD τ) none) Set.univ (k0_part7 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v200 v201 v202 v203 c0_i32_133) Φ) := by
  rw [k0_part7_eq_skeleton]; unfold k0_part7_skel
  simp only [semSignalWord, semWaitWord, Prog.lift, Prog.bind_op, Prog.bind_ret, Prog.pure_eq_ret, wp_deviceId]
  iintro HC wi0l0 Hk
  iapply (snd_wi0 In c (n := 3) (o := 0) at10 (slot6 c) (slot6 c) (dev_w0 c).1 semc11_0_1 (sem5_12 c)) $$ HC wi0l0
  iintro HC wi0t0
  rw [wp_ret]
  imodintro
  iapply Hk $$ HC wi0t0

/-- Part 8. -/
theorem run_p8 (v19 : BitVec 32) (v29 : BitVec 32) {Ywo0 : Vec F S1x256x128 .bf16} {Φ : (Σ' (v268 : BitVec 32) (c4_i32_183 : BitVec 32), BitVec 32) → sProp (MT nD τ sig Unit (Elt F) ℕ UU ℕ)} :
    (Comm In c 11 : sProp 𝕄)
      ⊢ iprop(owns (c : Thread nD τ) (bWi0.slice (rWi (row c)) (fun _ => rfl)) (lent 1) (wI In 0 (row c) (col c))
        -∗ owns (c : Thread nD τ) (bWi0.slice (rWi (row c)) (fun _ => rfl)) (lent 2) (wI In 0 (row c) (col c))
        -∗ owns (c : Thread nD τ) aWo0 fullShare (In.wo0 c)
        -∗ owns (c : Thread nD τ) (bWo0.slice (rWo (row c)) (fun _ => rfl)) fullShare Ywo0
        -∗ (∀ w0 : BitVec 32, ∀ w1 : BitVec 32, ∀ w2 : BitVec 32, Comm In c 13 -∗ owns (c : Thread nD τ) aWo0 fullShare (In.wo0 c) -∗ owns (c : Thread nD τ) (bWo0.slice (rWo (row c)) (fun _ => rfl)) fullShare (wO In 0 (row c) (col c)) -∗ tick (F := F) c .wi0 1 -∗ tick (F := F) c .wi0 2 -∗ Φ ⟨w0, w1, w2⟩)
        -∗ wp frame (wpE (defs₀ (F := F)) 𝒱₀ (c : Thread nD τ) none) Set.univ (k0_part8 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part8_eq_skeleton]; unfold k0_part8_skel
  simp only [semSignalWord, semWaitWord, Prog.lift, Prog.bind_op, Prog.bind_ret, Prog.pure_eq_ret, wp_deviceId]
  iintro HC wi0l1 wi0l2 Awo0 wo00 Hk
  iapply (snd_wi0 In c (n := 4) (o := 1) at11 (slot6 c) (slot6 c) (dev_w0 c).2.1 semc11_0_2 (sem5_12 c)) $$ HC wi0l1
  iintro HC wi0t1
  iapply (snd_wi0 In c (n := 5) (o := 2) at12 (slot6 c) (slot6 c) (dev_w0 c).2.2 semc11_0_3 (sem5_12 c)) $$ HC wi0l2
  iintro HC wi0t2
  iapply (load_all (c := c) z2) $$ Awo0
  iintro Awo0
  iapply (load_slot (c := c) (slot7 c)) $$ wo00
  iintro wo00
  iapply (store_slot_eq (c := c) (slot7 c) (show (k0_pay3 (In.wo0 c)) = (wO In 0 (row c) (col c)) from by show _ = k0_pay3 (In.wo0 (at_ (row c) (col c))); rw [at_row_col])) $$ wo00
  iintro wo00
  rw [wp_ret]
  imodintro
  iapply Hk $$ HC Awo0 wo00 wi0t1 wi0t2

/-- Part 9. -/
theorem run_p9 (v19 : BitVec 32) (v29 : BitVec 32) (v268 : BitVec 32) (c4_i32_183 : BitVec 32) (c0_i32_184 : BitVec 32) {Φ : (Σ' (v301 : BitVec 32), BitVec 32) → sProp (MT nD τ sig Unit (Elt F) ℕ UU ℕ)} :
    (Comm In c 13 : sProp 𝕄)
      ⊢ iprop(owns (c : Thread nD τ) (bWo0.slice (rWo (row c)) (fun _ => rfl)) (lent 0) (wO In 0 (row c) (col c))
        -∗ (∀ w0 : BitVec 32, ∀ w1 : BitVec 32, Comm In c 14 -∗ tick (F := F) c .wo0 0 -∗ Φ ⟨w0, w1⟩)
        -∗ wp frame (wpE (defs₀ (F := F)) 𝒱₀ (c : Thread nD τ) none) Set.univ (k0_part9 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v268 c4_i32_183 c0_i32_184) Φ) := by
  rw [k0_part9_eq_skeleton]; unfold k0_part9_skel
  simp only [semSignalWord, semWaitWord, Prog.lift, Prog.bind_op, Prog.bind_ret, Prog.pure_eq_ret, wp_deviceId]
  iintro HC wo0l0 Hk
  iapply (snd_wo0 In c (n := 6) (o := 0) at13 (slot9 c) (slot9 c) (dev_w1 c).1 semc11_1_1 (sem8_12 c)) $$ HC wo0l0
  iintro HC wo0t0
  rw [wp_ret]
  imodintro
  iapply Hk $$ HC wo0t0

end Cert.Mlp

end
-- ==== Proof.Parts2.lean ====
/-
Parts 10 to 19 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 10. -/
theorem run_p10 (v19 : BitVec 32) (v29 : BitVec 32) (v301 : BitVec 32) (c1_i32_210 : BitVec 32) {Φ : (FVec F S1x128x256 .bf16) → sProp (MT nD τ sig Unit (Elt F) ℕ UU ℕ)} :
    (Comm In c 14 : sProp 𝕄)
      ⊢ iprop(owns (c : Thread nD τ) (bWo0.slice (rWo (row c)) (fun _ => rfl)) (lent 1) (wO In 0 (row c) (col c))
        -∗ owns (c : Thread nD τ) (bWo0.slice (rWo (row c)) (fun _ => rfl)) (lent 2) (wO In 0 (row c) (col c))
        -∗ owns (c : Thread nD τ) aWi1 fullShare (In.wi1 c)
        -∗ (Comm In c 16 -∗ owns (c : Thread nD τ) aWi1 fullShare (In.wi1 c) -∗ tick (F := F) c .wo0 1 -∗ tick (F := F) c .wo0 2 -∗ Φ (k0_pay4 (In.wi1 c)))
        -∗ wp frame (wpE (defs₀ (F := F)) 𝒱₀ (c : Thread nD τ) none) Set.univ (k0_part10 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v301 c1_i32_210) Φ) := by
  rw [k0_part10_eq_skeleton]; unfold k0_part10_skel
  simp only [semSignalWord, semWaitWord, Prog.lift, Prog.bind_op, Prog.bind_ret, Prog.pure_eq_ret, wp_deviceId]
  iintro HC wo0l1 wo0l2 Awi1 Hk
  iapply (snd_wo0 In c (n := 7) (o := 1) at14 (slot9 c) (slot9 c) (dev_w1 c).2.1 semc11_1_2 (sem8_12 c)) $$ HC wo0l1
  iintro HC wo0t1
  iapply (snd_wo0 In c (n := 8) (o := 2) at15 (slot9 c) (slot9 c) (dev_w1 c).2.2 semc11_1_3 (sem8_12 c)) $$ HC wo0l2
  iintro HC wo0t2
  iapply (load_all (c := c) z2) $$ Awi1
  iintro Awi1
  rw [wp_ret]
  imodintro
  iapply Hk $$ HC Awi1 wo0t1 wo0t2

/-- Part 11. -/
theorem run_p11 (v19 : BitVec 32) (v29 : BitVec 32) {Ywi1 : Vec F S1x128x256 .bf16} {Φ : (Σ' (v361 : BitVec 32) (v362 : BitVec 32), BitVec 1) → sProp (MT nD τ sig Unit (Elt F) ℕ UU ℕ)} :
    (owns (c : Thread nD τ) (bWi1.slice (rWi (row c)) (fun _ => rfl)) fullShare Ywi1 : sProp 𝕄)
      ⊢ iprop(Comm In c 16
        -∗ (∀ w0 : BitVec 32, ∀ w1 : BitVec 32, ∀ w2 : BitVec 1, owns (c : Thread nD τ) (bWi1.slice (rWi (row c)) (fun _ => rfl)) fullShare.left (wI In 1 (row c) (col c)) -∗ Comm In c 17 -∗ owns (c : Thread nD τ) (bWi1.slice (rWi (row c)) (fun _ => rfl)) (lent 1) (wI In 1 (row c) (col c)) -∗ owns (c : Thread nD τ) (bWi1.slice (rWi (row c)) (fun _ => rfl)) (lent 2) (wI In 1 (row c) (col c)) -∗ tick (F := F) c .wi1 0 -∗ Φ ⟨w0, w1, w2⟩)
        -∗ wp frame (wpE (defs₀ (F := F)) 𝒱₀ (c : Thread nD τ) none) Set.univ (k0_part11 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 ((k0_pay4 (In.wi1 c)))) Φ) := by
  rw [k0_part11_eq_skeleton]; unfold k0_part11_skel
  simp only [semSignalWord, semWaitWord, Prog.lift, Prog.bind_op, Prog.bind_ret, Prog.pure_eq_ret, wp_deviceId]
  iintro wi10 HC Hk
  iapply (load_slot (c := c) (slot4 c)) $$ wi10
  iintro wi10
  iapply (store_slot_eq (c := c) (slot4 c) (show (k0_pay5 (k0_pay4 (In.wi1 c))) = (wI In 1 (row c) (col c)) from by show _ = k0_pay5 (k0_pay4 (In.wi1 (at_ (row c) (col c)))); rw [at_row_col])) $$ wi10
  iintro wi10
  ihave wi10 := (owns_lend c).1 $$ wi10
  icases wi10 with ⟨wi10, wi1l0, wi1l1, wi1l2⟩
  iapply (snd_wi1 In c (n := 9) (o := 0) at16 (slot6 c) (slot6 c) (dev_w2 c).1 semc11_2_1 (sem10_12 c)) $$ HC wi1l0
  iintro HC wi1t0
  rw [wp_ret]
  imodintro
  iapply Hk $$ wi10 HC wi1l1 wi1l2 wi1t0

/-- Part 12. -/
theorem run_p12 (v19 : BitVec 32) (v29 : BitVec 32) (v361 : BitVec 32) (v362 : BitVec 32) (v367 : BitVec 1) {Φ : (PUnit) → sProp (MT nD τ sig Unit (Elt F) ℕ UU ℕ)} :
    (Comm In c 17 : sProp 𝕄)
      ⊢ iprop(owns (c : Thread nD τ) (bWi1.slice (rWi (row c)) (fun _ => rfl)) (lent 1) (wI In 1 (row c) (col c))
        -∗ (Comm In c 18 -∗ tick (F := F) c .wi1 1 -∗ Φ ⟨⟩)
        -∗ wp frame (wpE (defs₀ (F := F)) 𝒱₀ (c : Thread nD τ) none) Set.univ (k0_part12 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v361 v362 v367) Φ) := by
  rw [k0_part12_eq_skeleton]; unfold k0_part12_skel
  simp only [semSignalWord, semWaitWord, Prog.lift, Prog.bind_op, Prog.bind_ret, Prog.pure_eq_ret, wp_deviceId]
  iintro HC wi1l1 Hk
  iapply (snd_wi1 In c (n := 10) (o := 1) at17 (slot6 c) (slot6 c) (dev_w2 c).2.1 semc11_2_2 (sem10_12 c)) $$ HC wi1l1
  iintro HC wi1t1
  rw [wp_ret]
  imodintro
  iapply Hk $$ HC wi1t1

/-- Part 13. -/
theorem run_p13 (v19 : BitVec 32) (v29 : BitVec 32) {Ywo1 : Vec F S1x256x128 .bf16} {Φ : (Σ' (v429 : BitVec 32), BitVec 32) → sProp (MT nD τ sig Unit (Elt F) ℕ UU ℕ)} :
    (Comm In c 18 : sProp 𝕄)
      ⊢ iprop(owns (c : Thread nD τ) (bWi1.slice (rWi (row c)) (fun _ => rfl)) (lent 2) (wI In 1 (row c) (col c))
        -∗ owns (c : Thread nD τ) aWo1 fullShare (In.wo1 c)
        -∗ owns (c : Thread nD τ) (bWo1.slice (rWo (row c)) (fun _ => rfl)) fullShare Ywo1
        -∗ (∀ w0 : BitVec 32, ∀ w1 : BitVec 32, Comm In c 20 -∗ owns (c : Thread nD τ) aWo1 fullShare (In.wo1 c) -∗ owns (c : Thread nD τ) (bWo1.slice (rWo (row c)) (fun _ => rfl)) fullShare.left (wO In 1 (row c) (col c)) -∗ tick (F := F) c .wi1 2 -∗ owns (c : Thread nD τ) (bWo1.slice (rWo (row c)) (fun _ => rfl)) (lent 1) (wO In 1 (row c) (col c)) -∗ owns (c : Thread nD τ) (bWo1.slice (rWo (row c)) (fun _ => rfl)) (lent 2) (wO In 1 (row c) (col c)) -∗ tick (F := F) c .wo1 0 -∗ Φ ⟨w0, w1⟩)
        -∗ wp frame (wpE (defs₀ (F := F)) 𝒱₀ (c : Thread nD τ) none) Set.univ (k0_part13 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part13_eq_skeleton]; unfold k0_part13_skel
  simp only [semSignalWord, semWaitWord, Prog.lift, Prog.bind_op, Prog.bind_ret, Prog.pure_eq_ret, wp_deviceId]
  iintro HC wi1l2 Awo1 wo10 Hk
  iapply (snd_wi1 In c (n := 11) (o := 2) at18 (slot6 c) (slot6 c) (dev_w2 c).2.2 semc11_2_3 (sem10_12 c)) $$ HC wi1l2
  iintro HC wi1t2
  iapply (load_all (c := c) z2) $$ Awo1
  iintro Awo1
  iapply (load_slot (c := c) (slot7 c)) $$ wo10
  iintro wo10
  iapply (store_slot_eq (c := c) (slot7 c) (show (k0_pay6 (In.wo1 c)) = (wO In 1 (row c) (col c)) from by show _ = k0_pay6 (In.wo1 (at_ (row c) (col c))); rw [at_row_col])) $$ wo10
  iintro wo10
  ihave wo10 := (owns_lend c).1 $$ wo10
  icases wo10 with ⟨wo10, wo1l0, wo1l1, wo1l2⟩
  iapply (snd_wo1 In c (n := 12) (o := 0) at19 (slot9 c) (slot9 c) (dev_w3 c).1 semc11_3_1 (sem11_12 c)) $$ HC wo1l0
  iintro HC wo1t0
  rw [wp_ret]
  imodintro
  iapply Hk $$ HC Awo1 wo10 wi1t2 wo1l1 wo1l2 wo1t0

/-- Part 14. -/
theorem run_p14 (v19 : BitVec 32) (v29 : BitVec 32) (v429 : BitVec 32) (v431 : BitVec 32) {Φ : (PUnit) → sProp (MT nD τ sig Unit (Elt F) ℕ UU ℕ)} :
    (Comm In c 20 : sProp 𝕄)
      ⊢ iprop(owns (c : Thread nD τ) (bWo1.slice (rWo (row c)) (fun _ => rfl)) (lent 1) (wO In 1 (row c) (col c))
        -∗ (Comm In c 21 -∗ tick (F := F) c .wo1 1 -∗ Φ ⟨⟩)
        -∗ wp frame (wpE (defs₀ (F := F)) 𝒱₀ (c : Thread nD τ) none) Set.univ (k0_part14 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v429 v431) Φ) := by
  rw [k0_part14_eq_skeleton]; unfold k0_part14_skel
  simp only [semSignalWord, semWaitWord, Prog.lift, Prog.bind_op, Prog.bind_ret, Prog.pure_eq_ret, wp_deviceId]
  iintro HC wo1l1 Hk
  iapply (snd_wo1 In c (n := 13) (o := 1) at20 (slot9 c) (slot9 c) (dev_w3 c).2.1 semc11_3_2 (sem11_12 c)) $$ HC wo1l1
  iintro HC wo1t1
  rw [wp_ret]
  imodintro
  iapply Hk $$ HC wo1t1

/-- Part 15. -/
theorem run_p15 (v19 : BitVec 32) (v29 : BitVec 32) {Ywi2 : Vec F S1x128x256 .bf16} {Φ : (PUnit) → sProp (MT nD τ sig Unit (Elt F) ℕ UU ℕ)} :
    (Comm In c 21 : sProp 𝕄)
      ⊢ iprop(owns (c : Thread nD τ) (bWo1.slice (rWo (row c)) (fun _ => rfl)) (lent 2) (wO In 1 (row c) (col c))
        -∗ owns (c : Thread nD τ) aWi2 fullShare (In.wi2 c)
        -∗ owns (c : Thread nD τ) (bWi2.slice (rWi (row c)) (fun _ => rfl)) fullShare Ywi2
        -∗ (Comm In c 22 -∗ owns (c : Thread nD τ) aWi2 fullShare (In.wi2 c) -∗ owns (c : Thread nD τ) (bWi2.slice (rWi (row c)) (fun _ => rfl)) fullShare (wI In 2 (row c) (col c)) -∗ tick (F := F) c .wo1 2 -∗ Φ ⟨⟩)
        -∗ wp frame (wpE (defs₀ (F := F)) 𝒱₀ (c : Thread nD τ) none) Set.univ (k0_part15 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part15_eq_skeleton]; unfold k0_part15_skel
  simp only [semSignalWord, semWaitWord, Prog.lift, Prog.bind_op, Prog.bind_ret, Prog.pure_eq_ret, wp_deviceId]
  iintro HC wo1l2 Awi2 wi20 Hk
  iapply (snd_wo1 In c (n := 14) (o := 2) at21 (slot9 c) (slot9 c) (dev_w3 c).2.2 semc11_3_3 (sem11_12 c)) $$ HC wo1l2
  iintro HC wo1t2
  iapply (load_all (c := c) z2) $$ Awi2
  iintro Awi2
  iapply (load_slot (c := c) (slot4 c)) $$ wi20
  iintro wi20
  iapply (store_slot_eq (c := c) (slot4 c) (show (k0_pay7 (In.wi2 c)) = (wI In 2 (row c) (col c)) from by show _ = k0_pay7 (In.wi2 (at_ (row c) (col c))); rw [at_row_col])) $$ wi20
  iintro wi20
  rw [wp_ret]
  imodintro
  iapply Hk $$ HC Awi2 wi20 wo1t2

/-- Part 16. -/
theorem run_p16 (v19 : BitVec 32) (v29 : BitVec 32) {Φ : (Σ' (v530 : BitVec 32), BitVec 32) → sProp (MT nD τ sig Unit (Elt F) ℕ UU ℕ)} :
    (Comm In c 22 : sProp 𝕄)
      ⊢ iprop(owns (c : Thread nD τ) (bWi2.slice (rWi (row c)) (fun _ => rfl)) (lent 0) (wI In 2 (row c) (col c))
        -∗ owns (c : Thread nD τ) (bWi2.slice (rWi (row c)) (fun _ => rfl)) (lent 1) (wI In 2 (row c) (col c))
        -∗ (∀ w0 : BitVec 32, ∀ w1 : BitVec 32, Comm In c 24 -∗ tick (F := F) c .wi2 0 -∗ tick (F := F) c .wi2 1 -∗ Φ ⟨w0, w1⟩)
        -∗ wp frame (wpE (defs₀ (F := F)) 𝒱₀ (c : Thread nD τ) none) Set.univ (k0_part16 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part16_eq_skeleton]; unfold k0_part16_skel
  simp only [semSignalWord, semWaitWord, Prog.lift, Prog.bind_op, Prog.bind_ret, Prog.pure_eq_ret, wp_deviceId]
  iintro HC wi2l0 wi2l1 Hk
  iapply (snd_wi2 In c (n := 15) (o := 0) at22 (slot6 c) (slot6 c) (dev_w4 c).1 semc11_4_1 (sem12_12 c)) $$ HC wi2l0
  iintro HC wi2t0
  iapply (snd_wi2 In c (n := 16) (o := 1) at23 (slot6 c) (slot6 c) (dev_w4 c).2.1 semc11_4_2 (sem12_12 c)) $$ HC wi2l1
  iintro HC wi2t1
  rw [wp_ret]
  imodintro
  iapply Hk $$ HC wi2t0 wi2t1

/-- Part 17. -/
theorem run_p17 (v19 : BitVec 32) (v29 : BitVec 32) (v530 : BitVec 32) (c4_i32_388 : BitVec 32) {Ywo2 : Vec F S1x256x128 .bf16} {Φ : (PUnit) → sProp (MT nD τ sig Unit (Elt F) ℕ UU ℕ)} :
    (Comm In c 24 : sProp 𝕄)
      ⊢ iprop(owns (c : Thread nD τ) (bWi2.slice (rWi (row c)) (fun _ => rfl)) (lent 2) (wI In 2 (row c) (col c))
        -∗ owns (c : Thread nD τ) aWo2 fullShare (In.wo2 c)
        -∗ owns (c : Thread nD τ) (bWo2.slice (rWo (row c)) (fun _ => rfl)) fullShare Ywo2
        -∗ (Comm In c 25 -∗ owns (c : Thread nD τ) aWo2 fullShare (In.wo2 c) -∗ owns (c : Thread nD τ) (bWo2.slice (rWo (row c)) (fun _ => rfl)) fullShare (wO In 2 (row c) (col c)) -∗ tick (F := F) c .wi2 2 -∗ Φ ⟨⟩)
        -∗ wp frame (wpE (defs₀ (F := F)) 𝒱₀ (c : Thread nD τ) none) Set.univ (k0_part17 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 v530 c4_i32_388) Φ) := by
  rw [k0_part17_eq_skeleton]; unfold k0_part17_skel
  simp only [semSignalWord, semWaitWord, Prog.lift, Prog.bind_op, Prog.bind_ret, Prog.pure_eq_ret, wp_deviceId]
  iintro HC wi2l2 Awo2 wo20 Hk
  iapply (snd_wi2 In c (n := 17) (o := 2) at24 (slot6 c) (slot6 c) (dev_w4 c).2.2 semc11_4_3 (sem12_12 c)) $$ HC wi2l2
  iintro HC wi2t2
  iapply (load_all (c := c) z2) $$ Awo2
  iintro Awo2
  iapply (load_slot (c := c) (slot7 c)) $$ wo20
  iintro wo20
  iapply (store_slot_eq (c := c) (slot7 c) (show (k0_pay8 (In.wo2 c)) = (wO In 2 (row c) (col c)) from by show _ = k0_pay8 (In.wo2 (at_ (row c) (col c))); rw [at_row_col])) $$ wo20
  iintro wo20
  rw [wp_ret]
  imodintro
  iapply Hk $$ HC Awo2 wo20 wi2t2

/-- Part 18. -/
theorem run_p18 (v19 : BitVec 32) (v29 : BitVec 32) {Φ : (Σ' (v592 : BitVec 32) (v593 : BitVec 32), BitVec 1) → sProp (MT nD τ sig Unit (Elt F) ℕ UU ℕ)} :
    (Comm In c 25 : sProp 𝕄)
      ⊢ iprop(owns (c : Thread nD τ) (bWo2.slice (rWo (row c)) (fun _ => rfl)) (lent 0) (wO In 2 (row c) (col c))
        -∗ owns (c : Thread nD τ) (bWo2.slice (rWo (row c)) (fun _ => rfl)) (lent 1) (wO In 2 (row c) (col c))
        -∗ (∀ w0 : BitVec 32, ∀ w1 : BitVec 32, ∀ w2 : BitVec 1, Comm In c 27 -∗ tick (F := F) c .wo2 0 -∗ tick (F := F) c .wo2 1 -∗ Φ ⟨w0, w1, w2⟩)
        -∗ wp frame (wpE (defs₀ (F := F)) 𝒱₀ (c : Thread nD τ) none) Set.univ (k0_part18 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part18_eq_skeleton]; unfold k0_part18_skel
  simp only [semSignalWord, semWaitWord, Prog.lift, Prog.bind_op, Prog.bind_ret, Prog.pure_eq_ret, wp_deviceId]
  iintro HC wo2l0 wo2l1 Hk
  iapply (snd_wo2 In c (n := 18) (o := 0) at25 (slot9 c) (slot9 c) (dev_w5 c).1 semc11_5_1 (sem13_12 c)) $$ HC wo2l0
  iintro HC wo2t0
  iapply (snd_wo2 In c (n := 19) (o := 1) at26 (slot9 c) (slot9 c) (dev_w5 c).2.1 semc11_5_2 (sem13_12 c)) $$ HC wo2l1
  iintro HC wo2t1
  rw [wp_ret]
  imodintro
  iapply Hk $$ HC wo2t0 wo2t1

/-- Part 19. -/
theorem run_p19 (v2 : BitVec 32) (v29 : BitVec 32) (v592 : BitVec 32) (v593 : BitVec 32) (v594 : BitVec 1) {Φ : (PUnit) → sProp (MT nD τ sig Unit (Elt F) ℕ UU ℕ)} :
    (Comm In c 27 : sProp 𝕄)
      ⊢ iprop(owns (c : Thread nD τ) (bWo2.slice (rWo (row c)) (fun _ => rfl)) (lent 2) (wO In 2 (row c) (col c))
        -∗ (Comm In c 28 -∗ tick (F := F) c .wo2 2 -∗ Φ ⟨⟩)
        -∗ wp frame (wpE (defs₀ (F := F)) 𝒱₀ (c : Thread nD τ) none) Set.univ (k0_part19 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29 v592 v593 v594) Φ) := by
  rw [k0_part19_eq_skeleton]; unfold k0_part19_skel
  simp only [semSignalWord, semWaitWord, Prog.lift, Prog.bind_op, Prog.bind_ret, Prog.pure_eq_ret, wp_deviceId]
  iintro HC wo2l2 Hk
  iapply (snd_wo2 In c (n := 20) (o := 2) at27 (slot9 c) (slot9 c) (dev_w5 c).2.2 semc11_5_3 (sem13_12 c)) $$ HC wo2l2
  iintro HC wo2t2
  rw [wp_ret]
  imodintro
  iapply Hk $$ HC wo2t2

end Cert.Mlp

end
-- ==== Proof.Parts3.lean ====
/-
Parts 20 to 29 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 20. -/
theorem run_p20 (v2 : BitVec 32) (v29 : BitVec 32) {Φ : (PUnit) → sProp (MT nD τ sig Unit (Elt F) ℕ UU ℕ)} :
    (Comm In c 28 : sProp 𝕄)
      ⊢ iprop((Comm In c 30 -∗ owns (c : Thread nD τ) (bX.slice (rX (col c + (Fin.succ 0 : Fin 4))) (fun _ => rfl)) fullShare (xs In (row c) (col c + (Fin.succ 0 : Fin 4))) -∗ owns (c : Thread nD τ) (bX.slice (rX (col c + (Fin.succ 1 : Fin 4))) (fun _ => rfl)) fullShare (xs In (row c) (col c + (Fin.succ 1 : Fin 4))) -∗ Φ ⟨⟩)
        -∗ wp frame (wpE (defs₀ (F := F)) 𝒱₀ (c : Thread nD τ) none) Set.univ (k0_part20 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29) Φ) := by
  rw [k0_part20_eq_skeleton]; unfold k0_part20_skel
  simp only [semSignalWord, semWaitWord, Prog.lift, Prog.bind_op, Prog.bind_ret, Prog.pure_eq_ret, wp_deviceId]
  iintro HC Hk
  iapply (wR_ag In c (n := 21) (o := 0) at28 (by decide +kernel) (sem14_15_1 c) (src := (bX.slice (Rect.unit (s := S4x128x128) (k0_off15 c 1#32) S1x128x128.size (k0_off15_inb c 0)) (fun _ => rfl))) (dst := (bX.slice (Rect.unit (s := S4x128x128) (k0_off15 c 1#32) S1x128x128.size (k0_off15_inb c 0)) (fun _ => rfl))) rfl) $$ HC
  iintro HC agr0
  iapply (wR_ag In c (n := 22) (o := 1) at29 (by decide +kernel) (sem14_15_2 c) (src := (bX.slice (Rect.unit (s := S4x128x128) (k0_off15 c 2#32) S1x128x128.size (k0_off15_inb c 1)) (fun _ => rfl))) (dst := (bX.slice (Rect.unit (s := S4x128x128) (k0_off15 c 2#32) S1x128x128.size (k0_off15_inb c 1)) (fun _ => rfl))) rfl) $$ HC
  iintro HC agr1
  rw [wp_ret]
  imodintro
  iapply Hk $$ HC agr0 agr1

/-- Part 21. -/
theorem run_p21 (v19 : BitVec 32) {Φ : (Σ' (v663 : FVec F S512x128 .bf16) (v685 : FVec F S512x128 .f32) (v688 : BitVec 32) (v689 : BitVec 32) (v690 : BitVec 1) (v691 : BitVec 1), BitVec 1) → sProp (MT nD τ sig Unit (Elt F) ℕ UU ℕ)} :
    (Comm In c 30 : sProp 𝕄)
      ⊢ iprop(owns (c : Thread nD τ) (bX.slice (rX (col c)) (fun _ => rfl)) fullShare.left (xs In (row c) (col c))
        -∗ owns (c : Thread nD τ) (bX.slice (rX (col c + (Fin.succ 0 : Fin 4))) (fun _ => rfl)) fullShare (xs In (row c) (col c + (Fin.succ 0 : Fin 4)))
        -∗ owns (c : Thread nD τ) (bX.slice (rX (col c + (Fin.succ 1 : Fin 4))) (fun _ => rfl)) fullShare (xs In (row c) (col c + (Fin.succ 1 : Fin 4)))
        -∗ owns (c : Thread nD τ) (bWi0.slice (rWi (row c)) (fun _ => rfl)) fullShare.left (wI In 0 (row c) (col c))
        -∗ owns (c : Thread nD τ) (bWo0.slice (rWo (row c)) (fun _ => rfl)) fullShare.left (wO In 0 (row c) (col c))
        -∗ (∀ w2 : BitVec 32, ∀ w3 : BitVec 32, ∀ w4 : BitVec 1, ∀ w5 : BitVec 1, ∀ w6 : BitVec 1, Comm In c 31 -∗ owns (c : Thread nD τ) (bWi0.slice (rWi (row c)) (fun _ => rfl)) fullShare.left (wI In 0 (row c) (col c)) -∗ owns (c : Thread nD τ) (bWo0.slice (rWo (row c)) (fun _ => rfl)) fullShare.left (wO In 0 (row c) (col c)) -∗ owns (c : Thread nD τ) bX fullShare.left (xb0 In (row c)) -∗ owns (c : Thread nD τ) (bX.slice (rX (col c + (Fin.succ 0 : Fin 4))) (fun _ => rfl)) fullShare.right (xs In (row c) (col c + (Fin.succ 0 : Fin 4))) -∗ owns (c : Thread nD τ) (bX.slice (rX (col c + (Fin.succ 1 : Fin 4))) (fun _ => rfl)) fullShare.right (xs In (row c) (col c + (Fin.succ 1 : Fin 4))) -∗ owns (c : Thread nD τ) (bX.slice (rX (col c + (Fin.succ 2 : Fin 4))) (fun _ => rfl)) fullShare.right (xs In (row c) (col c + (Fin.succ 2 : Fin 4))) -∗ Φ ⟨(k0_pay30 (xb0 In (row c))), (acc0 In 0 (row c) (col c) (k0_pay30 (xb0 In (row c)))), w2, w3, w4, w5, w6⟩)
        -∗ wp frame (wpE (defs₀ (F := F)) 𝒱₀ (c : Thread nD τ) none) Set.univ (k0_part21 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19) Φ) := by
  rw [k0_part21_eq_skeleton]; unfold k0_part21_skel
  simp only [semSignalWord, semWaitWord, Prog.lift, Prog.bind_op, Prog.bind_ret, Prog.pure_eq_ret, wp_deviceId]
  iintro HC ag0 agr0 agr1 wi00 wo00 Hk
  iapply (wR_ag In c (n := 23) (o := 2) at30 (by decide +kernel) (sem14_15_3 c) (src := (bX.slice (Rect.unit (s := S4x128x128) (k0_off15 c 3#32) S1x128x128.size (k0_off15_inb c 2)) (fun _ => rfl))) (dst := (bX.slice (Rect.unit (s := S4x128x128) (k0_off15 c 3#32) S1x128x128.size (k0_off15_inb c 2)) (fun _ => rfl))) rfl) $$ HC
  iintro HC agr2
  ihave agr0 := (owns_share _).1 $$ agr0
  icases agr0 with ⟨agp0, agq0⟩
  ihave agr1 := (owns_share _).1 $$ agr1
  icases agr1 with ⟨agp1, agq1⟩
  ihave agr2 := (owns_share _).1 $$ agr2
  icases agr2 with ⟨agp2, agq2⟩
  ihave XW := (rX_apart c (col c) (q := fullShare.left) (X := xb0 In (row c)) (Y := xs In (row c)) (stack3_emb (xs In (row c)) · (rX_inb _))).2 $$ [ag0 agp0 agp1 agp2]
  · isplitl [ag0]; · iexact ag0
    isplitl [agp0]; · iexact agp0
    isplitl [agp1]; · iexact agp1
    iexact agp2
  iapply (load_all (c := c) z3) $$ XW
  iintro XW
  iapply (load_slot (c := c) (slot16_0 c)) $$ wi00
  iintro wi00
  iapply (load_slot (c := c) (slot17_0 c)) $$ wo00
  iintro wo00
  rw [wp_ret]
  imodintro
  rw [show k0_pay9 (xb0 In (row c)) = (k0_pay30 (xb0 In (row c))) from rfl]
  rw [show k0_pay10 (xb0 In (row c)) (wI In 0 (row c) (col c)) (wO In 0 (row c) (col c)) = (acc0 In 0 (row c) (col c) (k0_pay30 (xb0 In (row c)))) from rfl]
  iapply Hk $$ HC wi00 wo00 XW agq0 agq1 agq2

/-- Part 22. -/
theorem run_p22 (v2 : BitVec 32) (v19 : BitVec 32) (v688 : BitVec 32) (v689 : BitVec 32) (v690 : BitVec 1) (v691 : BitVec 1) (v692 : BitVec 1) {Φ : (Σ' (v720 : FVec F S512x128 .f32) (v721 : BitVec 32) (c4_i32_543 : BitVec 32), BitVec 1) → sProp (MT nD τ sig Unit (Elt F) ℕ UU ℕ)} :
    (Comm In c 31 : sProp 𝕄)
      ⊢ iprop((∀ w1 : BitVec 32, ∀ w2 : BitVec 32, ∀ w3 : BitVec 1, Comm In c 33 -∗ owns (c : Thread nD τ) (bWi0.slice (rWi (row c + (Fin.succ 0 : Fin 4))) (fun _ => rfl)) fullShare (wI In 0 (row c + (Fin.succ 0 : Fin 4)) (col c)) -∗ owns (c : Thread nD τ) (bWo0.slice (rWo (row c + (Fin.succ 0 : Fin 4))) (fun _ => rfl)) fullShare (wO In 0 (row c + (Fin.succ 0 : Fin 4)) (col c)) -∗ Φ ⟨(acc1 In 0 (row c) (col c) (k0_pay30 (xb0 In (row c)))), w1, w2, w3⟩)
        -∗ wp frame (wpE (defs₀ (F := F)) 𝒱₀ (c : Thread nD τ) none) Set.univ (k0_part22 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb0 In (row c)))) ((acc0 In 0 (row c) (col c) (k0_pay30 (xb0 In (row c))))) v688 v689 v690 v691 v692) Φ) := by
  rw [k0_part22_eq_skeleton]; unfold k0_part22_skel
  simp only [semSignalWord, semWaitWord, Prog.lift, Prog.bind_op, Prog.bind_ret, Prog.pure_eq_ret, wp_deviceId]
  iintro HC Hk
  iapply (wR_wi0 In c (n := 24) (o := 0) at31 (by decide +kernel) (sem18_12_1 c) (src := (bWi0.slice (Rect.unit (s := S4x128x256) (k0_off19 c 1#32) S1x128x256.size (k0_off19_inb c 0)) (fun _ => rfl))) (dst := (bWi0.slice (Rect.unit (s := S4x128x256) (k0_off19 c 1#32) S1x128x256.size (k0_off19_inb c 0)) (fun _ => rfl))) rfl) $$ HC
  iintro HC wi0r0
  iapply (wR_wo0 In c (n := 25) (o := 0) at32 (by decide +kernel) (sem20_12_1 c) (src := (bWo0.slice (Rect.unit (s := S4x256x128) (k0_off21 c 1#32) S1x256x128.size (k0_off21_inb c 0)) (fun _ => rfl))) (dst := (bWo0.slice (Rect.unit (s := S4x256x128) (k0_off21 c 1#32) S1x256x128.size (k0_off21_inb c 0)) (fun _ => rfl))) rfl) $$ HC
  iintro HC wo0r0
  iapply (load_slot (c := c) (slot16_1 c)) $$ wi0r0
  iintro wi0r0
  iapply (load_slot (c := c) (slot17_1 c)) $$ wo0r0
  iintro wo0r0
  rw [wp_ret]
  imodintro
  rw [show k0_pay11 (k0_pay30 (xb0 In (row c))) (acc0 In 0 (row c) (col c) (k0_pay30 (xb0 In (row c)))) (wI In 0 (row c + (Fin.succ 0 : Fin 4)) (col c)) (wO In 0 (row c + (Fin.succ 0 : Fin 4)) (col c)) = (acc1 In 0 (row c) (col c) (k0_pay30 (xb0 In (row c)))) from rfl]
  iapply Hk $$ HC wi0r0 wo0r0

/-- Part 23. -/
theorem run_p23 (v2 : BitVec 32) (v721 : BitVec 32) (c4_i32_543 : BitVec 32) (v722 : BitVec 1) {Φ : (Σ' (v749 : FVec F S256x128 .bf16), FVec F S512x256 .f32) → sProp (MT nD τ sig Unit (Elt F) ℕ UU ℕ)} :
    (Comm In c 33 : sProp 𝕄)
      ⊢ iprop((Comm In c 35 -∗ owns (c : Thread nD τ) (bWi0.slice (rWi (row c + (Fin.succ 1 : Fin 4))) (fun _ => rfl)) fullShare (wI In 0 (row c + (Fin.succ 1 : Fin 4)) (col c)) -∗ owns (c : Thread nD τ) (bWo0.slice (rWo (row c + (Fin.succ 1 : Fin 4))) (fun _ => rfl)) fullShare (wO In 0 (row c + (Fin.succ 1 : Fin 4)) (col c)) -∗ Φ ⟨(k0_pay12 (wO In 0 (row c + (Fin.succ 1 : Fin 4)) (col c))), (k0_pay13 (k0_pay30 (xb0 In (row c))) (wI In 0 (row c + (Fin.succ 1 : Fin 4)) (col c)))⟩)
        -∗ wp frame (wpE (defs₀ (F := F)) 𝒱₀ (c : Thread nD τ) none) Set.univ (k0_part23 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 ((k0_pay30 (xb0 In (row c)))) v721 c4_i32_543 v722) Φ) := by
  rw [k0_part23_eq_skeleton]; unfold k0_part23_skel
  simp only [semSignalWord, semWaitWord, Prog.lift, Prog.bind_op, Prog.bind_ret, Prog.pure_eq_ret, wp_deviceId]
  iintro HC Hk
  iapply (wR_wi0 In c (n := 26) (o := 1) at33 (by decide +kernel) (sem18_12_2 c) (src := (bWi0.slice (Rect.unit (s := S4x128x256) (k0_off19 c 2#32) S1x128x256.size (k0_off19_inb c 1)) (fun _ => rfl))) (dst := (bWi0.slice (Rect.unit (s := S4x128x256) (k0_off19 c 2#32) S1x128x256.size (k0_off19_inb c 1)) (fun _ => rfl))) rfl) $$ HC
  iintro HC wi0r1
  iapply (wR_wo0 In c (n := 27) (o := 1) at34 (by decide +kernel) (sem20_12_2 c) (src := (bWo0.slice (Rect.unit (s := S4x256x128) (k0_off21 c 2#32) S1x256x128.size (k0_off21_inb c 1)) (fun _ => rfl))) (dst := (bWo0.slice (Rect.unit (s := S4x256x128) (k0_off21 c 2#32) S1x256x128.size (k0_off21_inb c 1)) (fun _ => rfl))) rfl) $$ HC
  iintro HC wo0r1
  iapply (load_slot (c := c) (slot16_2 c)) $$ wi0r1
  iintro wi0r1
  iapply (load_slot (c := c) (slot17_2 c)) $$ wo0r1
  iintro wo0r1
  rw [wp_ret]
  imodintro
  iapply Hk $$ HC wi0r1 wo0r1

/-- Part 24. -/
theorem run_p24 (v2 : BitVec 32) (v19 : BitVec 32) {Φ : (Σ' (v755 : FVec F S512x128 .f32), FVec F S128x256 .bf16) → sProp (MT nD τ sig Unit (Elt F) ℕ UU ℕ)} :
    (Comm In c 35 : sProp 𝕄)
      ⊢ iprop((Comm In c 37 -∗ owns (c : Thread nD τ) (bWi0.slice (rWi (row c + (Fin.succ 2 : Fin 4))) (fun _ => rfl)) fullShare (wI In 0 (row c + (Fin.succ 2 : Fin 4)) (col c)) -∗ owns (c : Thread nD τ) (bWo0.slice (rWo (row c + (Fin.succ 2 : Fin 4))) (fun _ => rfl)) fullShare (wO In 0 (row c + (Fin.succ 2 : Fin 4)) (col c)) -∗ Φ ⟨(acc2 In 0 (row c) (col c) (k0_pay30 (xb0 In (row c)))), (k0_pay15 (wI In 0 (row c + (Fin.succ 2 : Fin 4)) (col c)))⟩)
        -∗ wp frame (wpE (defs₀ (F := F)) 𝒱₀ (c : Thread nD τ) none) Set.univ (k0_part24 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((acc1 In 0 (row c) (col c) (k0_pay30 (xb0 In (row c))))) ((k0_pay12 (wO In 0 (row c + (Fin.succ 1 : Fin 4)) (col c)))) ((k0_pay13 (k0_pay30 (xb0 In (row c))) (wI In 0 (row c + (Fin.succ 1 : Fin 4)) (col c))))) Φ) := by
  rw [k0_part24_eq_skeleton]; unfold k0_part24_skel
  simp only [semSignalWord, semWaitWord, Prog.lift, Prog.bind_op, Prog.bind_ret, Prog.pure_eq_ret, wp_deviceId]
  iintro HC Hk
  iapply (wR_wi0 In c (n := 28) (o := 2) at35 (by decide +kernel) (sem18_12_3 c) (src := (bWi0.slice (Rect.unit (s := S4x128x256) (k0_off19 c 3#32) S1x128x256.size (k0_off19_inb c 2)) (fun _ => rfl))) (dst := (bWi0.slice (Rect.unit (s := S4x128x256) (k0_off19 c 3#32) S1x128x256.size (k0_off19_inb c 2)) (fun _ => rfl))) rfl) $$ HC
  iintro HC wi0r2
  iapply (wR_wo0 In c (n := 29) (o := 2) at36 (by decide +kernel) (sem20_12_3 c) (src := (bWo0.slice (Rect.unit (s := S4x256x128) (k0_off21 c 3#32) S1x256x128.size (k0_off21_inb c 2)) (fun _ => rfl))) (dst := (bWo0.slice (Rect.unit (s := S4x256x128) (k0_off21 c 3#32) S1x256x128.size (k0_off21_inb c 2)) (fun _ => rfl))) rfl) $$ HC
  iintro HC wo0r2
  iapply (load_slot (c := c) (slot16_3 c)) $$ wi0r2
  iintro wi0r2
  rw [wp_ret]
  imodintro
  rw [show k0_pay14 (acc1 In 0 (row c) (col c) (k0_pay30 (xb0 In (row c)))) (k0_pay12 (wO In 0 (row c + (Fin.succ 1 : Fin 4)) (col c))) (k0_pay13 (k0_pay30 (xb0 In (row c))) (wI In 0 (row c + (Fin.succ 1 : Fin 4)) (col c))) = (acc2 In 0 (row c) (col c) (k0_pay30 (xb0 In (row c)))) from rfl]
  iapply Hk $$ HC wi0r2 wo0r2

/-- Part 25. -/
theorem run_p25 (v19 : BitVec 32) (v29 : BitVec 32) {YS : Vec F S1x4x128x128 .bf16} {Φ : (PUnit) → sProp (MT nD τ sig Unit (Elt F) ℕ UU ℕ)} :
    (owns (c : Thread nD τ) (bWo0.slice (rWo (row c + (Fin.succ 2 : Fin 4))) (fun _ => rfl)) fullShare (wO In 0 (row c + (Fin.succ 2 : Fin 4)) (col c)) : sProp 𝕄)
      ⊢ iprop(owns (c : Thread nD τ) bS fullShare YS
        -∗ (owns (c : Thread nD τ) (bWo0.slice (rWo (row c + (Fin.succ 2 : Fin 4))) (fun _ => rfl)) fullShare (wO In 0 (row c + (Fin.succ 2 : Fin 4)) (col c)) -∗ owns (c : Thread nD τ) bS fullShare (ps0 In (row c) (col c)) -∗ Φ ⟨⟩)
        -∗ wp frame (wpE (defs₀ (F := F)) 𝒱₀ (c : Thread nD τ) none) Set.univ (k0_part25 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 ((k0_pay30 (xb0 In (row c)))) ((acc2 In 0 (row c) (col c) (k0_pay30 (xb0 In (row c))))) ((k0_pay15 (wI In 0 (row c + (Fin.succ 2 : Fin 4)) (col c))))) Φ) := by
  rw [k0_part25_eq_skeleton]; unfold k0_part25_skel
  simp only [semSignalWord, semWaitWord, Prog.lift, Prog.bind_op, Prog.bind_ret, Prog.pure_eq_ret, wp_deviceId]
  iintro wo0r2 S Hk
  iapply (load_slot (c := c) (slot17_3 c)) $$ wo0r2
  iintro wo0r2
  iapply (load_all (c := c) z4) $$ S
  iintro S
  iapply (store_all_eq (c := c) z4 (show (k0_pay16 (k0_pay30 (xb0 In (row c))) (acc2 In 0 (row c) (col c) (k0_pay30 (xb0 In (row c)))) (k0_pay15 (wI In 0 (row c + (Fin.succ 2 : Fin 4)) (col c))) (wO In 0 (row c + (Fin.succ 2 : Fin 4)) (col c))) = (ps0 In (row c) (col c)) from rfl)) $$ S
  iintro S
  rw [wp_ret]
  imodintro
  iapply Hk $$ wo0r2 S

/-- Part 26. -/
theorem run_p26 (v19 : BitVec 32) (v29 : BitVec 32) {Φ : (Σ' (v838 : BitVec 32) (v841 : BitVec 32) (v842 : BitVec 32) (v843 : BitVec 1), BitVec 32) → sProp (MT nD τ sig Unit (Elt F) ℕ UU ℕ)} :
    (Comm In c 37 : sProp 𝕄)
      ⊢ iprop(owns (c : Thread nD τ) bS (lent 0) (ps0 In (row c) (col c))
        -∗ owns (c : Thread nD τ) bS (lent 1) (ps0 In (row c) (col c))
        -∗ (∀ w0 : BitVec 32, ∀ w1 : BitVec 32, ∀ w2 : BitVec 32, ∀ w3 : BitVec 1, ∀ w4 : BitVec 32, Comm In c 39 -∗ tick (F := F) c .pr0 0 -∗ tick (F := F) c .pr0 1 -∗ Φ ⟨w0, w1, w2, w3, w4⟩)
        -∗ wp frame (wpE (defs₀ (F := F)) 𝒱₀ (c : Thread nD τ) none) Set.univ (k0_part26 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part26_eq_skeleton]; unfold k0_part26_skel
  simp only [semSignalWord, semWaitWord, Prog.lift, Prog.bind_op, Prog.bind_ret, Prog.pure_eq_ret, wp_deviceId]
  iintro HC Sl0 Sl1 Hk
  iapply (snd_pr0 In c (n := 30) (o := 0) at37 z4 (slot23 c) (dev_pr0 c).1 semc14_0_1 (sem22_16 c)) $$ HC Sl0
  iintro HC pr0t0
  iapply (snd_pr0 In c (n := 31) (o := 1) at38 z4 (slot23 c) (dev_pr0 c).2.1 semc14_0_2 (sem22_16 c)) $$ HC Sl1
  iintro HC pr0t1
  rw [wp_ret]
  imodintro
  iapply Hk $$ HC pr0t0 pr0t1

/-- Part 27. -/
theorem run_p27 (v29 : BitVec 32) (v838 : BitVec 32) (v841 : BitVec 32) (v842 : BitVec 32) (v843 : BitVec 1) (c0_i32_656 : BitVec 32) {Ypr0 : Vec F S1x4x128x128 .bf16} {Φ : (PUnit) → sProp (MT nD τ sig Unit (Elt F) ℕ UU ℕ)} :
    (Comm In c 39 : sProp 𝕄)
      ⊢ iprop(owns (c : Thread nD τ) bS (lent 2) (ps0 In (row c) (col c))
        -∗ owns (c : Thread nD τ) bS fullShare.left (ps0 In (row c) (col c))
        -∗ owns (c : Thread nD τ) (bP0.slice (rP (col c)) (fun _ => rfl)) fullShare Ypr0
        -∗ (Comm In c 40 -∗ owns (c : Thread nD τ) bS fullShare.left (ps0 In (row c) (col c)) -∗ owns (c : Thread nD τ) (bP0.slice (rP (col c)) (fun _ => rfl)) fullShare (ps0 In (row c) (col c)) -∗ tick (F := F) c .pr0 2 -∗ Φ ⟨⟩)
        -∗ wp frame (wpE (defs₀ (F := F)) 𝒱₀ (c : Thread nD τ) none) Set.univ (k0_part27 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v29 v838 v841 v842 v843 c0_i32_656) Φ) := by
  rw [k0_part27_eq_skeleton]; unfold k0_part27_skel
  simp only [semSignalWord, semWaitWord, Prog.lift, Prog.bind_op, Prog.bind_ret, Prog.pure_eq_ret, wp_deviceId]
  iintro HC Sl2 S pr00 Hk
  iapply (snd_pr0 In c (n := 32) (o := 2) at39 z4 (slot23 c) (dev_pr0 c).2.2 semc14_0_3 (sem22_16 c)) $$ HC Sl2
  iintro HC pr0t2
  iapply (load_all (c := c) z4) $$ S
  iintro S
  iapply (load_slot (c := c) (slot24 c)) $$ pr00
  iintro pr00
  iapply (store_slot (c := c) (slot24 c)) $$ pr00
  rw [k0_pay17_id (ps0 In (row c) (col c))]
  iintro pr00
  rw [wp_ret]
  imodintro
  iapply Hk $$ HC S pr00 pr0t2

/-- Part 28. -/
theorem run_p28 (v2 : BitVec 32) (v29 : BitVec 32) {Φ : (Σ' (v898 : BitVec 32) (c4_i32_714 : BitVec 32) (v899 : BitVec 1), BitVec 32) → sProp (MT nD τ sig Unit (Elt F) ℕ UU ℕ)} :
    (Comm In c 40 : sProp 𝕄)
      ⊢ iprop((∀ w0 : BitVec 32, ∀ w1 : BitVec 32, ∀ w2 : BitVec 1, ∀ w3 : BitVec 32, Comm In c 42 -∗ owns (c : Thread nD τ) (bP0.slice (rP (col c + (Fin.succ 0 : Fin 4))) (fun _ => rfl)) fullShare (ps0 In (row c) (col c + (Fin.succ 0 : Fin 4))) -∗ owns (c : Thread nD τ) (bP0.slice (rP (col c + (Fin.succ 1 : Fin 4))) (fun _ => rfl)) fullShare (ps0 In (row c) (col c + (Fin.succ 1 : Fin 4))) -∗ Φ ⟨w0, w1, w2, w3⟩)
        -∗ wp frame (wpE (defs₀ (F := F)) 𝒱₀ (c : Thread nD τ) none) Set.univ (k0_part28 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29) Φ) := by
  rw [k0_part28_eq_skeleton]; unfold k0_part28_skel
  simp only [semSignalWord, semWaitWord, Prog.lift, Prog.bind_op, Prog.bind_ret, Prog.pure_eq_ret, wp_deviceId]
  iintro HC Hk
  iapply (wR_pr0 In c (n := 33) (o := 0) at40 (by decide +kernel) (sem25_16_1 c) (src := (bP0.slice (Rect.unit (s := S4x4x128x128) (k0_off26 c 1#32) S1x4x128x128.size (k0_off26_inb c 0)) (fun _ => rfl))) (dst := (bP0.slice (Rect.unit (s := S4x4x128x128) (k0_off26 c 1#32) S1x4x128x128.size (k0_off26_inb c 0)) (fun _ => rfl))) rfl) $$ HC
  iintro HC pr0r0
  iapply (wR_pr0 In c (n := 34) (o := 1) at41 (by decide +kernel) (sem25_16_2 c) (src := (bP0.slice (Rect.unit (s := S4x4x128x128) (k0_off26 c 2#32) S1x4x128x128.size (k0_off26_inb c 1)) (fun _ => rfl))) (dst := (bP0.slice (Rect.unit (s := S4x4x128x128) (k0_off26 c 2#32) S1x4x128x128.size (k0_off26_inb c 1)) (fun _ => rfl))) rfl) $$ HC
  iintro HC pr0r1
  rw [wp_ret]
  imodintro
  iapply Hk $$ HC pr0r0 pr0r1

/-- Part 29. -/
theorem run_p29 (v2 : BitVec 32) (v898 : BitVec 32) (c4_i32_714 : BitVec 32) (v899 : BitVec 1) (c1_i32_716 : BitVec 32) {Φ : (FVec F S4x128x128 .f32) → sProp (MT nD τ sig Unit (Elt F) ℕ UU ℕ)} :
    (Comm In c 42 : sProp 𝕄)
      ⊢ iprop(owns (c : Thread nD τ) (bP0.slice (rP (col c)) (fun _ => rfl)) fullShare (ps0 In (row c) (col c))
        -∗ owns (c : Thread nD τ) (bP0.slice (rP (col c + (Fin.succ 0 : Fin 4))) (fun _ => rfl)) fullShare (ps0 In (row c) (col c + (Fin.succ 0 : Fin 4)))
        -∗ owns (c : Thread nD τ) (bP0.slice (rP (col c + (Fin.succ 1 : Fin 4))) (fun _ => rfl)) fullShare (ps0 In (row c) (col c + (Fin.succ 1 : Fin 4)))
        -∗ tick (F := F) c .ag 0
        -∗ tick (F := F) c .ag 1
        -∗ (Comm In c 45 -∗ owns (c : Thread nD τ) (bX.slice (rX (col c)) (fun _ => rfl)) (lent 0) (xs In (row c) (col c)) -∗ owns (c : Thread nD τ) (bX.slice (rX (col c)) (fun _ => rfl)) (lent 1) (xs In (row c) (col c)) -∗ owns (c : Thread nD τ) bP0 fullShare (stack4 (ps0 In (row c))) -∗ Φ (k0_pay18 (stack4 (ps0 In (row c)))))
        -∗ wp frame (wpE (defs₀ (F := F)) 𝒱₀ (c : Thread nD τ) none) Set.univ (k0_part29 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v898 c4_i32_714 v899 c1_i32_716) Φ) := by
  rw [k0_part29_eq_skeleton]; unfold k0_part29_skel
  simp only [semSignalWord, semWaitWord, Prog.lift, Prog.bind_op, Prog.bind_ret, Prog.pure_eq_ret, wp_deviceId]
  iintro HC pr00 pr0r0 pr0r1 agt0 agt1 Hk
  iapply (wR_pr0 In c (n := 35) (o := 2) at42 (by decide +kernel) (sem25_16_3 c) (src := (bP0.slice (Rect.unit (s := S4x4x128x128) (k0_off26 c 3#32) S1x4x128x128.size (k0_off26_inb c 2)) (fun _ => rfl))) (dst := (bP0.slice (Rect.unit (s := S4x4x128x128) (k0_off26 c 3#32) S1x4x128x128.size (k0_off26_inb c 2)) (fun _ => rfl))) rfl) $$ HC
  iintro HC pr0r2
  ihave pr0W := (rP_apart c (col c) (q := fullShare) (X := stack4 (ps0 In (row c))) (Y := ps0 In (row c)) (stack4_emb (ps0 In (row c)) · (rP_inb _))).2 $$ [pr00 pr0r0 pr0r1 pr0r2]
  · isplitl [pr00]; · iexact pr00
    isplitl [pr0r0]; · iexact pr0r0
    isplitl [pr0r1]; · iexact pr0r1
    iexact pr0r2
  iapply (load_all (c := c) z4) $$ pr0W
  iintro pr0W
  iapply (wS_ag In c (n := 36) (o := 0) at43 (by decide +kernel) semc13_1 (src := (bX.slice (Rect.unit (s := S4x128x128) (k0_off3 c) S1x128x128.size (k0_off3_inb c)) (fun _ => rfl))) (dst := (bX.slice (Rect.unit (s := S4x128x128) (k0_off3 c) S1x128x128.size (k0_off3_inb c)) (fun _ => rfl))) rfl) $$ HC agt0
  iintro HC agl0
  iapply (wS_ag In c (n := 37) (o := 1) at44 (by decide +kernel) semc13_2 (src := (bX.slice (Rect.unit (s := S4x128x128) (k0_off3 c) S1x128x128.size (k0_off3_inb c)) (fun _ => rfl))) (dst := (bX.slice (Rect.unit (s := S4x128x128) (k0_off3 c) S1x128x128.size (k0_off3_inb c)) (fun _ => rfl))) rfl) $$ HC agt1
  iintro HC agl1
  rw [wp_ret]
  imodintro
  iapply Hk $$ HC agl0 agl1 pr0W

end Cert.Mlp

end
-- ==== Proof.Parts4.lean ====
/-
Parts 30 to 38 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 30. -/
theorem run_p30 (v19 : BitVec 32) {Φ : (Σ' (v935 : FVec F S512x128 .bf16), FVec F S512x128 .f32) → sProp (MT nD τ sig Unit (Elt F) ℕ UU ℕ)} :
    (Comm In c 45 : sProp 𝕄)
      ⊢ iprop(tick (F := F) c .ag 2
        -∗ owns (c : Thread nD τ) bX fullShare.left (xb0 In (row c))
        -∗ owns (c : Thread nD τ) (bX.slice (rX (col c)) (fun _ => rfl)) (lent 0) (xs In (row c) (col c))
        -∗ owns (c : Thread nD τ) (bX.slice (rX (col c)) (fun _ => rfl)) (lent 1) (xs In (row c) (col c))
        -∗ owns (c : Thread nD τ) (bX.slice (rX (col c + (Fin.succ 0 : Fin 4))) (fun _ => rfl)) fullShare.right (xs In (row c) (col c + (Fin.succ 0 : Fin 4)))
        -∗ owns (c : Thread nD τ) (bX.slice (rX (col c + (Fin.succ 1 : Fin 4))) (fun _ => rfl)) fullShare.right (xs In (row c) (col c + (Fin.succ 1 : Fin 4)))
        -∗ owns (c : Thread nD τ) (bX.slice (rX (col c + (Fin.succ 2 : Fin 4))) (fun _ => rfl)) fullShare.right (xs In (row c) (col c + (Fin.succ 2 : Fin 4)))
        -∗ owns (c : Thread nD τ) (bWi1.slice (rWi (row c)) (fun _ => rfl)) fullShare.left (wI In 1 (row c) (col c))
        -∗ owns (c : Thread nD τ) (bWo1.slice (rWo (row c)) (fun _ => rfl)) fullShare.left (wO In 1 (row c) (col c))
        -∗ (Comm In c 46 -∗ owns (c : Thread nD τ) (bWi1.slice (rWi (row c)) (fun _ => rfl)) fullShare.left (wI In 1 (row c) (col c)) -∗ owns (c : Thread nD τ) (bWo1.slice (rWo (row c)) (fun _ => rfl)) fullShare.left (wO In 1 (row c) (col c)) -∗ owns (c : Thread nD τ) bX fullShare (xb1 In (row c)) -∗ Φ ⟨(k0_pay30 (xb1 In (row c))), (acc0 In 1 (row c) (col c) (k0_pay30 (xb1 In (row c))))⟩)
        -∗ wp frame (wpE (defs₀ (F := F)) 𝒱₀ (c : Thread nD τ) none) Set.univ (k0_part30 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 ((k0_pay18 (stack4 (ps0 In (row c)))))) Φ) := by
  rw [k0_part30_eq_skeleton]; unfold k0_part30_skel
  simp only [semSignalWord, semWaitWord, Prog.lift, Prog.bind_op, Prog.bind_ret, Prog.pure_eq_ret, wp_deviceId]
  iintro HC agt2 XW agl0 agl1 agq0 agq1 agq2 wi10 wo10 Hk
  iapply (wS_ag In c (n := 38) (o := 2) at45 (by decide +kernel) semc13_3 (src := (bX.slice (Rect.unit (s := S4x128x128) (k0_off3 c) S1x128x128.size (k0_off3_inb c)) (fun _ => rfl))) (dst := (bX.slice (Rect.unit (s := S4x128x128) (k0_off3 c) S1x128x128.size (k0_off3_inb c)) (fun _ => rfl))) rfl) $$ HC agt2
  iintro HC agl2
  ihave Hr := (owns_share (q := fullShare.right.right) _).2 $$ [agl1 agl2]
  · isplitl [agl1]
    · iexact agl1
    · iexact agl2
  ihave Hr := (owns_share (q := fullShare.right) _).2 $$ [agl0 Hr]
  · isplitl [agl0]
    · iexact agl0
    · iexact Hr
  ihave Hr := (rX_apart c (col c) (q := fullShare.right) (X := xb0 In (row c)) (Y := xs In (row c)) (stack3_emb (xs In (row c)) · (rX_inb _))).2 $$ [Hr agq0 agq1 agq2]
  · isplitl [Hr]; · iexact Hr
    isplitl [agq0]; · iexact agq0
    isplitl [agq1]; · iexact agq1
    iexact agq2
  ihave XWf := (owns_share (q := fullShare) _).2 $$ [XW Hr]
  · isplitl [XW]
    · iexact XW
    · iexact Hr
  iapply (load_all (c := c) z3) $$ XWf
  iintro XWf
  iapply (store_all_eq (c := c) z3 (show (k0_pay19 (k0_pay18 (stack4 (ps0 In (row c))))) = (xb1 In (row c)) from rfl)) $$ XWf
  iintro XWf
  iapply (load_all (c := c) z3) $$ XWf
  iintro XWf
  iapply (load_slot (c := c) (slot16_0 c)) $$ wi10
  iintro wi10
  iapply (load_slot (c := c) (slot17_0 c)) $$ wo10
  iintro wo10
  rw [wp_ret]
  imodintro
  rw [show k0_pay20 (xb1 In (row c)) = (k0_pay30 (xb1 In (row c))) from rfl]
  rw [show k0_pay21 (xb1 In (row c)) (wI In 1 (row c) (col c)) (wO In 1 (row c) (col c)) = (acc0 In 1 (row c) (col c) (k0_pay30 (xb1 In (row c)))) from rfl]
  iapply Hk $$ HC wi10 wo10 XWf

/-- Part 31. -/
theorem run_p31 (v2 : BitVec 32) (v19 : BitVec 32) {Φ : (Σ' (v983 : FVec F S128x256 .bf16), FVec F S256x128 .bf16) → sProp (MT nD τ sig Unit (Elt F) ℕ UU ℕ)} :
    (Comm In c 46 : sProp 𝕄)
      ⊢ iprop((Comm In c 48 -∗ owns (c : Thread nD τ) (bWi1.slice (rWi (row c + (Fin.succ 0 : Fin 4))) (fun _ => rfl)) fullShare (wI In 1 (row c + (Fin.succ 0 : Fin 4)) (col c)) -∗ owns (c : Thread nD τ) (bWo1.slice (rWo (row c + (Fin.succ 0 : Fin 4))) (fun _ => rfl)) fullShare (wO In 1 (row c + (Fin.succ 0 : Fin 4)) (col c)) -∗ Φ ⟨(k0_pay22 (wI In 1 (row c + (Fin.succ 0 : Fin 4)) (col c))), (k0_pay23 (wO In 1 (row c + (Fin.succ 0 : Fin 4)) (col c)))⟩)
        -∗ wp frame (wpE (defs₀ (F := F)) 𝒱₀ (c : Thread nD τ) none) Set.univ (k0_part31 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19) Φ) := by
  rw [k0_part31_eq_skeleton]; unfold k0_part31_skel
  simp only [semSignalWord, semWaitWord, Prog.lift, Prog.bind_op, Prog.bind_ret, Prog.pure_eq_ret, wp_deviceId]
  iintro HC Hk
  iapply (wR_wi1 In c (n := 39) (o := 0) at46 (by decide +kernel) (sem27_12_1 c) (src := (bWi1.slice (Rect.unit (s := S4x128x256) (k0_off19 c 1#32) S1x128x256.size (k0_off19_inb c 0)) (fun _ => rfl))) (dst := (bWi1.slice (Rect.unit (s := S4x128x256) (k0_off19 c 1#32) S1x128x256.size (k0_off19_inb c 0)) (fun _ => rfl))) rfl) $$ HC
  iintro HC wi1r0
  iapply (wR_wo1 In c (n := 40) (o := 0) at47 (by decide +kernel) (sem28_12_1 c) (src := (bWo1.slice (Rect.unit (s := S4x256x128) (k0_off21 c 1#32) S1x256x128.size (k0_off21_inb c 0)) (fun _ => rfl))) (dst := (bWo1.slice (Rect.unit (s := S4x256x128) (k0_off21 c 1#32) S1x256x128.size (k0_off21_inb c 0)) (fun _ => rfl))) rfl) $$ HC
  iintro HC wo1r0
  iapply (load_slot (c := c) (slot16_1 c)) $$ wi1r0
  iintro wi1r0
  iapply (load_slot (c := c) (slot17_1 c)) $$ wo1r0
  iintro wo1r0
  rw [wp_ret]
  imodintro
  iapply Hk $$ HC wi1r0 wo1r0

/-- Part 32. -/
theorem run_p32 (v2 : BitVec 32) (v19 : BitVec 32) {Φ : (Σ' (v992 : FVec F S512x128 .f32), BitVec 32) → sProp (MT nD τ sig Unit (Elt F) ℕ UU ℕ)} :
    (Comm In c 48 : sProp 𝕄)
      ⊢ iprop((∀ w1 : BitVec 32, Comm In c 50 -∗ owns (c : Thread nD τ) (bWi1.slice (rWi (row c + (Fin.succ 1 : Fin 4))) (fun _ => rfl)) fullShare (wI In 1 (row c + (Fin.succ 1 : Fin 4)) (col c)) -∗ owns (c : Thread nD τ) (bWo1.slice (rWo (row c + (Fin.succ 1 : Fin 4))) (fun _ => rfl)) fullShare (wO In 1 (row c + (Fin.succ 1 : Fin 4)) (col c)) -∗ Φ ⟨(acc1 In 1 (row c) (col c) (k0_pay30 (xb1 In (row c)))), w1⟩)
        -∗ wp frame (wpE (defs₀ (F := F)) 𝒱₀ (c : Thread nD τ) none) Set.univ (k0_part32 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb1 In (row c)))) ((acc0 In 1 (row c) (col c) (k0_pay30 (xb1 In (row c))))) ((k0_pay22 (wI In 1 (row c + (Fin.succ 0 : Fin 4)) (col c)))) ((k0_pay23 (wO In 1 (row c + (Fin.succ 0 : Fin 4)) (col c))))) Φ) := by
  rw [k0_part32_eq_skeleton]; unfold k0_part32_skel
  simp only [semSignalWord, semWaitWord, Prog.lift, Prog.bind_op, Prog.bind_ret, Prog.pure_eq_ret, wp_deviceId]
  iintro HC Hk
  iapply (wR_wi1 In c (n := 41) (o := 1) at48 (by decide +kernel) (sem27_12_2 c) (src := (bWi1.slice (Rect.unit (s := S4x128x256) (k0_off19 c 2#32) S1x128x256.size (k0_off19_inb c 1)) (fun _ => rfl))) (dst := (bWi1.slice (Rect.unit (s := S4x128x256) (k0_off19 c 2#32) S1x128x256.size (k0_off19_inb c 1)) (fun _ => rfl))) rfl) $$ HC
  iintro HC wi1r1
  iapply (wR_wo1 In c (n := 42) (o := 1) at49 (by decide +kernel) (sem28_12_2 c) (src := (bWo1.slice (Rect.unit (s := S4x256x128) (k0_off21 c 2#32) S1x256x128.size (k0_off21_inb c 1)) (fun _ => rfl))) (dst := (bWo1.slice (Rect.unit (s := S4x256x128) (k0_off21 c 2#32) S1x256x128.size (k0_off21_inb c 1)) (fun _ => rfl))) rfl) $$ HC
  iintro HC wo1r1
  rw [wp_ret]
  imodintro
  rw [show k0_pay24 (k0_pay30 (xb1 In (row c))) (acc0 In 1 (row c) (col c) (k0_pay30 (xb1 In (row c)))) (k0_pay22 (wI In 1 (row c + (Fin.succ 0 : Fin 4)) (col c))) (k0_pay23 (wO In 1 (row c + (Fin.succ 0 : Fin 4)) (col c))) = (acc1 In 1 (row c) (col c) (k0_pay30 (xb1 In (row c)))) from rfl]
  iapply Hk $$ HC wi1r1 wo1r1

/-- Part 33. -/
theorem run_p33 (v2 : BitVec 32) (v19 : BitVec 32) (v1003 : BitVec 32) {Φ : (Σ' (v1027 : FVec F S512x128 .f32), BitVec 32) → sProp (MT nD τ sig Unit (Elt F) ℕ UU ℕ)} :
    (owns (c : Thread nD τ) (bWi1.slice (rWi (row c + (Fin.succ 1 : Fin 4))) (fun _ => rfl)) fullShare (wI In 1 (row c + (Fin.succ 1 : Fin 4)) (col c)) : sProp 𝕄)
      ⊢ iprop(owns (c : Thread nD τ) (bWo1.slice (rWo (row c + (Fin.succ 1 : Fin 4))) (fun _ => rfl)) fullShare (wO In 1 (row c + (Fin.succ 1 : Fin 4)) (col c))
        -∗ Comm In c 50
        -∗ (∀ w1 : BitVec 32, owns (c : Thread nD τ) (bWi1.slice (rWi (row c + (Fin.succ 1 : Fin 4))) (fun _ => rfl)) fullShare (wI In 1 (row c + (Fin.succ 1 : Fin 4)) (col c)) -∗ owns (c : Thread nD τ) (bWo1.slice (rWo (row c + (Fin.succ 1 : Fin 4))) (fun _ => rfl)) fullShare (wO In 1 (row c + (Fin.succ 1 : Fin 4)) (col c)) -∗ Comm In c 51 -∗ owns (c : Thread nD τ) (bWi1.slice (rWi (row c + (Fin.succ 2 : Fin 4))) (fun _ => rfl)) fullShare (wI In 1 (row c + (Fin.succ 2 : Fin 4)) (col c)) -∗ Φ ⟨(acc2 In 1 (row c) (col c) (k0_pay30 (xb1 In (row c)))), w1⟩)
        -∗ wp frame (wpE (defs₀ (F := F)) 𝒱₀ (c : Thread nD τ) none) Set.univ (k0_part33 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb1 In (row c)))) ((acc1 In 1 (row c) (col c) (k0_pay30 (xb1 In (row c))))) v1003) Φ) := by
  rw [k0_part33_eq_skeleton]; unfold k0_part33_skel
  simp only [semSignalWord, semWaitWord, Prog.lift, Prog.bind_op, Prog.bind_ret, Prog.pure_eq_ret, wp_deviceId]
  iintro wi1r1 wo1r1 HC Hk
  iapply (load_slot (c := c) (slot16_2 c)) $$ wi1r1
  iintro wi1r1
  iapply (load_slot (c := c) (slot17_2 c)) $$ wo1r1
  iintro wo1r1
  iapply (wR_wi1 In c (n := 43) (o := 2) at50 (by decide +kernel) (sem27_12_3 c) (src := (bWi1.slice (Rect.unit (s := S4x128x256) (k0_off19 c 3#32) S1x128x256.size (k0_off19_inb c 2)) (fun _ => rfl))) (dst := (bWi1.slice (Rect.unit (s := S4x128x256) (k0_off19 c 3#32) S1x128x256.size (k0_off19_inb c 2)) (fun _ => rfl))) rfl) $$ HC
  iintro HC wi1r2
  rw [wp_ret]
  imodintro
  rw [show k0_pay25 (k0_pay30 (xb1 In (row c))) (acc1 In 1 (row c) (col c) (k0_pay30 (xb1 In (row c)))) (wI In 1 (row c + (Fin.succ 1 : Fin 4)) (col c)) (wO In 1 (row c + (Fin.succ 1 : Fin 4)) (col c)) = (acc2 In 1 (row c) (col c) (k0_pay30 (xb1 In (row c)))) from rfl]
  iapply Hk $$ wi1r1 wo1r1 HC wi1r2

/-- Part 34. -/
theorem run_p34 (v1038 : BitVec 32) {Φ : (FVec F S512x128 .f32) → sProp (MT nD τ sig Unit (Elt F) ℕ UU ℕ)} :
    (Comm In c 51 : sProp 𝕄)
      ⊢ iprop(owns (c : Thread nD τ) (bWi1.slice (rWi (row c + (Fin.succ 2 : Fin 4))) (fun _ => rfl)) fullShare (wI In 1 (row c + (Fin.succ 2 : Fin 4)) (col c))
        -∗ tick (F := F) c .pr0 0
        -∗ tick (F := F) c .pr0 1
        -∗ (Comm In c 54 -∗ owns (c : Thread nD τ) (bWi1.slice (rWi (row c + (Fin.succ 2 : Fin 4))) (fun _ => rfl)) fullShare (wI In 1 (row c + (Fin.succ 2 : Fin 4)) (col c)) -∗ owns (c : Thread nD τ) bS (lent 0) (ps0 In (row c) (col c)) -∗ owns (c : Thread nD τ) bS (lent 1) (ps0 In (row c) (col c)) -∗ owns (c : Thread nD τ) (bWo1.slice (rWo (row c + (Fin.succ 2 : Fin 4))) (fun _ => rfl)) fullShare (wO In 1 (row c + (Fin.succ 2 : Fin 4)) (col c)) -∗ Φ (acc3 In 1 (row c) (col c) (k0_pay30 (xb1 In (row c)))))
        -∗ wp frame (wpE (defs₀ (F := F)) 𝒱₀ (c : Thread nD τ) none) Set.univ (k0_part34 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c ((k0_pay30 (xb1 In (row c)))) ((acc2 In 1 (row c) (col c) (k0_pay30 (xb1 In (row c))))) v1038) Φ) := by
  rw [k0_part34_eq_skeleton]; unfold k0_part34_skel
  simp only [semSignalWord, semWaitWord, Prog.lift, Prog.bind_op, Prog.bind_ret, Prog.pure_eq_ret, wp_deviceId]
  iintro HC wi1r2 pr0t0 pr0t1 Hk
  iapply (wR_wo1 In c (n := 44) (o := 2) at51 (by decide +kernel) (sem28_12_3 c) (src := (bWo1.slice (Rect.unit (s := S4x256x128) (k0_off21 c 3#32) S1x256x128.size (k0_off21_inb c 2)) (fun _ => rfl))) (dst := (bWo1.slice (Rect.unit (s := S4x256x128) (k0_off21 c 3#32) S1x256x128.size (k0_off21_inb c 2)) (fun _ => rfl))) rfl) $$ HC
  iintro HC wo1r2
  iapply (load_slot (c := c) (slot16_3 c)) $$ wi1r2
  iintro wi1r2
  iapply (load_slot (c := c) (slot17_3 c)) $$ wo1r2
  iintro wo1r2
  iapply (wS_pr0 In c (n := 45) (o := 0) at52 (by decide +kernel) semc14_0_1 (src := (bP0.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr0t0
  iintro HC Sl0
  iapply (wS_pr0 In c (n := 46) (o := 1) at53 (by decide +kernel) semc14_0_2 (src := (bP0.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr0t1
  iintro HC Sl1
  rw [wp_ret]
  imodintro
  rw [show (k0_pay26 (k0_pay30 (xb1 In (row c))) (acc2 In 1 (row c) (col c) (k0_pay30 (xb1 In (row c)))) (wI In 1 (row c + (Fin.succ 2 : Fin 4)) (col c)) (wO In 1 (row c + (Fin.succ 2 : Fin 4)) (col c))) = (acc3 In 1 (row c) (col c) (k0_pay30 (xb1 In (row c)))) from rfl]
  iapply Hk $$ HC wi1r2 Sl0 Sl1 wo1r2

/-- Part 35. -/
theorem run_p35 (v19 : BitVec 32) (v29 : BitVec 32) {Φ : (PUnit) → sProp (MT nD τ sig Unit (Elt F) ℕ UU ℕ)} :
    (Comm In c 54 : sProp 𝕄)
      ⊢ iprop(tick (F := F) c .pr0 2
        -∗ owns (c : Thread nD τ) bS fullShare.left (ps0 In (row c) (col c))
        -∗ owns (c : Thread nD τ) bS (lent 0) (ps0 In (row c) (col c))
        -∗ owns (c : Thread nD τ) bS (lent 1) (ps0 In (row c) (col c))
        -∗ (Comm In c 55 -∗ owns (c : Thread nD τ) bS fullShare (ps1 In (row c) (col c)) -∗ Φ ⟨⟩)
        -∗ wp frame (wpE (defs₀ (F := F)) 𝒱₀ (c : Thread nD τ) none) Set.univ (k0_part35 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 ((acc3 In 1 (row c) (col c) (k0_pay30 (xb1 In (row c)))))) Φ) := by
  rw [k0_part35_eq_skeleton]; unfold k0_part35_skel
  simp only [semSignalWord, semWaitWord, Prog.lift, Prog.bind_op, Prog.bind_ret, Prog.pure_eq_ret, wp_deviceId]
  iintro HC pr0t2 S Sl0 Sl1 Hk
  iapply (wS_pr0 In c (n := 47) (o := 2) at54 (by decide +kernel) semc14_0_3 (src := (bP0.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr0t2
  iintro HC Sl2
  ihave S := (owns_lend c).2 $$ [S Sl0 Sl1 Sl2]
  · isplitl [S]; · iexact S
    isplitl [Sl0]; · iexact Sl0
    isplitl [Sl1]; · iexact Sl1
    iexact Sl2
  iapply (load_all (c := c) z4) $$ S
  iintro S
  iapply (store_all_eq (c := c) z4 (show (k0_pay27 (acc3 In 1 (row c) (col c) (k0_pay30 (xb1 In (row c))))) = (ps1 In (row c) (col c)) from rfl)) $$ S
  iintro S
  rw [wp_ret]
  imodintro
  iapply Hk $$ HC S

/-- Part 36. -/
theorem run_p36 (v19 : BitVec 32) (v29 : BitVec 32) {Φ : (Σ' (v1122 : BitVec 32) (v1125 : BitVec 32) (v1126 : BitVec 32), BitVec 32) → sProp (MT nD τ sig Unit (Elt F) ℕ UU ℕ)} :
    (Comm In c 55 : sProp 𝕄)
      ⊢ iprop(owns (c : Thread nD τ) bS (lent 0) (ps1 In (row c) (col c))
        -∗ owns (c : Thread nD τ) bS (lent 1) (ps1 In (row c) (col c))
        -∗ (∀ w0 : BitVec 32, ∀ w1 : BitVec 32, ∀ w2 : BitVec 32, ∀ w3 : BitVec 32, Comm In c 57 -∗ tick (F := F) c .pr1 0 -∗ tick (F := F) c .pr1 1 -∗ Φ ⟨w0, w1, w2, w3⟩)
        -∗ wp frame (wpE (defs₀ (F := F)) 𝒱₀ (c : Thread nD τ) none) Set.univ (k0_part36 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part36_eq_skeleton]; unfold k0_part36_skel
  simp only [semSignalWord, semWaitWord, Prog.lift, Prog.bind_op, Prog.bind_ret, Prog.pure_eq_ret, wp_deviceId]
  iintro HC Sl0 Sl1 Hk
  iapply (snd_pr1 In c (n := 48) (o := 0) at55 z4 (slot23 c) (dev_pr1 c).1 semc14_1_1 (sem29_16 c)) $$ HC Sl0
  iintro HC pr1t0
  iapply (snd_pr1 In c (n := 49) (o := 1) at56 z4 (slot23 c) (dev_pr1 c).2.1 semc14_1_2 (sem29_16 c)) $$ HC Sl1
  iintro HC pr1t1
  rw [wp_ret]
  imodintro
  iapply Hk $$ HC pr1t0 pr1t1

/-- Part 37. -/
theorem run_p37 (v29 : BitVec 32) (v1122 : BitVec 32) (v1125 : BitVec 32) (v1126 : BitVec 32) (c0_i32_952 : BitVec 32) {Ypr1 : Vec F S1x4x128x128 .bf16} {Φ : (Σ' (v1150 : BitVec 32) (v1151 : BitVec 32), BitVec 1) → sProp (MT nD τ sig Unit (Elt F) ℕ UU ℕ)} :
    (Comm In c 57 : sProp 𝕄)
      ⊢ iprop(owns (c : Thread nD τ) bS (lent 2) (ps1 In (row c) (col c))
        -∗ owns (c : Thread nD τ) bS fullShare.left (ps1 In (row c) (col c))
        -∗ owns (c : Thread nD τ) (bP1.slice (rP (col c)) (fun _ => rfl)) fullShare Ypr1
        -∗ (∀ w0 : BitVec 32, ∀ w1 : BitVec 32, ∀ w2 : BitVec 1, Comm In c 58 -∗ owns (c : Thread nD τ) bS fullShare.left (ps1 In (row c) (col c)) -∗ owns (c : Thread nD τ) (bP1.slice (rP (col c)) (fun _ => rfl)) fullShare (ps1 In (row c) (col c)) -∗ tick (F := F) c .pr1 2 -∗ Φ ⟨w0, w1, w2⟩)
        -∗ wp frame (wpE (defs₀ (F := F)) 𝒱₀ (c : Thread nD τ) none) Set.univ (k0_part37 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v29 v1122 v1125 v1126 c0_i32_952) Φ) := by
  rw [k0_part37_eq_skeleton]; unfold k0_part37_skel
  simp only [semSignalWord, semWaitWord, Prog.lift, Prog.bind_op, Prog.bind_ret, Prog.pure_eq_ret, wp_deviceId]
  iintro HC Sl2 S pr10 Hk
  iapply (snd_pr1 In c (n := 50) (o := 2) at57 z4 (slot23 c) (dev_pr1 c).2.2 semc14_1_3 (sem29_16 c)) $$ HC Sl2
  iintro HC pr1t2
  iapply (load_all (c := c) z4) $$ S
  iintro S
  iapply (load_slot (c := c) (slot24 c)) $$ pr10
  iintro pr10
  iapply (store_slot (c := c) (slot24 c)) $$ pr10
  rw [k0_pay28_id (ps1 In (row c) (col c))]
  iintro pr10
  rw [wp_ret]
  imodintro
  iapply Hk $$ HC S pr10 pr1t2

/-- Part 38. -/
theorem run_p38 (v2 : BitVec 32) (v29 : BitVec 32) (v1150 : BitVec 32) (v1151 : BitVec 32) (v1156 : BitVec 1) {Φ : (Σ' (v1182 : BitVec 32) (c4_i32_1011 : BitVec 32), BitVec 32) → sProp (MT nD τ sig Unit (Elt F) ℕ UU ℕ)} :
    (Comm In c 58 : sProp 𝕄)
      ⊢ iprop((∀ w0 : BitVec 32, ∀ w1 : BitVec 32, ∀ w2 : BitVec 32, Comm In c 60 -∗ owns (c : Thread nD τ) (bP1.slice (rP (col c + (Fin.succ 0 : Fin 4))) (fun _ => rfl)) fullShare (ps1 In (row c) (col c + (Fin.succ 0 : Fin 4))) -∗ owns (c : Thread nD τ) (bP1.slice (rP (col c + (Fin.succ 1 : Fin 4))) (fun _ => rfl)) fullShare (ps1 In (row c) (col c + (Fin.succ 1 : Fin 4))) -∗ Φ ⟨w0, w1, w2⟩)
        -∗ wp frame (wpE (defs₀ (F := F)) 𝒱₀ (c : Thread nD τ) none) Set.univ (k0_part38 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29 v1150 v1151 v1156) Φ) := by
  rw [k0_part38_eq_skeleton]; unfold k0_part38_skel
  simp only [semSignalWord, semWaitWord, Prog.lift, Prog.bind_op, Prog.bind_ret, Prog.pure_eq_ret, wp_deviceId]
  iintro HC Hk
  iapply (wR_pr1 In c (n := 51) (o := 0) at58 (by decide +kernel) (sem30_16_1 c) (src := (bP1.slice (Rect.unit (s := S4x4x128x128) (k0_off26 c 1#32) S1x4x128x128.size (k0_off26_inb c 0)) (fun _ => rfl))) (dst := (bP1.slice (Rect.unit (s := S4x4x128x128) (k0_off26 c 1#32) S1x4x128x128.size (k0_off26_inb c 0)) (fun _ => rfl))) rfl) $$ HC
  iintro HC pr1r0
  iapply (wR_pr1 In c (n := 52) (o := 1) at59 (by decide +kernel) (sem30_16_2 c) (src := (bP1.slice (Rect.unit (s := S4x4x128x128) (k0_off26 c 2#32) S1x4x128x128.size (k0_off26_inb c 1)) (fun _ => rfl))) (dst := (bP1.slice (Rect.unit (s := S4x4x128x128) (k0_off26 c 2#32) S1x4x128x128.size (k0_off26_inb c 1)) (fun _ => rfl))) rfl) $$ HC
  iintro HC pr1r1
  rw [wp_ret]
  imodintro
  iapply Hk $$ HC pr1r0 pr1r1

end Cert.Mlp

end
-- ==== Proof.Parts5.lean ====
/-
Parts 39 to 47 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 39. -/
theorem run_p39 (v2 : BitVec 32) (v19 : BitVec 32) (v1182 : BitVec 32) (c4_i32_1011 : BitVec 32) (c0_i32_1012 : BitVec 32) {Φ : (Σ' (v1207 : FVec F S512x128 .bf16) (v1208 : BitVec 32), BitVec 32) → sProp (MT nD τ sig Unit (Elt F) ℕ UU ℕ)} :
    (Comm In c 60 : sProp 𝕄)
      ⊢ iprop(owns (c : Thread nD τ) (bP1.slice (rP (col c)) (fun _ => rfl)) fullShare (ps1 In (row c) (col c))
        -∗ owns (c : Thread nD τ) (bP1.slice (rP (col c + (Fin.succ 0 : Fin 4))) (fun _ => rfl)) fullShare (ps1 In (row c) (col c + (Fin.succ 0 : Fin 4)))
        -∗ owns (c : Thread nD τ) (bP1.slice (rP (col c + (Fin.succ 1 : Fin 4))) (fun _ => rfl)) fullShare (ps1 In (row c) (col c + (Fin.succ 1 : Fin 4)))
        -∗ owns (c : Thread nD τ) bX fullShare (xb1 In (row c))
        -∗ (∀ w1 : BitVec 32, ∀ w2 : BitVec 32, Comm In c 61 -∗ owns (c : Thread nD τ) bX fullShare (xb2 In (row c)) -∗ owns (c : Thread nD τ) bP1 fullShare (stack4 (ps1 In (row c))) -∗ Φ ⟨(k0_pay30 (xb2 In (row c))), w1, w2⟩)
        -∗ wp frame (wpE (defs₀ (F := F)) 𝒱₀ (c : Thread nD τ) none) Set.univ (k0_part39 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 v1182 c4_i32_1011 c0_i32_1012) Φ) := by
  rw [k0_part39_eq_skeleton]; unfold k0_part39_skel
  simp only [semSignalWord, semWaitWord, Prog.lift, Prog.bind_op, Prog.bind_ret, Prog.pure_eq_ret, wp_deviceId]
  iintro HC pr10 pr1r0 pr1r1 XWf Hk
  iapply (wR_pr1 In c (n := 53) (o := 2) at60 (by decide +kernel) (sem30_16_3 c) (src := (bP1.slice (Rect.unit (s := S4x4x128x128) (k0_off26 c 3#32) S1x4x128x128.size (k0_off26_inb c 2)) (fun _ => rfl))) (dst := (bP1.slice (Rect.unit (s := S4x4x128x128) (k0_off26 c 3#32) S1x4x128x128.size (k0_off26_inb c 2)) (fun _ => rfl))) rfl) $$ HC
  iintro HC pr1r2
  ihave pr1W := (rP_apart c (col c) (q := fullShare) (X := stack4 (ps1 In (row c))) (Y := ps1 In (row c)) (stack4_emb (ps1 In (row c)) · (rP_inb _))).2 $$ [pr10 pr1r0 pr1r1 pr1r2]
  · isplitl [pr10]; · iexact pr10
    isplitl [pr1r0]; · iexact pr1r0
    isplitl [pr1r1]; · iexact pr1r1
    iexact pr1r2
  iapply (load_all (c := c) z4) $$ pr1W
  iintro pr1W
  iapply (load_all (c := c) z3) $$ XWf
  iintro XWf
  iapply (store_all_eq (c := c) z3 (show (k0_pay29 (stack4 (ps1 In (row c)))) = (xb2 In (row c)) from rfl)) $$ XWf
  iintro XWf
  iapply (load_all (c := c) z3) $$ XWf
  iintro XWf
  rw [wp_ret]
  imodintro
  rw [show k0_pay30 (xb2 In (row c)) = (k0_pay30 (xb2 In (row c))) from rfl]
  iapply Hk $$ HC XWf pr1W

/-- Part 40. -/
theorem run_p40 (v2 : BitVec 32) (v19 : BitVec 32) (v1208 : BitVec 32) (v1210 : BitVec 32) {Φ : (Σ' (v1229 : FVec F S512x128 .f32), BitVec 32) → sProp (MT nD τ sig Unit (Elt F) ℕ UU ℕ)} :
    (owns (c : Thread nD τ) (bWi2.slice (rWi (row c)) (fun _ => rfl)) fullShare.left (wI In 2 (row c) (col c)) : sProp 𝕄)
      ⊢ iprop(owns (c : Thread nD τ) (bWo2.slice (rWo (row c)) (fun _ => rfl)) fullShare.left (wO In 2 (row c) (col c))
        -∗ (∀ w1 : BitVec 32, owns (c : Thread nD τ) (bWi2.slice (rWi (row c)) (fun _ => rfl)) fullShare.left (wI In 2 (row c) (col c)) -∗ owns (c : Thread nD τ) (bWo2.slice (rWo (row c)) (fun _ => rfl)) fullShare.left (wO In 2 (row c) (col c)) -∗ Φ ⟨(acc0 In 2 (row c) (col c) (k0_pay30 (xb2 In (row c)))), w1⟩)
        -∗ wp frame (wpE (defs₀ (F := F)) 𝒱₀ (c : Thread nD τ) none) Set.univ (k0_part40 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb2 In (row c)))) v1208 v1210) Φ) := by
  rw [k0_part40_eq_skeleton]; unfold k0_part40_skel
  simp only [semSignalWord, semWaitWord, Prog.lift, Prog.bind_op, Prog.bind_ret, Prog.pure_eq_ret, wp_deviceId]
  iintro wi20 wo20 Hk
  iapply (load_slot (c := c) (slot16_0 c)) $$ wi20
  iintro wi20
  iapply (load_slot (c := c) (slot17_0 c)) $$ wo20
  iintro wo20
  rw [wp_ret]
  imodintro
  rw [show k0_pay31 (k0_pay30 (xb2 In (row c))) (wI In 2 (row c) (col c)) (wO In 2 (row c) (col c)) = (acc0 In 2 (row c) (col c) (k0_pay30 (xb2 In (row c)))) from rfl]
  iapply Hk $$ wi20 wo20

/-- Part 41. -/
theorem run_p41 (v2 : BitVec 32) (v19 : BitVec 32) (v1240 : BitVec 32) {Φ : (Σ' (v1264 : FVec F S512x128 .f32) (v1275 : BitVec 32), BitVec 32) → sProp (MT nD τ sig Unit (Elt F) ℕ UU ℕ)} :
    (Comm In c 61 : sProp 𝕄)
      ⊢ iprop((∀ w1 : BitVec 32, ∀ w2 : BitVec 32, Comm In c 63 -∗ owns (c : Thread nD τ) (bWi2.slice (rWi (row c + (Fin.succ 0 : Fin 4))) (fun _ => rfl)) fullShare (wI In 2 (row c + (Fin.succ 0 : Fin 4)) (col c)) -∗ owns (c : Thread nD τ) (bWo2.slice (rWo (row c + (Fin.succ 0 : Fin 4))) (fun _ => rfl)) fullShare (wO In 2 (row c + (Fin.succ 0 : Fin 4)) (col c)) -∗ Φ ⟨(acc1 In 2 (row c) (col c) (k0_pay30 (xb2 In (row c)))), w1, w2⟩)
        -∗ wp frame (wpE (defs₀ (F := F)) 𝒱₀ (c : Thread nD τ) none) Set.univ (k0_part41 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb2 In (row c)))) ((acc0 In 2 (row c) (col c) (k0_pay30 (xb2 In (row c))))) v1240) Φ) := by
  rw [k0_part41_eq_skeleton]; unfold k0_part41_skel
  simp only [semSignalWord, semWaitWord, Prog.lift, Prog.bind_op, Prog.bind_ret, Prog.pure_eq_ret, wp_deviceId]
  iintro HC Hk
  iapply (wR_wi2 In c (n := 54) (o := 0) at61 (by decide +kernel) (sem31_12_1 c) (src := (bWi2.slice (Rect.unit (s := S4x128x256) (k0_off19 c 1#32) S1x128x256.size (k0_off19_inb c 0)) (fun _ => rfl))) (dst := (bWi2.slice (Rect.unit (s := S4x128x256) (k0_off19 c 1#32) S1x128x256.size (k0_off19_inb c 0)) (fun _ => rfl))) rfl) $$ HC
  iintro HC wi2r0
  iapply (wR_wo2 In c (n := 55) (o := 0) at62 (by decide +kernel) (sem32_12_1 c) (src := (bWo2.slice (Rect.unit (s := S4x256x128) (k0_off21 c 1#32) S1x256x128.size (k0_off21_inb c 0)) (fun _ => rfl))) (dst := (bWo2.slice (Rect.unit (s := S4x256x128) (k0_off21 c 1#32) S1x256x128.size (k0_off21_inb c 0)) (fun _ => rfl))) rfl) $$ HC
  iintro HC wo2r0
  iapply (load_slot (c := c) (slot16_1 c)) $$ wi2r0
  iintro wi2r0
  iapply (load_slot (c := c) (slot17_1 c)) $$ wo2r0
  iintro wo2r0
  rw [wp_ret]
  imodintro
  rw [show k0_pay32 (k0_pay30 (xb2 In (row c))) (acc0 In 2 (row c) (col c) (k0_pay30 (xb2 In (row c)))) (wI In 2 (row c + (Fin.succ 0 : Fin 4)) (col c)) (wO In 2 (row c + (Fin.succ 0 : Fin 4)) (col c)) = (acc1 In 2 (row c) (col c) (k0_pay30 (xb2 In (row c)))) from rfl]
  iapply Hk $$ HC wi2r0 wo2r0

/-- Part 42. -/
theorem run_p42 (v2 : BitVec 32) (v19 : BitVec 32) (v1275 : BitVec 32) (c1_i32_1095 : BitVec 32) {Φ : (Σ' (v1299 : FVec F S512x128 .f32) (v1302 : BitVec 32) (v1303 : BitVec 32) (v1304 : BitVec 1) (v1305 : BitVec 1), BitVec 32) → sProp (MT nD τ sig Unit (Elt F) ℕ UU ℕ)} :
    (Comm In c 63 : sProp 𝕄)
      ⊢ iprop((∀ w1 : BitVec 32, ∀ w2 : BitVec 32, ∀ w3 : BitVec 1, ∀ w4 : BitVec 1, ∀ w5 : BitVec 32, Comm In c 65 -∗ owns (c : Thread nD τ) (bWi2.slice (rWi (row c + (Fin.succ 1 : Fin 4))) (fun _ => rfl)) fullShare (wI In 2 (row c + (Fin.succ 1 : Fin 4)) (col c)) -∗ owns (c : Thread nD τ) (bWo2.slice (rWo (row c + (Fin.succ 1 : Fin 4))) (fun _ => rfl)) fullShare (wO In 2 (row c + (Fin.succ 1 : Fin 4)) (col c)) -∗ Φ ⟨(acc2 In 2 (row c) (col c) (k0_pay30 (xb2 In (row c)))), w1, w2, w3, w4, w5⟩)
        -∗ wp frame (wpE (defs₀ (F := F)) 𝒱₀ (c : Thread nD τ) none) Set.univ (k0_part42 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v19 ((k0_pay30 (xb2 In (row c)))) ((acc1 In 2 (row c) (col c) (k0_pay30 (xb2 In (row c))))) v1275 c1_i32_1095) Φ) := by
  rw [k0_part42_eq_skeleton]; unfold k0_part42_skel
  simp only [semSignalWord, semWaitWord, Prog.lift, Prog.bind_op, Prog.bind_ret, Prog.pure_eq_ret, wp_deviceId]
  iintro HC Hk
  iapply (wR_wi2 In c (n := 56) (o := 1) at63 (by decide +kernel) (sem31_12_2 c) (src := (bWi2.slice (Rect.unit (s := S4x128x256) (k0_off19 c 2#32) S1x128x256.size (k0_off19_inb c 1)) (fun _ => rfl))) (dst := (bWi2.slice (Rect.unit (s := S4x128x256) (k0_off19 c 2#32) S1x128x256.size (k0_off19_inb c 1)) (fun _ => rfl))) rfl) $$ HC
  iintro HC wi2r1
  iapply (wR_wo2 In c (n := 57) (o := 1) at64 (by decide +kernel) (sem32_12_2 c) (src := (bWo2.slice (Rect.unit (s := S4x256x128) (k0_off21 c 2#32) S1x256x128.size (k0_off21_inb c 1)) (fun _ => rfl))) (dst := (bWo2.slice (Rect.unit (s := S4x256x128) (k0_off21 c 2#32) S1x256x128.size (k0_off21_inb c 1)) (fun _ => rfl))) rfl) $$ HC
  iintro HC wo2r1
  iapply (load_slot (c := c) (slot16_2 c)) $$ wi2r1
  iintro wi2r1
  iapply (load_slot (c := c) (slot17_2 c)) $$ wo2r1
  iintro wo2r1
  rw [wp_ret]
  imodintro
  rw [show k0_pay33 (k0_pay30 (xb2 In (row c))) (acc1 In 2 (row c) (col c) (k0_pay30 (xb2 In (row c)))) (wI In 2 (row c + (Fin.succ 1 : Fin 4)) (col c)) (wO In 2 (row c + (Fin.succ 1 : Fin 4)) (col c)) = (acc2 In 2 (row c) (col c) (k0_pay30 (xb2 In (row c)))) from rfl]
  iapply Hk $$ HC wi2r1 wo2r1

/-- Part 43. -/
theorem run_p43 (v2 : BitVec 32) (v1302 : BitVec 32) (v1303 : BitVec 32) (v1304 : BitVec 1) (v1305 : BitVec 1) (c0_i32_1123 : BitVec 32) {Φ : (FVec F S512x128 .f32) → sProp (MT nD τ sig Unit (Elt F) ℕ UU ℕ)} :
    (Comm In c 65 : sProp 𝕄)
      ⊢ iprop((Comm In c 67 -∗ owns (c : Thread nD τ) (bWi2.slice (rWi (row c + (Fin.succ 2 : Fin 4))) (fun _ => rfl)) fullShare (wI In 2 (row c + (Fin.succ 2 : Fin 4)) (col c)) -∗ owns (c : Thread nD τ) (bWo2.slice (rWo (row c + (Fin.succ 2 : Fin 4))) (fun _ => rfl)) fullShare (wO In 2 (row c + (Fin.succ 2 : Fin 4)) (col c)) -∗ Φ (acc3 In 2 (row c) (col c) (k0_pay30 (xb2 In (row c)))))
        -∗ wp frame (wpE (defs₀ (F := F)) 𝒱₀ (c : Thread nD τ) none) Set.univ (k0_part43 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 ((k0_pay30 (xb2 In (row c)))) ((acc2 In 2 (row c) (col c) (k0_pay30 (xb2 In (row c))))) v1302 v1303 v1304 v1305 c0_i32_1123) Φ) := by
  rw [k0_part43_eq_skeleton]; unfold k0_part43_skel
  simp only [semSignalWord, semWaitWord, Prog.lift, Prog.bind_op, Prog.bind_ret, Prog.pure_eq_ret, wp_deviceId]
  iintro HC Hk
  iapply (wR_wi2 In c (n := 58) (o := 2) at65 (by decide +kernel) (sem31_12_3 c) (src := (bWi2.slice (Rect.unit (s := S4x128x256) (k0_off19 c 3#32) S1x128x256.size (k0_off19_inb c 2)) (fun _ => rfl))) (dst := (bWi2.slice (Rect.unit (s := S4x128x256) (k0_off19 c 3#32) S1x128x256.size (k0_off19_inb c 2)) (fun _ => rfl))) rfl) $$ HC
  iintro HC wi2r2
  iapply (wR_wo2 In c (n := 59) (o := 2) at66 (by decide +kernel) (sem32_12_3 c) (src := (bWo2.slice (Rect.unit (s := S4x256x128) (k0_off21 c 3#32) S1x256x128.size (k0_off21_inb c 2)) (fun _ => rfl))) (dst := (bWo2.slice (Rect.unit (s := S4x256x128) (k0_off21 c 3#32) S1x256x128.size (k0_off21_inb c 2)) (fun _ => rfl))) rfl) $$ HC
  iintro HC wo2r2
  iapply (load_slot (c := c) (slot16_3 c)) $$ wi2r2
  iintro wi2r2
  iapply (load_slot (c := c) (slot17_3 c)) $$ wo2r2
  iintro wo2r2
  rw [wp_ret]
  imodintro
  rw [show (k0_pay34 (k0_pay30 (xb2 In (row c))) (acc2 In 2 (row c) (col c) (k0_pay30 (xb2 In (row c)))) (wI In 2 (row c + (Fin.succ 2 : Fin 4)) (col c)) (wO In 2 (row c + (Fin.succ 2 : Fin 4)) (col c))) = (acc3 In 2 (row c) (col c) (k0_pay30 (xb2 In (row c)))) from rfl]
  iapply Hk $$ HC wi2r2 wo2r2

/-- Part 44. -/
theorem run_p44 (v29 : BitVec 32) {Φ : (Vec F S1x1x128x128 .bf16) → sProp (MT nD τ sig Unit (Elt F) ℕ UU ℕ)} :
    (Comm In c 67 : sProp 𝕄)
      ⊢ iprop(tick (F := F) c .pr1 0
        -∗ tick (F := F) c .pr1 1
        -∗ tick (F := F) c .pr1 2
        -∗ owns (c : Thread nD τ) bS fullShare.left (ps1 In (row c) (col c))
        -∗ (Comm In c 70 -∗ owns (c : Thread nD τ) bS fullShare (ps2 In (row c) (col c)) -∗ Φ (rs In (row c) (col c) (col c)))
        -∗ wp frame (wpE (defs₀ (F := F)) 𝒱₀ (c : Thread nD τ) none) Set.univ (k0_part44 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v29 ((acc3 In 2 (row c) (col c) (k0_pay30 (xb2 In (row c)))))) Φ) := by
  rw [k0_part44_eq_skeleton]; unfold k0_part44_skel
  simp only [semSignalWord, semWaitWord, Prog.lift, Prog.bind_op, Prog.bind_ret, Prog.pure_eq_ret, wp_deviceId]
  iintro HC pr1t0 pr1t1 pr1t2 S Hk
  iapply (wS_pr1 In c (n := 60) (o := 0) at67 (by decide +kernel) semc14_1_1 (src := (bP1.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr1t0
  iintro HC Sl0
  iapply (wS_pr1 In c (n := 61) (o := 1) at68 (by decide +kernel) semc14_1_2 (src := (bP1.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr1t1
  iintro HC Sl1
  iapply (wS_pr1 In c (n := 62) (o := 2) at69 (by decide +kernel) semc14_1_3 (src := (bP1.slice (Rect.unit (s := S4x4x128x128) (k0_off23 c) S1x4x128x128.size (k0_off23_inb c)) (fun _ => rfl))) (dst := (bS.slice (Rect.unit (s := S1x4x128x128) ![0, 0, 0, 0] S1x4x128x128.size inb_S1x4x128x128_S1x4x128x128_0_0_0_0) (fun _ => rfl))) rfl) $$ HC pr1t2
  iintro HC Sl2
  ihave S := (owns_lend c).2 $$ [S Sl0 Sl1 Sl2]
  · isplitl [S]; · iexact S
    isplitl [Sl0]; · iexact Sl0
    isplitl [Sl1]; · iexact Sl1
    iexact Sl2
  iapply (load_all (c := c) z4) $$ S
  iintro S
  iapply (store_all_eq (c := c) z4 (show (k0_pay35 (acc3 In 2 (row c) (col c) (k0_pay30 (xb2 In (row c))))) = (ps2 In (row c) (col c)) from rfl)) $$ S
  iintro S
  iapply (load_rect (c := c) (slot33 c) (show _ = rs In (row c) (col c) (col c) from rfl)) $$ S
  iintro S
  rw [wp_ret]
  imodintro
  iapply Hk $$ HC S

/-- Part 45. -/
theorem run_p45 (v19 : BitVec 32) (v29 : BitVec 32) {Yrs : Vec F S1x1x128x128 .bf16} {Φ : (PUnit) → sProp (MT nD τ sig Unit (Elt F) ℕ UU ℕ)} :
    (owns (c : Thread nD τ) (bR.slice (rR (col c)) (fun _ => rfl)) fullShare Yrs : sProp 𝕄)
      ⊢ iprop((owns (c : Thread nD τ) (bR.slice (rR (col c)) (fun _ => rfl)) fullShare (rs In (row c) (col c) (col c)) -∗ Φ ⟨⟩)
        -∗ wp frame (wpE (defs₀ (F := F)) 𝒱₀ (c : Thread nD τ) none) Set.univ (k0_part45 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29 ((rs In (row c) (col c) (col c)))) Φ) := by
  rw [k0_part45_eq_skeleton]; unfold k0_part45_skel
  simp only [semSignalWord, semWaitWord, Prog.lift, Prog.bind_op, Prog.bind_ret, Prog.pure_eq_ret, wp_deviceId]
  iintro rs0 Hk
  iapply (load_slot (c := c) (slot34 c)) $$ rs0
  iintro rs0
  iapply (store_slot_eq (c := c) (slot34 c) (show (k0_pay36 (rs In (row c) (col c) (col c))) = (rs In (row c) (col c) (col c)) from k0_pay36_id _)) $$ rs0
  iintro rs0
  rw [wp_ret]
  imodintro
  iapply Hk $$ rs0

/-- Part 46. -/
theorem run_p46 (v19 : BitVec 32) (v29 : BitVec 32) {Φ : (PUnit) → sProp (MT nD τ sig Unit (Elt F) ℕ UU ℕ)} :
    (Comm In c 70 : sProp 𝕄)
      ⊢ iprop(owns (c : Thread nD τ) (bS.slice (rS (col c + (0 : Fin 3).succ)) (fun _ => rfl)) fullShare (rs In (row c) (col c + (0 : Fin 3).succ) (col c))
        -∗ (Comm In c 71 -∗ tick (F := F) c .rs 0 -∗ Φ ⟨⟩)
        -∗ wp frame (wpE (defs₀ (F := F)) 𝒱₀ (c : Thread nD τ) none) Set.univ (k0_part46 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part46_eq_skeleton]; unfold k0_part46_skel
  simp only [semSignalWord, semWaitWord, Prog.lift, Prog.bind_op, Prog.bind_ret, Prog.pure_eq_ret, wp_deviceId]
  iintro HC rsl0 Hk
  iapply (snd_rs In c (n := 63) (o := 0) at70 (slot36_1 c) (slot35 c) (dev_rs c).1 semc17_1 (sem2_18 c)) $$ HC rsl0
  iintro HC rst0
  rw [wp_ret]
  imodintro
  iapply Hk $$ HC rst0

/-- Part 47. -/
theorem run_p47 (v19 : BitVec 32) (v29 : BitVec 32) {Φ : (BitVec 32) → sProp (MT nD τ sig Unit (Elt F) ℕ UU ℕ)} :
    (Comm In c 71 : sProp 𝕄)
      ⊢ iprop(owns (c : Thread nD τ) (bS.slice (rS (col c + (1 : Fin 3).succ)) (fun _ => rfl)) fullShare (rs In (row c) (col c + (1 : Fin 3).succ) (col c))
        -∗ owns (c : Thread nD τ) (bS.slice (rS (col c + (2 : Fin 3).succ)) (fun _ => rfl)) fullShare (rs In (row c) (col c + (2 : Fin 3).succ) (col c))
        -∗ (∀ w0 : BitVec 32, Comm In c 73 -∗ tick (F := F) c .rs 1 -∗ tick (F := F) c .rs 2 -∗ Φ w0)
        -∗ wp frame (wpE (defs₀ (F := F)) 𝒱₀ (c : Thread nD τ) none) Set.univ (k0_part47 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part47_eq_skeleton]; unfold k0_part47_skel
  simp only [semSignalWord, semWaitWord, Prog.lift, Prog.bind_op, Prog.bind_ret, Prog.pure_eq_ret, wp_deviceId]
  iintro HC rsl1 rsl2 Hk
  iapply (snd_rs In c (n := 64) (o := 1) at71 (slot36_2 c) (slot35 c) (dev_rs c).2.1 semc17_2 (sem2_18 c)) $$ HC rsl1
  iintro HC rst1
  iapply (snd_rs In c (n := 65) (o := 2) at72 (slot36_3 c) (slot35 c) (dev_rs c).2.2 semc17_3 (sem2_18 c)) $$ HC rsl2
  iintro HC rst2
  rw [wp_ret]
  imodintro
  iapply Hk $$ HC rst1 rst2

end Cert.Mlp

end
-- ==== Proof.Parts6.lean ====
/-
Parts 48 to 54 of the kernel's body, each run on the resources it touches.
-/
module

public import proofs.«01_k».proof.Proof.PartsBase

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- Part 48. -/
theorem run_p48 (v2 : BitVec 32) (v29 : BitVec 32) (v1454 : BitVec 32) {Φ : (PUnit) → sProp (MT nD τ sig Unit (Elt F) ℕ UU ℕ)} :
    (Comm In c 73 : sProp 𝕄)
      ⊢ iprop((Comm In c 74 -∗ owns (c : Thread nD τ) (bR.slice (rR (col c + (Fin.succ 0 : Fin 4))) (fun _ => rfl)) fullShare (rs In (row c) (col c) (col c + (Fin.succ 0 : Fin 4))) -∗ Φ ⟨⟩)
        -∗ wp frame (wpE (defs₀ (F := F)) 𝒱₀ (c : Thread nD τ) none) Set.univ (k0_part48 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29 v1454) Φ) := by
  rw [k0_part48_eq_skeleton]; unfold k0_part48_skel
  simp only [semSignalWord, semWaitWord, Prog.lift, Prog.bind_op, Prog.bind_ret, Prog.pure_eq_ret, wp_deviceId]
  iintro HC Hk
  iapply (wR_rs In c (n := 66) (o := 0) at73 (by decide +kernel) (sem14_18_1 c) (src := (bR.slice (Rect.unit (s := S4x1x128x128) (k0_off37 c 1#32) S1x1x128x128.size (k0_off37_inb c 0)) (fun _ => rfl))) (dst := (bR.slice (Rect.unit (s := S4x1x128x128) (k0_off37 c 1#32) S1x1x128x128.size (k0_off37_inb c 0)) (fun _ => rfl))) rfl) $$ HC
  iintro HC rsr0
  rw [wp_ret]
  imodintro
  iapply Hk $$ HC rsr0

/-- Part 49. -/
theorem run_p49 (v2 : BitVec 32) (v29 : BitVec 32) {Yo : Vec F S128x128 .f32} {Φ : (PUnit) → sProp (MT nD τ sig Unit (Elt F) ℕ UU ℕ)} :
    (Comm In c 74 : sProp 𝕄)
      ⊢ iprop(owns (c : Thread nD τ) (bR.slice (rR (col c)) (fun _ => rfl)) fullShare (rs In (row c) (col c) (col c))
        -∗ owns (c : Thread nD τ) (bR.slice (rR (col c + (Fin.succ 0 : Fin 4))) (fun _ => rfl)) fullShare (rs In (row c) (col c) (col c + (Fin.succ 0 : Fin 4)))
        -∗ owns (c : Thread nD τ) aOut fullShare Yo
        -∗ (Comm In c 76 -∗ owns (c : Thread nD τ) aOut fullShare (out In (row c) (col c)) -∗ owns (c : Thread nD τ) bR fullShare (stack4 (rs In (row c) (col c))) -∗ Φ ⟨⟩)
        -∗ wp frame (wpE (defs₀ (F := F)) 𝒱₀ (c : Thread nD τ) none) Set.univ (k0_part49 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v2 v29) Φ) := by
  rw [k0_part49_eq_skeleton]; unfold k0_part49_skel
  simp only [semSignalWord, semWaitWord, Prog.lift, Prog.bind_op, Prog.bind_ret, Prog.pure_eq_ret, wp_deviceId]
  iintro HC rs0 rsr0 Ao Hk
  iapply (wR_rs In c (n := 67) (o := 1) at74 (by decide +kernel) (sem14_18_2 c) (src := (bR.slice (Rect.unit (s := S4x1x128x128) (k0_off37 c 2#32) S1x1x128x128.size (k0_off37_inb c 1)) (fun _ => rfl))) (dst := (bR.slice (Rect.unit (s := S4x1x128x128) (k0_off37 c 2#32) S1x1x128x128.size (k0_off37_inb c 1)) (fun _ => rfl))) rfl) $$ HC
  iintro HC rsr1
  iapply (wR_rs In c (n := 68) (o := 2) at75 (by decide +kernel) (sem14_18_3 c) (src := (bR.slice (Rect.unit (s := S4x1x128x128) (k0_off37 c 3#32) S1x1x128x128.size (k0_off37_inb c 2)) (fun _ => rfl))) (dst := (bR.slice (Rect.unit (s := S4x1x128x128) (k0_off37 c 3#32) S1x1x128x128.size (k0_off37_inb c 2)) (fun _ => rfl))) rfl) $$ HC
  iintro HC rsr2
  ihave rsW := (rR_apart c (col c) (q := fullShare) (X := stack4 (rs In (row c) (col c))) (Y := rs In (row c) (col c)) (stack4_emb (rs In (row c) (col c)) · (rR_inb _))).2 $$ [rs0 rsr0 rsr1 rsr2]
  · isplitl [rs0]; · iexact rs0
    isplitl [rsr0]; · iexact rsr0
    isplitl [rsr1]; · iexact rsr1
    iexact rsr2
  iapply (load_all (c := c) z4) $$ rsW
  iintro rsW
  iapply (load_all (c := c) z2) $$ Ao
  iintro Ao
  iapply (store_all_eq (c := c) z2 (show (k0_pay37 (stack4 (rs In (row c) (col c)))) = (out In (row c) (col c)) from rfl)) $$ Ao
  iintro Ao
  rw [wp_ret]
  imodintro
  iapply Hk $$ HC Ao rsW

/-- Part 50. -/
theorem run_p50 {Φ : (PUnit) → sProp (MT nD τ sig Unit (Elt F) ℕ UU ℕ)} :
    (Comm In c 76 : sProp 𝕄)
      ⊢ iprop(tick (F := F) c .wi0 0
        -∗ tick (F := F) c .wi0 1
        -∗ tick (F := F) c .wi0 2
        -∗ tick (F := F) c .wo0 0
        -∗ tick (F := F) c .wo0 1
        -∗ (Comm In c 81 -∗ owns (c : Thread nD τ) (bWi0.slice (rWi (row c)) (fun _ => rfl)) (lent 0) (wI In 0 (row c) (col c)) -∗ owns (c : Thread nD τ) (bWi0.slice (rWi (row c)) (fun _ => rfl)) (lent 1) (wI In 0 (row c) (col c)) -∗ owns (c : Thread nD τ) (bWi0.slice (rWi (row c)) (fun _ => rfl)) (lent 2) (wI In 0 (row c) (col c)) -∗ owns (c : Thread nD τ) (bWo0.slice (rWo (row c)) (fun _ => rfl)) (lent 0) (wO In 0 (row c) (col c)) -∗ owns (c : Thread nD τ) (bWo0.slice (rWo (row c)) (fun _ => rfl)) (lent 1) (wO In 0 (row c) (col c)) -∗ Φ ⟨⟩)
        -∗ wp frame (wpE (defs₀ (F := F)) 𝒱₀ (c : Thread nD τ) none) Set.univ (k0_part50 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c) Φ) := by
  rw [k0_part50_eq_skeleton]; unfold k0_part50_skel
  simp only [semSignalWord, semWaitWord, Prog.lift, Prog.bind_op, Prog.bind_ret, Prog.pure_eq_ret, wp_deviceId]
  iintro HC wi0t0 wi0t1 wi0t2 wo0t0 wo0t1 Hk
  iapply (wS_wi0 In c (n := 69) (o := 0) at76 (by decide +kernel) semc11_0_1 (src := (bWi0.slice (Rect.unit (s := S4x128x256) (k0_off6 c) S1x128x256.size (k0_off6_inb c)) (fun _ => rfl))) (dst := (bWi0.slice (Rect.unit (s := S4x128x256) (k0_off6 c) S1x128x256.size (k0_off6_inb c)) (fun _ => rfl))) rfl) $$ HC wi0t0
  iintro HC wi0l0
  iapply (wS_wi0 In c (n := 70) (o := 1) at77 (by decide +kernel) semc11_0_2 (src := (bWi0.slice (Rect.unit (s := S4x128x256) (k0_off6 c) S1x128x256.size (k0_off6_inb c)) (fun _ => rfl))) (dst := (bWi0.slice (Rect.unit (s := S4x128x256) (k0_off6 c) S1x128x256.size (k0_off6_inb c)) (fun _ => rfl))) rfl) $$ HC wi0t1
  iintro HC wi0l1
  iapply (wS_wi0 In c (n := 71) (o := 2) at78 (by decide +kernel) semc11_0_3 (src := (bWi0.slice (Rect.unit (s := S4x128x256) (k0_off6 c) S1x128x256.size (k0_off6_inb c)) (fun _ => rfl))) (dst := (bWi0.slice (Rect.unit (s := S4x128x256) (k0_off6 c) S1x128x256.size (k0_off6_inb c)) (fun _ => rfl))) rfl) $$ HC wi0t2
  iintro HC wi0l2
  iapply (wS_wo0 In c (n := 72) (o := 0) at79 (by decide +kernel) semc11_1_1 (src := (bWo0.slice (Rect.unit (s := S4x256x128) (k0_off9 c) S1x256x128.size (k0_off9_inb c)) (fun _ => rfl))) (dst := (bWo0.slice (Rect.unit (s := S4x256x128) (k0_off9 c) S1x256x128.size (k0_off9_inb c)) (fun _ => rfl))) rfl) $$ HC wo0t0
  iintro HC wo0l0
  iapply (wS_wo0 In c (n := 73) (o := 1) at80 (by decide +kernel) semc11_1_2 (src := (bWo0.slice (Rect.unit (s := S4x256x128) (k0_off9 c) S1x256x128.size (k0_off9_inb c)) (fun _ => rfl))) (dst := (bWo0.slice (Rect.unit (s := S4x256x128) (k0_off9 c) S1x256x128.size (k0_off9_inb c)) (fun _ => rfl))) rfl) $$ HC wo0t1
  iintro HC wo0l1
  rw [wp_ret]
  imodintro
  iapply Hk $$ HC wi0l0 wi0l1 wi0l2 wo0l0 wo0l1

/-- Part 51. -/
theorem run_p51 {Φ : (PUnit) → sProp (MT nD τ sig Unit (Elt F) ℕ UU ℕ)} :
    (Comm In c 81 : sProp 𝕄)
      ⊢ iprop(tick (F := F) c .wo0 2
        -∗ tick (F := F) c .wi1 0
        -∗ tick (F := F) c .wi1 1
        -∗ tick (F := F) c .wi1 2
        -∗ (Comm In c 85 -∗ owns (c : Thread nD τ) (bWi1.slice (rWi (row c)) (fun _ => rfl)) (lent 0) (wI In 1 (row c) (col c)) -∗ owns (c : Thread nD τ) (bWi1.slice (rWi (row c)) (fun _ => rfl)) (lent 1) (wI In 1 (row c) (col c)) -∗ owns (c : Thread nD τ) (bWi1.slice (rWi (row c)) (fun _ => rfl)) (lent 2) (wI In 1 (row c) (col c)) -∗ owns (c : Thread nD τ) (bWo0.slice (rWo (row c)) (fun _ => rfl)) (lent 2) (wO In 0 (row c) (col c)) -∗ Φ ⟨⟩)
        -∗ wp frame (wpE (defs₀ (F := F)) 𝒱₀ (c : Thread nD τ) none) Set.univ (k0_part51 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c) Φ) := by
  rw [k0_part51_eq_skeleton]; unfold k0_part51_skel
  simp only [semSignalWord, semWaitWord, Prog.lift, Prog.bind_op, Prog.bind_ret, Prog.pure_eq_ret, wp_deviceId]
  iintro HC wo0t2 wi1t0 wi1t1 wi1t2 Hk
  iapply (wS_wo0 In c (n := 74) (o := 2) at81 (by decide +kernel) semc11_1_3 (src := (bWo0.slice (Rect.unit (s := S4x256x128) (k0_off9 c) S1x256x128.size (k0_off9_inb c)) (fun _ => rfl))) (dst := (bWo0.slice (Rect.unit (s := S4x256x128) (k0_off9 c) S1x256x128.size (k0_off9_inb c)) (fun _ => rfl))) rfl) $$ HC wo0t2
  iintro HC wo0l2
  iapply (wS_wi1 In c (n := 75) (o := 0) at82 (by decide +kernel) semc11_2_1 (src := (bWi1.slice (Rect.unit (s := S4x128x256) (k0_off6 c) S1x128x256.size (k0_off6_inb c)) (fun _ => rfl))) (dst := (bWi1.slice (Rect.unit (s := S4x128x256) (k0_off6 c) S1x128x256.size (k0_off6_inb c)) (fun _ => rfl))) rfl) $$ HC wi1t0
  iintro HC wi1l0
  iapply (wS_wi1 In c (n := 76) (o := 1) at83 (by decide +kernel) semc11_2_2 (src := (bWi1.slice (Rect.unit (s := S4x128x256) (k0_off6 c) S1x128x256.size (k0_off6_inb c)) (fun _ => rfl))) (dst := (bWi1.slice (Rect.unit (s := S4x128x256) (k0_off6 c) S1x128x256.size (k0_off6_inb c)) (fun _ => rfl))) rfl) $$ HC wi1t1
  iintro HC wi1l1
  iapply (wS_wi1 In c (n := 77) (o := 2) at84 (by decide +kernel) semc11_2_3 (src := (bWi1.slice (Rect.unit (s := S4x128x256) (k0_off6 c) S1x128x256.size (k0_off6_inb c)) (fun _ => rfl))) (dst := (bWi1.slice (Rect.unit (s := S4x128x256) (k0_off6 c) S1x128x256.size (k0_off6_inb c)) (fun _ => rfl))) rfl) $$ HC wi1t2
  iintro HC wi1l2
  rw [wp_ret]
  imodintro
  iapply Hk $$ HC wi1l0 wi1l1 wi1l2 wo0l2

/-- Part 52. -/
theorem run_p52 {Φ : (PUnit) → sProp (MT nD τ sig Unit (Elt F) ℕ UU ℕ)} :
    (Comm In c 85 : sProp 𝕄)
      ⊢ iprop(tick (F := F) c .wo1 0
        -∗ tick (F := F) c .wo1 1
        -∗ tick (F := F) c .wo1 2
        -∗ tick (F := F) c .wi2 0
        -∗ tick (F := F) c .wi2 1
        -∗ (Comm In c 90 -∗ owns (c : Thread nD τ) (bWi2.slice (rWi (row c)) (fun _ => rfl)) (lent 0) (wI In 2 (row c) (col c)) -∗ owns (c : Thread nD τ) (bWi2.slice (rWi (row c)) (fun _ => rfl)) (lent 1) (wI In 2 (row c) (col c)) -∗ owns (c : Thread nD τ) (bWo1.slice (rWo (row c)) (fun _ => rfl)) (lent 0) (wO In 1 (row c) (col c)) -∗ owns (c : Thread nD τ) (bWo1.slice (rWo (row c)) (fun _ => rfl)) (lent 1) (wO In 1 (row c) (col c)) -∗ owns (c : Thread nD τ) (bWo1.slice (rWo (row c)) (fun _ => rfl)) (lent 2) (wO In 1 (row c) (col c)) -∗ Φ ⟨⟩)
        -∗ wp frame (wpE (defs₀ (F := F)) 𝒱₀ (c : Thread nD τ) none) Set.univ (k0_part52 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c) Φ) := by
  rw [k0_part52_eq_skeleton]; unfold k0_part52_skel
  simp only [semSignalWord, semWaitWord, Prog.lift, Prog.bind_op, Prog.bind_ret, Prog.pure_eq_ret, wp_deviceId]
  iintro HC wo1t0 wo1t1 wo1t2 wi2t0 wi2t1 Hk
  iapply (wS_wo1 In c (n := 78) (o := 0) at85 (by decide +kernel) semc11_3_1 (src := (bWo1.slice (Rect.unit (s := S4x256x128) (k0_off9 c) S1x256x128.size (k0_off9_inb c)) (fun _ => rfl))) (dst := (bWo1.slice (Rect.unit (s := S4x256x128) (k0_off9 c) S1x256x128.size (k0_off9_inb c)) (fun _ => rfl))) rfl) $$ HC wo1t0
  iintro HC wo1l0
  iapply (wS_wo1 In c (n := 79) (o := 1) at86 (by decide +kernel) semc11_3_2 (src := (bWo1.slice (Rect.unit (s := S4x256x128) (k0_off9 c) S1x256x128.size (k0_off9_inb c)) (fun _ => rfl))) (dst := (bWo1.slice (Rect.unit (s := S4x256x128) (k0_off9 c) S1x256x128.size (k0_off9_inb c)) (fun _ => rfl))) rfl) $$ HC wo1t1
  iintro HC wo1l1
  iapply (wS_wo1 In c (n := 80) (o := 2) at87 (by decide +kernel) semc11_3_3 (src := (bWo1.slice (Rect.unit (s := S4x256x128) (k0_off9 c) S1x256x128.size (k0_off9_inb c)) (fun _ => rfl))) (dst := (bWo1.slice (Rect.unit (s := S4x256x128) (k0_off9 c) S1x256x128.size (k0_off9_inb c)) (fun _ => rfl))) rfl) $$ HC wo1t2
  iintro HC wo1l2
  iapply (wS_wi2 In c (n := 81) (o := 0) at88 (by decide +kernel) semc11_4_1 (src := (bWi2.slice (Rect.unit (s := S4x128x256) (k0_off6 c) S1x128x256.size (k0_off6_inb c)) (fun _ => rfl))) (dst := (bWi2.slice (Rect.unit (s := S4x128x256) (k0_off6 c) S1x128x256.size (k0_off6_inb c)) (fun _ => rfl))) rfl) $$ HC wi2t0
  iintro HC wi2l0
  iapply (wS_wi2 In c (n := 82) (o := 1) at89 (by decide +kernel) semc11_4_2 (src := (bWi2.slice (Rect.unit (s := S4x128x256) (k0_off6 c) S1x128x256.size (k0_off6_inb c)) (fun _ => rfl))) (dst := (bWi2.slice (Rect.unit (s := S4x128x256) (k0_off6 c) S1x128x256.size (k0_off6_inb c)) (fun _ => rfl))) rfl) $$ HC wi2t1
  iintro HC wi2l1
  rw [wp_ret]
  imodintro
  iapply Hk $$ HC wi2l0 wi2l1 wo1l0 wo1l1 wo1l2

/-- Part 53. -/
theorem run_p53 {Φ : (PUnit) → sProp (MT nD τ sig Unit (Elt F) ℕ UU ℕ)} :
    (Comm In c 90 : sProp 𝕄)
      ⊢ iprop(tick (F := F) c .wi2 2
        -∗ tick (F := F) c .wo2 0
        -∗ tick (F := F) c .wo2 1
        -∗ tick (F := F) c .wo2 2
        -∗ tick (F := F) c .rs 0
        -∗ (Comm In c 95 -∗ owns (c : Thread nD τ) (bS.slice (rS (col c + (0 : Fin 3).succ)) (fun _ => rfl)) fullShare (rs In (row c) (col c + (0 : Fin 3).succ) (col c)) -∗ owns (c : Thread nD τ) (bWi2.slice (rWi (row c)) (fun _ => rfl)) (lent 2) (wI In 2 (row c) (col c)) -∗ owns (c : Thread nD τ) (bWo2.slice (rWo (row c)) (fun _ => rfl)) (lent 0) (wO In 2 (row c) (col c)) -∗ owns (c : Thread nD τ) (bWo2.slice (rWo (row c)) (fun _ => rfl)) (lent 1) (wO In 2 (row c) (col c)) -∗ owns (c : Thread nD τ) (bWo2.slice (rWo (row c)) (fun _ => rfl)) (lent 2) (wO In 2 (row c) (col c)) -∗ Φ ⟨⟩)
        -∗ wp frame (wpE (defs₀ (F := F)) 𝒱₀ (c : Thread nD τ) none) Set.univ (k0_part53 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c) Φ) := by
  rw [k0_part53_eq_skeleton]; unfold k0_part53_skel
  simp only [semSignalWord, semWaitWord, Prog.lift, Prog.bind_op, Prog.bind_ret, Prog.pure_eq_ret, wp_deviceId]
  iintro HC wi2t2 wo2t0 wo2t1 wo2t2 rst0 Hk
  iapply (wS_wi2 In c (n := 83) (o := 2) at90 (by decide +kernel) semc11_4_3 (src := (bWi2.slice (Rect.unit (s := S4x128x256) (k0_off6 c) S1x128x256.size (k0_off6_inb c)) (fun _ => rfl))) (dst := (bWi2.slice (Rect.unit (s := S4x128x256) (k0_off6 c) S1x128x256.size (k0_off6_inb c)) (fun _ => rfl))) rfl) $$ HC wi2t2
  iintro HC wi2l2
  iapply (wS_wo2 In c (n := 84) (o := 0) at91 (by decide +kernel) semc11_5_1 (src := (bWo2.slice (Rect.unit (s := S4x256x128) (k0_off9 c) S1x256x128.size (k0_off9_inb c)) (fun _ => rfl))) (dst := (bWo2.slice (Rect.unit (s := S4x256x128) (k0_off9 c) S1x256x128.size (k0_off9_inb c)) (fun _ => rfl))) rfl) $$ HC wo2t0
  iintro HC wo2l0
  iapply (wS_wo2 In c (n := 85) (o := 1) at92 (by decide +kernel) semc11_5_2 (src := (bWo2.slice (Rect.unit (s := S4x256x128) (k0_off9 c) S1x256x128.size (k0_off9_inb c)) (fun _ => rfl))) (dst := (bWo2.slice (Rect.unit (s := S4x256x128) (k0_off9 c) S1x256x128.size (k0_off9_inb c)) (fun _ => rfl))) rfl) $$ HC wo2t1
  iintro HC wo2l1
  iapply (wS_wo2 In c (n := 86) (o := 2) at93 (by decide +kernel) semc11_5_3 (src := (bWo2.slice (Rect.unit (s := S4x256x128) (k0_off9 c) S1x256x128.size (k0_off9_inb c)) (fun _ => rfl))) (dst := (bWo2.slice (Rect.unit (s := S4x256x128) (k0_off9 c) S1x256x128.size (k0_off9_inb c)) (fun _ => rfl))) rfl) $$ HC wo2t2
  iintro HC wo2l2
  iapply (wS_rs In c (n := 87) (o := 0) at94 (by decide +kernel) semc17_1 (src := (bR.slice (Rect.unit (s := S4x1x128x128) (k0_off35 c) S1x1x128x128.size (k0_off35_inb c)) (fun _ => rfl))) (dst := (bS.slice (Rect.unit (s := S1x4x128x128) (k0_off36 c 1#32) S1x1x128x128.size (k0_off36_inb c 0)) (fun _ => rfl))) rfl) $$ HC rst0
  iintro HC rsl0
  rw [wp_ret]
  imodintro
  iapply Hk $$ HC rsl0 wi2l2 wo2l0 wo2l1 wo2l2

/-- Part 54. -/
theorem run_p54 (v19 : BitVec 32) (v29 : BitVec 32) {Φ : (Σ' (v1611_r0 : BitVec 32), BitVec 32) → sProp (MT nD τ sig Unit (Elt F) ℕ UU ℕ)} :
    (Comm In c 95 : sProp 𝕄)
      ⊢ iprop(tick (F := F) c .rs 1
        -∗ tick (F := F) c .rs 2
        -∗ (∀ w0 : BitVec 32, ∀ w1 : BitVec 32, Comm In c 98 -∗ owns (c : Thread nD τ) (bS.slice (rS (col c + (1 : Fin 3).succ)) (fun _ => rfl)) fullShare (rs In (row c) (col c + (1 : Fin 3).succ) (col c)) -∗ owns (c : Thread nD τ) (bS.slice (rS (col c + (2 : Fin 3).succ)) (fun _ => rfl)) fullShare (rs In (row c) (col c + (2 : Fin 3).succ) (col c)) -∗ Φ ⟨w0, w1⟩)
        -∗ wp frame (wpE (defs₀ (F := F)) 𝒱₀ (c : Thread nD τ) none) Set.univ (k0_part54 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0 c v19 v29) Φ) := by
  rw [k0_part54_eq_skeleton]; unfold k0_part54_skel
  simp only [semSignalWord, semWaitWord, Prog.lift, Prog.bind_op, Prog.bind_ret, Prog.pure_eq_ret, wp_deviceId]
  iintro HC rst1 rst2 Hk
  iapply (wS_rs In c (n := 88) (o := 1) at95 (by decide +kernel) semc17_2 (src := (bR.slice (Rect.unit (s := S4x1x128x128) (k0_off35 c) S1x1x128x128.size (k0_off35_inb c)) (fun _ => rfl))) (dst := (bS.slice (Rect.unit (s := S1x4x128x128) (k0_off36 c 2#32) S1x1x128x128.size (k0_off36_inb c 1)) (fun _ => rfl))) rfl) $$ HC rst1
  iintro HC rsl1
  iapply (wS_rs In c (n := 89) (o := 2) at96 (by decide +kernel) semc17_3 (src := (bR.slice (Rect.unit (s := S4x1x128x128) (k0_off35 c) S1x1x128x128.size (k0_off35_inb c)) (fun _ => rfl))) (dst := (bS.slice (Rect.unit (s := S1x4x128x128) (k0_off36 c 3#32) S1x1x128x128.size (k0_off36_inb c 2)) (fun _ => rfl))) rfl) $$ HC rst2
  iintro HC rsl2
  iapply (wp_sg2 In c (n := 90) (o := 0) at97 (by decide) (dev_end c).1 (by decide)) $$ HC
  iintro HC
  rw [wp_ret]
  imodintro
  iapply Hk $$ HC rsl1 rsl2

end Cert.Mlp

end
-- ==== Proof.Chain.lean ====
/-
The parts of the kernel's body one after the other, on all of a device's resources.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

set_option maxHeartbeats 4000000 in
/-- The first 54 parts in a row: from the launch to the first of the closing signals. -/
theorem run_p55 {Yo : Vec F S128x128 .f32} {Yag : Vec F S1x128x128 .bf16} {Ywi0 : Vec F S1x128x256 .bf16} {Ywo0 : Vec F S1x256x128 .bf16} {Ywi1 : Vec F S1x128x256 .bf16} {Ywo1 : Vec F S1x256x128 .bf16} {Ywi2 : Vec F S1x128x256 .bf16} {Ywo2 : Vec F S1x256x128 .bf16} {Ypr0 : Vec F S1x4x128x128 .bf16} {Ypr1 : Vec F S1x4x128x128 .bf16} {Yrs : Vec F S1x1x128x128 .bf16} {YS : Vec F S1x4x128x128 .bf16} {Φ : (Σ' (d0 : Dev nD) (v19 : BitVec 32) (v29 : BitVec 32) (v1611_r0 : BitVec 32) (v1612_r0 : BitVec 32) (v1613_r0 : BitVec 1) (v1614_r0 : BitVec 1), BitVec 1) → sProp (MT nD τ sig Unit (Elt F) ℕ UU ℕ)} :
    (Comm In c 0 : sProp 𝕄)
      ⊢ iprop(owns (c : Thread nD τ) aX fullShare (In.x c)
        -∗ owns (c : Thread nD τ) aWi0 fullShare (In.wi0 c)
        -∗ owns (c : Thread nD τ) aWo0 fullShare (In.wo0 c)
        -∗ owns (c : Thread nD τ) aWi1 fullShare (In.wi1 c)
        -∗ owns (c : Thread nD τ) aWo1 fullShare (In.wo1 c)
        -∗ owns (c : Thread nD τ) aWi2 fullShare (In.wi2 c)
        -∗ owns (c : Thread nD τ) aWo2 fullShare (In.wo2 c)
        -∗ owns (c : Thread nD τ) aOut fullShare Yo
        -∗ give (F := F) c true 0
        -∗ give (F := F) c false 0
        -∗ give (F := F) c true 1
        -∗ give (F := F) c false 1
        -∗ give (F := F) c true 2
        -∗ give (F := F) c false 2
        -∗ owns (c : Thread nD τ) (bX.slice (rX (col c)) (fun _ => rfl)) fullShare Yag
        -∗ owns (c : Thread nD τ) (bWi0.slice (rWi (row c)) (fun _ => rfl)) fullShare Ywi0
        -∗ owns (c : Thread nD τ) (bWo0.slice (rWo (row c)) (fun _ => rfl)) fullShare Ywo0
        -∗ owns (c : Thread nD τ) (bWi1.slice (rWi (row c)) (fun _ => rfl)) fullShare Ywi1
        -∗ owns (c : Thread nD τ) (bWo1.slice (rWo (row c)) (fun _ => rfl)) fullShare Ywo1
        -∗ owns (c : Thread nD τ) (bWi2.slice (rWi (row c)) (fun _ => rfl)) fullShare Ywi2
        -∗ owns (c : Thread nD τ) (bWo2.slice (rWo (row c)) (fun _ => rfl)) fullShare Ywo2
        -∗ owns (c : Thread nD τ) (bP0.slice (rP (col c)) (fun _ => rfl)) fullShare Ypr0
        -∗ owns (c : Thread nD τ) (bP1.slice (rP (col c)) (fun _ => rfl)) fullShare Ypr1
        -∗ owns (c : Thread nD τ) (bR.slice (rR (col c)) (fun _ => rfl)) fullShare Yrs
        -∗ owns (c : Thread nD τ) bS fullShare YS
        -∗ (∀ w1 : BitVec 32, ∀ w2 : BitVec 32, ∀ w3 : BitVec 32, ∀ w4 : BitVec 32, ∀ w5 : BitVec 1, ∀ w6 : BitVec 1, ∀ w7 : BitVec 1, Comm In c 98 -∗ owns (c : Thread nD τ) aX fullShare (In.x c) -∗ owns (c : Thread nD τ) aWi0 fullShare (In.wi0 c) -∗ owns (c : Thread nD τ) aWo0 fullShare (In.wo0 c) -∗ owns (c : Thread nD τ) aWi1 fullShare (In.wi1 c) -∗ owns (c : Thread nD τ) aWo1 fullShare (In.wo1 c) -∗ owns (c : Thread nD τ) aWi2 fullShare (In.wi2 c) -∗ owns (c : Thread nD τ) aWo2 fullShare (In.wo2 c) -∗ owns (c : Thread nD τ) aOut fullShare (out In (row c) (col c)) -∗ owns (c : Thread nD τ) (bWi0.slice (rWi (row c)) (fun _ => rfl)) fullShare.left (wI In 0 (row c) (col c)) -∗ owns (c : Thread nD τ) (bWo0.slice (rWo (row c)) (fun _ => rfl)) fullShare.left (wO In 0 (row c) (col c)) -∗ owns (c : Thread nD τ) (bWi1.slice (rWi (row c)) (fun _ => rfl)) fullShare.left (wI In 1 (row c) (col c)) -∗ owns (c : Thread nD τ) (bWo1.slice (rWo (row c)) (fun _ => rfl)) fullShare.left (wO In 1 (row c) (col c)) -∗ owns (c : Thread nD τ) (bWi2.slice (rWi (row c)) (fun _ => rfl)) fullShare.left (wI In 2 (row c) (col c)) -∗ owns (c : Thread nD τ) (bWo2.slice (rWo (row c)) (fun _ => rfl)) fullShare.left (wO In 2 (row c) (col c)) -∗ owns (c : Thread nD τ) (bWi0.slice (rWi (row c + (Fin.succ 0 : Fin 4))) (fun _ => rfl)) fullShare (wI In 0 (row c + (Fin.succ 0 : Fin 4)) (col c)) -∗ owns (c : Thread nD τ) (bWo0.slice (rWo (row c + (Fin.succ 0 : Fin 4))) (fun _ => rfl)) fullShare (wO In 0 (row c + (Fin.succ 0 : Fin 4)) (col c)) -∗ owns (c : Thread nD τ) (bWi0.slice (rWi (row c + (Fin.succ 1 : Fin 4))) (fun _ => rfl)) fullShare (wI In 0 (row c + (Fin.succ 1 : Fin 4)) (col c)) -∗ owns (c : Thread nD τ) (bWo0.slice (rWo (row c + (Fin.succ 1 : Fin 4))) (fun _ => rfl)) fullShare (wO In 0 (row c + (Fin.succ 1 : Fin 4)) (col c)) -∗ owns (c : Thread nD τ) (bWi0.slice (rWi (row c + (Fin.succ 2 : Fin 4))) (fun _ => rfl)) fullShare (wI In 0 (row c + (Fin.succ 2 : Fin 4)) (col c)) -∗ owns (c : Thread nD τ) (bWo0.slice (rWo (row c + (Fin.succ 2 : Fin 4))) (fun _ => rfl)) fullShare (wO In 0 (row c + (Fin.succ 2 : Fin 4)) (col c)) -∗ owns (c : Thread nD τ) bP0 fullShare (stack4 (ps0 In (row c))) -∗ owns (c : Thread nD τ) bX fullShare (xb2 In (row c)) -∗ owns (c : Thread nD τ) (bWi1.slice (rWi (row c + (Fin.succ 0 : Fin 4))) (fun _ => rfl)) fullShare (wI In 1 (row c + (Fin.succ 0 : Fin 4)) (col c)) -∗ owns (c : Thread nD τ) (bWo1.slice (rWo (row c + (Fin.succ 0 : Fin 4))) (fun _ => rfl)) fullShare (wO In 1 (row c + (Fin.succ 0 : Fin 4)) (col c)) -∗ owns (c : Thread nD τ) (bWi1.slice (rWi (row c + (Fin.succ 1 : Fin 4))) (fun _ => rfl)) fullShare (wI In 1 (row c + (Fin.succ 1 : Fin 4)) (col c)) -∗ owns (c : Thread nD τ) (bWo1.slice (rWo (row c + (Fin.succ 1 : Fin 4))) (fun _ => rfl)) fullShare (wO In 1 (row c + (Fin.succ 1 : Fin 4)) (col c)) -∗ owns (c : Thread nD τ) (bWi1.slice (rWi (row c + (Fin.succ 2 : Fin 4))) (fun _ => rfl)) fullShare (wI In 1 (row c + (Fin.succ 2 : Fin 4)) (col c)) -∗ owns (c : Thread nD τ) (bWo1.slice (rWo (row c + (Fin.succ 2 : Fin 4))) (fun _ => rfl)) fullShare (wO In 1 (row c + (Fin.succ 2 : Fin 4)) (col c)) -∗ owns (c : Thread nD τ) bP1 fullShare (stack4 (ps1 In (row c))) -∗ owns (c : Thread nD τ) (bWi2.slice (rWi (row c + (Fin.succ 0 : Fin 4))) (fun _ => rfl)) fullShare (wI In 2 (row c + (Fin.succ 0 : Fin 4)) (col c)) -∗ owns (c : Thread nD τ) (bWo2.slice (rWo (row c + (Fin.succ 0 : Fin 4))) (fun _ => rfl)) fullShare (wO In 2 (row c + (Fin.succ 0 : Fin 4)) (col c)) -∗ owns (c : Thread nD τ) (bWi2.slice (rWi (row c + (Fin.succ 1 : Fin 4))) (fun _ => rfl)) fullShare (wI In 2 (row c + (Fin.succ 1 : Fin 4)) (col c)) -∗ owns (c : Thread nD τ) (bWo2.slice (rWo (row c + (Fin.succ 1 : Fin 4))) (fun _ => rfl)) fullShare (wO In 2 (row c + (Fin.succ 1 : Fin 4)) (col c)) -∗ owns (c : Thread nD τ) (bWi2.slice (rWi (row c + (Fin.succ 2 : Fin 4))) (fun _ => rfl)) fullShare (wI In 2 (row c + (Fin.succ 2 : Fin 4)) (col c)) -∗ owns (c : Thread nD τ) (bWo2.slice (rWo (row c + (Fin.succ 2 : Fin 4))) (fun _ => rfl)) fullShare (wO In 2 (row c + (Fin.succ 2 : Fin 4)) (col c)) -∗ owns (c : Thread nD τ) (bS.slice (rS (col c)) (fun _ => rfl)) fullShare (rs In (row c) (col c) (col c)) -∗ owns (c : Thread nD τ) bR fullShare (stack4 (rs In (row c) (col c))) -∗ owns (c : Thread nD τ) (bWi0.slice (rWi (row c)) (fun _ => rfl)) (lent 0) (wI In 0 (row c) (col c)) -∗ owns (c : Thread nD τ) (bWi0.slice (rWi (row c)) (fun _ => rfl)) (lent 1) (wI In 0 (row c) (col c)) -∗ owns (c : Thread nD τ) (bWi0.slice (rWi (row c)) (fun _ => rfl)) (lent 2) (wI In 0 (row c) (col c)) -∗ owns (c : Thread nD τ) (bWo0.slice (rWo (row c)) (fun _ => rfl)) (lent 0) (wO In 0 (row c) (col c)) -∗ owns (c : Thread nD τ) (bWo0.slice (rWo (row c)) (fun _ => rfl)) (lent 1) (wO In 0 (row c) (col c)) -∗ owns (c : Thread nD τ) (bWo0.slice (rWo (row c)) (fun _ => rfl)) (lent 2) (wO In 0 (row c) (col c)) -∗ owns (c : Thread nD τ) (bWi1.slice (rWi (row c)) (fun _ => rfl)) (lent 0) (wI In 1 (row c) (col c)) -∗ owns (c : Thread nD τ) (bWi1.slice (rWi (row c)) (fun _ => rfl)) (lent 1) (wI In 1 (row c) (col c)) -∗ owns (c : Thread nD τ) (bWi1.slice (rWi (row c)) (fun _ => rfl)) (lent 2) (wI In 1 (row c) (col c)) -∗ owns (c : Thread nD τ) (bWo1.slice (rWo (row c)) (fun _ => rfl)) (lent 0) (wO In 1 (row c) (col c)) -∗ owns (c : Thread nD τ) (bWo1.slice (rWo (row c)) (fun _ => rfl)) (lent 1) (wO In 1 (row c) (col c)) -∗ owns (c : Thread nD τ) (bWo1.slice (rWo (row c)) (fun _ => rfl)) (lent 2) (wO In 1 (row c) (col c)) -∗ owns (c : Thread nD τ) (bWi2.slice (rWi (row c)) (fun _ => rfl)) (lent 0) (wI In 2 (row c) (col c)) -∗ owns (c : Thread nD τ) (bWi2.slice (rWi (row c)) (fun _ => rfl)) (lent 1) (wI In 2 (row c) (col c)) -∗ owns (c : Thread nD τ) (bWi2.slice (rWi (row c)) (fun _ => rfl)) (lent 2) (wI In 2 (row c) (col c)) -∗ owns (c : Thread nD τ) (bWo2.slice (rWo (row c)) (fun _ => rfl)) (lent 0) (wO In 2 (row c) (col c)) -∗ owns (c : Thread nD τ) (bWo2.slice (rWo (row c)) (fun _ => rfl)) (lent 1) (wO In 2 (row c) (col c)) -∗ owns (c : Thread nD τ) (bWo2.slice (rWo (row c)) (fun _ => rfl)) (lent 2) (wO In 2 (row c) (col c)) -∗ owns (c : Thread nD τ) (bS.slice (rS (col c + (0 : Fin 3).succ)) (fun _ => rfl)) fullShare (rs In (row c) (col c + (0 : Fin 3).succ) (col c)) -∗ owns (c : Thread nD τ) (bS.slice (rS (col c + (1 : Fin 3).succ)) (fun _ => rfl)) fullShare (rs In (row c) (col c + (1 : Fin 3).succ) (col c)) -∗ owns (c : Thread nD τ) (bS.slice (rS (col c + (2 : Fin 3).succ)) (fun _ => rfl)) fullShare (rs In (row c) (col c + (2 : Fin 3).succ) (col c)) -∗ Φ ⟨c, w1, w2, w3, w4, w5, w6, w7⟩)
        -∗ wp frame (wpE (defs₀ (F := F)) 𝒱₀ (c : Thread nD τ) none) Set.univ (k0_part55 (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0) Φ) := by
  rw [k0_part55_eq_skeleton]; unfold k0_part55_skel
  iintro HC Ax Awi0 Awo0 Awi1 Awo1 Awi2 Awo2 Ao Gt0 Gf0 Gt1 Gf1 Gt2 Gf2 ag0 wi00 wo00 wi10 wo10 wi20 wo20 pr00 pr10 rs0 S Hk
  rw [wp_bind]
  iapply (run_p1 (c := c))
  iintro %u1_0 %u1_1 %u1_2 %u1_3 %u1_4 %u1_5 %u1_6 %u1_7
  try dsimp only
  rw [wp_bind]
  iapply (run_p2 (c := c) (In := In)) $$ HC Gt0 Gf0
  iintro %u2_0 %u2_1 %u2_2 %u2_3 HC
  try dsimp only
  rw [wp_bind]
  iapply (run_p3 (c := c) (In := In)) $$ HC Gt1 Gf1
  iintro %u3_0 %u3_1 %u3_2 %u3_3 HC
  try dsimp only
  rw [wp_bind]
  iapply (run_p4 (c := c) (In := In)) $$ HC Gt2 Gf2 Ax ag0
  iintro %u4_0 %u4_1 %u4_2 %u4_3 %u4_4 %u4_5 HC Ax ag0
  try dsimp only
  ihave ag0 := (owns_lend c).1 $$ ag0
  icases ag0 with ⟨ag0, agl0, agl1, agl2⟩
  rw [wp_bind]
  iapply (run_p5 (c := c) (In := In)) $$ HC agl0 agl1
  iintro %u5_0 HC agt0 agt1
  try dsimp only
  rw [wp_bind]
  iapply (run_p6 (c := c) (In := In)) $$ HC agl2 Awi0 wi00
  iintro %u6_0 %u6_1 %u6_2 %u6_3 %u6_4 HC Awi0 wi00 agt2
  try dsimp only
  ihave wi00 := (owns_lend c).1 $$ wi00
  icases wi00 with ⟨wi00, wi0l0, wi0l1, wi0l2⟩
  rw [wp_bind]
  iapply (run_p7 (c := c) (In := In)) $$ HC wi0l0
  iintro  HC wi0t0
  try dsimp only
  rw [wp_bind]
  iapply (run_p8 (c := c) (In := In)) $$ HC wi0l1 wi0l2 Awo0 wo00
  iintro %u8_0 %u8_1 %u8_2 HC Awo0 wo00 wi0t1 wi0t2
  try dsimp only
  ihave wo00 := (owns_lend c).1 $$ wo00
  icases wo00 with ⟨wo00, wo0l0, wo0l1, wo0l2⟩
  rw [wp_bind]
  iapply (run_p9 (c := c) (In := In)) $$ HC wo0l0
  iintro %u9_0 %u9_1 HC wo0t0
  try dsimp only
  rw [wp_bind]
  iapply (run_p10 (c := c) (In := In)) $$ HC wo0l1 wo0l2 Awi1
  iintro  HC Awi1 wo0t1 wo0t2
  try dsimp only
  rw [wp_bind]
  iapply (run_p11 (c := c) (In := In)) $$ wi10 HC
  iintro %u11_0 %u11_1 %u11_2 wi10 HC wi1l1 wi1l2 wi1t0
  try dsimp only
  rw [wp_bind]
  iapply (run_p12 (c := c) (In := In)) $$ HC wi1l1
  iintro  HC wi1t1
  try dsimp only
  rw [wp_bind]
  iapply (run_p13 (c := c) (In := In)) $$ HC wi1l2 Awo1 wo10
  iintro %u13_0 %u13_1 HC Awo1 wo10 wi1t2 wo1l1 wo1l2 wo1t0
  try dsimp only
  rw [wp_bind]
  iapply (run_p14 (c := c) (In := In)) $$ HC wo1l1
  iintro  HC wo1t1
  try dsimp only
  rw [wp_bind]
  iapply (run_p15 (c := c) (In := In)) $$ HC wo1l2 Awi2 wi20
  iintro  HC Awi2 wi20 wo1t2
  try dsimp only
  ihave wi20 := (owns_lend c).1 $$ wi20
  icases wi20 with ⟨wi20, wi2l0, wi2l1, wi2l2⟩
  rw [wp_bind]
  iapply (run_p16 (c := c) (In := In)) $$ HC wi2l0 wi2l1
  iintro %u16_0 %u16_1 HC wi2t0 wi2t1
  try dsimp only
  rw [wp_bind]
  iapply (run_p17 (c := c) (In := In)) $$ HC wi2l2 Awo2 wo20
  iintro  HC Awo2 wo20 wi2t2
  try dsimp only
  ihave wo20 := (owns_lend c).1 $$ wo20
  icases wo20 with ⟨wo20, wo2l0, wo2l1, wo2l2⟩
  rw [wp_bind]
  iapply (run_p18 (c := c) (In := In)) $$ HC wo2l0 wo2l1
  iintro %u18_0 %u18_1 %u18_2 HC wo2t0 wo2t1
  try dsimp only
  rw [wp_bind]
  iapply (run_p19 (c := c) (In := In)) $$ HC wo2l2
  iintro  HC wo2t2
  try dsimp only
  rw [wp_bind]
  iapply (run_p20 (c := c) (In := In)) $$ HC
  iintro  HC agr0 agr1
  try dsimp only
  rw [wp_bind]
  iapply (run_p21 (c := c) (In := In)) $$ HC ag0 agr0 agr1 wi00 wo00
  iintro %u21_0 %u21_1 %u21_2 %u21_3 %u21_4 HC wi00 wo00 XW agq0 agq1 agq2
  try dsimp only
  rw [wp_bind]
  iapply (run_p22 (c := c) (In := In)) $$ HC
  iintro %u22_0 %u22_1 %u22_2 HC wi0r0 wo0r0
  try dsimp only
  rw [wp_bind]
  iapply (run_p23 (c := c) (In := In)) $$ HC
  iintro  HC wi0r1 wo0r1
  try dsimp only
  rw [wp_bind]
  iapply (run_p24 (c := c) (In := In)) $$ HC
  iintro  HC wi0r2 wo0r2
  try dsimp only
  rw [wp_bind]
  iapply (run_p25 (c := c) (In := In)) $$ wo0r2 S
  iintro  wo0r2 S
  try dsimp only
  ihave S := (owns_lend c).1 $$ S
  icases S with ⟨S, Sl0, Sl1, Sl2⟩
  rw [wp_bind]
  iapply (run_p26 (c := c) (In := In)) $$ HC Sl0 Sl1
  iintro %u26_0 %u26_1 %u26_2 %u26_3 %u26_4 HC pr0t0 pr0t1
  try dsimp only
  rw [wp_bind]
  iapply (run_p27 (c := c) (In := In)) $$ HC Sl2 S pr00
  iintro  HC S pr00 pr0t2
  try dsimp only
  rw [wp_bind]
  iapply (run_p28 (c := c) (In := In)) $$ HC
  iintro %u28_0 %u28_1 %u28_2 %u28_3 HC pr0r0 pr0r1
  try dsimp only
  rw [wp_bind]
  iapply (run_p29 (c := c) (In := In)) $$ HC pr00 pr0r0 pr0r1 agt0 agt1
  iintro  HC agl0 agl1 pr0W
  try dsimp only
  rw [wp_bind]
  iapply (run_p30 (c := c) (In := In)) $$ HC agt2 XW agl0 agl1 agq0 agq1 agq2 wi10 wo10
  iintro  HC wi10 wo10 XWf
  try dsimp only
  rw [wp_bind]
  iapply (run_p31 (c := c) (In := In)) $$ HC
  iintro  HC wi1r0 wo1r0
  try dsimp only
  rw [wp_bind]
  iapply (run_p32 (c := c) (In := In)) $$ HC
  iintro %u32_0 HC wi1r1 wo1r1
  try dsimp only
  rw [wp_bind]
  iapply (run_p33 (c := c) (In := In)) $$ wi1r1 wo1r1 HC
  iintro %u33_0 wi1r1 wo1r1 HC wi1r2
  try dsimp only
  rw [wp_bind]
  iapply (run_p34 (c := c) (In := In)) $$ HC wi1r2 pr0t0 pr0t1
  iintro  HC wi1r2 Sl0 Sl1 wo1r2
  try dsimp only
  rw [wp_bind]
  iapply (run_p35 (c := c) (In := In)) $$ HC pr0t2 S Sl0 Sl1
  iintro  HC S
  try dsimp only
  ihave S := (owns_lend c).1 $$ S
  icases S with ⟨S, Sl0, Sl1, Sl2⟩
  rw [wp_bind]
  iapply (run_p36 (c := c) (In := In)) $$ HC Sl0 Sl1
  iintro %u36_0 %u36_1 %u36_2 %u36_3 HC pr1t0 pr1t1
  try dsimp only
  rw [wp_bind]
  iapply (run_p37 (c := c) (In := In)) $$ HC Sl2 S pr10
  iintro %u37_0 %u37_1 %u37_2 HC S pr10 pr1t2
  try dsimp only
  rw [wp_bind]
  iapply (run_p38 (c := c) (In := In)) $$ HC
  iintro %u38_0 %u38_1 %u38_2 HC pr1r0 pr1r1
  try dsimp only
  rw [wp_bind]
  iapply (run_p39 (c := c) (In := In)) $$ HC pr10 pr1r0 pr1r1 XWf
  iintro %u39_0 %u39_1 HC XWf pr1W
  try dsimp only
  rw [wp_bind]
  iapply (run_p40 (c := c) (In := In)) $$ wi20 wo20
  iintro %u40_0 wi20 wo20
  try dsimp only
  rw [wp_bind]
  iapply (run_p41 (c := c) (In := In)) $$ HC
  iintro %u41_0 %u41_1 HC wi2r0 wo2r0
  try dsimp only
  rw [wp_bind]
  iapply (run_p42 (c := c) (In := In)) $$ HC
  iintro %u42_0 %u42_1 %u42_2 %u42_3 %u42_4 HC wi2r1 wo2r1
  try dsimp only
  rw [wp_bind]
  iapply (run_p43 (c := c) (In := In)) $$ HC
  iintro  HC wi2r2 wo2r2
  try dsimp only
  rw [wp_bind]
  iapply (run_p44 (c := c) (In := In)) $$ HC pr1t0 pr1t1 pr1t2 S
  iintro  HC S
  try dsimp only
  rw [wp_bind]
  iapply (run_p45 (c := c) (In := In)) $$ rs0
  iintro  rs0
  try dsimp only
  ihave S := (rS_apart c (col c) (Y := fun s => rs In (row c) s (col c)) (fun _ _ => rfl)).1 $$ S
  icases S with ⟨S0, rsl0, rsl1, rsl2⟩
  rw [wp_bind]
  iapply (run_p46 (c := c) (In := In)) $$ HC rsl0
  iintro  HC rst0
  try dsimp only
  rw [wp_bind]
  iapply (run_p47 (c := c) (In := In)) $$ HC rsl1 rsl2
  iintro %u47_0 HC rst1 rst2
  try dsimp only
  rw [wp_bind]
  iapply (run_p48 (c := c) (In := In)) $$ HC
  iintro  HC rsr0
  try dsimp only
  rw [wp_bind]
  iapply (run_p49 (c := c) (In := In)) $$ HC rs0 rsr0 Ao
  iintro  HC Ao rsW
  try dsimp only
  rw [wp_bind]
  iapply (run_p50 (c := c) (In := In)) $$ HC wi0t0 wi0t1 wi0t2 wo0t0 wo0t1
  iintro  HC wi0l0 wi0l1 wi0l2 wo0l0 wo0l1
  try dsimp only
  rw [wp_bind]
  iapply (run_p51 (c := c) (In := In)) $$ HC wo0t2 wi1t0 wi1t1 wi1t2
  iintro  HC wi1l0 wi1l1 wi1l2 wo0l2
  try dsimp only
  rw [wp_bind]
  iapply (run_p52 (c := c) (In := In)) $$ HC wo1t0 wo1t1 wo1t2 wi2t0 wi2t1
  iintro  HC wi2l0 wi2l1 wo1l0 wo1l1 wo1l2
  try dsimp only
  rw [wp_bind]
  iapply (run_p53 (c := c) (In := In)) $$ HC wi2t2 wo2t0 wo2t1 wo2t2 rst0
  iintro  HC rsl0 wi2l2 wo2l0 wo2l1 wo2l2
  try dsimp only
  rw [wp_bind]
  iapply (run_p54 (c := c) (In := In)) $$ HC rst1 rst2
  iintro %u54_0 %u54_1 HC rsl1 rsl2
  try dsimp only
  rw [Prog.pure_eq_ret, wp_ret]
  imodintro
  iapply Hk $$ HC Ax Awi0 Awo0 Awi1 Awo1 Awi2 Awo2 Ao wi00 wo00 wi10 wo10 wi20 wo20 wi0r0 wo0r0 wi0r1 wo0r1 wi0r2 wo0r2 pr0W XWf wi1r0 wo1r0 wi1r1 wo1r1 wi1r2 wo1r2 pr1W wi2r0 wo2r0 wi2r1 wo2r1 wi2r2 wo2r2 S0 rsW wi0l0 wi0l1 wi0l2 wo0l0 wo0l1 wo0l2 wi1l0 wi1l1 wi1l2 wo1l0 wo1l1 wo1l2 wi2l0 wi2l1 wi2l2 wo2l0 wo2l1 wo2l2 rsl0 rsl1 rsl2

end Cert.Mlp

end
-- ==== Proof.Body.lean ====
/-
The kernel's body on one device: what it takes over, and what it leaves.
-/
module

public import proofs.«01_k».proof.Proof.Chain

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-- A buffer, at any contents. -/
def scr (c : Dev nD) (b : Ref sig .tc) : sProp 𝕄 := iprop(∃ f : Buf (Elt F) ((c : Thread nD τ).loc b), ((c : Thread nD τ).loc b) ↦{fullShare} f)

omit [FloatOps F] in
theorem scr_owns (c : Dev nD) (b : Ref sig .tc) : (scr (F := F) c b : sProp 𝕄) ⊢ iprop(∃ X, owns (c : Thread nD τ) (Memref.whole b) fullShare X) := by
  unfold scr; simp only [owns_whole_eq]
  iintro ⟨%f, H⟩
  iexists f, f
  isplitr; · (ipureintro; rfl)
  iexact H
omit [FloatOps F] in
theorem owns_scr (c : Dev nD) (b : Ref sig .tc) (X : b.ty.Contents (Elt F)) : (owns (c : Thread nD τ) (Memref.whole b) fullShare X : sProp 𝕄) ⊢ scr (F := F) c b := by
  unfold scr; rw [owns_whole_eq]
  iintro ⟨%f, -, H⟩
  iexists f; iexact H

omit [FloatOps F] in
/-- What a device hands to its peers on its row: a slot of each buffer they write. -/
theorem give_true {o : Fin 3} {Yag : Vec F S1x128x128 .bf16} {Ypr0 : Vec F S1x4x128x128 .bf16} {Ypr1 : Vec F S1x4x128x128 .bf16} {Yrs : Vec F S1x1x128x128 .bf16} :
    (iprop(owns (c : Thread nD τ) (bX.slice (rX (col c + o.succ)) (fun _ => rfl)) fullShare Yag ∗ owns (c : Thread nD τ) (bP0.slice (rP (col c + o.succ)) (fun _ => rfl)) fullShare Ypr0 ∗ owns (c : Thread nD τ) (bP1.slice (rP (col c + o.succ)) (fun _ => rfl)) fullShare Ypr1 ∗ owns (c : Thread nD τ) (bR.slice (rR (col c + o.succ)) (fun _ => rfl)) fullShare Yrs) : sProp 𝕄) ⊢ give (F := F) c true o := by
  dsimp only [give, anyS]
  iintro ⟨Hag, Hpr0, Hpr1, Hrs⟩
  isplitl [Hag]; · (iexists Yag; iexact Hag)
  isplitl [Hpr0]; · (iexists Ypr0; iexact Hpr0)
  isplitl [Hpr1]; · (iexists Ypr1; iexact Hpr1)
  iexists Yrs; iexact Hrs

omit [FloatOps F] in
/-- What a device hands to its peers in its column: a slot of each buffer they write. -/
theorem give_false {o : Fin 3} {Ywi0 : Vec F S1x128x256 .bf16} {Ywo0 : Vec F S1x256x128 .bf16} {Ywi1 : Vec F S1x128x256 .bf16} {Ywo1 : Vec F S1x256x128 .bf16} {Ywi2 : Vec F S1x128x256 .bf16} {Ywo2 : Vec F S1x256x128 .bf16} :
    (iprop(owns (c : Thread nD τ) (bWi0.slice (rWi (row c + o.succ)) (fun _ => rfl)) fullShare Ywi0 ∗ owns (c : Thread nD τ) (bWo0.slice (rWo (row c + o.succ)) (fun _ => rfl)) fullShare Ywo0 ∗ owns (c : Thread nD τ) (bWi1.slice (rWi (row c + o.succ)) (fun _ => rfl)) fullShare Ywi1 ∗ owns (c : Thread nD τ) (bWo1.slice (rWo (row c + o.succ)) (fun _ => rfl)) fullShare Ywo1 ∗ owns (c : Thread nD τ) (bWi2.slice (rWi (row c + o.succ)) (fun _ => rfl)) fullShare Ywi2 ∗ owns (c : Thread nD τ) (bWo2.slice (rWo (row c + o.succ)) (fun _ => rfl)) fullShare Ywo2) : sProp 𝕄) ⊢ give (F := F) c false o := by
  dsimp only [give, anyS]
  iintro ⟨Hwi0, Hwo0, Hwi1, Hwo1, Hwi2, Hwo2⟩
  isplitl [Hwi0]; · (iexists Ywi0; iexact Hwi0)
  isplitl [Hwo0]; · (iexists Ywo0; iexact Hwo0)
  isplitl [Hwi1]; · (iexists Ywi1; iexact Hwi1)
  isplitl [Hwo1]; · (iexists Ywo1; iexact Hwo1)
  isplitl [Hwi2]; · (iexists Ywi2; iexact Hwi2)
  iexists Ywo2; iexact Hwo2

set_option maxHeartbeats 4000000 in
/-- The whole body: from the arguments in the staging buffers to the result in its staging buffer, every cell spent. -/
theorem run_body {Yo : Vec F S128x128 .f32} {Φ : PUnit → sProp (MT nD τ sig Unit (Elt F) ℕ UU ℕ)} :
    (Comm In c 0 : sProp 𝕄)
      ⊢ iprop(owns (c : Thread nD τ) aX fullShare (In.x c)
        -∗ owns (c : Thread nD τ) aWi0 fullShare (In.wi0 c)
        -∗ owns (c : Thread nD τ) aWo0 fullShare (In.wo0 c)
        -∗ owns (c : Thread nD τ) aWi1 fullShare (In.wi1 c)
        -∗ owns (c : Thread nD τ) aWo1 fullShare (In.wo1 c)
        -∗ owns (c : Thread nD τ) aWi2 fullShare (In.wi2 c)
        -∗ owns (c : Thread nD τ) aWo2 fullShare (In.wo2 c)
        -∗ owns (c : Thread nD τ) aOut fullShare Yo
        -∗ scr (F := F) c cc0_scratch0
        -∗ scr (F := F) c cc0_scratch1
        -∗ scr (F := F) c cc0_scratch2
        -∗ scr (F := F) c cc0_scratch3
        -∗ scr (F := F) c cc0_scratch4
        -∗ scr (F := F) c cc0_scratch5
        -∗ scr (F := F) c cc0_scratch6
        -∗ scr (F := F) c cc0_scratch7
        -∗ scr (F := F) c cc0_scratch8
        -∗ scr (F := F) c cc0_scratch9
        -∗ scr (F := F) c cc0_scratch10
        -∗ ((∃ W, owes (c : Thread nD τ) 0 W) ∗ (bigSep Finset.univ fun k : Cl => semVal (kcell c k) 0) ∗ owns (c : Thread nD τ) aX fullShare (In.x c) ∗ owns (c : Thread nD τ) aWi0 fullShare (In.wi0 c) ∗ owns (c : Thread nD τ) aWo0 fullShare (In.wo0 c) ∗ owns (c : Thread nD τ) aWi1 fullShare (In.wi1 c) ∗ owns (c : Thread nD τ) aWo1 fullShare (In.wo1 c) ∗ owns (c : Thread nD τ) aWi2 fullShare (In.wi2 c) ∗ owns (c : Thread nD τ) aWo2 fullShare (In.wo2 c) ∗ owns (c : Thread nD τ) aOut fullShare (out In (row c) (col c)) ∗ scr (F := F) c cc0_scratch0 ∗ scr (F := F) c cc0_scratch1 ∗ scr (F := F) c cc0_scratch2 ∗ scr (F := F) c cc0_scratch3 ∗ scr (F := F) c cc0_scratch4 ∗ scr (F := F) c cc0_scratch5 ∗ scr (F := F) c cc0_scratch6 ∗ scr (F := F) c cc0_scratch7 ∗ scr (F := F) c cc0_scratch8 ∗ scr (F := F) c cc0_scratch9 ∗ scr (F := F) c cc0_scratch10 -∗ Φ ⟨⟩)
        -∗ wp frame (wpE (defs₀ (F := F)) 𝒱₀ (c : Thread nD τ) none) Set.univ (cc0_body (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0) Φ) := by
  rw [cc0_body_eq_skeleton]; unfold cc0_body_skel
  iintro HC Ax Awi0 Awo0 Awi1 Awo1 Awi2 Awo2 Ao Hb0 Hb1 Hb2 Hb3 Hb4 Hb5 Hb6 Hb7 Hb8 Hb9 Hb10 Hk
  ihave Hb0 := (scr_owns c cc0_scratch0) $$ Hb0
  icases Hb0 with ⟨%X0, Hb0⟩
  ihave Hb0 := (rX_apart c (col c) (Y := fun s j => X0 ((rX s).emb j)) (fun _ _ => rfl)).1 $$ Hb0
  icases Hb0 with ⟨ag0, agg0, agg1, agg2⟩
  ihave Hb1 := (scr_owns c cc0_scratch1) $$ Hb1
  icases Hb1 with ⟨%X1, Hb1⟩
  ihave Hb1 := (rP_apart c (col c) (Y := fun s j => X1 ((rP s).emb j)) (fun _ _ => rfl)).1 $$ Hb1
  icases Hb1 with ⟨pr00, pr0g0, pr0g1, pr0g2⟩
  ihave Hb2 := (scr_owns c cc0_scratch2) $$ Hb2
  icases Hb2 with ⟨%X2, Hb2⟩
  ihave Hb2 := (rP_apart c (col c) (Y := fun s j => X2 ((rP s).emb j)) (fun _ _ => rfl)).1 $$ Hb2
  icases Hb2 with ⟨pr10, pr1g0, pr1g1, pr1g2⟩
  ihave Hb3 := (scr_owns c cc0_scratch3) $$ Hb3
  icases Hb3 with ⟨%X3, S⟩
  ihave Hb4 := (scr_owns c cc0_scratch4) $$ Hb4
  icases Hb4 with ⟨%X4, Hb4⟩
  ihave Hb4 := (rR_apart c (col c) (Y := fun s j => X4 ((rR s).emb j)) (fun _ _ => rfl)).1 $$ Hb4
  icases Hb4 with ⟨rs0, rsg0, rsg1, rsg2⟩
  ihave Hb5 := (scr_owns c cc0_scratch5) $$ Hb5
  icases Hb5 with ⟨%X5, Hb5⟩
  ihave Hb5 := (rWi_apart c (row c) (Y := fun s j => X5 ((rWi s).emb j)) (fun _ _ => rfl)).1 $$ Hb5
  icases Hb5 with ⟨wi00, wi0g0, wi0g1, wi0g2⟩
  ihave Hb6 := (scr_owns c cc0_scratch6) $$ Hb6
  icases Hb6 with ⟨%X6, Hb6⟩
  ihave Hb6 := (rWo_apart c (row c) (Y := fun s j => X6 ((rWo s).emb j)) (fun _ _ => rfl)).1 $$ Hb6
  icases Hb6 with ⟨wo00, wo0g0, wo0g1, wo0g2⟩
  ihave Hb7 := (scr_owns c cc0_scratch7) $$ Hb7
  icases Hb7 with ⟨%X7, Hb7⟩
  ihave Hb7 := (rWi_apart c (row c) (Y := fun s j => X7 ((rWi s).emb j)) (fun _ _ => rfl)).1 $$ Hb7
  icases Hb7 with ⟨wi10, wi1g0, wi1g1, wi1g2⟩
  ihave Hb8 := (scr_owns c cc0_scratch8) $$ Hb8
  icases Hb8 with ⟨%X8, Hb8⟩
  ihave Hb8 := (rWo_apart c (row c) (Y := fun s j => X8 ((rWo s).emb j)) (fun _ _ => rfl)).1 $$ Hb8
  icases Hb8 with ⟨wo10, wo1g0, wo1g1, wo1g2⟩
  ihave Hb9 := (scr_owns c cc0_scratch9) $$ Hb9
  icases Hb9 with ⟨%X9, Hb9⟩
  ihave Hb9 := (rWi_apart c (row c) (Y := fun s j => X9 ((rWi s).emb j)) (fun _ _ => rfl)).1 $$ Hb9
  icases Hb9 with ⟨wi20, wi2g0, wi2g1, wi2g2⟩
  ihave Hb10 := (scr_owns c cc0_scratch10) $$ Hb10
  icases Hb10 with ⟨%X10, Hb10⟩
  ihave Hb10 := (rWo_apart c (row c) (Y := fun s j => X10 ((rWo s).emb j)) (fun _ _ => rfl)).1 $$ Hb10
  icases Hb10 with ⟨wo20, wo2g0, wo2g1, wo2g2⟩
  ihave Gt0 := (give_true c (o := 0)) $$ [agg0 pr0g0 pr1g0 rsg0]
  · isplitl [agg0]; · iexact agg0
    isplitl [pr0g0]; · iexact pr0g0
    isplitl [pr1g0]; · iexact pr1g0
    iexact rsg0
  ihave Gf0 := (give_false c (o := 0)) $$ [wi0g0 wo0g0 wi1g0 wo1g0 wi2g0 wo2g0]
  · isplitl [wi0g0]; · iexact wi0g0
    isplitl [wo0g0]; · iexact wo0g0
    isplitl [wi1g0]; · iexact wi1g0
    isplitl [wo1g0]; · iexact wo1g0
    isplitl [wi2g0]; · iexact wi2g0
    iexact wo2g0
  ihave Gt1 := (give_true c (o := 1)) $$ [agg1 pr0g1 pr1g1 rsg1]
  · isplitl [agg1]; · iexact agg1
    isplitl [pr0g1]; · iexact pr0g1
    isplitl [pr1g1]; · iexact pr1g1
    iexact rsg1
  ihave Gf1 := (give_false c (o := 1)) $$ [wi0g1 wo0g1 wi1g1 wo1g1 wi2g1 wo2g1]
  · isplitl [wi0g1]; · iexact wi0g1
    isplitl [wo0g1]; · iexact wo0g1
    isplitl [wi1g1]; · iexact wi1g1
    isplitl [wo1g1]; · iexact wo1g1
    isplitl [wi2g1]; · iexact wi2g1
    iexact wo2g1
  ihave Gt2 := (give_true c (o := 2)) $$ [agg2 pr0g2 pr1g2 rsg2]
  · isplitl [agg2]; · iexact agg2
    isplitl [pr0g2]; · iexact pr0g2
    isplitl [pr1g2]; · iexact pr1g2
    iexact rsg2
  ihave Gf2 := (give_false c (o := 2)) $$ [wi0g2 wo0g2 wi1g2 wo1g2 wi2g2 wo2g2]
  · isplitl [wi0g2]; · iexact wi0g2
    isplitl [wo0g2]; · iexact wo0g2
    isplitl [wi1g2]; · iexact wi1g2
    isplitl [wo1g2]; · iexact wo1g2
    isplitl [wi2g2]; · iexact wi2g2
    iexact wo2g2
  rw [wp_bind]
  iapply (run_p55 (c := c) (In := In)) $$ HC Ax Awi0 Awo0 Awi1 Awo1 Awi2 Awo2 Ao Gt0 Gf0 Gt1 Gf1 Gt2 Gf2 ag0 wi00 wo00 wi10 wo10 wi20 wo20 pr00 pr10 rs0 S
  iintro %u1 %u2 %u3 %u4 %u5 %u6 %u7 HC Ax Awi0 Awo0 Awi1 Awo1 Awi2 Awo2 Ao wi00 wo00 wi10 wo10 wi20 wo20 wi0r0 wo0r0 wi0r1 wo0r1 wi0r2 wo0r2 pr0W XWf wi1r0 wo1r0 wi1r1 wo1r1 wi1r2 wo1r2 pr1W wi2r0 wo2r0 wi2r1 wo2r1 wi2r2 wo2r2 S0 rsW wi0l0 wi0l1 wi0l2 wo0l0 wo0l1 wo0l2 wi1l0 wi1l1 wi1l2 wo1l0 wo1l1 wo1l2 wi2l0 wi2l1 wi2l2 wo2l0 wo2l1 wo2l2 rsl0 rsl1 rsl2
  simp only [semSignalWord, semWaitWord, Prog.lift, Prog.bind_op, Prog.bind_ret, Prog.pure_eq_ret, wp_deviceId]
  iapply (wp_sg2 In c (n := 91) (o := 1) at98 (by decide) (dev_end c).2.1 (by decide)) $$ HC
  iintro HC
  iapply (wp_sg2 In c (n := 92) (o := 2) at99 (by decide) (dev_end c).2.2 (by decide)) $$ HC
  iintro HC
  iapply (wp_wb2 In c (n := 93) at100 (by decide +kernel) (by decide)) $$ HC
  iintro HC
  rw [wp_ret]
  imod (Comm_end In c) $$ HC with ⟨HO, HZ⟩
  imodintro
  ihave Hb0 := (owns_scr c cc0_scratch0 _) $$ XWf
  ihave Hb1 := (owns_scr c cc0_scratch1 _) $$ pr0W
  ihave Hb2 := (owns_scr c cc0_scratch2 _) $$ pr1W
  ihave S := (rS_apart c (col c) (q := fullShare) (X := ps2 In (row c) (col c)) (Y := fun s => rs In (row c) s (col c)) (fun _ _ => rfl)).2 $$ [S0 rsl0 rsl1 rsl2]
  · isplitl [S0]; · iexact S0
    isplitl [rsl0]; · iexact rsl0
    isplitl [rsl1]; · iexact rsl1
    iexact rsl2
  ihave Hb3 := (owns_scr c cc0_scratch3 _) $$ S
  ihave Hb4 := (owns_scr c cc0_scratch4 _) $$ rsW
  ihave wi00 := (owns_lend c).2 $$ [wi00 wi0l0 wi0l1 wi0l2]
  · isplitl [wi00]; · iexact wi00
    isplitl [wi0l0]; · iexact wi0l0
    isplitl [wi0l1]; · iexact wi0l1
    iexact wi0l2
  ihave wi0W := (rWi_apart c (row c) (q := fullShare) (X := stack3 (fun s => wI In 0 s (col c))) (Y := fun s => wI In 0 s (col c)) (stack3_emb (fun s => wI In 0 s (col c)) · (rWi_inb _))).2 $$ [wi00 wi0r0 wi0r1 wi0r2]
  · isplitl [wi00]; · iexact wi00
    isplitl [wi0r0]; · iexact wi0r0
    isplitl [wi0r1]; · iexact wi0r1
    iexact wi0r2
  ihave Hb5 := (owns_scr c cc0_scratch5 _) $$ wi0W
  ihave wo00 := (owns_lend c).2 $$ [wo00 wo0l0 wo0l1 wo0l2]
  · isplitl [wo00]; · iexact wo00
    isplitl [wo0l0]; · iexact wo0l0
    isplitl [wo0l1]; · iexact wo0l1
    iexact wo0l2
  ihave wo0W := (rWo_apart c (row c) (q := fullShare) (X := stack3 (fun s => wO In 0 s (col c))) (Y := fun s => wO In 0 s (col c)) (stack3_emb (fun s => wO In 0 s (col c)) · (rWo_inb _))).2 $$ [wo00 wo0r0 wo0r1 wo0r2]
  · isplitl [wo00]; · iexact wo00
    isplitl [wo0r0]; · iexact wo0r0
    isplitl [wo0r1]; · iexact wo0r1
    iexact wo0r2
  ihave Hb6 := (owns_scr c cc0_scratch6 _) $$ wo0W
  ihave wi10 := (owns_lend c).2 $$ [wi10 wi1l0 wi1l1 wi1l2]
  · isplitl [wi10]; · iexact wi10
    isplitl [wi1l0]; · iexact wi1l0
    isplitl [wi1l1]; · iexact wi1l1
    iexact wi1l2
  ihave wi1W := (rWi_apart c (row c) (q := fullShare) (X := stack3 (fun s => wI In 1 s (col c))) (Y := fun s => wI In 1 s (col c)) (stack3_emb (fun s => wI In 1 s (col c)) · (rWi_inb _))).2 $$ [wi10 wi1r0 wi1r1 wi1r2]
  · isplitl [wi10]; · iexact wi10
    isplitl [wi1r0]; · iexact wi1r0
    isplitl [wi1r1]; · iexact wi1r1
    iexact wi1r2
  ihave Hb7 := (owns_scr c cc0_scratch7 _) $$ wi1W
  ihave wo10 := (owns_lend c).2 $$ [wo10 wo1l0 wo1l1 wo1l2]
  · isplitl [wo10]; · iexact wo10
    isplitl [wo1l0]; · iexact wo1l0
    isplitl [wo1l1]; · iexact wo1l1
    iexact wo1l2
  ihave wo1W := (rWo_apart c (row c) (q := fullShare) (X := stack3 (fun s => wO In 1 s (col c))) (Y := fun s => wO In 1 s (col c)) (stack3_emb (fun s => wO In 1 s (col c)) · (rWo_inb _))).2 $$ [wo10 wo1r0 wo1r1 wo1r2]
  · isplitl [wo10]; · iexact wo10
    isplitl [wo1r0]; · iexact wo1r0
    isplitl [wo1r1]; · iexact wo1r1
    iexact wo1r2
  ihave Hb8 := (owns_scr c cc0_scratch8 _) $$ wo1W
  ihave wi20 := (owns_lend c).2 $$ [wi20 wi2l0 wi2l1 wi2l2]
  · isplitl [wi20]; · iexact wi20
    isplitl [wi2l0]; · iexact wi2l0
    isplitl [wi2l1]; · iexact wi2l1
    iexact wi2l2
  ihave wi2W := (rWi_apart c (row c) (q := fullShare) (X := stack3 (fun s => wI In 2 s (col c))) (Y := fun s => wI In 2 s (col c)) (stack3_emb (fun s => wI In 2 s (col c)) · (rWi_inb _))).2 $$ [wi20 wi2r0 wi2r1 wi2r2]
  · isplitl [wi20]; · iexact wi20
    isplitl [wi2r0]; · iexact wi2r0
    isplitl [wi2r1]; · iexact wi2r1
    iexact wi2r2
  ihave Hb9 := (owns_scr c cc0_scratch9 _) $$ wi2W
  ihave wo20 := (owns_lend c).2 $$ [wo20 wo2l0 wo2l1 wo2l2]
  · isplitl [wo20]; · iexact wo20
    isplitl [wo2l0]; · iexact wo2l0
    isplitl [wo2l1]; · iexact wo2l1
    iexact wo2l2
  ihave wo2W := (rWo_apart c (row c) (q := fullShare) (X := stack3 (fun s => wO In 2 s (col c))) (Y := fun s => wO In 2 s (col c)) (stack3_emb (fun s => wO In 2 s (col c)) · (rWo_inb _))).2 $$ [wo20 wo2r0 wo2r1 wo2r2]
  · isplitl [wo20]; · iexact wo20
    isplitl [wo2r0]; · iexact wo2r0
    isplitl [wo2r1]; · iexact wo2r1
    iexact wo2r2
  ihave Hb10 := (owns_scr c cc0_scratch10 _) $$ wo2W
  iapply Hk
  isplitl [HO]; · iexact HO
  isplitl [HZ]; · iexact HZ
  isplitl [Ax]; · iexact Ax
  isplitl [Awi0]; · iexact Awi0
  isplitl [Awo0]; · iexact Awo0
  isplitl [Awi1]; · iexact Awi1
  isplitl [Awo1]; · iexact Awo1
  isplitl [Awi2]; · iexact Awi2
  isplitl [Awo2]; · iexact Awo2
  isplitl [Ao]; · iexact Ao
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  isplitl [Hb9]; · iexact Hb9
  iexact Hb10

end Cert.Mlp

end
-- ==== Proof.Deal.lean ====
/-
The launch's ghost state: the cells' records and the tokens dealt to the devices that pay with them, and the credit that
matches what all devices owe.
-/
module

public import proofs.«01_k».proof.Proof.Steps
public import Idealize.ShloMosaic.Lib.Pipeline.Launch
public import Idealize.ShloMosaic.Lib.Pipeline.Kit

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (In : Inputs F) (c : Dev nD)
local notation "𝕄" => MT nD τ sig Unit (Elt F) ℕ UU ℕ

/-! ## The cells -/

theorem kcell_inj : Function.Injective fun ck : Dev nD × Cl => kcell ck.1 ck.2 := by
  rintro ⟨c, k⟩ ⟨c', k'⟩ h
  have h1 : c = c' := congrArg (fun g : GSem nD τ sig => g.1.1) h
  have h2 : k = k' := semOf_inj _ _ (congrArg Prod.snd h)
  rw [h1, h2]
/-- All the cells of the mesh. -/
def allCells : Finset (GSem nD τ sig) := Finset.univ.map ⟨_, kcell_inj⟩

/-! ## The tokens, listed by who pays with them -/

/-- What one device pays: a signal to each peer, the two ends of each copy, a signal to each peer in its column. -/
abbrev Tk : Type := (Bool × Fin 3) ⊕ (Jb × Fin 3) ⊕ (Jb × Fin 3) ⊕ Fin 3
/-- The duty a payment of device `c` meets. -/
def payment (c : Dev nD) : Tk → (Dev nD × Cl) × Duty
  | .inl p => ((peer p.1 c p.2, .bar), (p.1, p.2.rev))
  | .inr (.inl p) => ((c, .S p.1 p.2), (false, 0))
  | .inr (.inr (.inl p)) => ((peer (dir p.1) c p.2, .R p.1 (ix (dir p.1) c)), (false, 0))
  | .inr (.inr (.inr o)) => ((peer false c o, .bar2), (false, o.rev))

theorem peer_one (pl : Bool) (c c' : Dev nD) (o : Fin 3) (h : peer pl c o = peer pl c' o) : c = c' := by
  rw [← peer_peer pl c o, h, peer_peer]
theorem peer_ix : ∀ (pl : Bool) (c c' : Dev nD) (o o' : Fin 3), peer pl c o = peer pl c' o' → ix pl c = ix pl c' → c = c' ∧ o = o' := by
  decide +kernel

theorem payment_inj : Function.Injective fun x : Dev nD × Tk => payment x.1 x.2 := by
  rintro ⟨c, a⟩ ⟨c', a'⟩ h
  rcases a with ⟨pl, o⟩ | ⟨j, o⟩ | ⟨j, o⟩ | o <;> rcases a' with ⟨pl', o'⟩ | ⟨j', o'⟩ | ⟨j', o'⟩ | o' <;>
    simp only [payment, Prod.mk.injEq, reduceCtorEq, and_false, false_and, and_true, true_and, Cl.S.injEq, Cl.R.injEq, Fin.rev_inj] at h
  · obtain ⟨h1, rfl, rfl⟩ := h; rw [peer_one _ _ _ _ h1]
  · obtain ⟨rfl, rfl, rfl⟩ := h; rfl
  · obtain ⟨h1, rfl, h2⟩ := h
    obtain ⟨rfl, rfl⟩ := peer_ix _ _ _ _ _ h1 h2; rfl
  · obtain ⟨h1, rfl⟩ := h; rw [peer_one _ _ _ _ h1]

/-- The token of a payment. -/
def mint (x : Dev nD × Tk) : GSem nD τ sig × ℕ × Duty := (kcell (payment x.1 x.2).1.1 (payment x.1 x.2).1.2, 0, (payment x.1 x.2).2)
theorem mint_inj : Function.Injective mint := by
  intro x y h
  have h1 := kcell_inj (congrArg (fun t : GSem nD τ sig × ℕ × Duty => t.1) h)
  have h2 : (payment x.1 x.2).2 = (payment y.1 y.2).2 := congrArg (fun t : GSem nD τ sig × ℕ × Duty => t.2.2) h
  exact payment_inj (Prod.ext h1 h2)
/-- All the tokens of the mesh. -/
def allToks : Finset (GSem nD τ sig × ℕ × Duty) := Finset.univ.map ⟨mint, mint_inj⟩

/-- The tokens device `c` pays with. -/
def toks (c : Dev nD) : sProp 𝕄 := bigSep Finset.univ fun t : Tk => dutyTok ER (mint (c, t)).1 (mint (c, t)).2.1 (mint (c, t)).2.2
/-- Device `c`'s places at its own cells. -/
def places (c : Dev nD) : sProp 𝕄 := bigSep Finset.univ fun k : Cl => atPos ER (kcell c k) 0 ∅ 0

omit [FloatOps F] in
/-- A device's tokens, by kind. -/
theorem toks_eq : (toks c : sProp 𝕄) = iprop((bigSep Finset.univ fun p : Bool × Fin 3 => dutyTok ER (kcell (peer p.1 c p.2) .bar) 0 (p.1, p.2.rev))
    ∗ (bigSep Finset.univ fun p : Jb × Fin 3 => dutyTok ER (kcell c (.S p.1 p.2)) 0 (false, 0))
    ∗ (bigSep Finset.univ fun p : Jb × Fin 3 => dutyTok ER (kcell (peer (dir p.1) c p.2) (.R p.1 (ix (dir p.1) c))) 0 (false, 0))
    ∗ bigSep Finset.univ fun o : Fin 3 => dutyTok ER (kcell (peer false c o) .bar2) 0 (false, o.rev)) := by
  unfold toks; rw [bigSep_univ_sum, bigSep_univ_sum, bigSep_univ_sum]; rfl

/-- Places and tokens are what the steps of the script need, and the places at the own slots' cells. -/
theorem steps_ready : iprop(places (F := F) c ∗ toks (F := F) c) ⊢ (iprop(bigSepL script (todo c) ∗ spare c) : sProp 𝕄) := by
  unfold places spare
  rw [over_script, over_steps, over_cells, over_slots c fun j x => atPos ER (kcell c (.R j x)) 0 ∅ 0, toks_eq]
  simp only [todo]
  rw [bigSep_sep']
  iintro ⟨⟨⟨Hb, Hb2⟩, HS, Hsp, HR⟩, Hsg, HtS, HtR, Hs2⟩
  isplitr [Hsp]
  · isplitl [Hsg Hs2]
    · isplitl [Hsg]; · iexact Hsg
      iexact Hs2
    isplitl [HtS HtR]
    · isplitl [HtS]; · iexact HtS
      iexact HtR
    isplitl [Hb Hb2]
    · isplitl [Hb]; · iexact Hb
      iexact Hb2
    isplitl [HR]; · iexact HR
    iexact HS
  · iexact Hsp

/-! ## What the launch deals -/

/-- What the launch element deals device `c`. -/
def deal (c : Dev nD) : sProp 𝕄 :=
  iprop((bigSep Finset.univ fun k : Cl => roundState ER (sched In) (kcell c k) 0) ∗ places (F := F) c
    ∗ (bigSep Finset.univ fun k : Cl => reached ER (kcell c k) 0) ∗ toks (F := F) c)
/-- The mesh's records, in names `K`. -/
def records (K : Dev nD × Cl → ℕ) : sProp 𝕄 :=
  iprop((bigSep Finset.univ fun ck : Dev nD × Cl => cellInv ER (sched In) (K ck) (kcell ck.1 ck.2))
    ∗ bigSep Finset.univ fun ck : Dev nD × Cl => reached ER (kcell ck.1 ck.2) 0)
instance records_persistent (K : Dev nD × Cl → ℕ) : BI.Persistent (records In K) := by unfold records; infer_instance
/-- What device `c` holds once the invariants stand. -/
def dealt (c : Dev nD) : sProp 𝕄 := iprop(∃ K, records In K ∗ bigSepL script (todo c) ∗ spare (F := F) c)

theorem fund_all : BI.own (ER (initOf allCells allToks)) ⊢ (|==> bigSep Finset.univ (deal In) : sProp 𝕄) := by
  have hX (Φ : GSem nD τ sig → sProp 𝕄) : bigSep allCells Φ = bigSep Finset.univ fun c : Dev nD => bigSep Finset.univ fun k : Cl => Φ (kcell c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks toks; rw [bigSep_map, bigSep_univ_prod]; rfl
  iintro HX
  imod (Rounds.fund ER (sched In) allCells allToks) $$ HX with ⟨Hst, Hr, Hat, Htok⟩
  imodintro
  ihave Hst' := (Entails.of_eq (hX fun g => roundState ER (sched In) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deal; simp only [bigSep_sep']
  isplitl [Hst']; · iexact Hst'
  isplitl [Hat']; · (unfold places; iexact Hat')
  isplitl [Hr']; · iexact Hr'
  iexact Htok'

/-- The semaphores the kernel allocates: all but the first barrier's. -/
def osem : Unit ⊕ Jb × Fin 3 ⊕ Jb × Fin 4 → SemLoc sig
  | .inl _ => semOf .bar2
  | .inr (.inl p) => semOf (.S p.1 p.2)
  | .inr (.inr p) => semOf (.R p.1 p.2)
theorem ownSemFacts : Pipeline.OwnSemFacts cfg0.spec osem := by decide +kernel

omit [FloatOps F] in
/-- The first barrier's semaphore outlives the launch. -/
theorem unscoped_eq : (unscopedSems0 c : sProp 𝕄) = semVal (kcell c .bar) 0 := by
  unfold unscopedSems0; rw [bigSep_eq_bigSepL_of_eq [SemLoc.reg barS] (by decide +kernel) (by decide)]; rfl

/-- All cells at zero: the allocated semaphores and the first barrier's. -/
theorem sems_eq : (bigSep Finset.univ fun k : Cl => (semVal (kcell c k) 0 : sProp 𝕄))
    = iprop((unscopedSems0 c ∗ semVal (kcell c .bar2) 0) ∗ (bigSep Finset.univ fun p : Jb × Fin 3 => semVal (kcell c (.S p.1 p.2)) 0)
      ∗ bigSep Finset.univ fun p : Jb × Fin 4 => semVal (kcell c (.R p.1 p.2)) 0) := by
  rw [over_cells, unscoped_eq]
omit [FloatOps F] in
theorem own_eq : (Pipeline.ownSems0 (Ix := Unit) (Name := ℕ) (U := UU) (Lvl := ℕ) (Val := Elt F) (τ := τ) osem c : sProp 𝕄)
    = iprop(semVal (kcell c .bar2) 0 ∗ (bigSep Finset.univ fun p : Jb × Fin 3 => semVal (kcell c (.S p.1 p.2)) 0)
      ∗ bigSep Finset.univ fun p : Jb × Fin 4 => semVal (kcell c (.R p.1 p.2)) 0) := by
  unfold Pipeline.ownSems0
  rw [bigSep_univ_sum, bigSep_univ_sum, bigSep_univ_eq_bigSepL [()] (by decide) (by decide)]; rfl

theorem open_cells : iprop(Pipeline.ownSems0 (Ix := Unit) (Name := ℕ) (U := UU) (Lvl := ℕ) (Val := Elt F) (τ := τ) osem c ∗ unscopedSems0 c ∗ deal In c)
    ⊢ (|={Set.univ}=> iprop((bigSep Finset.univ fun k : Cl => iprop(∃ κ : ℕ, cellInv ER (sched In) κ (kcell c k)))
      ∗ (bigSep Finset.univ fun k : Cl => reached ER (kcell c k) 0) ∗ bigSepL script (todo c) ∗ spare (F := F) c) : sProp 𝕄) := by
  unfold deal
  iintro ⟨Hos, Hus, Hst, Hat, Hr, Htok⟩
  ihave Hos := (Entails.of_eq (own_eq (F := F) c)) $$ Hos
  icases Hos with ⟨Hb2, HS, HR⟩
  ihave Hv := (Entails.of_eq (sems_eq (F := F) c).symm) $$ [Hb2 HS HR Hus]
  · isplitl [Hus Hb2]
    · isplitl [Hus] <;> iassumption
    isplitl [HS] <;> iassumption
  imod (show iprop((bigSep Finset.univ fun k : Cl => semVal (kcell c k) 0) ∗ bigSep Finset.univ fun k : Cl => roundState ER (sched In) (kcell c k) 0)
      ⊢ (|={Set.univ}=> bigSep Finset.univ fun k : Cl => iprop(∃ κ : ℕ, cellInv ER (sched In) κ (kcell c k)) : sProp 𝕄) from by
        rw [← bigSep_sep']
        exact (bigSep_mono fun k _ => (Rounds.body_intro ER (sched In) (kcell c k)).trans inv_alloc).trans (bigSep_fupd _ _)) $$ [Hv Hst] with Hinv
  · isplitl [Hv] <;> iassumption
  ihave Hs := (steps_ready (F := F) c) $$ [Hat Htok]
  · isplitl [Hat] <;> iassumption
  icases Hs with ⟨Htd, Hsp⟩
  imodintro
  isplitl [Hinv]; · iexact Hinv
  isplitl [Hr]; · iexact Hr
  isplitl [Htd]; · iexact Htd
  iexact Hsp

theorem share_records :
    (bigSep Finset.univ fun c : Dev nD => iprop((bigSep Finset.univ fun k : Cl => iprop(∃ κ : ℕ, cellInv ER (sched In) κ (kcell c k)))
      ∗ (bigSep Finset.univ fun k : Cl => reached ER (kcell c k) 0) ∗ bigSepL script (todo c) ∗ spare (F := F) c) : sProp 𝕄)
      ⊢ bigSep Finset.univ (dealt In) := by
  rw [bigSep_sep', bigSep_sep', ← bigSep_univ_prod (fun ck : Dev nD × Cl => iprop(∃ κ : ℕ, cellInv ER (sched In) κ (kcell ck.1 ck.2))),
    ← bigSep_univ_prod (fun ck : Dev nD × Cl => (reached ER (kcell ck.1 ck.2) 0 : sProp 𝕄))]
  iintro ⟨HI, #HR, Hlin⟩
  ihave HK := (BI.bigSep_exists_pi Finset.univ (fun (ck : Dev nD × Cl) (κ : ℕ) => (cellInv ER (sched In) κ (kcell ck.1 ck.2) : sProp 𝕄))) $$ HI
  icases HK with ⟨%K, #HI⟩
  iapply (bigSep_with_persistent (R := records In K) (Φ := fun c : Dev nD => iprop(bigSepL script (todo c) ∗ spare (F := F) c)) (Ψ := dealt In) fun c _ => by
    unfold dealt; iintro ⟨HK, H1, H2⟩; iexists K
    isplitl [HK]; · iexact HK
    isplitl [H1] <;> iassumption)
  isplitr
  · unfold records; isplitl; · iexact HI
    iexact HR
  · iexact Hlin

/-- All devices' semaphores together: the invariants of all cells are set up at once. -/
theorem deal_all : (bigSep Finset.univ fun c => iprop(Pipeline.ownSems0 (Ix := Unit) (Name := ℕ) (U := UU) (Lvl := ℕ) (Val := Elt F) (τ := τ) osem c ∗ unscopedSems0 c ∗ deal In c) : sProp 𝕄)
    ⊢ |={Set.univ}=> bigSep Finset.univ (dealt In) :=
  ((bigSep_mono fun c _ => open_cells In c).trans (bigSep_fupd _ _)).trans (BI.fupd_mono (share_records In))

/-! ## The credit -/

/-- A sum over the steps, by kind. -/
theorem sum_steps {A : Type} [AddCommMonoid A] (f : Ev → A) : ∑ e, f e
    = ((∑ p : Bool × Fin 3, f (.sg p.1 p.2)) + ∑ o : Fin 3, f (.sg2 o))
      + ((∑ p : Jb × Fin 3, f (.snd p.1 p.2)) + ((f .wb + f .wb2) + ((∑ p : Jb × Fin 3, f (.wR p.1 p.2)) + ∑ p : Jb × Fin 3, f (.wS p.1 p.2)))) := by
  rw [← evE.sum_comp, Fintype.sum_sum_type, Fintype.sum_sum_type, Fintype.sum_sum_type, Fintype.sum_sum_type, Fintype.sum_sum_type, Fintype.sum_bool]; rfl
theorem sum_script {A : Type} [AddCommMonoid A] (f : Ev → A) : (script.map f).sum = ∑ e, f e := by
  rw [← script_all, List.sum_toFinset f script_nodup]

/-- Going `o + 1` steps along is a permutation of the devices. -/
def along (pl : Bool) (o : Fin 3) : Dev nD ≃ Dev nD where
  toFun c := peer pl c o
  invFun c := peer pl c o.rev
  left_inv c := peer_peer pl c o
  right_inv c := by have := peer_peer pl c o.rev; rwa [Fin.rev_rev] at this

theorem times (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- What all devices owe is what all devices await. -/
theorem owed_awaited : ∑ d, dues d script = ∑ d, wants d script := by
  have hbar : ∑ d : Dev nD, ∑ p : Bool × Fin 3, (tallyAt (kcell (peer p.1 d p.2) .bar) () 1 : CellTallies nD τ sig Unit) = ∑ d, tallyAt (kcell d .bar) () 6 := by
    refine Finset.sum_comm.trans ((Finset.sum_congr rfl fun (p : Bool × Fin 3) _ => show _ = ∑ d, (tallyAt (kcell d .bar) () 1 : CellTallies nD τ sig Unit) from
      (along p.1 p.2).sum_comp fun d => (tallyAt (kcell d .bar) () 1 : CellTallies nD τ sig Unit)).trans ?_)
    rw [Finset.sum_const, ← Finset.sum_nsmul]
    exact Finset.sum_congr rfl fun d _ => times _ 6
  have hbar2 : ∑ d : Dev nD, ∑ o : Fin 3, (tallyAt (kcell (peer false d o) .bar2) () 1 : CellTallies nD τ sig Unit) = ∑ d, tallyAt (kcell d .bar2) () 3 := by
    refine Finset.sum_comm.trans ((Finset.sum_congr rfl fun (o : Fin 3) _ => show _ = ∑ d, (tallyAt (kcell d .bar2) () 1 : CellTallies nD τ sig Unit) from
      (along false o).sum_comp fun d => (tallyAt (kcell d .bar2) () 1 : CellTallies nD τ sig Unit)).trans ?_)
    rw [Finset.sum_const, ← Finset.sum_nsmul]
    exact Finset.sum_congr rfl fun d _ => times _ 3
  have hR : ∑ d : Dev nD, ∑ p : Jb × Fin 3, (tallyAt (kcell (peer (dir p.1) d p.2) (.R p.1 (ix (dir p.1) d))) () (NJ p.1) : CellTallies nD τ sig Unit)
      = ∑ d, ∑ p : Jb × Fin 3, tallyAt (kcell d (.R p.1 (ix (dir p.1) d + p.2.succ))) () (NJ p.1) := by
    rw [Finset.sum_comm, Finset.sum_comm (s := Finset.univ (α := Dev nD)), Fintype.sum_prod_type, Fintype.sum_prod_type]
    refine Finset.sum_congr rfl fun j _ => ?_
    refine (Equiv.sum_comp Fin.revPerm _).symm.trans (Finset.sum_congr rfl fun o _ => ?_)
    refine ((along (dir j) o).sum_comp _).symm.trans (Finset.sum_congr rfl fun d _ => ?_)
    show tallyAt (kcell (peer (dir j) (peer (dir j) d o) o.rev) (.R j (ix (dir j) (peer (dir j) d o)))) () (NJ j) = _
    rw [peer_peer, ix_peer']
  have hd (d : Dev nD) : dues d script = (∑ p : Bool × Fin 3, (tallyAt (kcell (peer p.1 d p.2) .bar) () 1 : CellTallies nD τ sig Unit))
      + (∑ o : Fin 3, (tallyAt (kcell (peer false d o) .bar2) () 1 : CellTallies nD τ sig Unit))
      + ∑ p : Jb × Fin 3, (tallyAt (kcell (peer (dir p.1) d p.2) (.R p.1 (ix (dir p.1) d))) () (NJ p.1) : CellTallies nD τ sig Unit) := by
    unfold dues; rw [sum_script, sum_steps]
    simp only [due, dueK, Finset.sum_const_zero, add_zero]; rfl
  have hw (d : Dev nD) : wants d script = (tallyAt (kcell d .bar) () 6 : CellTallies nD τ sig Unit) + tallyAt (kcell d .bar2) () 3
      + ∑ p : Jb × Fin 3, (tallyAt (kcell d (.R p.1 (ix (dir p.1) d + p.2.succ))) () (NJ p.1) : CellTallies nD τ sig Unit) := by
    unfold wants; rw [sum_script, sum_steps]
    simp only [want, wantK, Finset.sum_const_zero, add_zero, zero_add]
  simp only [hd, hw, Finset.sum_add_distrib]
  rw [hbar, hbar2, hR]

theorem wants_own (c : Dev nD) (l : List Ev) (g : GSem nD τ sig) (h : wants c l g ≠ 0) : g.1 = (c.tc : Thread nD τ) := by
  induction l with
  | nil => exact absurd rfl h
  | cons e l ih =>
    rw [wants_cons, Pi.add_apply] at h
    by_cases hl : wants c l g = 0
    · rw [hl, add_zero] at h
      unfold want at h
      cases hk : wantK c e with
      | none => rw [hk] at h; exact absurd rfl h
      | some kn =>
        rw [hk] at h
        by_contra hne
        exact h (tallyAt_ne_cell (fun hg => hne (by rw [hg])) () _)
    · exact ih hl

/-- The credit a device is launched with is what its waits take. -/
theorem credit_eq : (Pipeline.launchCred (fun d => dues d script) c : sProp 𝕄) = cred (wants c script) :=
  Pipeline.launchCred_of_sum _ _ owed_awaited (fun d g h => wants_own d script g h) c

end Cert.Mlp

end
-- ==== Proof.Launch.lean ====
/-
The launch: all sixteen devices run the kernel from any memory with zero counters, and end with each device's block of the
result computed, the arguments unchanged and every counter at zero again.
-/
module

public import proofs.«01_k».proof.Proof.Body
public import proofs.«01_k».proof.Proof.Deal
public import proofs.«01_k».proof.Proof.Gen.KernelIdeal.Launch
public import proofs.«01_k».proof.Proof.Gen.KernelIdeal.Points
public import Idealize.ShloMosaic.Lib.Pipeline.CollectiveSegs

@[expose] public section

set_option maxRecDepth 40000

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg) (c : Dev nD)

/-- The start: memory `m`, all counters zero. -/
def s₀ : MemSt nD τ sig (Elt F) := ⟨m, fun _ => 0, ρ⟩

/-- The arguments, as each device's staging buffers receive them. -/
def inputs : Inputs F where
  x c := (win0_0.blk (0 : Fin 1)).view.read (Elt F) (m ((c : Thread nD τ).loc main_arg0))
  wi0 c := (win0_1.blk (0 : Fin 1)).view.read (Elt F) (m ((c : Thread nD τ).loc main_arg1))
  wo0 c := (win0_2.blk (0 : Fin 1)).view.read (Elt F) (m ((c : Thread nD τ).loc main_arg4))
  wi1 c := (win0_3.blk (0 : Fin 1)).view.read (Elt F) (m ((c : Thread nD τ).loc main_arg2))
  wo1 c := (win0_4.blk (0 : Fin 1)).view.read (Elt F) (m ((c : Thread nD τ).loc main_arg5))
  wi2 c := (win0_5.blk (0 : Fin 1)).view.read (Elt F) (m ((c : Thread nD τ).loc main_arg3))
  wo2 c := (win0_6.blk (0 : Fin 1)).view.read (Elt F) (m ((c : Thread nD τ).loc main_arg6))

/-! ## The proof data -/

/-- What a device starts from: its records, tokens and places, the credit its waits take, the levels. -/
def start : sProp 𝕄 := iprop(dealt (inputs m) c ∗ cred (wants c script) ∗ levAts L lv)
/-- The scratch buffers, at any contents. -/
def scrs : sProp 𝕄 := iprop(scr (F := F) c cc0_scratch0 ∗ scr (F := F) c cc0_scratch1 ∗ scr (F := F) c cc0_scratch2 ∗ scr (F := F) c cc0_scratch3 ∗ scr (F := F) c cc0_scratch4 ∗ scr (F := F) c cc0_scratch5 ∗ scr (F := F) c cc0_scratch6 ∗ scr (F := F) c cc0_scratch7 ∗ scr (F := F) c cc0_scratch8 ∗ scr (F := F) c cc0_scratch9 ∗ scr (F := F) c cc0_scratch10)
/-- Before the body, -/
def Φ₀ : sProp 𝕄 := iprop(start m c ∗ scrs (F := F) c)
/-- and after it: every cell at zero. -/
def Φ₁ : sProp 𝕄 := iprop((bigSep Finset.univ fun k : Cl => semVal (kcell c k) 0) ∗ scrs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m).x c
    | ⟨1, _⟩ => (inputs m).wi0 c
    | ⟨2, _⟩ => (inputs m).wo0 c
    | ⟨3, _⟩ => (inputs m).wi1 c
    | ⟨4, _⟩ => (inputs m).wo1 c
    | ⟨5, _⟩ => (inputs m).wi2 c
    | ⟨6, _⟩ => (inputs m).wo2 c
    | ⟨7, _⟩ => out (inputs m) (row c) (col c)
  Φ t := match t with
    | ⟨0, _⟩ => Φ₀ m c
    | ⟨_ + 1, _⟩ => Φ₁ (F := F) c
  q _ := fullShare
  owed t := match t with
    | ⟨0, _⟩ => dues c script
    | ⟨_ + 1, _⟩ => 0

theorem before_x (d) : (dats m ρ 0 c).before (0 : Fin 8) t0_0 d = (inputs m).x c := by
  unfold Dat.before; rw [if_pos (fetch0_0 t0_0)]; rfl
theorem before_wi0 (d) : (dats m ρ 0 c).before (1 : Fin 8) t0_0 d = (inputs m).wi0 c := by
  unfold Dat.before; rw [if_pos (fetch0_1 t0_0)]; rfl
theorem before_wo0 (d) : (dats m ρ 0 c).before (2 : Fin 8) t0_0 d = (inputs m).wo0 c := by
  unfold Dat.before; rw [if_pos (fetch0_2 t0_0)]; rfl
theorem before_wi1 (d) : (dats m ρ 0 c).before (3 : Fin 8) t0_0 d = (inputs m).wi1 c := by
  unfold Dat.before; rw [if_pos (fetch0_3 t0_0)]; rfl
theorem before_wo1 (d) : (dats m ρ 0 c).before (4 : Fin 8) t0_0 d = (inputs m).wo1 c := by
  unfold Dat.before; rw [if_pos (fetch0_4 t0_0)]; rfl
theorem before_wi2 (d) : (dats m ρ 0 c).before (5 : Fin 8) t0_0 d = (inputs m).wi2 c := by
  unfold Dat.before; rw [if_pos (fetch0_5 t0_0)]; rfl
theorem before_wo2 (d) : (dats m ρ 0 c).before (6 : Fin 8) t0_0 d = (inputs m).wo2 c := by
  unfold Dat.before; rw [if_pos (fetch0_6 t0_0)]; rfl

/-- What the body is handed: its state, what it owes, and the staging buffers. -/
def bodyPre : sProp 𝕄 :=
  iprop(Φ₀ m c ∗ (dats m ρ 0 c).owesAt () (t0_0 : Fin cfg0.N).castSucc
    ∗ (∃ d, owns (c : Thread nD τ) aX fullShare ((dats m ρ 0 c).before (0 : Fin 8) t0_0 d))
    ∗ (∃ d, owns (c : Thread nD τ) aWi0 fullShare ((dats m ρ 0 c).before (1 : Fin 8) t0_0 d))
    ∗ (∃ d, owns (c : Thread nD τ) aWo0 fullShare ((dats m ρ 0 c).before (2 : Fin 8) t0_0 d))
    ∗ (∃ d, owns (c : Thread nD τ) aWi1 fullShare ((dats m ρ 0 c).before (3 : Fin 8) t0_0 d))
    ∗ (∃ d, owns (c : Thread nD τ) aWo1 fullShare ((dats m ρ 0 c).before (4 : Fin 8) t0_0 d))
    ∗ (∃ d, owns (c : Thread nD τ) aWi2 fullShare ((dats m ρ 0 c).before (5 : Fin 8) t0_0 d))
    ∗ (∃ d, owns (c : Thread nD τ) aWo2 fullShare ((dats m ρ 0 c).before (6 : Fin 8) t0_0 d))
    ∗ (∃ d, owns (c : Thread nD τ) aOut fullShare ((dats m ρ 0 c).before (7 : Fin 8) t0_0 d)))
/-- What it hands back. -/
def bodyPost : sProp 𝕄 :=
  iprop(Φ₁ (F := F) c ∗ (dats m ρ 0 c).owesAt () (t0_0 : Fin cfg0.N).succ
    ∗ owns (c : Thread nD τ) aX fullShare ((inputs m).x c)
    ∗ owns (c : Thread nD τ) aWi0 fullShare ((inputs m).wi0 c)
    ∗ owns (c : Thread nD τ) aWo0 fullShare ((inputs m).wo0 c)
    ∗ owns (c : Thread nD τ) aWi1 fullShare ((inputs m).wi1 c)
    ∗ owns (c : Thread nD τ) aWo1 fullShare ((inputs m).wo1 c)
    ∗ owns (c : Thread nD τ) aWi2 fullShare ((inputs m).wi2 c)
    ∗ owns (c : Thread nD τ) aWo2 fullShare ((inputs m).wo2 c)
    ∗ owns (c : Thread nD τ) aOut fullShare (out (inputs m) (row c) (col c)))

theorem comm_start (W : Finset (SemLoc sig × Unit)) : iprop(start m c ∗ owes (c : Thread nD τ) (dues c script) W) ⊢ (Comm (inputs m) c 0 : sProp 𝕄) := by
  unfold start dealt records Comm ctx
  iintro ⟨⟨⟨%K, ⟨#HI, #HR⟩, Htd, Hsp⟩, Hcr, #Hlv⟩, HO⟩
  iexists K
  isplitr
  · isplitr; · iexact HI
    isplitr; · iexact HR
    iexact Hlv
  isplitl [HO]; · (iexists W; iexact HO)
  isplitl [Hcr]; · iexact Hcr
  isplitl [Htd]; · iexact Htd
  isplitr; · iempintro
  isplitl [Hsp]; · iexact Hsp
  iempintro

set_option maxHeartbeats 4000000 in
theorem body_obligation : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ (c : Thread nD τ) none) Set.univ
    (cc0_body (F := F) aX (Memref.isWhole_whole _) aWi0 (Memref.isWhole_whole _) aWo0 (Memref.isWhole_whole _) aWi1 (Memref.isWhole_whole _) aWo1 (Memref.isWhole_whole _) aWi2 (Memref.isWhole_whole _) aWo2 (Memref.isWhole_whole _) aOut (Memref.isWhole_whole _) bX (Memref.isWhole_whole _) bP0 (Memref.isWhole_whole _) bP1 (Memref.isWhole_whole _) bS (Memref.isWhole_whole _) bR (Memref.isWhole_whole _) bWi0 (Memref.isWhole_whole _) bWo0 (Memref.isWhole_whole _) bWi1 (Memref.isWhole_whole _) bWo1 (Memref.isWhole_whole _) bWi2 (Memref.isWhole_whole _) bWo2 (Memref.isWhole_whole _) cc0_scratch11 cc0_scratch12 cc0_scratch13 cc0_scratch14 cc0_scratch15 cc0_scratch16 cc0_scratch17 cc0_scratch18 cc0_scoped0)
    (fun _ => bodyPost m ρ c)
  unfold bodyPre Φ₀ scrs
  simp only [before_x, before_wi0, before_wi1, before_wi2, before_wo0, before_wo1, before_wo2]
  unfold Dat.owesAt Pipeline.owesWithin
  rw [show (dats m ρ 0 c).owed (t0_0 : Fin cfg0.N).castSucc = dues c script from rfl]
  iintro ⟨⟨Hst, H0, H1, H2, H3, H4, H5, H6, H7, H8, H9, H10⟩, ⟨%W, -, HO⟩, ⟨%d0, Hx⟩, ⟨%d1, Hwi0⟩, ⟨%d2, Hwo0⟩, ⟨%d3, Hwi1⟩, ⟨%d4, Hwo1⟩, ⟨%d5, Hwi2⟩, ⟨%d6, Hwo2⟩, ⟨%d7, Hout⟩⟩
  ihave HC := (comm_start m c W) $$ [Hst HO]
  · isplitl [Hst] <;> iassumption
  iapply (run_body (inputs m) c) $$ HC Hx Hwi0 Hwo0 Hwi1 Hwo1 Hwi2 Hwo2 Hout H0 H1 H2 H3 H4 H5 H6 H7 H8 H9 H10
  iintro ⟨⟨%W', HO⟩, HZ, Hx, Hwi0, Hwo0, Hwi1, Hwo1, Hwi2, Hwo2, Hout, H0, H1, H2, H3, H4, H5, H6, H7, H8, H9, H10⟩
  unfold bodyPost Φ₁ scrs Dat.owesAt Pipeline.owesWithin
  rw [show (dats m ρ 0 c).owed (t0_0 : Fin cfg0.N).succ = 0 from rfl]
  isplitl [HZ H0 H1 H2 H3 H4 H5 H6 H7 H8 H9 H10]
  · isplitl [HZ]; · iexact HZ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [HO]
  · iexists W'
    isplitr; · ipureintro; exact fun _ _ => Or.inl trivial
    iexact HO
  isplitl [Hx]; · iexact Hx
  isplitl [Hwi0]; · iexact Hwi0
  isplitl [Hwo0]; · iexact Hwo0
  isplitl [Hwi1]; · iexact Hwi1
  isplitl [Hwo1]; · iexact Hwo1
  isplitl [Hwi2]; · iexact Hwi2
  isplitl [Hwo2]; · iexact Hwo2
  iexact Hout

/-! ## The launch -/

theorem share_eq (w : Fin cfg0.W) : (dats m ρ 0 c).share w = fullShare := by unfold Dat.share; split <;> rfl

/-- What is minted: the staging copies' cells, and the kernel's. -/
def u₀ : UU :=
  (initOf (Pipeline.cells cfgs cellOf_inj) (Pipeline.launchToks cfgs cellOf_inj), initOf allCells allToks)

theorem start_intro :
    iprop(Pipeline.unscopedRestP Pipeline.Prefetch.none cfg0.spec c (fun b => m ((c : Thread nD τ).loc b)) ∗ levAts L lv
        ∗ Pipeline.launchCred (fun d => dues d script) c ∗ prngReg c (ρ c) ∗ dealt (inputs m) c)
      ⊢ (|={Set.univ}=> iprop(start m c ∗ emp) : sProp 𝕄) := by
  iintro ⟨-, Hlev, Hcr, -, HG⟩
  ihave Hc := (Entails.of_eq (credit_eq (F := F) c)) $$ Hcr
  imodintro
  unfold start
  isplitl
  · isplitl [HG]; · iexact HG
    isplitl [Hc] <;> iassumption
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrs scr
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, own_eq]
  unfold Φ₁ scrs scr
  rw [sems_eq]
  iintro ⟨⟨⟨Hu, Hb2⟩, HS, HR⟩, Hr⟩
  isplitl [Hu]; · iexact Hu
  isplitl [Hb2 HS HR]
  · isplitl [Hb2]; · iexact Hb2
    isplitl [HS] <;> iassumption
  iexact Hr

theorem back_none (s : SemLoc sig) (h : ∀ k, semOf k ≠ s) : back s = none := by
  unfold back; rw [dif_neg fun ⟨k, hk⟩ => h k hk]

omit [FloatOps F] in
/-- The pipeline's own waits are below everything a device owes. -/
theorem mayWait_stage (q : DmaSem sig) (hq : ∀ k, semOf k ≠ .dma q) (O : CellTallies nD τ sig Unit) (hO : O = dues c script ∨ O = 0) :
    (levAts L lv : sProp 𝕄) ⊢ MayWait (c : Thread nD τ) (.dma q) () O := by
  rcases hO with rfl | rfl
  · exact mayWait_of c _ 0 (by unfold lv; rw [back_none _ hq]) script (by decide +kernel)
  · rw [MayWait_zero]; iintro -; iempintro

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with zero counters: every weakly fair execution
    of the program terminates without fault, with every device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => dues d script) (howed₀ := fun _ => rfl) (howedN := fun _ => rfl)
    (L := L) (lv := lv) (hL := L_of_ne) (hwaits := waits m ρ)
    (G := deal (inputs m)) (G' := dealt (inputs m)) (u₀ := u₀)
    (hu₀ := by
      unfold u₀
      iintro Hu
      ihave H := (ownU_pair _ _) $$ Hu
      icases H with ⟨HP, HX⟩
      imod (fund_all (inputs m)) $$ HX with HG
      imodintro
      isplitl [HP] <;> iassumption)
    (hglob := deal_all (inputs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array ends as it began. -/
theorem finalA_arg (w : Fin cfg0.W) (h : (cfg0.win w).isOut = false) : finalA m ρ c w = m ((cfg0.win w).arr.view.loc (c : Thread nD τ)) :=
  (dats (F := F) m ρ 0 c).arrAt_in w h _

end Cert.Mlp

end
-- ==== Proof.Values.lean ====
/-
The payloads of the kernel read at an index, over the extended reals.

Every cast of a float format is the identity there and every product with a zero accumulator is a sum, so each payload
is a sum over its contracted or reduced coordinates.
-/
module

public import proofs.«01_k».proof.Proof.Contents
public import Idealize.ShloMosaic.Lib.Pointwise

@[expose] public section

noncomputable section

namespace Cert.Mlp

open Cert.KernelIdeal Cert.KernelIdeal.Gen
open Idealize.ShloMosaic Idealize.ShloMosaic.TcCoe
open scoped BigOperators

/-- Row `r` of slot `s` among the 512 rows of four slots. -/
def slotRow (s : Fin 4) (r : Fin 128) : Fin 512 := ⟨s.val * 128 + r.val, by omega⟩

/-- One block of the hidden layer: the rectified product of row `i` with the first weight, times the second weight. -/
def blk {n : ℕ} (X : Fin n → Fin 128 → EReal) (A : Fin 128 → Fin 256 → EReal) (B : Fin 256 → Fin 128 → EReal) (i : Fin n) (d : Fin 128) : EReal :=
  ∑ h : Fin 256, max (∑ k : Fin 128, X i k * A k h) 0 * B h d

/-- The activation slots, one over another. -/
theorem pay30_apply (xb : Vec Ideal S4x128x128 .bf16) (s : Fin 4) (r d : Fin 128) :
    k0_pay30 (F := Ideal) xb (ix2 (slotRow s r) d) = xb (ix3 s r d) := by
  pointwise [k0_pay30, slotRow]

/-- The first partial product of a layer. -/
theorem pay31_apply (xf : FVec Ideal S512x128 .bf16) (A : Vec Ideal S1x128x256 .bf16) (B : Vec Ideal S1x256x128 .bf16) (i : Fin 512) (d : Fin 128) :
    k0_pay31 (F := Ideal) xf A B (ix2 i d)
      = blk (fun i k => xf (ix2 i k)) (fun k h => A (ix3 0 k h)) (fun h d => B (ix3 0 h d)) i d := by
  pointwise [k0_pay31, blk]

/-- A further partial product, added to what came before. -/
theorem pay32_apply (xf : FVec Ideal S512x128 .bf16) (a : FVec Ideal S512x128 .f32) (A : Vec Ideal S1x128x256 .bf16) (B : Vec Ideal S1x256x128 .bf16) (i : Fin 512) (d : Fin 128) :
    k0_pay32 (F := Ideal) xf a A B (ix2 i d)
      = a (ix2 i d) + blk (fun i k => xf (ix2 i k)) (fun k h => A (ix3 0 k h)) (fun h d => B (ix3 0 h d)) i d := by
  pointwise [k0_pay32, blk]

/-- A partial sum, cut into its four slots. -/
theorem pay27_apply (a : FVec Ideal S512x128 .f32) (s : Fin 4) (r d : Fin 128) :
    k0_pay27 (F := Ideal) a (ix4 0 s r d) = a (ix2 (slotRow s r) d) := by
  pointwise [k0_pay27, slotRow]

/-- The four partial sums added. -/
theorem pay29_apply (ps : Vec Ideal S4x4x128x128 .bf16) (s : Fin 4) (r d : Fin 128) :
    k0_pay29 (F := Ideal) ps (ix3 s r d) = ∑ q : Fin 4, ps (ix4 q s r d) := by
  pointwise [k0_pay29]

/-- The four parts of the last partial sums added. -/
theorem pay37_apply (ps : Vec Ideal S4x1x128x128 .bf16) (r d : Fin 128) :
    k0_pay37 (F := Ideal) ps (ix2 r d) = ∑ q : Fin 4, ps (ix4 q 0 r d) := by
  pointwise [k0_pay37]
  have hd : ∀ i : S4x1x128x128.Idx, (reduces_S4x1x128x128_S128x128.drop i 0).val = (i 2).val
      ∧ (reduces_S4x1x128x128_S128x128.drop i 1).val = (i 3).val := fun i => ⟨rfl, rfl⟩
  refine (Finset.sum_bij (fun (q : Fin 4) _ => (ix4 q 0 r d : S4x1x128x128.Idx)) (fun q _ => ?_) (fun q _ q' _ h => congrFun h 0) (fun i hi => ?_) (fun q _ => rfl)).symm
  · refine Finset.mem_filter.mpr ⟨Finset.mem_univ _, funext fun a => Fin.ext ?_⟩
    match a with
    | ⟨0, _⟩ => exact (hd (ix4 q 0 r d)).1
    | ⟨1, _⟩ => exact (hd (ix4 q 0 r d)).2
  · have h := (Finset.mem_filter.mp hi).2
    refine ⟨i 0, Finset.mem_univ _, funext fun a => Fin.ext ?_⟩
    match a with
    | ⟨0, _⟩ => rfl
    | ⟨1, _⟩ => have h1 : (i 1).val < 1 := (i 1).isLt; exact (Nat.lt_one_iff.mp h1).symm
    | ⟨2, _⟩ => exact (congrArg Fin.val (congrFun h 0)).symm.trans (hd i).1
    | ⟨3, _⟩ => exact (congrArg Fin.val (congrFun h 1)).symm.trans (hd i).2

/-! ## A block as the one slot it is kept in -/
/-- The block in the slot is the block. -/
theorem pay1_apply (x : Vec Ideal S128x128 .bf16) (r d : Fin 128) : k0_pay1 (F := Ideal) x (ix3 0 r d) = x (ix2 r d) := by
  pointwise [k0_pay1]
/-- The block in the slot is the block. -/
theorem pay2_apply (x : Vec Ideal S128x256 .bf16) (i : Fin 128) (j : Fin 256) : k0_pay2 (F := Ideal) x (ix3 0 i j) = x (ix2 i j) := by
  pointwise [k0_pay2]
/-- The block in the slot is the block. -/
theorem pay3_apply (x : Vec Ideal S256x128 .bf16) (i : Fin 256) (j : Fin 128) : k0_pay3 (F := Ideal) x (ix3 0 i j) = x (ix2 i j) := by
  pointwise [k0_pay3]
/-- The block in the slot is the block. -/
theorem pay6_apply (x : Vec Ideal S256x128 .bf16) (i : Fin 256) (j : Fin 128) : k0_pay6 (F := Ideal) x (ix3 0 i j) = x (ix2 i j) := by
  pointwise [k0_pay6]
/-- The block in the slot is the block. -/
theorem pay7_apply (x : Vec Ideal S128x256 .bf16) (i : Fin 128) (j : Fin 256) : k0_pay7 (F := Ideal) x (ix3 0 i j) = x (ix2 i j) := by
  pointwise [k0_pay7]
/-- The block in the slot is the block. -/
theorem pay8_apply (x : Vec Ideal S256x128 .bf16) (i : Fin 256) (j : Fin 128) : k0_pay8 (F := Ideal) x (ix3 0 i j) = x (ix2 i j) := by
  pointwise [k0_pay8]
/-- The block in the slot is the block. -/
theorem pay5_apply (x : Vec Ideal S128x256 .bf16) (i : Fin 128) (j : Fin 256) : k0_pay5 (F := Ideal) (k0_pay4 x) (ix3 0 i j) = x (ix2 i j) := by
  pointwise [k0_pay5, k0_pay4]

end Cert.Mlp

end
-- ==== Proof.Layers.lean ====
/-
The three layers over the extended reals.

A layer is `relu(X · W) · V`. The 2048 rows of `X` lie in sixteen blocks, one per device, and so do the 4096 hidden
columns; a device's partial sum runs over the four hidden blocks of its column, and the four columns together run over
all of them. Addition is commutative and associative on all extended reals, so no entry needs to be finite.
-/
module

public import proofs.«01_k».proof.Proof.Values

@[expose] public section

noncomputable section

namespace Cert.Mlp

open Cert.KernelIdeal Cert.KernelIdeal.Gen
open Idealize.ShloMosaic Idealize.ShloMosaic.TcCoe
open scoped BigOperators

/-- Row `r` of the block of the device on row `p`, column `s`. -/
def wholeRow (p s : Fin 4) (r : Fin 128) : Fin 2048 := ⟨(p.val * 4 + s.val) * 128 + r.val, by omega⟩
/-- Hidden column `h` of the block of the device on row `t`, column `q`. -/
def hidden (t q : Fin 4) (h : Fin 256) : Fin 4096 := ⟨(t.val * 4 + q.val) * 256 + h.val, by omega⟩

/-- One layer, on all rows. -/
def layer (X : Fin 2048 → Fin 128 → EReal) (W : Fin 128 → Fin 4096 → EReal) (V : Fin 4096 → Fin 128 → EReal) : Fin 2048 → Fin 128 → EReal :=
  fun i d => ∑ h : Fin 4096, max (∑ k : Fin 128, X i k * W k h) 0 * V h d

/-- The hidden columns, block by block. -/
theorem sum_hidden (f : Fin 4096 → EReal) : ∑ q : Fin 4, ∑ t : Fin 4, ∑ h : Fin 256, f (hidden t q h) = ∑ h : Fin 4096, f h := by
  rw [Finset.sum_comm, Fin.sum_univ_tiles 16 256 rfl f, Fin.sum_univ_tiles 4 4 rfl]
  rfl

/-- Four terms, added from the `p`-th on. -/
theorem sum_from (f : Fin 4 → EReal) (p : Fin 4) :
    f p + f (p + (Fin.succ 0 : Fin 4)) + f (p + (Fin.succ 1 : Fin 4)) + f (p + (Fin.succ 2 : Fin 4)) = ∑ t, f t := by
  rw [Fin.sum_univ_four]
  have h1 : ∀ p : Fin 4, (p + (Fin.succ 0 : Fin 4), p + (Fin.succ 1 : Fin 4), p + (Fin.succ 2 : Fin 4))
      = (match p with | 0 => (1, 2, 3) | 1 => (2, 3, 0) | 2 => (3, 0, 1) | 3 => (0, 1, 2)) := by decide
  have h := h1 p
  match p, h with
  | 0, h => injection h with a b; injection b with b c; rw [a, b, c]
  | 1, h => injection h with a b; injection b with b c; rw [a, b, c]; abel
  | 2, h => injection h with a b; injection b with b c; rw [a, b, c]; abel
  | 3, h => injection h with a b; injection b with b c; rw [a, b, c]; abel

variable (In : Inputs Ideal) (X : Fin 2048 → Fin 128 → EReal) (W : Fin 3 → Fin 128 → Fin 4096 → EReal) (V : Fin 3 → Fin 4096 → Fin 128 → EReal)

/-- The devices' arguments are the blocks of `X` and of the weights. -/
structure Blocks : Prop where
  x : ∀ p s r d, In.x (at_ p s) (ix2 r d) = X (wholeRow p s r) d
  wi0 : ∀ t q k h, In.wi0 (at_ t q) (ix2 k h) = W 0 k (hidden t q h)
  wi1 : ∀ t q k h, In.wi1 (at_ t q) (ix2 k h) = W 1 k (hidden t q h)
  wi2 : ∀ t q k h, In.wi2 (at_ t q) (ix2 k h) = W 2 k (hidden t q h)
  wo0 : ∀ t q h d, In.wo0 (at_ t q) (ix2 h d) = V 0 (hidden t q h) d
  wo1 : ∀ t q h d, In.wo1 (at_ t q) (ix2 h d) = V 1 (hidden t q h) d
  wo2 : ∀ t q h d, In.wo2 (at_ t q) (ix2 h d) = V 2 (hidden t q h) d

variable {In X W V}

/-- So the first weights' slots hold blocks of hidden columns, -/
theorem Blocks.wI (hb : Blocks In X W V) (l : Fin 3) (t q : Fin 4) (k : Fin 128) (h : Fin 256) :
    wI In l t q (ix3 0 k h) = W l k (hidden t q h) := by
  match l with
  | 0 => exact (pay2_apply (In.wi0 (at_ t q)) k h).trans (hb.wi0 t q k h)
  | 1 => exact (pay5_apply (In.wi1 (at_ t q)) k h).trans (hb.wi1 t q k h)
  | 2 => exact (pay7_apply (In.wi2 (at_ t q)) k h).trans (hb.wi2 t q k h)
/-- and the second weights' slots the same blocks of hidden rows. -/
theorem Blocks.wO (hb : Blocks In X W V) (l : Fin 3) (t q : Fin 4) (h : Fin 256) (d : Fin 128) :
    wO In l t q (ix3 0 h d) = V l (hidden t q h) d := by
  match l with
  | 0 => exact (pay3_apply (In.wo0 (at_ t q)) h d).trans (hb.wo0 t q h d)
  | 1 => exact (pay6_apply (In.wo1 (at_ t q)) h d).trans (hb.wo1 t q h d)
  | 2 => exact (pay8_apply (In.wo2 (at_ t q)) h d).trans (hb.wo2 t q h d)

/-- A column's partial sum of a layer: the four hidden blocks of that column. -/
theorem psOf_apply (hb : Blocks In X W V) (l : Fin 3) (p q : Fin 4) (xb : Vec Ideal S4x128x128 .bf16) (Y : Fin 2048 → Fin 128 → EReal)
    (hx : ∀ s r k, xb (ix3 s r k) = Y (wholeRow p s r) k) (s : Fin 4) (r d : Fin 128) :
    psOf In l p q xb (ix4 0 s r d)
      = ∑ t : Fin 4, ∑ h : Fin 256, max (∑ k : Fin 128, Y (wholeRow p s r) k * W l k (hidden t q h)) 0 * V l (hidden t q h) d := by
  rw [← sum_from _ p]
  unfold psOf acc3 acc2 acc1 acc0
  rw [pay27_apply, pay32_apply, pay32_apply, pay32_apply, pay31_apply]
  simp only [blk, pay30_apply, hx, hb.wI, hb.wO]

/-- Four slots stacked, read in slot `q`. -/
theorem stack4_ix {A B C : ℕ} (Y : Fin 4 → (⟨4, ![1, A, B, C]⟩ : Shape).Idx → EReal) (q : Fin 4) (a : Fin A) (b : Fin B) (c : Fin C) :
    stack4 Y (ix4 q a b c) = Y q (ix4 0 a b c) := by
  unfold stack4
  refine congrArg (Y q) (funext fun x => ?_)
  match x with
  | ⟨0, _⟩ => rfl
  | ⟨1, _⟩ => rfl
  | ⟨2, _⟩ => rfl
  | ⟨3, _⟩ => rfl

/-- The four columns' partial sums make up the layer. -/
theorem sum_psOf (hb : Blocks In X W V) (l : Fin 3) (p : Fin 4) (xb : Vec Ideal S4x128x128 .bf16) (Y : Fin 2048 → Fin 128 → EReal)
    (hx : ∀ s r k, xb (ix3 s r k) = Y (wholeRow p s r) k) (s : Fin 4) (r d : Fin 128) :
    ∑ q : Fin 4, psOf In l p q xb (ix4 0 s r d) = layer Y (W l) (V l) (wholeRow p s r) d := by
  simp only [psOf_apply hb l p _ xb Y hx]
  exact sum_hidden fun h => max (∑ k : Fin 128, Y (wholeRow p s r) k * W l k h) 0 * V l h d

/-- What a row keeps before the first layer: its rows of `X`; -/
theorem xb0_apply (hb : Blocks In X W V) (p s : Fin 4) (r k : Fin 128) : xb0 In p (ix3 s r k) = X (wholeRow p s r) k := by
  refine Eq.trans ?_ ((pay1_apply _ r k).trans (hb.x p s r k))
  unfold xb0 stack3 xs
  refine congrArg _ (funext fun x => ?_)
  match x with
  | ⟨0, _⟩ => rfl
  | ⟨1, _⟩ => rfl
  | ⟨2, _⟩ => rfl
/-- before the second: its rows of the first layer; -/
theorem xb1_apply (hb : Blocks In X W V) (p s : Fin 4) (r k : Fin 128) :
    xb1 In p (ix3 s r k) = layer X (W 0) (V 0) (wholeRow p s r) k := by
  unfold xb1 ps0
  rw [pay29_apply]
  simp only [stack4_ix]
  exact sum_psOf hb 0 p _ X (xb0_apply hb p) s r k
/-- before the third: its rows of the second. -/
theorem xb2_apply (hb : Blocks In X W V) (p s : Fin 4) (r k : Fin 128) :
    xb2 In p (ix3 s r k) = layer (layer X (W 0) (V 0)) (W 1) (V 1) (wholeRow p s r) k := by
  unfold xb2 ps1
  rw [pay29_apply]
  simp only [stack4_ix]
  exact sum_psOf hb 1 p _ _ (xb1_apply hb p) s r k

/-- A device's result: its rows of the three layers. -/
theorem out_apply (hb : Blocks In X W V) (p q : Fin 4) (r d : Fin 128) :
    out In p q (ix2 r d) = layer (layer (layer X (W 0) (V 0)) (W 1) (V 1)) (W 2) (V 2) (wholeRow p q r) d := by
  unfold out
  rw [pay37_apply]
  simp only [stack4_ix]
  refine Eq.trans (Finset.sum_congr rfl fun s _ => ?_) (sum_psOf hb 2 p _ _ (xb2_apply hb p) q r d)
  unfold rs ps2
  refine congrArg _ (funext fun x => Fin.ext ?_)
  match x with
  | ⟨0, _⟩ => rfl
  | ⟨1, _⟩ => show q.val + 1 * 0 = q.val; omega
  | ⟨2, _⟩ => show 0 + 1 * r.val = r.val; omega
  | ⟨3, _⟩ => show 0 + 1 * d.val = d.val; omega

end Cert.Mlp

end
-- ==== Proof.Value.lean ====
/-
The kernel's result against the reference's, over the extended reals.

The reference multiplies whole arrays. Each of its layers is read at an index, the devices' arguments are the blocks of
its arguments, and so a device's result is its block of rows of the reference's result.
-/
module

public import proofs.«01_k».proof.Proof.Layers
public import proofs.«01_k».proof.Proof.Launch
public import proofs.«01_k».proof.Proof.Gen.ReferenceIdeal.Run
public import Idealize.ShloMosaic.Lib.LayoutAt
public import Idealize.ShloMosaic.Lib.IdealHost
public import Idealize.ShloMosaic.Lib.Pipeline.ValueKit

@[expose] public section

noncomputable section

namespace Cert.Mlp

open Idealize.ShloMosaic Idealize.ShloMosaic.TcCoe
open scoped BigOperators

/-! ## The reference, at an index -/

section Reference
open Cert.ReferenceIdeal Cert.ReferenceIdeal.Gen

/-- A layer as the reference computes it, before its rounding. -/
def refDot (X : FVec Ideal S2048x128 .bf16) (W : FVec Ideal S128x4096 .bf16) (V : FVec Ideal S4096x128 .bf16) : FVec Ideal S2048x128 .f32 :=
  Host.dotGeneral dot_S2048x4096_S4096x128_S2048x128_1_0_0_1_n_n none
    (maximumf (truncf .bf16 (Host.dotGeneral dot_S2048x128_S128x4096_S2048x4096_1_0_0_1_n_n none X W) bitsLt_bf16_f32)
      (broadcastInDim S2048x4096 ![] bcast_S_S2048x4096 (constant S_ .bf16 0x0000#16))) V
/-- The layer, rounded to the format of the activations. -/
def refLayer (X : FVec Ideal S2048x128 .bf16) (W : FVec Ideal S128x4096 .bf16) (V : FVec Ideal S4096x128 .bf16) : FVec Ideal S2048x128 .bf16 :=
  truncf .bf16 (refDot X W V) bitsLt_bf16_f32
/-- The reference's result. -/
def refOut (X : FVec Ideal S2048x128 .bf16) (W₀ W₁ W₂ : FVec Ideal S128x4096 .bf16) (V₀ V₁ V₂ : FVec Ideal S4096x128 .bf16) : FVec Ideal S2048x128 .f32 :=
  extf .f32 (refLayer (refLayer (refLayer X W₀ V₀) W₁ V₁) W₂ V₂) bitsLt_bf16_f32

/-- Each of the reference's layers is the layer. -/
theorem refLayer_apply (X : FVec Ideal S2048x128 .bf16) (W : FVec Ideal S128x4096 .bf16) (V : FVec Ideal S4096x128 .bf16) (i : Fin 2048) (d : Fin 128) :
    refLayer X W V (ix2 i d) = layer (fun i k => X (ix2 i k)) (fun k h => W (ix2 k h)) (fun h d => V (ix2 h d)) i d := by
  pointwise [refLayer, refDot, layer]

/-- The reference's result is the three layers. -/
theorem refOut_apply (X : FVec Ideal S2048x128 .bf16) (W₀ W₁ W₂ : FVec Ideal S128x4096 .bf16) (V₀ V₁ V₂ : FVec Ideal S4096x128 .bf16) (i : Fin 2048) (d : Fin 128) :
    refOut X W₀ W₁ W₂ V₀ V₁ V₂ (ix2 i d)
      = layer (layer (layer (fun i k => X (ix2 i k)) (fun k h => W₀ (ix2 k h)) (fun h d => V₀ (ix2 h d)))
          (fun k h => W₁ (ix2 k h)) (fun h d => V₁ (ix2 h d))) (fun k h => W₂ (ix2 k h)) (fun h d => V₂ (ix2 h d)) i d := by
  refine Eq.trans (b := refLayer (refLayer (refLayer X W₀ V₀) W₁ V₁) W₂ V₂ (ix2 i d)) rfl ?_
  simp only [refLayer_apply]

end Reference

/-! ## The kernel's arrays -/

section Kernel
open Cert.KernelIdeal Cert.KernelIdeal.Gen

variable (m : (ℓ : Loc nD τ sig) → Buf (Elt Ideal) ℓ) (ρ : Dev nD → PrngReg) (c : Dev nD)

/-- The one point writes the whole result back. -/
theorem whole7 : (cfg0.win 7).WholeAt t0_0 := (by decide +kernel : win0_7.WholeAt t0_0)

/-- The result's array ends holding what the body left. -/
theorem finalA_out : finalA m ρ c (7 : Fin 8) = out (inputs m) (row c) (col c) := by
  refine (dats m ρ 0 c).arrAt_eq_of_after_last (7 : Fin 8) t0_0 whole7 _ (fun j => ?_)
  rfl

/-! ## The block a window reads is its whole array -/
/-- The body reads the device's block of x whole. -/
theorem inputs_x : (inputs m).x c = m ((c : Thread nD τ).loc main_arg0) := by
  funext j
  refine congrArg (m ((c : Thread nD τ).loc main_arg0)) (funext fun a => Fin.ext ?_)
  match a with
  | ⟨0, _⟩ => show 0 + 1 * (j 0).val = (j 0).val; omega
  | ⟨1, _⟩ => show 0 + 1 * (j 1).val = (j 1).val; omega
/-- The body reads the device's block of the first layer's first weight whole. -/
theorem inputs_wi0 : (inputs m).wi0 c = m ((c : Thread nD τ).loc main_arg1) := by
  funext j
  refine congrArg (m ((c : Thread nD τ).loc main_arg1)) (funext fun a => Fin.ext ?_)
  match a with
  | ⟨0, _⟩ => show 0 + 1 * (j 0).val = (j 0).val; omega
  | ⟨1, _⟩ => show 0 + 1 * (j 1).val = (j 1).val; omega
/-- The body reads the device's block of the second layer's first weight whole. -/
theorem inputs_wi1 : (inputs m).wi1 c = m ((c : Thread nD τ).loc main_arg2) := by
  funext j
  refine congrArg (m ((c : Thread nD τ).loc main_arg2)) (funext fun a => Fin.ext ?_)
  match a with
  | ⟨0, _⟩ => show 0 + 1 * (j 0).val = (j 0).val; omega
  | ⟨1, _⟩ => show 0 + 1 * (j 1).val = (j 1).val; omega
/-- The body reads the device's block of the third layer's first weight whole. -/
theorem inputs_wi2 : (inputs m).wi2 c = m ((c : Thread nD τ).loc main_arg3) := by
  funext j
  refine congrArg (m ((c : Thread nD τ).loc main_arg3)) (funext fun a => Fin.ext ?_)
  match a with
  | ⟨0, _⟩ => show 0 + 1 * (j 0).val = (j 0).val; omega
  | ⟨1, _⟩ => show 0 + 1 * (j 1).val = (j 1).val; omega
/-- The body reads the device's block of the first layer's second weight whole. -/
theorem inputs_wo0 : (inputs m).wo0 c = m ((c : Thread nD τ).loc main_arg4) := by
  funext j
  refine congrArg (m ((c : Thread nD τ).loc main_arg4)) (funext fun a => Fin.ext ?_)
  match a with
  | ⟨0, _⟩ => show 0 + 1 * (j 0).val = (j 0).val; omega
  | ⟨1, _⟩ => show 0 + 1 * (j 1).val = (j 1).val; omega
/-- The body reads the device's block of the second layer's second weight whole. -/
theorem inputs_wo1 : (inputs m).wo1 c = m ((c : Thread nD τ).loc main_arg5) := by
  funext j
  refine congrArg (m ((c : Thread nD τ).loc main_arg5)) (funext fun a => Fin.ext ?_)
  match a with
  | ⟨0, _⟩ => show 0 + 1 * (j 0).val = (j 0).val; omega
  | ⟨1, _⟩ => show 0 + 1 * (j 1).val = (j 1).val; omega
/-- The body reads the device's block of the third layer's second weight whole. -/
theorem inputs_wo2 : (inputs m).wo2 c = m ((c : Thread nD τ).loc main_arg6) := by
  funext j
  refine congrArg (m ((c : Thread nD τ).loc main_arg6)) (funext fun a => Fin.ext ?_)
  match a with
  | ⟨0, _⟩ => show 0 + 1 * (j 0).val = (j 0).val; omega
  | ⟨1, _⟩ => show 0 + 1 * (j 1).val = (j 1).val; omega

/-! ## Blocks of the reference's arrays -/

/-- The devices' arguments are their blocks of the whole arrays. -/
structure Cut (X : FVec Ideal ⟨2, ![2048, 128]⟩ .bf16) (W₀ W₁ W₂ : FVec Ideal ⟨2, ![128, 4096]⟩ .bf16) (V₀ V₁ V₂ : FVec Ideal ⟨2, ![4096, 128]⟩ .bf16) : Prop where
  x : ∀ c : Dev nD, m ((c : Thread nD τ).loc main_arg0) = Layout.block ⟨2, ![128, 128]⟩ ⟨2, ![2048, 128]⟩ 0 16 c X
  wi0 : ∀ c : Dev nD, m ((c : Thread nD τ).loc main_arg1) = Layout.block ⟨2, ![128, 256]⟩ ⟨2, ![128, 4096]⟩ 1 16 c W₀
  wi1 : ∀ c : Dev nD, m ((c : Thread nD τ).loc main_arg2) = Layout.block ⟨2, ![128, 256]⟩ ⟨2, ![128, 4096]⟩ 1 16 c W₁
  wi2 : ∀ c : Dev nD, m ((c : Thread nD τ).loc main_arg3) = Layout.block ⟨2, ![128, 256]⟩ ⟨2, ![128, 4096]⟩ 1 16 c W₂
  wo0 : ∀ c : Dev nD, m ((c : Thread nD τ).loc main_arg4) = Layout.block ⟨2, ![256, 128]⟩ ⟨2, ![4096, 128]⟩ 0 16 c V₀
  wo1 : ∀ c : Dev nD, m ((c : Thread nD τ).loc main_arg5) = Layout.block ⟨2, ![256, 128]⟩ ⟨2, ![4096, 128]⟩ 0 16 c V₁
  wo2 : ∀ c : Dev nD, m ((c : Thread nD τ).loc main_arg6) = Layout.block ⟨2, ![256, 128]⟩ ⟨2, ![4096, 128]⟩ 0 16 c V₂

/-- A device's block of rows, at an index. -/
theorem block_rows (h : Layout.Tiles ⟨2, ![128, 128]⟩ ⟨2, ![2048, 128]⟩ 0 16) (X : FVec Ideal ⟨2, ![2048, 128]⟩ .bf16) (p s : Fin 4) (r d : Fin 128) :
    Layout.block ⟨2, ![128, 128]⟩ ⟨2, ![2048, 128]⟩ 0 16 (at_ p s) X h (ix2 r d) = X (ix2 (wholeRow p s r) d) := by
  have e : (at_ p s).val = p.val * 4 + s.val := by show 4 * p.val + s.val = _; omega
  refine congrArg X (funext fun a => Fin.ext ?_)
  match a with
  | ⟨0, _⟩ => exact (h.idx_val_self _ _ (0 : Fin 2) rfl).trans (congrArg (fun n => n * 128 + r.val) e)
  | ⟨1, _⟩ => exact h.idx_val_of_ne _ _ (1 : Fin 2) (by decide)
/-- A device's block of hidden columns, at an index. -/
theorem block_cols (h : Layout.Tiles ⟨2, ![128, 256]⟩ ⟨2, ![128, 4096]⟩ 1 16) (W : FVec Ideal ⟨2, ![128, 4096]⟩ .bf16) (t q : Fin 4) (k : Fin 128) (j : Fin 256) :
    Layout.block ⟨2, ![128, 256]⟩ ⟨2, ![128, 4096]⟩ 1 16 (at_ t q) W h (ix2 k j) = W (ix2 k (hidden t q j)) := by
  have e : (at_ t q).val = t.val * 4 + q.val := by show 4 * t.val + q.val = _; omega
  refine congrArg W (funext fun a => Fin.ext ?_)
  match a with
  | ⟨0, _⟩ => exact h.idx_val_of_ne _ _ (0 : Fin 2) (by decide)
  | ⟨1, _⟩ => exact (h.idx_val_self _ _ (1 : Fin 2) rfl).trans (congrArg (fun n => n * 256 + j.val) e)
/-- A device's block of hidden rows, at an index. -/
theorem block_hidden (h : Layout.Tiles ⟨2, ![256, 128]⟩ ⟨2, ![4096, 128]⟩ 0 16) (V : FVec Ideal ⟨2, ![4096, 128]⟩ .bf16) (t q : Fin 4) (j : Fin 256) (d : Fin 128) :
    Layout.block ⟨2, ![256, 128]⟩ ⟨2, ![4096, 128]⟩ 0 16 (at_ t q) V h (ix2 j d) = V (ix2 (hidden t q j) d) := by
  have e : (at_ t q).val = t.val * 4 + q.val := by show 4 * t.val + q.val = _; omega
  refine congrArg V (funext fun a => Fin.ext ?_)
  match a with
  | ⟨0, _⟩ => exact (h.idx_val_self _ _ (0 : Fin 2) rfl).trans (congrArg (fun n => n * 256 + j.val) e)
  | ⟨1, _⟩ => exact h.idx_val_of_ne _ _ (1 : Fin 2) (by decide)

variable {m} {X : FVec Ideal ⟨2, ![2048, 128]⟩ .bf16} {W₀ W₁ W₂ : FVec Ideal ⟨2, ![128, 4096]⟩ .bf16} {V₀ V₁ V₂ : FVec Ideal ⟨2, ![4096, 128]⟩ .bf16}

/-- The three first weights, and the three second weights, by layer. -/
def three {α : Type} (a b c : α) (l : Fin 3) : α := match l with | 0 => a | 1 => b | 2 => c

/-- So the arguments the body reads are those blocks. -/
theorem Cut.blocks (h : Cut m X W₀ W₁ W₂ V₀ V₁ V₂) :
    Blocks (inputs m) (fun i k => X (ix2 i k)) (fun l k h => three W₀ W₁ W₂ l (ix2 k h)) (fun l h d => three V₀ V₁ V₂ l (ix2 h d)) where
  x p s r d := by rw [inputs_x, h.x]; exact block_rows _ X p s r d
  wi0 t q k j := by rw [inputs_wi0, h.wi0]; exact block_cols _ W₀ t q k j
  wi1 t q k j := by rw [inputs_wi1, h.wi1]; exact block_cols _ W₁ t q k j
  wi2 t q k j := by rw [inputs_wi2, h.wi2]; exact block_cols _ W₂ t q k j
  wo0 t q j d := by rw [inputs_wo0, h.wo0]; exact block_hidden _ V₀ t q j d
  wo1 t q j d := by rw [inputs_wo1, h.wo1]; exact block_hidden _ V₁ t q j d
  wo2 t q j d := by rw [inputs_wo2, h.wo2]; exact block_hidden _ V₂ t q j d

/-- A device's result is its block of the reference's result. -/
theorem finalA_eq (h : Cut m X W₀ W₁ W₂ V₀ V₁ V₂) (ht : Layout.Tiles ⟨2, ![128, 128]⟩ ⟨2, ![2048, 128]⟩ 0 16) :
    finalA m ρ c (7 : Fin 8) = Layout.block ⟨2, ![128, 128]⟩ ⟨2, ![2048, 128]⟩ 0 16 c (refOut X W₀ W₁ W₂ V₀ V₁ V₂) ht := by
  rw [finalA_out]
  refine funext fun (j : S128x128.Idx) => ?_
  obtain ⟨r, d, rfl⟩ : ∃ r d : Fin 128, j = ix2 r d := ⟨j 0, j 1, eq_ix2 j⟩
  have hc : at_ (row c) (col c) = c := Fin.ext (by show 4 * (c.val / 4) + c.val % 4 = c.val; omega)
  refine (out_apply h.blocks (row c) (col c) r d).trans ((refOut_apply X W₀ W₁ W₂ V₀ V₁ V₂ _ d).symm.trans ?_)
  refine (block_rows ht _ (row c) (col c) r d).symm.trans ?_
  rw [hc]

end Kernel

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Idealize.ShloMosaic.TcCoe

section Frames
open Cert.KernelIdeal

variable {F : FTy → Type} [FloatOps F]

/-- Once the program's run ends as computed, its arguments hold what they held. -/
theorem args_kept (m : (ℓ : Loc nD τ sig) → Buf (Elt F) ℓ) (ρ : Dev nD → PrngReg) {r : PUnit × MemSt nD τ sig (Elt F)}
    (h : Cert.Mlp.QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c 0).trans (Cert.Mlp.finalA_arg m ρ c 0 rfl), (h c 1).trans (Cert.Mlp.finalA_arg m ρ c 1 rfl),
    (h c 3).trans (Cert.Mlp.finalA_arg m ρ c 3 rfl), (h c 5).trans (Cert.Mlp.finalA_arg m ρ c 5 rfl),
    (h c 2).trans (Cert.Mlp.finalA_arg m ρ c 2 rfl), (h c 4).trans (Cert.Mlp.finalA_arg m ρ c 4 rfl),
    (h c 6).trans (Cert.Mlp.finalA_arg m ρ c 6 rfl)⟩

end Frames

/-- The idealized kernel terminates without fault, its arguments unchanged and every counter at zero. -/
theorem frame_kernelIdeal : Cert.quiescent_KernelIdeal := fun m ρ _ =>
  (θ_run Cert.KernelIdeal.defs _ _).mono (fun _ h => ⟨fun c => args_kept m ρ h.1 c, h.2⟩) (Cert.Mlp.run_main (F := Ideal) m ρ)

/-- The body tables of the two programs are the same: at their one label both run the same body. -/
theorem bodies_eq {F : FTy → Type} [FloatOps F] : Cert.Kernel.defs₀ (F := F) = Cert.KernelIdeal.defs₀ (F := F) := by
  refine congrArg Defs.onTc (funext fun l => funext fun x => ?_)
  match l, x with
  | ⟨0, _⟩, (t, s) => exact rfl
/-- So are the tables with the calls' own bodies. -/
theorem tables_eq {F : FTy → Type} [FloatOps F] : Cert.Kernel.defs (F := F) = Cert.KernelIdeal.defs (F := F) :=
  congrArg (Pipeline.defs _) bodies_eq

/-- So does the kernel on bits: the same program text at another instance. -/
theorem frame_kernel : Cert.quiescent_Kernel := fun m ρ _ => by
  rw [tables_eq]
  exact (θ_run Cert.KernelIdeal.defs _ _).mono (fun _ h => ⟨fun c => args_kept m ρ h.1 c, h.2⟩) (Cert.Mlp.run_main (F := Bits) m ρ)

/-- The reference terminates, its arguments unchanged; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals every device's result is its block of rows of the reference's result, when the arguments are
    the blocks of the reference's arguments. -/
theorem algebraic : Cert.algebraic_KernelIdeal_ReferenceIdeal := by
  intro m ρ m' ρ' _ hagree
  have hcut : Cert.Mlp.Cut m _ _ _ _ _ _ _ :=
    ⟨fun c => (hagree c).1, fun c => (hagree c).2.1, fun c => (hagree c).2.2.1, fun c => (hagree c).2.2.2.1,
      fun c => (hagree c).2.2.2.2.1, fun c => (hagree c).2.2.2.2.2.1, fun c => (hagree c).2.2.2.2.2.2⟩
  refine ⟨Cert.Mlp.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6)), ?_, ?_⟩
  · exact (θ_run Cert.KernelIdeal.defs _ _).mono
      (fun _ h c => ⟨(h.1 c 7).trans (Cert.Mlp.finalA_eq ρ c hcut _), args_kept m ρ h.1 c⟩) (Cert.Mlp.run_main (F := Ideal) m ρ)
  · exact (θ_run Cert.ReferenceIdeal.defs _ _).mono (fun _ h => h 0) (Cert.ReferenceIdeal.Value.run (F := Ideal) m' ρ')

/-- All the claims together. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
